-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelInDw3 (m : (ℓ : Loc Cert.KernelInDw3.nD Cert.KernelInDw3.τ Cert.KernelInDw3.sig) → Buf (Elt Bits) ℓ) : Prop :=
  True

def Pre_KernelInDw3Ideal (m : (ℓ : Loc Cert.KernelInDw3Ideal.nD Cert.KernelInDw3Ideal.τ Cert.KernelInDw3Ideal.sig) → Buf (Elt Ideal) ℓ) : Prop :=
  True

def Pre_ReferenceInDw3Ideal (m : (ℓ : Loc Cert.ReferenceInDw3Ideal.nD Cert.ReferenceInDw3Ideal.τ Cert.ReferenceInDw3Ideal.sig) → Buf (Elt Ideal) ℓ) : Prop :=
  True

def Pre_KernelInDw2 (m : (ℓ : Loc Cert.KernelInDw2.nD Cert.KernelInDw2.τ Cert.KernelInDw2.sig) → Buf (Elt Bits) ℓ) : Prop :=
  True

def Pre_KernelInDw2Ideal (m : (ℓ : Loc Cert.KernelInDw2Ideal.nD Cert.KernelInDw2Ideal.τ Cert.KernelInDw2Ideal.sig) → Buf (Elt Ideal) ℓ) : Prop :=
  True

def Pre_ReferenceInDw2Ideal (m : (ℓ : Loc Cert.ReferenceInDw2Ideal.nD Cert.ReferenceInDw2Ideal.τ Cert.ReferenceInDw2Ideal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelIn3 (m : (ℓ : Loc Cert.KernelIn3.nD Cert.KernelIn3.τ Cert.KernelIn3.sig) → Buf (Elt Bits) ℓ) : Prop :=
  True

def Pre_KernelIn3Ideal (m : (ℓ : Loc Cert.KernelIn3Ideal.nD Cert.KernelIn3Ideal.τ Cert.KernelIn3Ideal.sig) → Buf (Elt Ideal) ℓ) : Prop :=
  True

def Pre_ReferenceIn3Ideal (m : (ℓ : Loc Cert.ReferenceIn3Ideal.nD Cert.ReferenceIn3Ideal.τ Cert.ReferenceIn3Ideal.sig) → Buf (Elt Ideal) ℓ) : Prop :=
  True

def Pre_KernelIn2 (m : (ℓ : Loc Cert.KernelIn2.nD Cert.KernelIn2.τ Cert.KernelIn2.sig) → Buf (Elt Bits) ℓ) : Prop :=
  True

def Pre_KernelIn2Ideal (m : (ℓ : Loc Cert.KernelIn2Ideal.nD Cert.KernelIn2Ideal.τ Cert.KernelIn2Ideal.sig) → Buf (Elt Ideal) ℓ) : Prop :=
  True

def Pre_ReferenceIn2Ideal (m : (ℓ : Loc Cert.ReferenceIn2Ideal.nD Cert.ReferenceIn2Ideal.τ Cert.ReferenceIn2Ideal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_qk [hPre_finite_qk : Cert.Pre_finite_qk.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_qk.fn (F := Ideal) (m ((c.tc : Thread Cert.KernelSbIdeal.nD Cert.KernelSbIdeal.τ).loc Cert.KernelSbIdeal.main_arg0))) = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_qk [hPre_finite_qk : Cert.Pre_finite_qk.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_qk.fn (F := Ideal) (m ((c.tc : Thread Cert.ReferenceSbIdeal.nD Cert.ReferenceSbIdeal.τ).loc Cert.ReferenceSbIdeal.main_arg0))) = (fun _ => 1#1)

def Pre_KernelAdamGate [hPre_place_gate : Cert.Pre_place_gate.Facts] (m : (ℓ : Loc Cert.KernelAdamGate.nD Cert.KernelAdamGate.τ Cert.KernelAdamGate.sig) → Buf (Elt Bits) ℓ) : Prop :=
  ∀ c : Dev Cert.KernelAdamGate.nD,
    (Cert.Pre_place_gate.fn (F := Bits) (m ((c.tc : Thread Cert.KernelAdamGate.nD Cert.KernelAdamGate.τ).loc Cert.KernelAdamGate.main_arg0)) (m ((c.tc : Thread Cert.KernelAdamGate.nD Cert.KernelAdamGate.τ).loc Cert.KernelAdamGate.main_arg1)) (m ((c.tc : Thread Cert.KernelAdamGate.nD Cert.KernelAdamGate.τ).loc Cert.KernelAdamGate.main_arg2)) (m ((c.tc : Thread Cert.KernelAdamGate.nD Cert.KernelAdamGate.τ).loc Cert.KernelAdamGate.main_arg3)) (m ((c.tc : Thread Cert.KernelAdamGate.nD Cert.KernelAdamGate.τ).loc Cert.KernelAdamGate.main_arg4)) (m ((c.tc : Thread Cert.KernelAdamGate.nD Cert.KernelAdamGate.τ).loc Cert.KernelAdamGate.main_arg5))) = (fun _ => 1#1)

def Pre_KernelAdamGateIdeal [hPre_place_gate : Cert.Pre_place_gate.Facts] (m : (ℓ : Loc Cert.KernelAdamGateIdeal.nD Cert.KernelAdamGateIdeal.τ Cert.KernelAdamGateIdeal.sig) → Buf (Elt Ideal) ℓ) : Prop :=
  ∀ c : Dev Cert.KernelAdamGateIdeal.nD,
    (Cert.Pre_place_gate.fn (F := Ideal) (m ((c.tc : Thread Cert.KernelAdamGateIdeal.nD Cert.KernelAdamGateIdeal.τ).loc Cert.KernelAdamGateIdeal.main_arg0)) (m ((c.tc : Thread Cert.KernelAdamGateIdeal.nD Cert.KernelAdamGateIdeal.τ).loc Cert.KernelAdamGateIdeal.main_arg1)) (m ((c.tc : Thread Cert.KernelAdamGateIdeal.nD Cert.KernelAdamGateIdeal.τ).loc Cert.KernelAdamGateIdeal.main_arg2)) (m ((c.tc : Thread Cert.KernelAdamGateIdeal.nD Cert.KernelAdamGateIdeal.τ).loc Cert.KernelAdamGateIdeal.main_arg3)) (m ((c.tc : Thread Cert.KernelAdamGateIdeal.nD Cert.KernelAdamGateIdeal.τ).loc Cert.KernelAdamGateIdeal.main_arg4)) (m ((c.tc : Thread Cert.KernelAdamGateIdeal.nD Cert.KernelAdamGateIdeal.τ).loc Cert.KernelAdamGateIdeal.main_arg5))) = (fun _ => 1#1)

def Pre_ReferenceAdamGateIdeal (m : (ℓ : Loc Cert.ReferenceAdamGateIdeal.nD Cert.ReferenceAdamGateIdeal.τ Cert.ReferenceAdamGateIdeal.sig) → Buf (Elt Ideal) ℓ) : Prop :=
  True

def Pre_ReferenceAdamGateIdeal_place_gate [hPre_place_gate : Cert.Pre_place_gate.Facts] (m : (ℓ : Loc Cert.ReferenceAdamGateIdeal.nD Cert.ReferenceAdamGateIdeal.τ Cert.ReferenceAdamGateIdeal.sig) → Buf (Elt Ideal) ℓ) : Prop :=
  ∀ c : Dev Cert.ReferenceAdamGateIdeal.nD,
    (Cert.Pre_place_gate.fn (F := Ideal) (m ((c.tc : Thread Cert.ReferenceAdamGateIdeal.nD Cert.ReferenceAdamGateIdeal.τ).loc Cert.ReferenceAdamGateIdeal.main_arg0)) (m ((c.tc : Thread Cert.ReferenceAdamGateIdeal.nD Cert.ReferenceAdamGateIdeal.τ).loc Cert.ReferenceAdamGateIdeal.main_arg1)) (m ((c.tc : Thread Cert.ReferenceAdamGateIdeal.nD Cert.ReferenceAdamGateIdeal.τ).loc Cert.ReferenceAdamGateIdeal.main_arg2)) (m ((c.tc : Thread Cert.ReferenceAdamGateIdeal.nD Cert.ReferenceAdamGateIdeal.τ).loc Cert.ReferenceAdamGateIdeal.main_arg3)) (m ((c.tc : Thread Cert.ReferenceAdamGateIdeal.nD Cert.ReferenceAdamGateIdeal.τ).loc Cert.ReferenceAdamGateIdeal.main_arg4)) (m ((c.tc : Thread Cert.ReferenceAdamGateIdeal.nD Cert.ReferenceAdamGateIdeal.τ).loc Cert.ReferenceAdamGateIdeal.main_arg5))) = (fun _ => 1#1)

def Pre_KernelAdamQkv [hPre_place_qkv : Cert.Pre_place_qkv.Facts] (m : (ℓ : Loc Cert.KernelAdamQkv.nD Cert.KernelAdamQkv.τ Cert.KernelAdamQkv.sig) → Buf (Elt Bits) ℓ) : Prop :=
  ∀ c : Dev Cert.KernelAdamQkv.nD,
    (Cert.Pre_place_qkv.fn (F := Bits) (m ((c.tc : Thread Cert.KernelAdamQkv.nD Cert.KernelAdamQkv.τ).loc Cert.KernelAdamQkv.main_arg0)) (m ((c.tc : Thread Cert.KernelAdamQkv.nD Cert.KernelAdamQkv.τ).loc Cert.KernelAdamQkv.main_arg1)) (m ((c.tc : Thread Cert.KernelAdamQkv.nD Cert.KernelAdamQkv.τ).loc Cert.KernelAdamQkv.main_arg2)) (m ((c.tc : Thread Cert.KernelAdamQkv.nD Cert.KernelAdamQkv.τ).loc Cert.KernelAdamQkv.main_arg3)) (m ((c.tc : Thread Cert.KernelAdamQkv.nD Cert.KernelAdamQkv.τ).loc Cert.KernelAdamQkv.main_arg4)) (m ((c.tc : Thread Cert.KernelAdamQkv.nD Cert.KernelAdamQkv.τ).loc Cert.KernelAdamQkv.main_arg5))) = (fun _ => 1#1)

def Pre_KernelAdamQkvIdeal [hPre_place_qkv : Cert.Pre_place_qkv.Facts] (m : (ℓ : Loc Cert.KernelAdamQkvIdeal.nD Cert.KernelAdamQkvIdeal.τ Cert.KernelAdamQkvIdeal.sig) → Buf (Elt Ideal) ℓ) : Prop :=
  ∀ c : Dev Cert.KernelAdamQkvIdeal.nD,
    (Cert.Pre_place_qkv.fn (F := Ideal) (m ((c.tc : Thread Cert.KernelAdamQkvIdeal.nD Cert.KernelAdamQkvIdeal.τ).loc Cert.KernelAdamQkvIdeal.main_arg0)) (m ((c.tc : Thread Cert.KernelAdamQkvIdeal.nD Cert.KernelAdamQkvIdeal.τ).loc Cert.KernelAdamQkvIdeal.main_arg1)) (m ((c.tc : Thread Cert.KernelAdamQkvIdeal.nD Cert.KernelAdamQkvIdeal.τ).loc Cert.KernelAdamQkvIdeal.main_arg2)) (m ((c.tc : Thread Cert.KernelAdamQkvIdeal.nD Cert.KernelAdamQkvIdeal.τ).loc Cert.KernelAdamQkvIdeal.main_arg3)) (m ((c.tc : Thread Cert.KernelAdamQkvIdeal.nD Cert.KernelAdamQkvIdeal.τ).loc Cert.KernelAdamQkvIdeal.main_arg4)) (m ((c.tc : Thread Cert.KernelAdamQkvIdeal.nD Cert.KernelAdamQkvIdeal.τ).loc Cert.KernelAdamQkvIdeal.main_arg5))) = (fun _ => 1#1)

def Pre_ReferenceAdamQkvIdeal (m : (ℓ : Loc Cert.ReferenceAdamQkvIdeal.nD Cert.ReferenceAdamQkvIdeal.τ Cert.ReferenceAdamQkvIdeal.sig) → Buf (Elt Ideal) ℓ) : Prop :=
  True

def Pre_ReferenceAdamQkvIdeal_place_qkv [hPre_place_qkv : Cert.Pre_place_qkv.Facts] (m : (ℓ : Loc Cert.ReferenceAdamQkvIdeal.nD Cert.ReferenceAdamQkvIdeal.τ Cert.ReferenceAdamQkvIdeal.sig) → Buf (Elt Ideal) ℓ) : Prop :=
  ∀ c : Dev Cert.ReferenceAdamQkvIdeal.nD,
    (Cert.Pre_place_qkv.fn (F := Ideal) (m ((c.tc : Thread Cert.ReferenceAdamQkvIdeal.nD Cert.ReferenceAdamQkvIdeal.τ).loc Cert.ReferenceAdamQkvIdeal.main_arg0)) (m ((c.tc : Thread Cert.ReferenceAdamQkvIdeal.nD Cert.ReferenceAdamQkvIdeal.τ).loc Cert.ReferenceAdamQkvIdeal.main_arg1)) (m ((c.tc : Thread Cert.ReferenceAdamQkvIdeal.nD Cert.ReferenceAdamQkvIdeal.τ).loc Cert.ReferenceAdamQkvIdeal.main_arg2)) (m ((c.tc : Thread Cert.ReferenceAdamQkvIdeal.nD Cert.ReferenceAdamQkvIdeal.τ).loc Cert.ReferenceAdamQkvIdeal.main_arg3)) (m ((c.tc : Thread Cert.ReferenceAdamQkvIdeal.nD Cert.ReferenceAdamQkvIdeal.τ).loc Cert.ReferenceAdamQkvIdeal.main_arg4)) (m ((c.tc : Thread Cert.ReferenceAdamQkvIdeal.nD Cert.ReferenceAdamQkvIdeal.τ).loc Cert.ReferenceAdamQkvIdeal.main_arg5))) = (fun _ => 1#1)

def Pre_KernelAdamOut [hPre_place_out : Cert.Pre_place_out.Facts] (m : (ℓ : Loc Cert.KernelAdamOut.nD Cert.KernelAdamOut.τ Cert.KernelAdamOut.sig) → Buf (Elt Bits) ℓ) : Prop :=
  ∀ c : Dev Cert.KernelAdamOut.nD,
    (Cert.Pre_place_out.fn (F := Bits) (m ((c.tc : Thread Cert.KernelAdamOut.nD Cert.KernelAdamOut.τ).loc Cert.KernelAdamOut.main_arg0)) (m ((c.tc : Thread Cert.KernelAdamOut.nD Cert.KernelAdamOut.τ).loc Cert.KernelAdamOut.main_arg1)) (m ((c.tc : Thread Cert.KernelAdamOut.nD Cert.KernelAdamOut.τ).loc Cert.KernelAdamOut.main_arg2)) (m ((c.tc : Thread Cert.KernelAdamOut.nD Cert.KernelAdamOut.τ).loc Cert.KernelAdamOut.main_arg3)) (m ((c.tc : Thread Cert.KernelAdamOut.nD Cert.KernelAdamOut.τ).loc Cert.KernelAdamOut.main_arg4)) (m ((c.tc : Thread Cert.KernelAdamOut.nD Cert.KernelAdamOut.τ).loc Cert.KernelAdamOut.main_arg5))) = (fun _ => 1#1)

def Pre_KernelAdamOutIdeal [hPre_place_out : Cert.Pre_place_out.Facts] (m : (ℓ : Loc Cert.KernelAdamOutIdeal.nD Cert.KernelAdamOutIdeal.τ Cert.KernelAdamOutIdeal.sig) → Buf (Elt Ideal) ℓ) : Prop :=
  ∀ c : Dev Cert.KernelAdamOutIdeal.nD,
    (Cert.Pre_place_out.fn (F := Ideal) (m ((c.tc : Thread Cert.KernelAdamOutIdeal.nD Cert.KernelAdamOutIdeal.τ).loc Cert.KernelAdamOutIdeal.main_arg0)) (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg2)) (m ((c.tc : Thread Cert.KernelAdamOutIdeal.nD Cert.KernelAdamOutIdeal.τ).loc Cert.KernelAdamOutIdeal.main_arg3)) (m ((c.tc : Thread Cert.KernelAdamOutIdeal.nD Cert.KernelAdamOutIdeal.τ).loc Cert.KernelAdamOutIdeal.main_arg4)) (m ((c.tc : Thread Cert.KernelAdamOutIdeal.nD Cert.KernelAdamOutIdeal.τ).loc Cert.KernelAdamOutIdeal.main_arg5))) = (fun _ => 1#1)

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_ReferenceAdamOutIdeal_place_out [hPre_place_out : Cert.Pre_place_out.Facts] (m : (ℓ : Loc Cert.ReferenceAdamOutIdeal.nD Cert.ReferenceAdamOutIdeal.τ Cert.ReferenceAdamOutIdeal.sig) → Buf (Elt Ideal) ℓ) : Prop :=
  ∀ c : Dev Cert.ReferenceAdamOutIdeal.nD,
    (Cert.Pre_place_out.fn (F := Ideal) (m ((c.tc : Thread Cert.ReferenceAdamOutIdeal.nD Cert.ReferenceAdamOutIdeal.τ).loc Cert.ReferenceAdamOutIdeal.main_arg0)) (m ((c.tc : Thread Cert.ReferenceAdamOutIdeal.nD Cert.ReferenceAdamOutIdeal.τ).loc Cert.ReferenceAdamOutIdeal.main_arg1)) (m ((c.tc : Thread Cert.ReferenceAdamOutIdeal.nD Cert.ReferenceAdamOutIdeal.τ).loc Cert.ReferenceAdamOutIdeal.main_arg2)) (m ((c.tc : Thread Cert.ReferenceAdamOutIdeal.nD Cert.ReferenceAdamOutIdeal.τ).loc Cert.ReferenceAdamOutIdeal.main_arg3)) (m ((c.tc : Thread Cert.ReferenceAdamOutIdeal.nD Cert.ReferenceAdamOutIdeal.τ).loc Cert.ReferenceAdamOutIdeal.main_arg4)) (m ((c.tc : Thread Cert.ReferenceAdamOutIdeal.nD Cert.ReferenceAdamOutIdeal.τ).loc Cert.ReferenceAdamOutIdeal.main_arg5))) = (fun _ => 1#1)

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSumSmall (m : (ℓ : Loc Cert.KernelSumSmall.nD Cert.KernelSumSmall.τ Cert.KernelSumSmall.sig) → Buf (Elt Bits) ℓ) : Prop :=
  True

def Pre_KernelSumSmallIdeal (m : (ℓ : Loc Cert.KernelSumSmallIdeal.nD Cert.KernelSumSmallIdeal.τ Cert.KernelSumSmallIdeal.sig) → Buf (Elt Ideal) ℓ) : Prop :=
  True

def Pre_ReferenceSumSmallIdeal (m : (ℓ : Loc Cert.ReferenceSumSmallIdeal.nD Cert.ReferenceSumSmallIdeal.τ Cert.ReferenceSumSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1)
      ∧ r.2.mem ((c.tc : Thread Cert.KernelUpDx.nD Cert.KernelUpDx.τ).loc Cert.KernelUpDx.main_arg2) = m ((c.tc : Thread Cert.KernelUpDx.nD Cert.KernelUpDx.τ).loc Cert.KernelUpDx.main_arg2))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
      ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1)
      ∧ r.2.mem ((c.tc : Thread Cert.ReferenceUpDxIdeal.nD Cert.ReferenceUpDxIdeal.τ).loc Cert.ReferenceUpDxIdeal.main_arg2) = m ((c.tc : Thread Cert.ReferenceUpDxIdeal.nD Cert.ReferenceUpDxIdeal.τ).loc Cert.ReferenceUpDxIdeal.main_arg2))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1)
      ∧ r.2.mem ((c.tc : Thread Cert.KernelUpDw.nD Cert.KernelUpDw.τ).loc Cert.KernelUpDw.main_arg2) = m ((c.tc : Thread Cert.KernelUpDw.nD Cert.KernelUpDw.τ).loc Cert.KernelUpDw.main_arg2))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
      ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1)
      ∧ r.2.mem ((c.tc : Thread Cert.ReferenceUpDwIdeal.nD Cert.ReferenceUpDwIdeal.τ).loc Cert.ReferenceUpDwIdeal.main_arg2) = m ((c.tc : Thread Cert.ReferenceUpDwIdeal.nD Cert.ReferenceUpDwIdeal.τ).loc Cert.ReferenceUpDwIdeal.main_arg2))
      ∧ r.2.sem = fun _ => 0)

def quiescent_KernelInDw3 [hKernelInDw3 : Cert.KernelInDw3.Facts] : Prop :=
  ∀ (m : (ℓ : Loc Cert.KernelInDw3.nD Cert.KernelInDw3.τ Cert.KernelInDw3.sig) → Buf (Elt Bits) ℓ) (g : Dev Cert.KernelInDw3.nD → PrngReg), Pre_KernelInDw3 m →
    θ_run (Cert.KernelInDw3.defs (F := Bits)) (onTc (τ := Cert.KernelInDw3.τ) (Cert.KernelInDw3.main (F := Bits))) ⟨m, fun _ => 0, g⟩ (fun r => (∀ c : Dev Cert.KernelInDw3.nD,
      r.2.mem ((c.tc : Thread Cert.KernelInDw3.nD Cert.KernelInDw3.τ).loc Cert.KernelInDw3.main_arg0) = m ((c.tc : Thread Cert.KernelInDw3.nD Cert.KernelInDw3.τ).loc Cert.KernelInDw3.main_arg0)
      ∧ r.2.mem ((c.tc : Thread Cert.KernelInDw3.nD Cert.KernelInDw3.τ).loc Cert.KernelInDw3.main_arg1) = m ((c.tc : Thread Cert.KernelInDw3.nD Cert.KernelInDw3.τ).loc Cert.KernelInDw3.main_arg1)
      ∧ r.2.mem ((c.tc : Thread Cert.KernelInDw3.nD Cert.KernelInDw3.τ).loc Cert.KernelInDw3.main_arg2) = m ((c.tc : Thread Cert.KernelInDw3.nD Cert.KernelInDw3.τ).loc Cert.KernelInDw3.main_arg2))
      ∧ r.2.sem = fun _ => 0)

def quiescent_KernelInDw3Ideal [hKernelInDw3Ideal : Cert.KernelInDw3Ideal.Facts] : Prop :=
  ∀ (m : (ℓ : Loc Cert.KernelInDw3Ideal.nD Cert.KernelInDw3Ideal.τ Cert.KernelInDw3Ideal.sig) → Buf (Elt Ideal) ℓ) (g : Dev Cert.KernelInDw3Ideal.nD → PrngReg), Pre_KernelInDw3Ideal m →
    θ_run (Cert.KernelInDw3Ideal.defs (F := Ideal)) (onTc (τ := Cert.KernelInDw3Ideal.τ) (Cert.KernelInDw3Ideal.main (F := Ideal))) ⟨m, fun _ => 0, g⟩ (fun r => (∀ c : Dev Cert.KernelInDw3Ideal.nD,
      r.2.mem ((c.tc : Thread Cert.KernelInDw3Ideal.nD Cert.KernelInDw3Ideal.τ).loc Cert.KernelInDw3Ideal.main_arg0) = m ((c.tc : Thread Cert.KernelInDw3Ideal.nD Cert.KernelInDw3Ideal.τ).loc Cert.KernelInDw3Ideal.main_arg0)
      ∧ r.2.mem ((c.tc : Thread Cert.KernelInDw3Ideal.nD Cert.KernelInDw3Ideal.τ).loc Cert.KernelInDw3Ideal.main_arg1) = m ((c.tc : Thread Cert.KernelInDw3Ideal.nD Cert.KernelInDw3Ideal.τ).loc Cert.KernelInDw3Ideal.main_arg1)
      ∧ r.2.mem ((c.tc : Thread Cert.KernelInDw3Ideal.nD Cert.KernelInDw3Ideal.τ).loc Cert.KernelInDw3Ideal.main_arg2) = m ((c.tc : Thread Cert.KernelInDw3Ideal.nD Cert.KernelInDw3Ideal.τ).loc Cert.KernelInDw3Ideal.main_arg2))
      ∧ r.2.sem = fun _ => 0)

def quiescent_ReferenceInDw3Ideal [hReferenceInDw3Ideal : Cert.ReferenceInDw3Ideal.Facts] : Prop :=
  ∀ (m : (ℓ : Loc Cert.ReferenceInDw3Ideal.nD Cert.ReferenceInDw3Ideal.τ Cert.ReferenceInDw3Ideal.sig) → Buf (Elt Ideal) ℓ) (g : Dev Cert.ReferenceInDw3Ideal.nD → PrngReg), Pre_ReferenceInDw3Ideal m →
    θ_run (Cert.ReferenceInDw3Ideal.defs (F := Ideal)) (onTc (τ := Cert.ReferenceInDw3Ideal.τ) (Cert.ReferenceInDw3Ideal.main (F := Ideal))) ⟨m, fun _ => 0, g⟩ (fun r => (∀ c : Dev Cert.ReferenceInDw3Ideal.nD,
      r.2.mem ((c.tc : Thread Cert.ReferenceInDw3Ideal.nD Cert.ReferenceInDw3Ideal.τ).loc Cert.ReferenceInDw3Ideal.main_arg0) = m ((c.tc : Thread Cert.ReferenceInDw3Ideal.nD Cert.ReferenceInDw3Ideal.τ).loc Cert.ReferenceInDw3Ideal.main_arg0)
      ∧ r.2.mem ((c.tc : Thread Cert.ReferenceInDw3Ideal.nD Cert.ReferenceInDw3Ideal.τ).loc Cert.ReferenceInDw3Ideal.main_arg1) = m ((c.tc : Thread Cert.ReferenceInDw3Ideal.nD Cert.ReferenceInDw3Ideal.τ).loc Cert.ReferenceInDw3Ideal.main_arg1)
      ∧ r.2.mem ((c.tc : Thread Cert.ReferenceInDw3Ideal.nD Cert.ReferenceInDw3Ideal.τ).loc Cert.ReferenceInDw3Ideal.main_arg2) = m ((c.tc : Thread Cert.ReferenceInDw3Ideal.nD Cert.ReferenceInDw3Ideal.τ).loc Cert.ReferenceInDw3Ideal.main_arg2))
      ∧ r.2.sem = fun _ => 0)

def quiescent_KernelInDw2 [hKernelInDw2 : Cert.KernelInDw2.Facts] : Prop :=
  ∀ (m : (ℓ : Loc Cert.KernelInDw2.nD Cert.KernelInDw2.τ Cert.KernelInDw2.sig) → Buf (Elt Bits) ℓ) (g : Dev Cert.KernelInDw2.nD → PrngReg), Pre_KernelInDw2 m →
    θ_run (Cert.KernelInDw2.defs (F := Bits)) (onTc (τ := Cert.KernelInDw2.τ) (Cert.KernelInDw2.main (F := Bits))) ⟨m, fun _ => 0, g⟩ (fun r => (∀ c : Dev Cert.KernelInDw2.nD,
      r.2.mem ((c.tc : Thread Cert.KernelInDw2.nD Cert.KernelInDw2.τ).loc Cert.KernelInDw2.main_arg0) = m ((c.tc : Thread Cert.KernelInDw2.nD Cert.KernelInDw2.τ).loc Cert.KernelInDw2.main_arg0)
      ∧ r.2.mem ((c.tc : Thread Cert.KernelInDw2.nD Cert.KernelInDw2.τ).loc Cert.KernelInDw2.main_arg1) = m ((c.tc : Thread Cert.KernelInDw2.nD Cert.KernelInDw2.τ).loc Cert.KernelInDw2.main_arg1)
      ∧ r.2.mem ((c.tc : Thread Cert.KernelInDw2.nD Cert.KernelInDw2.τ).loc Cert.KernelInDw2.main_arg2) = m ((c.tc : Thread Cert.KernelInDw2.nD Cert.KernelInDw2.τ).loc Cert.KernelInDw2.main_arg2))
      ∧ r.2.sem = fun _ => 0)

def quiescent_KernelInDw2Ideal [hKernelInDw2Ideal : Cert.KernelInDw2Ideal.Facts] : Prop :=
  ∀ (m : (ℓ : Loc Cert.KernelInDw2Ideal.nD Cert.KernelInDw2Ideal.τ Cert.KernelInDw2Ideal.sig) → Buf (Elt Ideal) ℓ) (g : Dev Cert.KernelInDw2Ideal.nD → PrngReg), Pre_KernelInDw2Ideal m →
    θ_run (Cert.KernelInDw2Ideal.defs (F := Ideal)) (onTc (τ := Cert.KernelInDw2Ideal.τ) (Cert.KernelInDw2Ideal.main (F := Ideal))) ⟨m, fun _ => 0, g⟩ (fun r => (∀ c : Dev Cert.KernelInDw2Ideal.nD,
      r.2.mem ((c.tc : Thread Cert.KernelInDw2Ideal.nD Cert.KernelInDw2Ideal.τ).loc Cert.KernelInDw2Ideal.main_arg0) = m ((c.tc : Thread Cert.KernelInDw2Ideal.nD Cert.KernelInDw2Ideal.τ).loc Cert.KernelInDw2Ideal.main_arg0)
      ∧ r.2.mem ((c.tc : Thread Cert.KernelInDw2Ideal.nD Cert.KernelInDw2Ideal.τ).loc Cert.KernelInDw2Ideal.main_arg1) = m ((c.tc : Thread Cert.KernelInDw2Ideal.nD Cert.KernelInDw2Ideal.τ).loc Cert.KernelInDw2Ideal.main_arg1)
      ∧ r.2.mem ((c.tc : Thread Cert.KernelInDw2Ideal.nD Cert.KernelInDw2Ideal.τ).loc Cert.KernelInDw2Ideal.main_arg2) = m ((c.tc : Thread Cert.KernelInDw2Ideal.nD Cert.KernelInDw2Ideal.τ).loc Cert.KernelInDw2Ideal.main_arg2))
      ∧ r.2.sem = fun _ => 0)

def quiescent_ReferenceInDw2Ideal [hReferenceInDw2Ideal : Cert.ReferenceInDw2Ideal.Facts] : Prop :=
  ∀ (m : (ℓ : Loc Cert.ReferenceInDw2Ideal.nD Cert.ReferenceInDw2Ideal.τ Cert.ReferenceInDw2Ideal.sig) → Buf (Elt Ideal) ℓ) (g : Dev Cert.ReferenceInDw2Ideal.nD → PrngReg), Pre_ReferenceInDw2Ideal m →
    θ_run (Cert.ReferenceInDw2Ideal.defs (F := Ideal)) (onTc (τ := Cert.ReferenceInDw2Ideal.τ) (Cert.ReferenceInDw2Ideal.main (F := Ideal))) ⟨m, fun _ => 0, g⟩ (fun r => (∀ c : Dev Cert.ReferenceInDw2Ideal.nD,
      r.2.mem ((c.tc : Thread Cert.ReferenceInDw2Ideal.nD Cert.ReferenceInDw2Ideal.τ).loc Cert.ReferenceInDw2Ideal.main_arg0) = m ((c.tc : Thread Cert.ReferenceInDw2Ideal.nD Cert.ReferenceInDw2Ideal.τ).loc Cert.ReferenceInDw2Ideal.main_arg0)
      ∧ r.2.mem ((c.tc : Thread Cert.ReferenceInDw2Ideal.nD Cert.ReferenceInDw2Ideal.τ).loc Cert.ReferenceInDw2Ideal.main_arg1) = m ((c.tc : Thread Cert.ReferenceInDw2Ideal.nD Cert.ReferenceInDw2Ideal.τ).loc Cert.ReferenceInDw2Ideal.main_arg1)
      ∧ r.2.mem ((c.tc : Thread Cert.ReferenceInDw2Ideal.nD Cert.ReferenceInDw2Ideal.τ).loc Cert.ReferenceInDw2Ideal.main_arg2) = m ((c.tc : Thread Cert.ReferenceInDw2Ideal.nD Cert.ReferenceInDw2Ideal.τ).loc Cert.ReferenceInDw2Ideal.main_arg2))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1)
      ∧ r.2.mem ((c.tc : Thread Cert.KernelDownDx.nD Cert.KernelDownDx.τ).loc Cert.KernelDownDx.main_arg2) = m ((c.tc : Thread Cert.KernelDownDx.nD Cert.KernelDownDx.τ).loc Cert.KernelDownDx.main_arg2))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1)
      ∧ r.2.mem ((c.tc : Thread Cert.KernelDownDxIdeal.nD Cert.KernelDownDxIdeal.τ).loc Cert.KernelDownDxIdeal.main_arg2) = m ((c.tc : Thread Cert.KernelDownDxIdeal.nD Cert.KernelDownDxIdeal.τ).loc Cert.KernelDownDxIdeal.main_arg2))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1)
      ∧ r.2.mem ((c.tc : Thread Cert.ReferenceDownDxIdeal.nD Cert.ReferenceDownDxIdeal.τ).loc Cert.ReferenceDownDxIdeal.main_arg2) = m ((c.tc : Thread Cert.ReferenceDownDxIdeal.nD Cert.ReferenceDownDxIdeal.τ).loc Cert.ReferenceDownDxIdeal.main_arg2))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1)
      ∧ r.2.mem ((c.tc : Thread Cert.KernelDownDw.nD Cert.KernelDownDw.τ).loc Cert.KernelDownDw.main_arg2) = m ((c.tc : Thread Cert.KernelDownDw.nD Cert.KernelDownDw.τ).loc Cert.KernelDownDw.main_arg2))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1)
      ∧ r.2.mem ((c.tc : Thread Cert.KernelDownDwIdeal.nD Cert.KernelDownDwIdeal.τ).loc Cert.KernelDownDwIdeal.main_arg2) = m ((c.tc : Thread Cert.KernelDownDwIdeal.nD Cert.KernelDownDwIdeal.τ).loc Cert.KernelDownDwIdeal.main_arg2))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1)
      ∧ r.2.mem ((c.tc : Thread Cert.ReferenceDownDwIdeal.nD Cert.ReferenceDownDwIdeal.τ).loc Cert.ReferenceDownDwIdeal.main_arg2) = m ((c.tc : Thread Cert.ReferenceDownDwIdeal.nD Cert.ReferenceDownDwIdeal.τ).loc Cert.ReferenceDownDwIdeal.main_arg2))
      ∧ r.2.sem = fun _ => 0)

def quiescent_KernelIn3 [hKernelIn3 : Cert.KernelIn3.Facts] : Prop :=
  ∀ (m : (ℓ : Loc Cert.KernelIn3.nD Cert.KernelIn3.τ Cert.KernelIn3.sig) → Buf (Elt Bits) ℓ) (g : Dev Cert.KernelIn3.nD → PrngReg), Pre_KernelIn3 m →
    θ_run (Cert.KernelIn3.defs (F := Bits)) (onTc (τ := Cert.KernelIn3.τ) (Cert.KernelIn3.main (F := Bits))) ⟨m, fun _ => 0, g⟩ (fun r => (∀ c : Dev Cert.KernelIn3.nD,
      r.2.mem ((c.tc : Thread Cert.KernelIn3.nD Cert.KernelIn3.τ).loc Cert.KernelIn3.main_arg0) = m ((c.tc : Thread Cert.KernelIn3.nD Cert.KernelIn3.τ).loc Cert.KernelIn3.main_arg0)
      ∧ r.2.mem ((c.tc : Thread Cert.KernelIn3.nD Cert.KernelIn3.τ).loc Cert.KernelIn3.main_arg1) = m ((c.tc : Thread Cert.KernelIn3.nD Cert.KernelIn3.τ).loc Cert.KernelIn3.main_arg1))
      ∧ r.2.sem = fun _ => 0)

def quiescent_KernelIn3Ideal [hKernelIn3Ideal : Cert.KernelIn3Ideal.Facts] : Prop :=
  ∀ (m : (ℓ : Loc Cert.KernelIn3Ideal.nD Cert.KernelIn3Ideal.τ Cert.KernelIn3Ideal.sig) → Buf (Elt Ideal) ℓ) (g : Dev Cert.KernelIn3Ideal.nD → PrngReg), Pre_KernelIn3Ideal m →
    θ_run (Cert.KernelIn3Ideal.defs (F := Ideal)) (onTc (τ := Cert.KernelIn3Ideal.τ) (Cert.KernelIn3Ideal.main (F := Ideal))) ⟨m, fun _ => 0, g⟩ (fun r => (∀ c : Dev Cert.KernelIn3Ideal.nD,
      r.2.mem ((c.tc : Thread Cert.KernelIn3Ideal.nD Cert.KernelIn3Ideal.τ).loc Cert.KernelIn3Ideal.main_arg0) = m ((c.tc : Thread Cert.KernelIn3Ideal.nD Cert.KernelIn3Ideal.τ).loc Cert.KernelIn3Ideal.main_arg0)
      ∧ r.2.mem ((c.tc : Thread Cert.KernelIn3Ideal.nD Cert.KernelIn3Ideal.τ).loc Cert.KernelIn3Ideal.main_arg1) = m ((c.tc : Thread Cert.KernelIn3Ideal.nD Cert.KernelIn3Ideal.τ).loc Cert.KernelIn3Ideal.main_arg1))
      ∧ r.2.sem = fun _ => 0)

def quiescent_ReferenceIn3Ideal [hReferenceIn3Ideal : Cert.ReferenceIn3Ideal.Facts] : Prop :=
  ∀ (m : (ℓ : Loc Cert.ReferenceIn3Ideal.nD Cert.ReferenceIn3Ideal.τ Cert.ReferenceIn3Ideal.sig) → Buf (Elt Ideal) ℓ) (g : Dev Cert.ReferenceIn3Ideal.nD → PrngReg), Pre_ReferenceIn3Ideal m →
    θ_run (Cert.ReferenceIn3Ideal.defs (F := Ideal)) (onTc (τ := Cert.ReferenceIn3Ideal.τ) (Cert.ReferenceIn3Ideal.main (F := Ideal))) ⟨m, fun _ => 0, g⟩ (fun r => (∀ c : Dev Cert.ReferenceIn3Ideal.nD,
      r.2.mem ((c.tc : Thread Cert.ReferenceIn3Ideal.nD Cert.ReferenceIn3Ideal.τ).loc Cert.ReferenceIn3Ideal.main_arg0) = m ((c.tc : Thread Cert.ReferenceIn3Ideal.nD Cert.ReferenceIn3Ideal.τ).loc Cert.ReferenceIn3Ideal.main_arg0)
      ∧ r.2.mem ((c.tc : Thread Cert.ReferenceIn3Ideal.nD Cert.ReferenceIn3Ideal.τ).loc Cert.ReferenceIn3Ideal.main_arg1) = m ((c.tc : Thread Cert.ReferenceIn3Ideal.nD Cert.ReferenceIn3Ideal.τ).loc Cert.ReferenceIn3Ideal.main_arg1))
      ∧ r.2.sem = fun _ => 0)

def quiescent_KernelIn2 [hKernelIn2 : Cert.KernelIn2.Facts] : Prop :=
  ∀ (m : (ℓ : Loc Cert.KernelIn2.nD Cert.KernelIn2.τ Cert.KernelIn2.sig) → Buf (Elt Bits) ℓ) (g : Dev Cert.KernelIn2.nD → PrngReg), Pre_KernelIn2 m →
    θ_run (Cert.KernelIn2.defs (F := Bits)) (onTc (τ := Cert.KernelIn2.τ) (Cert.KernelIn2.main (F := Bits))) ⟨m, fun _ => 0, g⟩ (fun r => (∀ c : Dev Cert.KernelIn2.nD,
      r.2.mem ((c.tc : Thread Cert.KernelIn2.nD Cert.KernelIn2.τ).loc Cert.KernelIn2.main_arg0) = m ((c.tc : Thread Cert.KernelIn2.nD Cert.KernelIn2.τ).loc Cert.KernelIn2.main_arg0)
      ∧ r.2.mem ((c.tc : Thread Cert.KernelIn2.nD Cert.KernelIn2.τ).loc Cert.KernelIn2.main_arg1) = m ((c.tc : Thread Cert.KernelIn2.nD Cert.KernelIn2.τ).loc Cert.KernelIn2.main_arg1))
      ∧ r.2.sem = fun _ => 0)

def quiescent_KernelIn2Ideal [hKernelIn2Ideal : Cert.KernelIn2Ideal.Facts] : Prop :=
  ∀ (m : (ℓ : Loc Cert.KernelIn2Ideal.nD Cert.KernelIn2Ideal.τ Cert.KernelIn2Ideal.sig) → Buf (Elt Ideal) ℓ) (g : Dev Cert.KernelIn2Ideal.nD → PrngReg), Pre_KernelIn2Ideal m →
    θ_run (Cert.KernelIn2Ideal.defs (F := Ideal)) (onTc (τ := Cert.KernelIn2Ideal.τ) (Cert.KernelIn2Ideal.main (F := Ideal))) ⟨m, fun _ => 0, g⟩ (fun r => (∀ c : Dev Cert.KernelIn2Ideal.nD,
      r.2.mem ((c.tc : Thread Cert.KernelIn2Ideal.nD Cert.KernelIn2Ideal.τ).loc Cert.KernelIn2Ideal.main_arg0) = m ((c.tc : Thread Cert.KernelIn2Ideal.nD Cert.KernelIn2Ideal.τ).loc Cert.KernelIn2Ideal.main_arg0)
      ∧ r.2.mem ((c.tc : Thread Cert.KernelIn2Ideal.nD Cert.KernelIn2Ideal.τ).loc Cert.KernelIn2Ideal.main_arg1) = m ((c.tc : Thread Cert.KernelIn2Ideal.nD Cert.KernelIn2Ideal.τ).loc Cert.KernelIn2Ideal.main_arg1))
      ∧ r.2.sem = fun _ => 0)

def quiescent_ReferenceIn2Ideal [hReferenceIn2Ideal : Cert.ReferenceIn2Ideal.Facts] : Prop :=
  ∀ (m : (ℓ : Loc Cert.ReferenceIn2Ideal.nD Cert.ReferenceIn2Ideal.τ Cert.ReferenceIn2Ideal.sig) → Buf (Elt Ideal) ℓ) (g : Dev Cert.ReferenceIn2Ideal.nD → PrngReg), Pre_ReferenceIn2Ideal m →
    θ_run (Cert.ReferenceIn2Ideal.defs (F := Ideal)) (onTc (τ := Cert.ReferenceIn2Ideal.τ) (Cert.ReferenceIn2Ideal.main (F := Ideal))) ⟨m, fun _ => 0, g⟩ (fun r => (∀ c : Dev Cert.ReferenceIn2Ideal.nD,
      r.2.mem ((c.tc : Thread Cert.ReferenceIn2Ideal.nD Cert.ReferenceIn2Ideal.τ).loc Cert.ReferenceIn2Ideal.main_arg0) = m ((c.tc : Thread Cert.ReferenceIn2Ideal.nD Cert.ReferenceIn2Ideal.τ).loc Cert.ReferenceIn2Ideal.main_arg0)
      ∧ r.2.mem ((c.tc : Thread Cert.ReferenceIn2Ideal.nD Cert.ReferenceIn2Ideal.τ).loc Cert.ReferenceIn2Ideal.main_arg1) = m ((c.tc : Thread Cert.ReferenceIn2Ideal.nD Cert.ReferenceIn2Ideal.τ).loc Cert.ReferenceIn2Ideal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0))
      ∧ r.2.sem = fun _ => 0)

def quiescent_KernelSbIdeal_pre_finite_qk [hKernelSbIdeal : Cert.KernelSbIdeal.Facts] [hPre_finite_qk : Cert.Pre_finite_qk.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_qk m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0))
      ∧ r.2.sem = fun _ => 0)

def quiescent_ReferenceSbIdeal_pre_finite_qk [hReferenceSbIdeal : Cert.ReferenceSbIdeal.Facts] [hPre_finite_qk : Cert.Pre_finite_qk.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_qk m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0))
      ∧ r.2.sem = fun _ => 0)

def quiescent_KernelAdamGate [hKernelAdamGate : Cert.KernelAdamGate.Facts] [hPre_place_gate : Cert.Pre_place_gate.Facts] : Prop :=
  ∀ (m : (ℓ : Loc Cert.KernelAdamGate.nD Cert.KernelAdamGate.τ Cert.KernelAdamGate.sig) → Buf (Elt Bits) ℓ) (g : Dev Cert.KernelAdamGate.nD → PrngReg), Pre_KernelAdamGate m →
    θ_run (Cert.KernelAdamGate.defs (F := Bits)) (onTc (τ := Cert.KernelAdamGate.τ) (Cert.KernelAdamGate.main (F := Bits))) ⟨m, fun _ => 0, g⟩ (fun r => (∀ c : Dev Cert.KernelAdamGate.nD,
      r.2.mem ((c.tc : Thread Cert.KernelAdamGate.nD Cert.KernelAdamGate.τ).loc Cert.KernelAdamGate.main_arg0) = m ((c.tc : Thread Cert.KernelAdamGate.nD Cert.KernelAdamGate.τ).loc Cert.KernelAdamGate.main_arg0)
      ∧ r.2.mem ((c.tc : Thread Cert.KernelAdamGate.nD Cert.KernelAdamGate.τ).loc Cert.KernelAdamGate.main_arg1) = m ((c.tc : Thread Cert.KernelAdamGate.nD Cert.KernelAdamGate.τ).loc Cert.KernelAdamGate.main_arg1)
      ∧ r.2.mem ((c.tc : Thread Cert.KernelAdamGate.nD Cert.KernelAdamGate.τ).loc Cert.KernelAdamGate.main_arg2) = m ((c.tc : Thread Cert.KernelAdamGate.nD Cert.KernelAdamGate.τ).loc Cert.KernelAdamGate.main_arg2)
      ∧ r.2.mem ((c.tc : Thread Cert.KernelAdamGate.nD Cert.KernelAdamGate.τ).loc Cert.KernelAdamGate.main_arg3) = m ((c.tc : Thread Cert.KernelAdamGate.nD Cert.KernelAdamGate.τ).loc Cert.KernelAdamGate.main_arg3)
      ∧ r.2.mem ((c.tc : Thread Cert.KernelAdamGate.nD Cert.KernelAdamGate.τ).loc Cert.KernelAdamGate.main_arg4) = m ((c.tc : Thread Cert.KernelAdamGate.nD Cert.KernelAdamGate.τ).loc Cert.KernelAdamGate.main_arg4)
      ∧ r.2.mem ((c.tc : Thread Cert.KernelAdamGate.nD Cert.KernelAdamGate.τ).loc Cert.KernelAdamGate.main_arg5) = m ((c.tc : Thread Cert.KernelAdamGate.nD Cert.KernelAdamGate.τ).loc Cert.KernelAdamGate.main_arg5))
      ∧ r.2.sem = fun _ => 0)

def quiescent_KernelAdamGateIdeal [hKernelAdamGateIdeal : Cert.KernelAdamGateIdeal.Facts] [hPre_place_gate : Cert.Pre_place_gate.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg), Pre_KernelAdamGateIdeal m →
    θ_run (Cert.KernelAdamGateIdeal.defs (F := Ideal)) (onTc (τ := Cert.KernelAdamGateIdeal.τ) (Cert.KernelAdamGateIdeal.main (F := Ideal))) ⟨m, fun _ => 0, g⟩ (fun r => (∀ c : Dev Cert.KernelAdamGateIdeal.nD,
      r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
      ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
      ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
      ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3)
      ∧ r.2.mem ((c.tc : Thread Cert.KernelAdamGateIdeal.nD Cert.KernelAdamGateIdeal.τ).loc Cert.KernelAdamGateIdeal.main_arg4) = m ((c.tc : Thread Cert.KernelAdamGateIdeal.nD Cert.KernelAdamGateIdeal.τ).loc Cert.KernelAdamGateIdeal.main_arg4)
      ∧ r.2.mem ((c.tc : Thread Cert.KernelAdamGateIdeal.nD Cert.KernelAdamGateIdeal.τ).loc Cert.KernelAdamGateIdeal.main_arg5) = m ((c.tc : Thread Cert.KernelAdamGateIdeal.nD Cert.KernelAdamGateIdeal.τ).loc Cert.KernelAdamGateIdeal.main_arg5))
      ∧ r.2.sem = fun _ => 0)

def quiescent_ReferenceAdamGateIdeal [hReferenceAdamGateIdeal : Cert.ReferenceAdamGateIdeal.Facts] : Prop :=
  ∀ (m : (ℓ : Loc Cert.ReferenceAdamGateIdeal.nD Cert.ReferenceAdamGateIdeal.τ Cert.ReferenceAdamGateIdeal.sig) → Buf (Elt Ideal) ℓ) (g : Dev Cert.ReferenceAdamGateIdeal.nD → PrngReg), Pre_ReferenceAdamGateIdeal m →
    θ_run (Cert.ReferenceAdamGateIdeal.defs (F := Ideal)) (onTc (τ := Cert.ReferenceAdamGateIdeal.τ) (Cert.ReferenceAdamGateIdeal.main (F := Ideal))) ⟨m, fun _ => 0, g⟩ (fun r => (∀ c : Dev Cert.ReferenceAdamGateIdeal.nD,
      r.2.mem ((c.tc : Thread Cert.ReferenceAdamGateIdeal.nD Cert.ReferenceAdamGateIdeal.τ).loc Cert.ReferenceAdamGateIdeal.main_arg0) = m ((c.tc : Thread Cert.ReferenceAdamGateIdeal.nD Cert.ReferenceAdamGateIdeal.τ).loc Cert.ReferenceAdamGateIdeal.main_arg0)
      ∧ r.2.mem ((c.tc : Thread Cert.ReferenceAdamGateIdeal.nD Cert.ReferenceAdamGateIdeal.τ).loc Cert.ReferenceAdamGateIdeal.main_arg1) = m ((c.tc : Thread Cert.ReferenceAdamGateIdeal.nD Cert.ReferenceAdamGateIdeal.τ).loc Cert.ReferenceAdamGateIdeal.main_arg1)
      ∧ r.2.mem ((c.tc : Thread Cert.ReferenceAdamGateIdeal.nD Cert.ReferenceAdamGateIdeal.τ).loc Cert.ReferenceAdamGateIdeal.main_arg2) = m ((c.tc : Thread Cert.ReferenceAdamGateIdeal.nD Cert.ReferenceAdamGateIdeal.τ).loc Cert.ReferenceAdamGateIdeal.main_arg2)
      ∧ r.2.mem ((c.tc : Thread Cert.ReferenceAdamGateIdeal.nD Cert.ReferenceAdamGateIdeal.τ).loc Cert.ReferenceAdamGateIdeal.main_arg3) = m ((c.tc : Thread Cert.ReferenceAdamGateIdeal.nD Cert.ReferenceAdamGateIdeal.τ).loc Cert.ReferenceAdamGateIdeal.main_arg3)
      ∧ r.2.mem ((c.tc : Thread Cert.ReferenceAdamGateIdeal.nD Cert.ReferenceAdamGateIdeal.τ).loc Cert.ReferenceAdamGateIdeal.main_arg4) = m ((c.tc : Thread Cert.ReferenceAdamGateIdeal.nD Cert.ReferenceAdamGateIdeal.τ).loc Cert.ReferenceAdamGateIdeal.main_arg4)
      ∧ r.2.mem ((c.tc : Thread Cert.ReferenceAdamGateIdeal.nD Cert.ReferenceAdamGateIdeal.τ).loc Cert.ReferenceAdamGateIdeal.main_arg5) = m ((c.tc : Thread Cert.ReferenceAdamGateIdeal.nD Cert.ReferenceAdamGateIdeal.τ).loc Cert.ReferenceAdamGateIdeal.main_arg5))
      ∧ r.2.sem = fun _ => 0)

def quiescent_ReferenceAdamGateIdeal_pre_place_gate [hReferenceAdamGateIdeal : Cert.ReferenceAdamGateIdeal.Facts] [hPre_place_gate : Cert.Pre_place_gate.Facts] : Prop :=
  ∀ (m : (ℓ : Loc Cert.ReferenceAdamGateIdeal.nD Cert.ReferenceAdamGateIdeal.τ Cert.ReferenceAdamGateIdeal.sig) → Buf (Elt Ideal) ℓ) (g : Dev Cert.ReferenceAdamGateIdeal.nD → PrngReg), Pre_ReferenceAdamGateIdeal_place_gate m →
    θ_run (Cert.ReferenceAdamGateIdeal.defs (F := Ideal)) (onTc (τ := Cert.ReferenceAdamGateIdeal.τ) (Cert.ReferenceAdamGateIdeal.main (F := Ideal))) ⟨m, fun _ => 0, g⟩ (fun r => (∀ c : Dev Cert.ReferenceAdamGateIdeal.nD,
      r.2.mem ((c.tc : Thread Cert.ReferenceAdamGateIdeal.nD Cert.ReferenceAdamGateIdeal.τ).loc Cert.ReferenceAdamGateIdeal.main_arg0) = m ((c.tc : Thread Cert.ReferenceAdamGateIdeal.nD Cert.ReferenceAdamGateIdeal.τ).loc Cert.ReferenceAdamGateIdeal.main_arg0)
      ∧ r.2.mem ((c.tc : Thread Cert.ReferenceAdamGateIdeal.nD Cert.ReferenceAdamGateIdeal.τ).loc Cert.ReferenceAdamGateIdeal.main_arg1) = m ((c.tc : Thread Cert.ReferenceAdamGateIdeal.nD Cert.ReferenceAdamGateIdeal.τ).loc Cert.ReferenceAdamGateIdeal.main_arg1)
      ∧ r.2.mem ((c.tc : Thread Cert.ReferenceAdamGateIdeal.nD Cert.ReferenceAdamGateIdeal.τ).loc Cert.ReferenceAdamGateIdeal.main_arg2) = m ((c.tc : Thread Cert.ReferenceAdamGateIdeal.nD Cert.ReferenceAdamGateIdeal.τ).loc Cert.ReferenceAdamGateIdeal.main_arg2)
      ∧ r.2.mem ((c.tc : Thread Cert.ReferenceAdamGateIdeal.nD Cert.ReferenceAdamGateIdeal.τ).loc Cert.ReferenceAdamGateIdeal.main_arg3) = m ((c.tc : Thread Cert.ReferenceAdamGateIdeal.nD Cert.ReferenceAdamGateIdeal.τ).loc Cert.ReferenceAdamGateIdeal.main_arg3)
      ∧ r.2.mem ((c.tc : Thread Cert.ReferenceAdamGateIdeal.nD Cert.ReferenceAdamGateIdeal.τ).loc Cert.ReferenceAdamGateIdeal.main_arg4) = m ((c.tc : Thread Cert.ReferenceAdamGateIdeal.nD Cert.ReferenceAdamGateIdeal.τ).loc Cert.ReferenceAdamGateIdeal.main_arg4)
      ∧ r.2.mem ((c.tc : Thread Cert.ReferenceAdamGateIdeal.nD Cert.ReferenceAdamGateIdeal.τ).loc Cert.ReferenceAdamGateIdeal.main_arg5) = m ((c.tc : Thread Cert.ReferenceAdamGateIdeal.nD Cert.ReferenceAdamGateIdeal.τ).loc Cert.ReferenceAdamGateIdeal.main_arg5))
      ∧ r.2.sem = fun _ => 0)

def quiescent_KernelAdamQkv [hKernelAdamQkv : Cert.KernelAdamQkv.Facts] [hPre_place_qkv : Cert.Pre_place_qkv.Facts] : Prop :=
  ∀ (m : (ℓ : Loc Cert.KernelAdamQkv.nD Cert.KernelAdamQkv.τ Cert.KernelAdamQkv.sig) → Buf (Elt Bits) ℓ) (g : Dev Cert.KernelAdamQkv.nD → PrngReg), Pre_KernelAdamQkv m →
    θ_run (Cert.KernelAdamQkv.defs (F := Bits)) (onTc (τ := Cert.KernelAdamQkv.τ) (Cert.KernelAdamQkv.main (F := Bits))) ⟨m, fun _ => 0, g⟩ (fun r => (∀ c : Dev Cert.KernelAdamQkv.nD,
      r.2.mem ((c.tc : Thread Cert.KernelAdamQkv.nD Cert.KernelAdamQkv.τ).loc Cert.KernelAdamQkv.main_arg0) = m ((c.tc : Thread Cert.KernelAdamQkv.nD Cert.KernelAdamQkv.τ).loc Cert.KernelAdamQkv.main_arg0)
      ∧ r.2.mem ((c.tc : Thread Cert.KernelAdamQkv.nD Cert.KernelAdamQkv.τ).loc Cert.KernelAdamQkv.main_arg1) = m ((c.tc : Thread Cert.KernelAdamQkv.nD Cert.KernelAdamQkv.τ).loc Cert.KernelAdamQkv.main_arg1)
      ∧ r.2.mem ((c.tc : Thread Cert.KernelAdamQkv.nD Cert.KernelAdamQkv.τ).loc Cert.KernelAdamQkv.main_arg2) = m ((c.tc : Thread Cert.KernelAdamQkv.nD Cert.KernelAdamQkv.τ).loc Cert.KernelAdamQkv.main_arg2)
      ∧ r.2.mem ((c.tc : Thread Cert.KernelAdamQkv.nD Cert.KernelAdamQkv.τ).loc Cert.KernelAdamQkv.main_arg3) = m ((c.tc : Thread Cert.KernelAdamQkv.nD Cert.KernelAdamQkv.τ).loc Cert.KernelAdamQkv.main_arg3)
      ∧ r.2.mem ((c.tc : Thread Cert.KernelAdamQkv.nD Cert.KernelAdamQkv.τ).loc Cert.KernelAdamQkv.main_arg4) = m ((c.tc : Thread Cert.KernelAdamQkv.nD Cert.KernelAdamQkv.τ).loc Cert.KernelAdamQkv.main_arg4)
      ∧ r.2.mem ((c.tc : Thread Cert.KernelAdamQkv.nD Cert.KernelAdamQkv.τ).loc Cert.KernelAdamQkv.main_arg5) = m ((c.tc : Thread Cert.KernelAdamQkv.nD Cert.KernelAdamQkv.τ).loc Cert.KernelAdamQkv.main_arg5))
      ∧ r.2.sem = fun _ => 0)

def quiescent_KernelAdamQkvIdeal [hKernelAdamQkvIdeal : Cert.KernelAdamQkvIdeal.Facts] [hPre_place_qkv : Cert.Pre_place_qkv.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg), Pre_KernelAdamQkvIdeal m →
    θ_run (Cert.KernelAdamQkvIdeal.defs (F := Ideal)) (onTc (τ := Cert.KernelAdamQkvIdeal.τ) (Cert.KernelAdamQkvIdeal.main (F := Ideal))) ⟨m, fun _ => 0, g⟩ (fun r => (∀ c : Dev Cert.KernelAdamQkvIdeal.nD,
      r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
      ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
      ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
      ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3)
      ∧ r.2.mem ((c.tc : Thread Cert.KernelAdamQkvIdeal.nD Cert.KernelAdamQkvIdeal.τ).loc Cert.KernelAdamQkvIdeal.main_arg4) = m ((c.tc : Thread Cert.KernelAdamQkvIdeal.nD Cert.KernelAdamQkvIdeal.τ).loc Cert.KernelAdamQkvIdeal.main_arg4)
      ∧ r.2.mem ((c.tc : Thread Cert.KernelAdamQkvIdeal.nD Cert.KernelAdamQkvIdeal.τ).loc Cert.KernelAdamQkvIdeal.main_arg5) = m ((c.tc : Thread Cert.KernelAdamQkvIdeal.nD Cert.KernelAdamQkvIdeal.τ).loc Cert.KernelAdamQkvIdeal.main_arg5))
      ∧ r.2.sem = fun _ => 0)

def quiescent_ReferenceAdamQkvIdeal [hReferenceAdamQkvIdeal : Cert.ReferenceAdamQkvIdeal.Facts] : Prop :=
  ∀ (m : (ℓ : Loc Cert.ReferenceAdamQkvIdeal.nD Cert.ReferenceAdamQkvIdeal.τ Cert.ReferenceAdamQkvIdeal.sig) → Buf (Elt Ideal) ℓ) (g : Dev Cert.ReferenceAdamQkvIdeal.nD → PrngReg), Pre_ReferenceAdamQkvIdeal m →
    θ_run (Cert.ReferenceAdamQkvIdeal.defs (F := Ideal)) (onTc (τ := Cert.ReferenceAdamQkvIdeal.τ) (Cert.ReferenceAdamQkvIdeal.main (F := Ideal))) ⟨m, fun _ => 0, g⟩ (fun r => (∀ c : Dev Cert.ReferenceAdamQkvIdeal.nD,
      r.2.mem ((c.tc : Thread Cert.ReferenceAdamQkvIdeal.nD Cert.ReferenceAdamQkvIdeal.τ).loc Cert.ReferenceAdamQkvIdeal.main_arg0) = m ((c.tc : Thread Cert.ReferenceAdamQkvIdeal.nD Cert.ReferenceAdamQkvIdeal.τ).loc Cert.ReferenceAdamQkvIdeal.main_arg0)
      ∧ r.2.mem ((c.tc : Thread Cert.ReferenceAdamQkvIdeal.nD Cert.ReferenceAdamQkvIdeal.τ).loc Cert.ReferenceAdamQkvIdeal.main_arg1) = m ((c.tc : Thread Cert.ReferenceAdamQkvIdeal.nD Cert.ReferenceAdamQkvIdeal.τ).loc Cert.ReferenceAdamQkvIdeal.main_arg1)
      ∧ r.2.mem ((c.tc : Thread Cert.ReferenceAdamQkvIdeal.nD Cert.ReferenceAdamQkvIdeal.τ).loc Cert.ReferenceAdamQkvIdeal.main_arg2) = m ((c.tc : Thread Cert.ReferenceAdamQkvIdeal.nD Cert.ReferenceAdamQkvIdeal.τ).loc Cert.ReferenceAdamQkvIdeal.main_arg2)
      ∧ r.2.mem ((c.tc : Thread Cert.ReferenceAdamQkvIdeal.nD Cert.ReferenceAdamQkvIdeal.τ).loc Cert.ReferenceAdamQkvIdeal.main_arg3) = m ((c.tc : Thread Cert.ReferenceAdamQkvIdeal.nD Cert.ReferenceAdamQkvIdeal.τ).loc Cert.ReferenceAdamQkvIdeal.main_arg3)
      ∧ r.2.mem ((c.tc : Thread Cert.ReferenceAdamQkvIdeal.nD Cert.ReferenceAdamQkvIdeal.τ).loc Cert.ReferenceAdamQkvIdeal.main_arg4) = m ((c.tc : Thread Cert.ReferenceAdamQkvIdeal.nD Cert.ReferenceAdamQkvIdeal.τ).loc Cert.ReferenceAdamQkvIdeal.main_arg4)
      ∧ r.2.mem ((c.tc : Thread Cert.ReferenceAdamQkvIdeal.nD Cert.ReferenceAdamQkvIdeal.τ).loc Cert.ReferenceAdamQkvIdeal.main_arg5) = m ((c.tc : Thread Cert.ReferenceAdamQkvIdeal.nD Cert.ReferenceAdamQkvIdeal.τ).loc Cert.ReferenceAdamQkvIdeal.main_arg5))
      ∧ r.2.sem = fun _ => 0)

def quiescent_ReferenceAdamQkvIdeal_pre_place_qkv [hReferenceAdamQkvIdeal : Cert.ReferenceAdamQkvIdeal.Facts] [hPre_place_qkv : Cert.Pre_place_qkv.Facts] : Prop :=
  ∀ (m : (ℓ : Loc Cert.ReferenceAdamQkvIdeal.nD Cert.ReferenceAdamQkvIdeal.τ Cert.ReferenceAdamQkvIdeal.sig) → Buf (Elt Ideal) ℓ) (g : Dev Cert.ReferenceAdamQkvIdeal.nD → PrngReg), Pre_ReferenceAdamQkvIdeal_place_qkv m →
    θ_run (Cert.ReferenceAdamQkvIdeal.defs (F := Ideal)) (onTc (τ := Cert.ReferenceAdamQkvIdeal.τ) (Cert.ReferenceAdamQkvIdeal.main (F := Ideal))) ⟨m, fun _ => 0, g⟩ (fun r => (∀ c : Dev Cert.ReferenceAdamQkvIdeal.nD,
      r.2.mem ((c.tc : Thread Cert.ReferenceAdamQkvIdeal.nD Cert.ReferenceAdamQkvIdeal.τ).loc Cert.ReferenceAdamQkvIdeal.main_arg0) = m ((c.tc : Thread Cert.ReferenceAdamQkvIdeal.nD Cert.ReferenceAdamQkvIdeal.τ).loc Cert.ReferenceAdamQkvIdeal.main_arg0)
      ∧ r.2.mem ((c.tc : Thread Cert.ReferenceAdamQkvIdeal.nD Cert.ReferenceAdamQkvIdeal.τ).loc Cert.ReferenceAdamQkvIdeal.main_arg1) = m ((c.tc : Thread Cert.ReferenceAdamQkvIdeal.nD Cert.ReferenceAdamQkvIdeal.τ).loc Cert.ReferenceAdamQkvIdeal.main_arg1)
      ∧ r.2.mem ((c.tc : Thread Cert.ReferenceAdamQkvIdeal.nD Cert.ReferenceAdamQkvIdeal.τ).loc Cert.ReferenceAdamQkvIdeal.main_arg2) = m ((c.tc : Thread Cert.ReferenceAdamQkvIdeal.nD Cert.ReferenceAdamQkvIdeal.τ).loc Cert.ReferenceAdamQkvIdeal.main_arg2)
      ∧ r.2.mem ((c.tc : Thread Cert.ReferenceAdamQkvIdeal.nD Cert.ReferenceAdamQkvIdeal.τ).loc Cert.ReferenceAdamQkvIdeal.main_arg3) = m ((c.tc : Thread Cert.ReferenceAdamQkvIdeal.nD Cert.ReferenceAdamQkvIdeal.τ).loc Cert.ReferenceAdamQkvIdeal.main_arg3)
      ∧ r.2.mem ((c.tc : Thread Cert.ReferenceAdamQkvIdeal.nD Cert.ReferenceAdamQkvIdeal.τ).loc Cert.ReferenceAdamQkvIdeal.main_arg4) = m ((c.tc : Thread Cert.ReferenceAdamQkvIdeal.nD Cert.ReferenceAdamQkvIdeal.τ).loc Cert.ReferenceAdamQkvIdeal.main_arg4)
      ∧ r.2.mem ((c.tc : Thread Cert.ReferenceAdamQkvIdeal.nD Cert.ReferenceAdamQkvIdeal.τ).loc Cert.ReferenceAdamQkvIdeal.main_arg5) = m ((c.tc : Thread Cert.ReferenceAdamQkvIdeal.nD Cert.ReferenceAdamQkvIdeal.τ).loc Cert.ReferenceAdamQkvIdeal.main_arg5))
      ∧ r.2.sem = fun _ => 0)

def quiescent_KernelAdamOut [hKernelAdamOut : Cert.KernelAdamOut.Facts] [hPre_place_out : Cert.Pre_place_out.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4)
      ∧ r.2.mem ((c.tc : Thread Cert.KernelAdamOut.nD Cert.KernelAdamOut.τ).loc Cert.KernelAdamOut.main_arg5) = m ((c.tc : Thread Cert.KernelAdamOut.nD Cert.KernelAdamOut.τ).loc Cert.KernelAdamOut.main_arg5))
      ∧ r.2.sem = fun _ => 0)

def quiescent_KernelAdamOutIdeal [hKernelAdamOutIdeal : Cert.KernelAdamOutIdeal.Facts] [hPre_place_out : Cert.Pre_place_out.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
      ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5))
      ∧ r.2.sem = fun _ => 0)

def quiescent_ReferenceAdamOutIdeal_pre_place_out [hReferenceAdamOutIdeal : Cert.ReferenceAdamOutIdeal.Facts] [hPre_place_out : Cert.Pre_place_out.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal_place_out m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelSumSmall [hKernelSumSmall : Cert.KernelSumSmall.Facts] : Prop :=
  ∀ (m : (ℓ : Loc Cert.KernelSumSmall.nD Cert.KernelSumSmall.τ Cert.KernelSumSmall.sig) → Buf (Elt Bits) ℓ) (g : Dev Cert.KernelSumSmall.nD → PrngReg), Pre_KernelSumSmall m →
    θ_run (Cert.KernelSumSmall.defs (F := Bits)) (onTc (τ := Cert.KernelSumSmall.τ) (Cert.KernelSumSmall.main (F := Bits))) ⟨m, fun _ => 0, g⟩ (fun r => (∀ c : Dev Cert.KernelSumSmall.nD,
      r.2.mem ((c.tc : Thread Cert.KernelSumSmall.nD Cert.KernelSumSmall.τ).loc Cert.KernelSumSmall.main_arg0) = m ((c.tc : Thread Cert.KernelSumSmall.nD Cert.KernelSumSmall.τ).loc Cert.KernelSumSmall.main_arg0))
      ∧ r.2.sem = fun _ => 0)

def quiescent_KernelSumSmallIdeal [hKernelSumSmallIdeal : Cert.KernelSumSmallIdeal.Facts] : Prop :=
  ∀ (m : (ℓ : Loc Cert.KernelSumSmallIdeal.nD Cert.KernelSumSmallIdeal.τ Cert.KernelSumSmallIdeal.sig) → Buf (Elt Ideal) ℓ) (g : Dev Cert.KernelSumSmallIdeal.nD → PrngReg), Pre_KernelSumSmallIdeal m →
    θ_run (Cert.KernelSumSmallIdeal.defs (F := Ideal)) (onTc (τ := Cert.KernelSumSmallIdeal.τ) (Cert.KernelSumSmallIdeal.main (F := Ideal))) ⟨m, fun _ => 0, g⟩ (fun r => (∀ c : Dev Cert.KernelSumSmallIdeal.nD,
      r.2.mem ((c.tc : Thread Cert.KernelSumSmallIdeal.nD Cert.KernelSumSmallIdeal.τ).loc Cert.KernelSumSmallIdeal.main_arg0) = m ((c.tc : Thread Cert.KernelSumSmallIdeal.nD Cert.KernelSumSmallIdeal.τ).loc Cert.KernelSumSmallIdeal.main_arg0))
      ∧ r.2.sem = fun _ => 0)

def quiescent_ReferenceSumSmallIdeal [hReferenceSumSmallIdeal : Cert.ReferenceSumSmallIdeal.Facts] : Prop :=
  ∀ (m : (ℓ : Loc Cert.ReferenceSumSmallIdeal.nD Cert.ReferenceSumSmallIdeal.τ Cert.ReferenceSumSmallIdeal.sig) → Buf (Elt Ideal) ℓ) (g : Dev Cert.ReferenceSumSmallIdeal.nD → PrngReg), Pre_ReferenceSumSmallIdeal m →
    θ_run (Cert.ReferenceSumSmallIdeal.defs (F := Ideal)) (onTc (τ := Cert.ReferenceSumSmallIdeal.τ) (Cert.ReferenceSumSmallIdeal.main (F := Ideal))) ⟨m, fun _ => 0, g⟩ (fun r => (∀ c : Dev Cert.ReferenceSumSmallIdeal.nD,
      r.2.mem ((c.tc : Thread Cert.ReferenceSumSmallIdeal.nD Cert.ReferenceSumSmallIdeal.τ).loc Cert.ReferenceSumSmallIdeal.main_arg0) = m ((c.tc : Thread Cert.ReferenceSumSmallIdeal.nD Cert.ReferenceSumSmallIdeal.τ).loc Cert.ReferenceSumSmallIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)
      ∧ m' ((c.tc : Thread Cert.ReferenceUpDxIdeal.nD Cert.ReferenceUpDxIdeal.τ).loc Cert.ReferenceUpDxIdeal.main_arg2) = m ((c.tc : Thread Cert.KernelUpDxIdeal.nD Cert.KernelUpDxIdeal.τ).loc Cert.KernelUpDxIdeal.main_arg2)) →
    ∃ (v0 : (c : Dev Cert.KernelUpDxIdeal.nD) → Buf (Elt Ideal) ((c.tc : Thread Cert.KernelUpDxIdeal.nD Cert.KernelUpDxIdeal.τ).loc Cert.KernelUpDxIdeal.main_v0)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v0) = v0 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
          ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v16) = v0 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1)
          ∧ r.2.mem ((c.tc : Thread Cert.ReferenceUpDxIdeal.nD Cert.ReferenceUpDxIdeal.τ).loc Cert.ReferenceUpDxIdeal.main_arg2) = m' ((c.tc : Thread Cert.ReferenceUpDxIdeal.nD Cert.ReferenceUpDxIdeal.τ).loc Cert.ReferenceUpDxIdeal.main_arg2))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)
      ∧ m' ((c.tc : Thread Cert.ReferenceUpDwIdeal.nD Cert.ReferenceUpDwIdeal.τ).loc Cert.ReferenceUpDwIdeal.main_arg2) = m ((c.tc : Thread Cert.KernelUpDwIdeal.nD Cert.KernelUpDwIdeal.τ).loc Cert.KernelUpDwIdeal.main_arg2)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
          ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v17) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1)
          ∧ r.2.mem ((c.tc : Thread Cert.ReferenceUpDwIdeal.nD Cert.ReferenceUpDwIdeal.τ).loc Cert.ReferenceUpDwIdeal.main_arg2) = m' ((c.tc : Thread Cert.ReferenceUpDwIdeal.nD Cert.ReferenceUpDwIdeal.τ).loc Cert.ReferenceUpDwIdeal.main_arg2))

def preserves_KernelInDw3_KernelInDw3Ideal : Prop :=
  True

def algebraic_KernelInDw3Ideal_ReferenceInDw3Ideal [hKernelInDw3Ideal : Cert.KernelInDw3Ideal.Facts] [hReferenceInDw3Ideal : Cert.ReferenceInDw3Ideal.Facts] : Prop :=
  ∀ (m : (ℓ : Loc Cert.KernelInDw3Ideal.nD Cert.KernelInDw3Ideal.τ Cert.KernelInDw3Ideal.sig) → Buf (Elt Ideal) ℓ) (g : Dev Cert.KernelInDw3Ideal.nD → PrngReg)
    (m' : (ℓ : Loc Cert.ReferenceInDw3Ideal.nD Cert.ReferenceInDw3Ideal.τ Cert.ReferenceInDw3Ideal.sig) → Buf (Elt Ideal) ℓ) (g' : Dev Cert.ReferenceInDw3Ideal.nD → PrngReg), Pre_KernelInDw3Ideal m →
    (∀ c : Dev Cert.KernelInDw3Ideal.nD,
      m' ((c.tc : Thread Cert.ReferenceInDw3Ideal.nD Cert.ReferenceInDw3Ideal.τ).loc Cert.ReferenceInDw3Ideal.main_arg0) = m ((c.tc : Thread Cert.KernelInDw3Ideal.nD Cert.KernelInDw3Ideal.τ).loc Cert.KernelInDw3Ideal.main_arg0)
      ∧ m' ((c.tc : Thread Cert.ReferenceInDw3Ideal.nD Cert.ReferenceInDw3Ideal.τ).loc Cert.ReferenceInDw3Ideal.main_arg1) = m ((c.tc : Thread Cert.KernelInDw3Ideal.nD Cert.KernelInDw3Ideal.τ).loc Cert.KernelInDw3Ideal.main_arg1)
      ∧ m' ((c.tc : Thread Cert.ReferenceInDw3Ideal.nD Cert.ReferenceInDw3Ideal.τ).loc Cert.ReferenceInDw3Ideal.main_arg2) = m ((c.tc : Thread Cert.KernelInDw3Ideal.nD Cert.KernelInDw3Ideal.τ).loc Cert.KernelInDw3Ideal.main_arg2)) →
    ∃ (v0 : (c : Dev Cert.KernelInDw3Ideal.nD) → Buf (Elt Ideal) ((c.tc : Thread Cert.KernelInDw3Ideal.nD Cert.KernelInDw3Ideal.τ).loc Cert.KernelInDw3Ideal.main_v0)),
      θ_run (Cert.KernelInDw3Ideal.defs (F := Ideal)) (onTc (τ := Cert.KernelInDw3Ideal.τ) (Cert.KernelInDw3Ideal.main (F := Ideal))) ⟨m, fun _ => 0, g⟩ (fun r => ∀ c : Dev Cert.KernelInDw3Ideal.nD,
          r.2.mem ((c.tc : Thread Cert.KernelInDw3Ideal.nD Cert.KernelInDw3Ideal.τ).loc Cert.KernelInDw3Ideal.main_v0) = v0 c
          ∧ r.2.mem ((c.tc : Thread Cert.KernelInDw3Ideal.nD Cert.KernelInDw3Ideal.τ).loc Cert.KernelInDw3Ideal.main_arg0) = m ((c.tc : Thread Cert.KernelInDw3Ideal.nD Cert.KernelInDw3Ideal.τ).loc Cert.KernelInDw3Ideal.main_arg0)
          ∧ r.2.mem ((c.tc : Thread Cert.KernelInDw3Ideal.nD Cert.KernelInDw3Ideal.τ).loc Cert.KernelInDw3Ideal.main_arg1) = m ((c.tc : Thread Cert.KernelInDw3Ideal.nD Cert.KernelInDw3Ideal.τ).loc Cert.KernelInDw3Ideal.main_arg1)
          ∧ r.2.mem ((c.tc : Thread Cert.KernelInDw3Ideal.nD Cert.KernelInDw3Ideal.τ).loc Cert.KernelInDw3Ideal.main_arg2) = m ((c.tc : Thread Cert.KernelInDw3Ideal.nD Cert.KernelInDw3Ideal.τ).loc Cert.KernelInDw3Ideal.main_arg2))
      ∧ θ_run (Cert.ReferenceInDw3Ideal.defs (F := Ideal)) (onTc (τ := Cert.ReferenceInDw3Ideal.τ) (Cert.ReferenceInDw3Ideal.main (F := Ideal))) ⟨m', fun _ => 0, g'⟩ (fun r => ∀ c : Dev Cert.ReferenceInDw3Ideal.nD,
          r.2.mem ((c.tc : Thread Cert.ReferenceInDw3Ideal.nD Cert.ReferenceInDw3Ideal.τ).loc Cert.ReferenceInDw3Ideal.main_v21) = v0 c
          ∧ r.2.mem ((c.tc : Thread Cert.ReferenceInDw3Ideal.nD Cert.ReferenceInDw3Ideal.τ).loc Cert.ReferenceInDw3Ideal.main_arg0) = m' ((c.tc : Thread Cert.ReferenceInDw3Ideal.nD Cert.ReferenceInDw3Ideal.τ).loc Cert.ReferenceInDw3Ideal.main_arg0)
          ∧ r.2.mem ((c.tc : Thread Cert.ReferenceInDw3Ideal.nD Cert.ReferenceInDw3Ideal.τ).loc Cert.ReferenceInDw3Ideal.main_arg1) = m' ((c.tc : Thread Cert.ReferenceInDw3Ideal.nD Cert.ReferenceInDw3Ideal.τ).loc Cert.ReferenceInDw3Ideal.main_arg1)
          ∧ r.2.mem ((c.tc : Thread Cert.ReferenceInDw3Ideal.nD Cert.ReferenceInDw3Ideal.τ).loc Cert.ReferenceInDw3Ideal.main_arg2) = m' ((c.tc : Thread Cert.ReferenceInDw3Ideal.nD Cert.ReferenceInDw3Ideal.τ).loc Cert.ReferenceInDw3Ideal.main_arg2))

def preserves_KernelInDw2_KernelInDw2Ideal : Prop :=
  True

def algebraic_KernelInDw2Ideal_ReferenceInDw2Ideal [hKernelInDw2Ideal : Cert.KernelInDw2Ideal.Facts] [hReferenceInDw2Ideal : Cert.ReferenceInDw2Ideal.Facts] : Prop :=
  ∀ (m : (ℓ : Loc Cert.KernelInDw2Ideal.nD Cert.KernelInDw2Ideal.τ Cert.KernelInDw2Ideal.sig) → Buf (Elt Ideal) ℓ) (g : Dev Cert.KernelInDw2Ideal.nD → PrngReg)
    (m' : (ℓ : Loc Cert.ReferenceInDw2Ideal.nD Cert.ReferenceInDw2Ideal.τ Cert.ReferenceInDw2Ideal.sig) → Buf (Elt Ideal) ℓ) (g' : Dev Cert.ReferenceInDw2Ideal.nD → PrngReg), Pre_KernelInDw2Ideal m →
    (∀ c : Dev Cert.KernelInDw2Ideal.nD,
      m' ((c.tc : Thread Cert.ReferenceInDw2Ideal.nD Cert.ReferenceInDw2Ideal.τ).loc Cert.ReferenceInDw2Ideal.main_arg0) = m ((c.tc : Thread Cert.KernelInDw2Ideal.nD Cert.KernelInDw2Ideal.τ).loc Cert.KernelInDw2Ideal.main_arg0)
      ∧ m' ((c.tc : Thread Cert.ReferenceInDw2Ideal.nD Cert.ReferenceInDw2Ideal.τ).loc Cert.ReferenceInDw2Ideal.main_arg1) = m ((c.tc : Thread Cert.KernelInDw2Ideal.nD Cert.KernelInDw2Ideal.τ).loc Cert.KernelInDw2Ideal.main_arg1)
      ∧ m' ((c.tc : Thread Cert.ReferenceInDw2Ideal.nD Cert.ReferenceInDw2Ideal.τ).loc Cert.ReferenceInDw2Ideal.main_arg2) = m ((c.tc : Thread Cert.KernelInDw2Ideal.nD Cert.KernelInDw2Ideal.τ).loc Cert.KernelInDw2Ideal.main_arg2)) →
    ∃ (v0 : (c : Dev Cert.KernelInDw2Ideal.nD) → Buf (Elt Ideal) ((c.tc : Thread Cert.KernelInDw2Ideal.nD Cert.KernelInDw2Ideal.τ).loc Cert.KernelInDw2Ideal.main_v0)),
      θ_run (Cert.KernelInDw2Ideal.defs (F := Ideal)) (onTc (τ := Cert.KernelInDw2Ideal.τ) (Cert.KernelInDw2Ideal.main (F := Ideal))) ⟨m, fun _ => 0, g⟩ (fun r => ∀ c : Dev Cert.KernelInDw2Ideal.nD,
          r.2.mem ((c.tc : Thread Cert.KernelInDw2Ideal.nD Cert.KernelInDw2Ideal.τ).loc Cert.KernelInDw2Ideal.main_v0) = v0 c
          ∧ r.2.mem ((c.tc : Thread Cert.KernelInDw2Ideal.nD Cert.KernelInDw2Ideal.τ).loc Cert.KernelInDw2Ideal.main_arg0) = m ((c.tc : Thread Cert.KernelInDw2Ideal.nD Cert.KernelInDw2Ideal.τ).loc Cert.KernelInDw2Ideal.main_arg0)
          ∧ r.2.mem ((c.tc : Thread Cert.KernelInDw2Ideal.nD Cert.KernelInDw2Ideal.τ).loc Cert.KernelInDw2Ideal.main_arg1) = m ((c.tc : Thread Cert.KernelInDw2Ideal.nD Cert.KernelInDw2Ideal.τ).loc Cert.KernelInDw2Ideal.main_arg1)
          ∧ r.2.mem ((c.tc : Thread Cert.KernelInDw2Ideal.nD Cert.KernelInDw2Ideal.τ).loc Cert.KernelInDw2Ideal.main_arg2) = m ((c.tc : Thread Cert.KernelInDw2Ideal.nD Cert.KernelInDw2Ideal.τ).loc Cert.KernelInDw2Ideal.main_arg2))
      ∧ θ_run (Cert.ReferenceInDw2Ideal.defs (F := Ideal)) (onTc (τ := Cert.ReferenceInDw2Ideal.τ) (Cert.ReferenceInDw2Ideal.main (F := Ideal))) ⟨m', fun _ => 0, g'⟩ (fun r => ∀ c : Dev Cert.ReferenceInDw2Ideal.nD,
          r.2.mem ((c.tc : Thread Cert.ReferenceInDw2Ideal.nD Cert.ReferenceInDw2Ideal.τ).loc Cert.ReferenceInDw2Ideal.main_v17) = v0 c
          ∧ r.2.mem ((c.tc : Thread Cert.ReferenceInDw2Ideal.nD Cert.ReferenceInDw2Ideal.τ).loc Cert.ReferenceInDw2Ideal.main_arg0) = m' ((c.tc : Thread Cert.ReferenceInDw2Ideal.nD Cert.ReferenceInDw2Ideal.τ).loc Cert.ReferenceInDw2Ideal.main_arg0)
          ∧ r.2.mem ((c.tc : Thread Cert.ReferenceInDw2Ideal.nD Cert.ReferenceInDw2Ideal.τ).loc Cert.ReferenceInDw2Ideal.main_arg1) = m' ((c.tc : Thread Cert.ReferenceInDw2Ideal.nD Cert.ReferenceInDw2Ideal.τ).loc Cert.ReferenceInDw2Ideal.main_arg1)
          ∧ r.2.mem ((c.tc : Thread Cert.ReferenceInDw2Ideal.nD Cert.ReferenceInDw2Ideal.τ).loc Cert.ReferenceInDw2Ideal.main_arg2) = m' ((c.tc : Thread Cert.ReferenceInDw2Ideal.nD Cert.ReferenceInDw2Ideal.τ).loc Cert.ReferenceInDw2Ideal.main_arg2))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)
      ∧ m' ((c.tc : Thread Cert.ReferenceDownDxIdeal.nD Cert.ReferenceDownDxIdeal.τ).loc Cert.ReferenceDownDxIdeal.main_arg2) = m ((c.tc : Thread Cert.KernelDownDxIdeal.nD Cert.KernelDownDxIdeal.τ).loc Cert.KernelDownDxIdeal.main_arg2)) →
    ∃ (v0 : (c : Dev Cert.KernelDownDxIdeal.nD) → Buf (Elt Ideal) ((c.tc : Thread Cert.KernelDownDxIdeal.nD Cert.KernelDownDxIdeal.τ).loc Cert.KernelDownDxIdeal.main_v1)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v1) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1)
          ∧ r.2.mem ((c.tc : Thread Cert.KernelDownDxIdeal.nD Cert.KernelDownDxIdeal.τ).loc Cert.KernelDownDxIdeal.main_arg2) = m ((c.tc : Thread Cert.KernelDownDxIdeal.nD Cert.KernelDownDxIdeal.τ).loc Cert.KernelDownDxIdeal.main_arg2))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v7) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1)
          ∧ r.2.mem ((c.tc : Thread Cert.ReferenceDownDxIdeal.nD Cert.ReferenceDownDxIdeal.τ).loc Cert.ReferenceDownDxIdeal.main_arg2) = m' ((c.tc : Thread Cert.ReferenceDownDxIdeal.nD Cert.ReferenceDownDxIdeal.τ).loc Cert.ReferenceDownDxIdeal.main_arg2))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)
      ∧ m' ((c.tc : Thread Cert.ReferenceDownDwIdeal.nD Cert.ReferenceDownDwIdeal.τ).loc Cert.ReferenceDownDwIdeal.main_arg2) = m ((c.tc : Thread Cert.KernelDownDwIdeal.nD Cert.KernelDownDwIdeal.τ).loc Cert.KernelDownDwIdeal.main_arg2)) →
    ∃ (v0 : (c : Dev Cert.KernelDownDwIdeal.nD) → Buf (Elt Ideal) ((c.tc : Thread Cert.KernelDownDwIdeal.nD Cert.KernelDownDwIdeal.τ).loc Cert.KernelDownDwIdeal.main_v1)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v1) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1)
          ∧ r.2.mem ((c.tc : Thread Cert.KernelDownDwIdeal.nD Cert.KernelDownDwIdeal.τ).loc Cert.KernelDownDwIdeal.main_arg2) = m ((c.tc : Thread Cert.KernelDownDwIdeal.nD Cert.KernelDownDwIdeal.τ).loc Cert.KernelDownDwIdeal.main_arg2))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v7) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1)
          ∧ r.2.mem ((c.tc : Thread Cert.ReferenceDownDwIdeal.nD Cert.ReferenceDownDwIdeal.τ).loc Cert.ReferenceDownDwIdeal.main_arg2) = m' ((c.tc : Thread Cert.ReferenceDownDwIdeal.nD Cert.ReferenceDownDwIdeal.τ).loc Cert.ReferenceDownDwIdeal.main_arg2))

def preserves_KernelIn3_KernelIn3Ideal : Prop :=
  True

def algebraic_KernelIn3Ideal_ReferenceIn3Ideal [hKernelIn3Ideal : Cert.KernelIn3Ideal.Facts] [hReferenceIn3Ideal : Cert.ReferenceIn3Ideal.Facts] : Prop :=
  ∀ (m : (ℓ : Loc Cert.KernelIn3Ideal.nD Cert.KernelIn3Ideal.τ Cert.KernelIn3Ideal.sig) → Buf (Elt Ideal) ℓ) (g : Dev Cert.KernelIn3Ideal.nD → PrngReg)
    (m' : (ℓ : Loc Cert.ReferenceIn3Ideal.nD Cert.ReferenceIn3Ideal.τ Cert.ReferenceIn3Ideal.sig) → Buf (Elt Ideal) ℓ) (g' : Dev Cert.ReferenceIn3Ideal.nD → PrngReg), Pre_KernelIn3Ideal m →
    (∀ c : Dev Cert.KernelIn3Ideal.nD,
      m' ((c.tc : Thread Cert.ReferenceIn3Ideal.nD Cert.ReferenceIn3Ideal.τ).loc Cert.ReferenceIn3Ideal.main_arg0) = m ((c.tc : Thread Cert.KernelIn3Ideal.nD Cert.KernelIn3Ideal.τ).loc Cert.KernelIn3Ideal.main_arg0)
      ∧ m' ((c.tc : Thread Cert.ReferenceIn3Ideal.nD Cert.ReferenceIn3Ideal.τ).loc Cert.ReferenceIn3Ideal.main_arg1) = m ((c.tc : Thread Cert.KernelIn3Ideal.nD Cert.KernelIn3Ideal.τ).loc Cert.KernelIn3Ideal.main_arg1)) →
    ∃ (v0 : (c : Dev Cert.KernelIn3Ideal.nD) → Buf (Elt Ideal) ((c.tc : Thread Cert.KernelIn3Ideal.nD Cert.KernelIn3Ideal.τ).loc Cert.KernelIn3Ideal.main_v0)),
      θ_run (Cert.KernelIn3Ideal.defs (F := Ideal)) (onTc (τ := Cert.KernelIn3Ideal.τ) (Cert.KernelIn3Ideal.main (F := Ideal))) ⟨m, fun _ => 0, g⟩ (fun r => ∀ c : Dev Cert.KernelIn3Ideal.nD,
          r.2.mem ((c.tc : Thread Cert.KernelIn3Ideal.nD Cert.KernelIn3Ideal.τ).loc Cert.KernelIn3Ideal.main_v0) = v0 c
          ∧ r.2.mem ((c.tc : Thread Cert.KernelIn3Ideal.nD Cert.KernelIn3Ideal.τ).loc Cert.KernelIn3Ideal.main_arg0) = m ((c.tc : Thread Cert.KernelIn3Ideal.nD Cert.KernelIn3Ideal.τ).loc Cert.KernelIn3Ideal.main_arg0)
          ∧ r.2.mem ((c.tc : Thread Cert.KernelIn3Ideal.nD Cert.KernelIn3Ideal.τ).loc Cert.KernelIn3Ideal.main_arg1) = m ((c.tc : Thread Cert.KernelIn3Ideal.nD Cert.KernelIn3Ideal.τ).loc Cert.KernelIn3Ideal.main_arg1))
      ∧ θ_run (Cert.ReferenceIn3Ideal.defs (F := Ideal)) (onTc (τ := Cert.ReferenceIn3Ideal.τ) (Cert.ReferenceIn3Ideal.main (F := Ideal))) ⟨m', fun _ => 0, g'⟩ (fun r => ∀ c : Dev Cert.ReferenceIn3Ideal.nD,
          r.2.mem ((c.tc : Thread Cert.ReferenceIn3Ideal.nD Cert.ReferenceIn3Ideal.τ).loc Cert.ReferenceIn3Ideal.main_v10) = v0 c
          ∧ r.2.mem ((c.tc : Thread Cert.ReferenceIn3Ideal.nD Cert.ReferenceIn3Ideal.τ).loc Cert.ReferenceIn3Ideal.main_arg0) = m' ((c.tc : Thread Cert.ReferenceIn3Ideal.nD Cert.ReferenceIn3Ideal.τ).loc Cert.ReferenceIn3Ideal.main_arg0)
          ∧ r.2.mem ((c.tc : Thread Cert.ReferenceIn3Ideal.nD Cert.ReferenceIn3Ideal.τ).loc Cert.ReferenceIn3Ideal.main_arg1) = m' ((c.tc : Thread Cert.ReferenceIn3Ideal.nD Cert.ReferenceIn3Ideal.τ).loc Cert.ReferenceIn3Ideal.main_arg1))

def preserves_KernelIn2_KernelIn2Ideal : Prop :=
  True

def algebraic_KernelIn2Ideal_ReferenceIn2Ideal [hKernelIn2Ideal : Cert.KernelIn2Ideal.Facts] [hReferenceIn2Ideal : Cert.ReferenceIn2Ideal.Facts] : Prop :=
  ∀ (m : (ℓ : Loc Cert.KernelIn2Ideal.nD Cert.KernelIn2Ideal.τ Cert.KernelIn2Ideal.sig) → Buf (Elt Ideal) ℓ) (g : Dev Cert.KernelIn2Ideal.nD → PrngReg)
    (m' : (ℓ : Loc Cert.ReferenceIn2Ideal.nD Cert.ReferenceIn2Ideal.τ Cert.ReferenceIn2Ideal.sig) → Buf (Elt Ideal) ℓ) (g' : Dev Cert.ReferenceIn2Ideal.nD → PrngReg), Pre_KernelIn2Ideal m →
    (∀ c : Dev Cert.KernelIn2Ideal.nD,
      m' ((c.tc : Thread Cert.ReferenceIn2Ideal.nD Cert.ReferenceIn2Ideal.τ).loc Cert.ReferenceIn2Ideal.main_arg0) = m ((c.tc : Thread Cert.KernelIn2Ideal.nD Cert.KernelIn2Ideal.τ).loc Cert.KernelIn2Ideal.main_arg0)
      ∧ m' ((c.tc : Thread Cert.ReferenceIn2Ideal.nD Cert.ReferenceIn2Ideal.τ).loc Cert.ReferenceIn2Ideal.main_arg1) = m ((c.tc : Thread Cert.KernelIn2Ideal.nD Cert.KernelIn2Ideal.τ).loc Cert.KernelIn2Ideal.main_arg1)) →
    ∃ (v0 : (c : Dev Cert.KernelIn2Ideal.nD) → Buf (Elt Ideal) ((c.tc : Thread Cert.KernelIn2Ideal.nD Cert.KernelIn2Ideal.τ).loc Cert.KernelIn2Ideal.main_v0)),
      θ_run (Cert.KernelIn2Ideal.defs (F := Ideal)) (onTc (τ := Cert.KernelIn2Ideal.τ) (Cert.KernelIn2Ideal.main (F := Ideal))) ⟨m, fun _ => 0, g⟩ (fun r => ∀ c : Dev Cert.KernelIn2Ideal.nD,
          r.2.mem ((c.tc : Thread Cert.KernelIn2Ideal.nD Cert.KernelIn2Ideal.τ).loc Cert.KernelIn2Ideal.main_v0) = v0 c
          ∧ r.2.mem ((c.tc : Thread Cert.KernelIn2Ideal.nD Cert.KernelIn2Ideal.τ).loc Cert.KernelIn2Ideal.main_arg0) = m ((c.tc : Thread Cert.KernelIn2Ideal.nD Cert.KernelIn2Ideal.τ).loc Cert.KernelIn2Ideal.main_arg0)
          ∧ r.2.mem ((c.tc : Thread Cert.KernelIn2Ideal.nD Cert.KernelIn2Ideal.τ).loc Cert.KernelIn2Ideal.main_arg1) = m ((c.tc : Thread Cert.KernelIn2Ideal.nD Cert.KernelIn2Ideal.τ).loc Cert.KernelIn2Ideal.main_arg1))
      ∧ θ_run (Cert.ReferenceIn2Ideal.defs (F := Ideal)) (onTc (τ := Cert.ReferenceIn2Ideal.τ) (Cert.ReferenceIn2Ideal.main (F := Ideal))) ⟨m', fun _ => 0, g'⟩ (fun r => ∀ c : Dev Cert.ReferenceIn2Ideal.nD,
          r.2.mem ((c.tc : Thread Cert.ReferenceIn2Ideal.nD Cert.ReferenceIn2Ideal.τ).loc Cert.ReferenceIn2Ideal.main_v8) = v0 c
          ∧ r.2.mem ((c.tc : Thread Cert.ReferenceIn2Ideal.nD Cert.ReferenceIn2Ideal.τ).loc Cert.ReferenceIn2Ideal.main_arg0) = m' ((c.tc : Thread Cert.ReferenceIn2Ideal.nD Cert.ReferenceIn2Ideal.τ).loc Cert.ReferenceIn2Ideal.main_arg0)
          ∧ r.2.mem ((c.tc : Thread Cert.ReferenceIn2Ideal.nD Cert.ReferenceIn2Ideal.τ).loc Cert.ReferenceIn2Ideal.main_arg1) = m' ((c.tc : Thread Cert.ReferenceIn2Ideal.nD Cert.ReferenceIn2Ideal.τ).loc Cert.ReferenceIn2Ideal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelSb_KernelSbIdeal : Prop :=
  True

def algebraic_KernelSbIdeal_ReferenceSbIdeal_pre_finite_qk [hKernelSbIdeal : Cert.KernelSbIdeal.Facts] [hReferenceSbIdeal : Cert.ReferenceSbIdeal.Facts] [hPre_finite_qk : Cert.Pre_finite_qk.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_qk m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)) →
    ∃ (v0 : (c : Dev Cert.KernelSbIdeal.nD) → Buf (Elt Ideal) ((c.tc : Thread Cert.KernelSbIdeal.nD Cert.KernelSbIdeal.τ).loc Cert.KernelSbIdeal.main_v0_0)) (v1 : (c : Dev Cert.KernelSbIdeal.nD) → Buf (Elt Ideal) ((c.tc : Thread Cert.KernelSbIdeal.nD Cert.KernelSbIdeal.τ).loc Cert.KernelSbIdeal.main_v0_1)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v0_0) = v0 c
          ∧ r.2.mem ((c.tc : Thread Cert.KernelSbIdeal.nD Cert.KernelSbIdeal.τ).loc Cert.KernelSbIdeal.main_v0_1) = v1 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v34) = v0 c
          ∧ r.2.mem ((c.tc : Thread Cert.ReferenceSbIdeal.nD Cert.ReferenceSbIdeal.τ).loc Cert.ReferenceSbIdeal.main_v62) = v1 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0))

def preserves_KernelAdamGate_KernelAdamGateIdeal : Prop :=
  True

def algebraic_KernelAdamGateIdeal_ReferenceAdamGateIdeal [hKernelAdamGateIdeal : Cert.KernelAdamGateIdeal.Facts] [hReferenceAdamGateIdeal : Cert.ReferenceAdamGateIdeal.Facts] [hPre_place_gate : Cert.Pre_place_gate.Facts] : Prop :=
  ∀ (m : (ℓ : Loc Cert.KernelAdamGateIdeal.nD Cert.KernelAdamGateIdeal.τ Cert.KernelAdamGateIdeal.sig) → Buf (Elt Ideal) ℓ) (g : Dev Cert.KernelAdamGateIdeal.nD → PrngReg)
    (m' : (ℓ : Loc Cert.ReferenceAdamGateIdeal.nD Cert.ReferenceAdamGateIdeal.τ Cert.ReferenceAdamGateIdeal.sig) → Buf (Elt Ideal) ℓ) (g' : Dev Cert.ReferenceAdamGateIdeal.nD → PrngReg), Pre_KernelAdamGateIdeal m →
    (∀ c : Dev Cert.KernelAdamGateIdeal.nD,
      m' ((c.tc : Thread Cert.ReferenceAdamGateIdeal.nD Cert.ReferenceAdamGateIdeal.τ).loc Cert.ReferenceAdamGateIdeal.main_arg0) = m ((c.tc : Thread Cert.KernelAdamGateIdeal.nD Cert.KernelAdamGateIdeal.τ).loc Cert.KernelAdamGateIdeal.main_arg0)
      ∧ m' ((c.tc : Thread Cert.ReferenceAdamGateIdeal.nD Cert.ReferenceAdamGateIdeal.τ).loc Cert.ReferenceAdamGateIdeal.main_arg1) = m ((c.tc : Thread Cert.KernelAdamGateIdeal.nD Cert.KernelAdamGateIdeal.τ).loc Cert.KernelAdamGateIdeal.main_arg1)
      ∧ m' ((c.tc : Thread Cert.ReferenceAdamGateIdeal.nD Cert.ReferenceAdamGateIdeal.τ).loc Cert.ReferenceAdamGateIdeal.main_arg2) = m ((c.tc : Thread Cert.KernelAdamGateIdeal.nD Cert.KernelAdamGateIdeal.τ).loc Cert.KernelAdamGateIdeal.main_arg2)
      ∧ m' ((c.tc : Thread Cert.ReferenceAdamGateIdeal.nD Cert.ReferenceAdamGateIdeal.τ).loc Cert.ReferenceAdamGateIdeal.main_arg3) = m ((c.tc : Thread Cert.KernelAdamGateIdeal.nD Cert.KernelAdamGateIdeal.τ).loc Cert.KernelAdamGateIdeal.main_arg3)
      ∧ m' ((c.tc : Thread Cert.ReferenceAdamGateIdeal.nD Cert.ReferenceAdamGateIdeal.τ).loc Cert.ReferenceAdamGateIdeal.main_arg4) = m ((c.tc : Thread Cert.KernelAdamGateIdeal.nD Cert.KernelAdamGateIdeal.τ).loc Cert.KernelAdamGateIdeal.main_arg4)
      ∧ m' ((c.tc : Thread Cert.ReferenceAdamGateIdeal.nD Cert.ReferenceAdamGateIdeal.τ).loc Cert.ReferenceAdamGateIdeal.main_arg5) = m ((c.tc : Thread Cert.KernelAdamGateIdeal.nD Cert.KernelAdamGateIdeal.τ).loc Cert.KernelAdamGateIdeal.main_arg5)) →
    ∃ (v0 : (c : Dev Cert.KernelAdamGateIdeal.nD) → Buf (Elt Ideal) ((c.tc : Thread Cert.KernelAdamGateIdeal.nD Cert.KernelAdamGateIdeal.τ).loc Cert.KernelAdamGateIdeal.main_v0_0)) (v1 : (c : Dev Cert.KernelAdamGateIdeal.nD) → Buf (Elt Ideal) ((c.tc : Thread Cert.KernelAdamGateIdeal.nD Cert.KernelAdamGateIdeal.τ).loc Cert.KernelAdamGateIdeal.main_v0_1)) (v2 : (c : Dev Cert.KernelAdamGateIdeal.nD) → Buf (Elt Ideal) ((c.tc : Thread Cert.KernelAdamGateIdeal.nD Cert.KernelAdamGateIdeal.τ).loc Cert.KernelAdamGateIdeal.main_v0_2)) (v3 : (c : Dev Cert.KernelAdamGateIdeal.nD) → Buf (Elt Ideal) ((c.tc : Thread Cert.KernelAdamGateIdeal.nD Cert.KernelAdamGateIdeal.τ).loc Cert.KernelAdamGateIdeal.main_v0_3)),
      θ_run (Cert.KernelAdamGateIdeal.defs (F := Ideal)) (onTc (τ := Cert.KernelAdamGateIdeal.τ) (Cert.KernelAdamGateIdeal.main (F := Ideal))) ⟨m, fun _ => 0, g⟩ (fun r => ∀ c : Dev Cert.KernelAdamGateIdeal.nD,
          r.2.mem ((c.tc : Thread Cert.KernelAdamGateIdeal.nD Cert.KernelAdamGateIdeal.τ).loc Cert.KernelAdamGateIdeal.main_v0_0) = v0 c
          ∧ r.2.mem ((c.tc : Thread Cert.KernelAdamGateIdeal.nD Cert.KernelAdamGateIdeal.τ).loc Cert.KernelAdamGateIdeal.main_v0_1) = v1 c
          ∧ r.2.mem ((c.tc : Thread Cert.KernelAdamGateIdeal.nD Cert.KernelAdamGateIdeal.τ).loc Cert.KernelAdamGateIdeal.main_v0_2) = v2 c
          ∧ r.2.mem ((c.tc : Thread Cert.KernelAdamGateIdeal.nD Cert.KernelAdamGateIdeal.τ).loc Cert.KernelAdamGateIdeal.main_v0_3) = v3 c
          ∧ r.2.mem ((c.tc : Thread Cert.KernelAdamGateIdeal.nD Cert.KernelAdamGateIdeal.τ).loc Cert.KernelAdamGateIdeal.main_arg0) = m ((c.tc : Thread Cert.KernelAdamGateIdeal.nD Cert.KernelAdamGateIdeal.τ).loc Cert.KernelAdamGateIdeal.main_arg0)
          ∧ r.2.mem ((c.tc : Thread Cert.KernelAdamGateIdeal.nD Cert.KernelAdamGateIdeal.τ).loc Cert.KernelAdamGateIdeal.main_arg1) = m ((c.tc : Thread Cert.KernelAdamGateIdeal.nD Cert.KernelAdamGateIdeal.τ).loc Cert.KernelAdamGateIdeal.main_arg1)
          ∧ r.2.mem ((c.tc : Thread Cert.KernelAdamGateIdeal.nD Cert.KernelAdamGateIdeal.τ).loc Cert.KernelAdamGateIdeal.main_arg2) = m ((c.tc : Thread Cert.KernelAdamGateIdeal.nD Cert.KernelAdamGateIdeal.τ).loc Cert.KernelAdamGateIdeal.main_arg2)
          ∧ r.2.mem ((c.tc : Thread Cert.KernelAdamGateIdeal.nD Cert.KernelAdamGateIdeal.τ).loc Cert.KernelAdamGateIdeal.main_arg3) = m ((c.tc : Thread Cert.KernelAdamGateIdeal.nD Cert.KernelAdamGateIdeal.τ).loc Cert.KernelAdamGateIdeal.main_arg3)
          ∧ r.2.mem ((c.tc : Thread Cert.KernelAdamGateIdeal.nD Cert.KernelAdamGateIdeal.τ).loc Cert.KernelAdamGateIdeal.main_arg4) = m ((c.tc : Thread Cert.KernelAdamGateIdeal.nD Cert.KernelAdamGateIdeal.τ).loc Cert.KernelAdamGateIdeal.main_arg4)
          ∧ r.2.mem ((c.tc : Thread Cert.KernelAdamGateIdeal.nD Cert.KernelAdamGateIdeal.τ).loc Cert.KernelAdamGateIdeal.main_arg5) = m ((c.tc : Thread Cert.KernelAdamGateIdeal.nD Cert.KernelAdamGateIdeal.τ).loc Cert.KernelAdamGateIdeal.main_arg5))
      ∧ θ_run (Cert.ReferenceAdamGateIdeal.defs (F := Ideal)) (onTc (τ := Cert.ReferenceAdamGateIdeal.τ) (Cert.ReferenceAdamGateIdeal.main (F := Ideal))) ⟨m', fun _ => 0, g'⟩ (fun r => ∀ c : Dev Cert.ReferenceAdamGateIdeal.nD,
          r.2.mem ((c.tc : Thread Cert.ReferenceAdamGateIdeal.nD Cert.ReferenceAdamGateIdeal.τ).loc Cert.ReferenceAdamGateIdeal.main_v11) = v0 c
          ∧ r.2.mem ((c.tc : Thread Cert.ReferenceAdamGateIdeal.nD Cert.ReferenceAdamGateIdeal.τ).loc Cert.ReferenceAdamGateIdeal.main_v35) = v1 c
          ∧ r.2.mem ((c.tc : Thread Cert.ReferenceAdamGateIdeal.nD Cert.ReferenceAdamGateIdeal.τ).loc Cert.ReferenceAdamGateIdeal.main_v16) = v2 c
          ∧ r.2.mem ((c.tc : Thread Cert.ReferenceAdamGateIdeal.nD Cert.ReferenceAdamGateIdeal.τ).loc Cert.ReferenceAdamGateIdeal.main_v22) = v3 c
          ∧ r.2.mem ((c.tc : Thread Cert.ReferenceAdamGateIdeal.nD Cert.ReferenceAdamGateIdeal.τ).loc Cert.ReferenceAdamGateIdeal.main_arg0) = m' ((c.tc : Thread Cert.ReferenceAdamGateIdeal.nD Cert.ReferenceAdamGateIdeal.τ).loc Cert.ReferenceAdamGateIdeal.main_arg0)
          ∧ r.2.mem ((c.tc : Thread Cert.ReferenceAdamGateIdeal.nD Cert.ReferenceAdamGateIdeal.τ).loc Cert.ReferenceAdamGateIdeal.main_arg1) = m' ((c.tc : Thread Cert.ReferenceAdamGateIdeal.nD Cert.ReferenceAdamGateIdeal.τ).loc Cert.ReferenceAdamGateIdeal.main_arg1)
          ∧ r.2.mem ((c.tc : Thread Cert.ReferenceAdamGateIdeal.nD Cert.ReferenceAdamGateIdeal.τ).loc Cert.ReferenceAdamGateIdeal.main_arg2) = m' ((c.tc : Thread Cert.ReferenceAdamGateIdeal.nD Cert.ReferenceAdamGateIdeal.τ).loc Cert.ReferenceAdamGateIdeal.main_arg2)
          ∧ r.2.mem ((c.tc : Thread Cert.ReferenceAdamGateIdeal.nD Cert.ReferenceAdamGateIdeal.τ).loc Cert.ReferenceAdamGateIdeal.main_arg3) = m' ((c.tc : Thread Cert.ReferenceAdamGateIdeal.nD Cert.ReferenceAdamGateIdeal.τ).loc Cert.ReferenceAdamGateIdeal.main_arg3)
          ∧ r.2.mem ((c.tc : Thread Cert.ReferenceAdamGateIdeal.nD Cert.ReferenceAdamGateIdeal.τ).loc Cert.ReferenceAdamGateIdeal.main_arg4) = m' ((c.tc : Thread Cert.ReferenceAdamGateIdeal.nD Cert.ReferenceAdamGateIdeal.τ).loc Cert.ReferenceAdamGateIdeal.main_arg4)
          ∧ r.2.mem ((c.tc : Thread Cert.ReferenceAdamGateIdeal.nD Cert.ReferenceAdamGateIdeal.τ).loc Cert.ReferenceAdamGateIdeal.main_arg5) = m' ((c.tc : Thread Cert.ReferenceAdamGateIdeal.nD Cert.ReferenceAdamGateIdeal.τ).loc Cert.ReferenceAdamGateIdeal.main_arg5))

def preserves_KernelAdamQkv_KernelAdamQkvIdeal : Prop :=
  True

def algebraic_KernelAdamQkvIdeal_ReferenceAdamQkvIdeal [hKernelAdamQkvIdeal : Cert.KernelAdamQkvIdeal.Facts] [hReferenceAdamQkvIdeal : Cert.ReferenceAdamQkvIdeal.Facts] [hPre_place_qkv : Cert.Pre_place_qkv.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg)
    (m' : (ℓ : Loc Cert.ReferenceAdamQkvIdeal.nD Cert.ReferenceAdamQkvIdeal.τ Cert.ReferenceAdamQkvIdeal.sig) → Buf (Elt Ideal) ℓ) (g' : Dev Cert.ReferenceAdamQkvIdeal.nD → PrngReg), Pre_KernelAdamQkvIdeal m →
    (∀ c : Dev Cert.KernelAdamQkvIdeal.nD,
      m' ((c.tc : Thread Cert.ReferenceAdamQkvIdeal.nD Cert.ReferenceAdamQkvIdeal.τ).loc Cert.ReferenceAdamQkvIdeal.main_arg0) = m ((c.tc : Thread Cert.KernelAdamQkvIdeal.nD Cert.KernelAdamQkvIdeal.τ).loc Cert.KernelAdamQkvIdeal.main_arg0)
      ∧ m' ((c.tc : Thread Cert.ReferenceAdamQkvIdeal.nD Cert.ReferenceAdamQkvIdeal.τ).loc Cert.ReferenceAdamQkvIdeal.main_arg1) = m ((c.tc : Thread Cert.KernelAdamQkvIdeal.nD Cert.KernelAdamQkvIdeal.τ).loc Cert.KernelAdamQkvIdeal.main_arg1)
      ∧ m' ((c.tc : Thread Cert.ReferenceAdamQkvIdeal.nD Cert.ReferenceAdamQkvIdeal.τ).loc Cert.ReferenceAdamQkvIdeal.main_arg2) = m ((c.tc : Thread Cert.KernelAdamQkvIdeal.nD Cert.KernelAdamQkvIdeal.τ).loc Cert.KernelAdamQkvIdeal.main_arg2)
      ∧ m' ((c.tc : Thread Cert.ReferenceAdamQkvIdeal.nD Cert.ReferenceAdamQkvIdeal.τ).loc Cert.ReferenceAdamQkvIdeal.main_arg3) = m ((c.tc : Thread Cert.KernelAdamQkvIdeal.nD Cert.KernelAdamQkvIdeal.τ).loc Cert.KernelAdamQkvIdeal.main_arg3)
      ∧ m' ((c.tc : Thread Cert.ReferenceAdamQkvIdeal.nD Cert.ReferenceAdamQkvIdeal.τ).loc Cert.ReferenceAdamQkvIdeal.main_arg4) = m ((c.tc : Thread Cert.KernelAdamQkvIdeal.nD Cert.KernelAdamQkvIdeal.τ).loc Cert.KernelAdamQkvIdeal.main_arg4)
      ∧ m' ((c.tc : Thread Cert.ReferenceAdamQkvIdeal.nD Cert.ReferenceAdamQkvIdeal.τ).loc Cert.ReferenceAdamQkvIdeal.main_arg5) = m ((c.tc : Thread Cert.KernelAdamQkvIdeal.nD Cert.KernelAdamQkvIdeal.τ).loc Cert.KernelAdamQkvIdeal.main_arg5)) →
    ∃ (v0 : (c : Dev Cert.KernelAdamQkvIdeal.nD) → Buf (Elt Ideal) ((c.tc : Thread Cert.KernelAdamQkvIdeal.nD Cert.KernelAdamQkvIdeal.τ).loc Cert.KernelAdamQkvIdeal.main_v0_0)) (v1 : (c : Dev Cert.KernelAdamQkvIdeal.nD) → Buf (Elt Ideal) ((c.tc : Thread Cert.KernelAdamQkvIdeal.nD Cert.KernelAdamQkvIdeal.τ).loc Cert.KernelAdamQkvIdeal.main_v0_1)) (v2 : (c : Dev Cert.KernelAdamQkvIdeal.nD) → Buf (Elt Ideal) ((c.tc : Thread Cert.KernelAdamQkvIdeal.nD Cert.KernelAdamQkvIdeal.τ).loc Cert.KernelAdamQkvIdeal.main_v0_2)) (v3 : (c : Dev Cert.KernelAdamQkvIdeal.nD) → Buf (Elt Ideal) ((c.tc : Thread Cert.KernelAdamQkvIdeal.nD Cert.KernelAdamQkvIdeal.τ).loc Cert.KernelAdamQkvIdeal.main_v0_3)),
      θ_run (Cert.KernelAdamQkvIdeal.defs (F := Ideal)) (onTc (τ := Cert.KernelAdamQkvIdeal.τ) (Cert.KernelAdamQkvIdeal.main (F := Ideal))) ⟨m, fun _ => 0, g⟩ (fun r => ∀ c : Dev Cert.KernelAdamQkvIdeal.nD,
          r.2.mem ((c.tc : Thread Cert.KernelAdamQkvIdeal.nD Cert.KernelAdamQkvIdeal.τ).loc Cert.KernelAdamQkvIdeal.main_v0_0) = v0 c
          ∧ r.2.mem ((c.tc : Thread Cert.KernelAdamQkvIdeal.nD Cert.KernelAdamQkvIdeal.τ).loc Cert.KernelAdamQkvIdeal.main_v0_1) = v1 c
          ∧ r.2.mem ((c.tc : Thread Cert.KernelAdamQkvIdeal.nD Cert.KernelAdamQkvIdeal.τ).loc Cert.KernelAdamQkvIdeal.main_v0_2) = v2 c
          ∧ r.2.mem ((c.tc : Thread Cert.KernelAdamQkvIdeal.nD Cert.KernelAdamQkvIdeal.τ).loc Cert.KernelAdamQkvIdeal.main_v0_3) = v3 c
          ∧ r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
          ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
          ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
          ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3)
          ∧ r.2.mem ((c.tc : Thread Cert.KernelAdamQkvIdeal.nD Cert.KernelAdamQkvIdeal.τ).loc Cert.KernelAdamQkvIdeal.main_arg4) = m ((c.tc : Thread Cert.KernelAdamQkvIdeal.nD Cert.KernelAdamQkvIdeal.τ).loc Cert.KernelAdamQkvIdeal.main_arg4)
          ∧ r.2.mem ((c.tc : Thread Cert.KernelAdamQkvIdeal.nD Cert.KernelAdamQkvIdeal.τ).loc Cert.KernelAdamQkvIdeal.main_arg5) = m ((c.tc : Thread Cert.KernelAdamQkvIdeal.nD Cert.KernelAdamQkvIdeal.τ).loc Cert.KernelAdamQkvIdeal.main_arg5))
      ∧ θ_run (Cert.ReferenceAdamQkvIdeal.defs (F := Ideal)) (onTc (τ := Cert.ReferenceAdamQkvIdeal.τ) (Cert.ReferenceAdamQkvIdeal.main (F := Ideal))) ⟨m', fun _ => 0, g'⟩ (fun r => ∀ c : Dev Cert.ReferenceAdamQkvIdeal.nD,
          r.2.mem ((c.tc : Thread Cert.ReferenceAdamQkvIdeal.nD Cert.ReferenceAdamQkvIdeal.τ).loc Cert.ReferenceAdamQkvIdeal.main_v11) = v0 c
          ∧ r.2.mem ((c.tc : Thread Cert.ReferenceAdamQkvIdeal.nD Cert.ReferenceAdamQkvIdeal.τ).loc Cert.ReferenceAdamQkvIdeal.main_v35) = v1 c
          ∧ r.2.mem ((c.tc : Thread Cert.ReferenceAdamQkvIdeal.nD Cert.ReferenceAdamQkvIdeal.τ).loc Cert.ReferenceAdamQkvIdeal.main_v16) = v2 c
          ∧ r.2.mem ((c.tc : Thread Cert.ReferenceAdamQkvIdeal.nD Cert.ReferenceAdamQkvIdeal.τ).loc Cert.ReferenceAdamQkvIdeal.main_v22) = v3 c
          ∧ r.2.mem ((c.tc : Thread Cert.ReferenceAdamQkvIdeal.nD Cert.ReferenceAdamQkvIdeal.τ).loc Cert.ReferenceAdamQkvIdeal.main_arg0) = m' ((c.tc : Thread Cert.ReferenceAdamQkvIdeal.nD Cert.ReferenceAdamQkvIdeal.τ).loc Cert.ReferenceAdamQkvIdeal.main_arg0)
          ∧ r.2.mem ((c.tc : Thread Cert.ReferenceAdamQkvIdeal.nD Cert.ReferenceAdamQkvIdeal.τ).loc Cert.ReferenceAdamQkvIdeal.main_arg1) = m' ((c.tc : Thread Cert.ReferenceAdamQkvIdeal.nD Cert.ReferenceAdamQkvIdeal.τ).loc Cert.ReferenceAdamQkvIdeal.main_arg1)
          ∧ r.2.mem ((c.tc : Thread Cert.ReferenceAdamQkvIdeal.nD Cert.ReferenceAdamQkvIdeal.τ).loc Cert.ReferenceAdamQkvIdeal.main_arg2) = m' ((c.tc : Thread Cert.ReferenceAdamQkvIdeal.nD Cert.ReferenceAdamQkvIdeal.τ).loc Cert.ReferenceAdamQkvIdeal.main_arg2)
          ∧ r.2.mem ((c.tc : Thread Cert.ReferenceAdamQkvIdeal.nD Cert.ReferenceAdamQkvIdeal.τ).loc Cert.ReferenceAdamQkvIdeal.main_arg3) = m' ((c.tc : Thread Cert.ReferenceAdamQkvIdeal.nD Cert.ReferenceAdamQkvIdeal.τ).loc Cert.ReferenceAdamQkvIdeal.main_arg3)
          ∧ r.2.mem ((c.tc : Thread Cert.ReferenceAdamQkvIdeal.nD Cert.ReferenceAdamQkvIdeal.τ).loc Cert.ReferenceAdamQkvIdeal.main_arg4) = m' ((c.tc : Thread Cert.ReferenceAdamQkvIdeal.nD Cert.ReferenceAdamQkvIdeal.τ).loc Cert.ReferenceAdamQkvIdeal.main_arg4)
          ∧ r.2.mem ((c.tc : Thread Cert.ReferenceAdamQkvIdeal.nD Cert.ReferenceAdamQkvIdeal.τ).loc Cert.ReferenceAdamQkvIdeal.main_arg5) = m' ((c.tc : Thread Cert.ReferenceAdamQkvIdeal.nD Cert.ReferenceAdamQkvIdeal.τ).loc Cert.ReferenceAdamQkvIdeal.main_arg5))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] [hPre_place_out : Cert.Pre_place_out.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)
      ∧ m' ((c.tc : Thread Cert.ReferenceAdamOutIdeal.nD Cert.ReferenceAdamOutIdeal.τ).loc Cert.ReferenceAdamOutIdeal.main_arg5) = m ((c.tc : Thread Cert.KernelAdamOutIdeal.nD Cert.KernelAdamOutIdeal.τ).loc Cert.KernelAdamOutIdeal.main_arg5)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
          ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v11) = v0 c
          ∧ r.2.mem ((c.tc : Thread Cert.ReferenceAdamOutIdeal.nD Cert.ReferenceAdamOutIdeal.τ).loc Cert.ReferenceAdamOutIdeal.main_v35) = v1 c
          ∧ r.2.mem ((c.tc : Thread Cert.ReferenceAdamOutIdeal.nD Cert.ReferenceAdamOutIdeal.τ).loc Cert.ReferenceAdamOutIdeal.main_v16) = v2 c
          ∧ r.2.mem ((c.tc : Thread Cert.ReferenceAdamOutIdeal.nD Cert.ReferenceAdamOutIdeal.τ).loc Cert.ReferenceAdamOutIdeal.main_v22) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4)
          ∧ r.2.mem ((c.tc : Thread Cert.ReferenceAdamOutIdeal.nD Cert.ReferenceAdamOutIdeal.τ).loc Cert.ReferenceAdamOutIdeal.main_arg5) = m' ((c.tc : Thread Cert.ReferenceAdamOutIdeal.nD Cert.ReferenceAdamOutIdeal.τ).loc Cert.ReferenceAdamOutIdeal.main_arg5))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelSumSmall_KernelSumSmallIdeal : Prop :=
  True

def algebraic_KernelSumSmallIdeal_ReferenceSumSmallIdeal [hKernelSumSmallIdeal : Cert.KernelSumSmallIdeal.Facts] [hReferenceSumSmallIdeal : Cert.ReferenceSumSmallIdeal.Facts] : Prop :=
  ∀ (m : (ℓ : Loc Cert.KernelSumSmallIdeal.nD Cert.KernelSumSmallIdeal.τ Cert.KernelSumSmallIdeal.sig) → Buf (Elt Ideal) ℓ) (g : Dev Cert.KernelSumSmallIdeal.nD → PrngReg)
    (m' : (ℓ : Loc Cert.ReferenceSumSmallIdeal.nD Cert.ReferenceSumSmallIdeal.τ Cert.ReferenceSumSmallIdeal.sig) → Buf (Elt Ideal) ℓ) (g' : Dev Cert.ReferenceSumSmallIdeal.nD → PrngReg), Pre_KernelSumSmallIdeal m →
    (∀ c : Dev Cert.KernelSumSmallIdeal.nD,
      m' ((c.tc : Thread Cert.ReferenceSumSmallIdeal.nD Cert.ReferenceSumSmallIdeal.τ).loc Cert.ReferenceSumSmallIdeal.main_arg0) = m ((c.tc : Thread Cert.KernelSumSmallIdeal.nD Cert.KernelSumSmallIdeal.τ).loc Cert.KernelSumSmallIdeal.main_arg0)) →
    ∃ (v0 : (c : Dev Cert.KernelSumSmallIdeal.nD) → Buf (Elt Ideal) ((c.tc : Thread Cert.KernelSumSmallIdeal.nD Cert.KernelSumSmallIdeal.τ).loc Cert.KernelSumSmallIdeal.main_v1)),
      θ_run (Cert.KernelSumSmallIdeal.defs (F := Ideal)) (onTc (τ := Cert.KernelSumSmallIdeal.τ) (Cert.KernelSumSmallIdeal.main (F := Ideal))) ⟨m, fun _ => 0, g⟩ (fun r => ∀ c : Dev Cert.KernelSumSmallIdeal.nD,
          r.2.mem ((c.tc : Thread Cert.KernelSumSmallIdeal.nD Cert.KernelSumSmallIdeal.τ).loc Cert.KernelSumSmallIdeal.main_v1) = v0 c
          ∧ r.2.mem ((c.tc : Thread Cert.KernelSumSmallIdeal.nD Cert.KernelSumSmallIdeal.τ).loc Cert.KernelSumSmallIdeal.main_arg0) = m ((c.tc : Thread Cert.KernelSumSmallIdeal.nD Cert.KernelSumSmallIdeal.τ).loc Cert.KernelSumSmallIdeal.main_arg0))
      ∧ θ_run (Cert.ReferenceSumSmallIdeal.defs (F := Ideal)) (onTc (τ := Cert.ReferenceSumSmallIdeal.τ) (Cert.ReferenceSumSmallIdeal.main (F := Ideal))) ⟨m', fun _ => 0, g'⟩ (fun r => ∀ c : Dev Cert.ReferenceSumSmallIdeal.nD,
          r.2.mem ((c.tc : Thread Cert.ReferenceSumSmallIdeal.nD Cert.ReferenceSumSmallIdeal.τ).loc Cert.ReferenceSumSmallIdeal.main_v1) = v0 c
          ∧ r.2.mem ((c.tc : Thread Cert.ReferenceSumSmallIdeal.nD Cert.ReferenceSumSmallIdeal.τ).loc Cert.ReferenceSumSmallIdeal.main_arg0) = m' ((c.tc : Thread Cert.ReferenceSumSmallIdeal.nD Cert.ReferenceSumSmallIdeal.τ).loc Cert.ReferenceSumSmallIdeal.main_arg0))

def Claim : Prop :=
  ∃ (hKernel : Cert.Kernel.Facts) (hKernelIdeal : Cert.KernelIdeal.Facts) (hReferenceIdeal : Cert.ReferenceIdeal.Facts) (hKernelUpDx : Cert.KernelUpDx.Facts) (hKernelUpDxIdeal : Cert.KernelUpDxIdeal.Facts) (hReferenceUpDxIdeal : Cert.ReferenceUpDxIdeal.Facts) (hKernelUpDw : Cert.KernelUpDw.Facts) (hKernelUpDwIdeal : Cert.KernelUpDwIdeal.Facts) (hReferenceUpDwIdeal : Cert.ReferenceUpDwIdeal.Facts) (hKernelInDw3 : Cert.KernelInDw3.Facts) (hKernelInDw3Ideal : Cert.KernelInDw3Ideal.Facts) (hReferenceInDw3Ideal : Cert.ReferenceInDw3Ideal.Facts) (hKernelInDw2 : Cert.KernelInDw2.Facts) (hKernelInDw2Ideal : Cert.KernelInDw2Ideal.Facts) (hReferenceInDw2Ideal : Cert.ReferenceInDw2Ideal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelIn3 : Cert.KernelIn3.Facts) (hKernelIn3Ideal : Cert.KernelIn3Ideal.Facts) (hReferenceIn3Ideal : Cert.ReferenceIn3Ideal.Facts) (hKernelIn2 : Cert.KernelIn2.Facts) (hKernelIn2Ideal : Cert.KernelIn2Ideal.Facts) (hReferenceIn2Ideal : Cert.ReferenceIn2Ideal.Facts) (hKernelOut : Cert.KernelOut.Facts) (hKernelOutIdeal : Cert.KernelOutIdeal.Facts) (hReferenceOutIdeal : Cert.ReferenceOutIdeal.Facts) (hKernelDown : Cert.KernelDown.Facts) (hKernelDownIdeal : Cert.KernelDownIdeal.Facts) (hReferenceDownIdeal : Cert.ReferenceDownIdeal.Facts) (hKernelSb : Cert.KernelSb.Facts) (hKernelSbIdeal : Cert.KernelSbIdeal.Facts) (hReferenceSbIdeal : Cert.ReferenceSbIdeal.Facts) (hKernelAdamGate : Cert.KernelAdamGate.Facts) (hKernelAdamGateIdeal : Cert.KernelAdamGateIdeal.Facts) (hReferenceAdamGateIdeal : Cert.ReferenceAdamGateIdeal.Facts) (hKernelAdamQkv : Cert.KernelAdamQkv.Facts) (hKernelAdamQkvIdeal : Cert.KernelAdamQkvIdeal.Facts) (hReferenceAdamQkvIdeal : Cert.ReferenceAdamQkvIdeal.Facts) (hKernelAdamOut : Cert.KernelAdamOut.Facts) (hKernelAdamOutIdeal : Cert.KernelAdamOutIdeal.Facts) (hReferenceAdamOutIdeal : Cert.ReferenceAdamOutIdeal.Facts) (hKernelAdamSmall : Cert.KernelAdamSmall.Facts) (hKernelAdamSmallIdeal : Cert.KernelAdamSmallIdeal.Facts) (hReferenceAdamSmallIdeal : Cert.ReferenceAdamSmallIdeal.Facts) (hKernelSumSmall : Cert.KernelSumSmall.Facts) (hKernelSumSmallIdeal : Cert.KernelSumSmallIdeal.Facts) (hReferenceSumSmallIdeal : Cert.ReferenceSumSmallIdeal.Facts) (hPre_finite : Cert.Pre_finite.Facts) (hPre_finite_qk : Cert.Pre_finite_qk.Facts) (hPre_place_gate : Cert.Pre_place_gate.Facts) (hPre_place_qkv : Cert.Pre_place_qkv.Facts) (hPre_place_out : Cert.Pre_place_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelInDw3 (hKernelInDw3 := hKernelInDw3)
    ∧ quiescent_KernelInDw3Ideal (hKernelInDw3Ideal := hKernelInDw3Ideal)
    ∧ quiescent_ReferenceInDw3Ideal (hReferenceInDw3Ideal := hReferenceInDw3Ideal)
    ∧ quiescent_KernelInDw2 (hKernelInDw2 := hKernelInDw2)
    ∧ quiescent_KernelInDw2Ideal (hKernelInDw2Ideal := hKernelInDw2Ideal)
    ∧ quiescent_ReferenceInDw2Ideal (hReferenceInDw2Ideal := hReferenceInDw2Ideal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelIn3 (hKernelIn3 := hKernelIn3)
    ∧ quiescent_KernelIn3Ideal (hKernelIn3Ideal := hKernelIn3Ideal)
    ∧ quiescent_ReferenceIn3Ideal (hReferenceIn3Ideal := hReferenceIn3Ideal)
    ∧ quiescent_KernelIn2 (hKernelIn2 := hKernelIn2)
    ∧ quiescent_KernelIn2Ideal (hKernelIn2Ideal := hKernelIn2Ideal)
    ∧ quiescent_ReferenceIn2Ideal (hReferenceIn2Ideal := hReferenceIn2Ideal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelSb (hKernelSb := hKernelSb)
    ∧ quiescent_KernelSbIdeal (hKernelSbIdeal := hKernelSbIdeal)
    ∧ quiescent_KernelSbIdeal_pre_finite_qk (hKernelSbIdeal := hKernelSbIdeal) (hPre_finite_qk := hPre_finite_qk)
    ∧ quiescent_ReferenceSbIdeal (hReferenceSbIdeal := hReferenceSbIdeal)
    ∧ quiescent_ReferenceSbIdeal_pre_finite_qk (hReferenceSbIdeal := hReferenceSbIdeal) (hPre_finite_qk := hPre_finite_qk)
    ∧ quiescent_KernelAdamGate (hKernelAdamGate := hKernelAdamGate) (hPre_place_gate := hPre_place_gate)
    ∧ quiescent_KernelAdamGateIdeal (hKernelAdamGateIdeal := hKernelAdamGateIdeal) (hPre_place_gate := hPre_place_gate)
    ∧ quiescent_ReferenceAdamGateIdeal (hReferenceAdamGateIdeal := hReferenceAdamGateIdeal)
    ∧ quiescent_ReferenceAdamGateIdeal_pre_place_gate (hReferenceAdamGateIdeal := hReferenceAdamGateIdeal) (hPre_place_gate := hPre_place_gate)
    ∧ quiescent_KernelAdamQkv (hKernelAdamQkv := hKernelAdamQkv) (hPre_place_qkv := hPre_place_qkv)
    ∧ quiescent_KernelAdamQkvIdeal (hKernelAdamQkvIdeal := hKernelAdamQkvIdeal) (hPre_place_qkv := hPre_place_qkv)
    ∧ quiescent_ReferenceAdamQkvIdeal (hReferenceAdamQkvIdeal := hReferenceAdamQkvIdeal)
    ∧ quiescent_ReferenceAdamQkvIdeal_pre_place_qkv (hReferenceAdamQkvIdeal := hReferenceAdamQkvIdeal) (hPre_place_qkv := hPre_place_qkv)
    ∧ quiescent_KernelAdamOut (hKernelAdamOut := hKernelAdamOut) (hPre_place_out := hPre_place_out)
    ∧ quiescent_KernelAdamOutIdeal (hKernelAdamOutIdeal := hKernelAdamOutIdeal) (hPre_place_out := hPre_place_out)
    ∧ quiescent_ReferenceAdamOutIdeal (hReferenceAdamOutIdeal := hReferenceAdamOutIdeal)
    ∧ quiescent_ReferenceAdamOutIdeal_pre_place_out (hReferenceAdamOutIdeal := hReferenceAdamOutIdeal) (hPre_place_out := hPre_place_out)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSumSmall (hKernelSumSmall := hKernelSumSmall)
    ∧ quiescent_KernelSumSmallIdeal (hKernelSumSmallIdeal := hKernelSumSmallIdeal)
    ∧ quiescent_ReferenceSumSmallIdeal (hReferenceSumSmallIdeal := hReferenceSumSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelInDw3_KernelInDw3Ideal
    ∧ algebraic_KernelInDw3Ideal_ReferenceInDw3Ideal (hKernelInDw3Ideal := hKernelInDw3Ideal) (hReferenceInDw3Ideal := hReferenceInDw3Ideal)
    ∧ preserves_KernelInDw2_KernelInDw2Ideal
    ∧ algebraic_KernelInDw2Ideal_ReferenceInDw2Ideal (hKernelInDw2Ideal := hKernelInDw2Ideal) (hReferenceInDw2Ideal := hReferenceInDw2Ideal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelIn3_KernelIn3Ideal
    ∧ algebraic_KernelIn3Ideal_ReferenceIn3Ideal (hKernelIn3Ideal := hKernelIn3Ideal) (hReferenceIn3Ideal := hReferenceIn3Ideal)
    ∧ preserves_KernelIn2_KernelIn2Ideal
    ∧ algebraic_KernelIn2Ideal_ReferenceIn2Ideal (hKernelIn2Ideal := hKernelIn2Ideal) (hReferenceIn2Ideal := hReferenceIn2Ideal)
    ∧ preserves_KernelOut_KernelOutIdeal
    ∧ algebraic_KernelOutIdeal_ReferenceOutIdeal (hKernelOutIdeal := hKernelOutIdeal) (hReferenceOutIdeal := hReferenceOutIdeal)
    ∧ preserves_KernelDown_KernelDownIdeal
    ∧ algebraic_KernelDownIdeal_ReferenceDownIdeal (hKernelDownIdeal := hKernelDownIdeal) (hReferenceDownIdeal := hReferenceDownIdeal)
    ∧ preserves_KernelSb_KernelSbIdeal
    ∧ algebraic_KernelSbIdeal_ReferenceSbIdeal_pre_finite_qk (hKernelSbIdeal := hKernelSbIdeal) (hReferenceSbIdeal := hReferenceSbIdeal) (hPre_finite_qk := hPre_finite_qk)
    ∧ preserves_KernelAdamGate_KernelAdamGateIdeal
    ∧ algebraic_KernelAdamGateIdeal_ReferenceAdamGateIdeal (hKernelAdamGateIdeal := hKernelAdamGateIdeal) (hReferenceAdamGateIdeal := hReferenceAdamGateIdeal) (hPre_place_gate := hPre_place_gate)
    ∧ preserves_KernelAdamQkv_KernelAdamQkvIdeal
    ∧ algebraic_KernelAdamQkvIdeal_ReferenceAdamQkvIdeal (hKernelAdamQkvIdeal := hKernelAdamQkvIdeal) (hReferenceAdamQkvIdeal := hReferenceAdamQkvIdeal) (hPre_place_qkv := hPre_place_qkv)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal) (hPre_place_out := hPre_place_out)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSumSmall_KernelSumSmallIdeal
    ∧ algebraic_KernelSumSmallIdeal_ReferenceSumSmallIdeal (hKernelSumSmallIdeal := hKernelSumSmallIdeal) (hReferenceSumSmallIdeal := hReferenceSumSmallIdeal)
-- ==== Pre_finite.lean ====
abbrev S3x8192x2048 : Shape := ⟨3, ![3, 8192, 2048]⟩
abbrev S8192x2048 : Shape := ⟨2, ![8192, 2048]⟩
abbrev S_ : Shape := ⟨0, ![]⟩
abbrev S1x8192x2048 : Shape := ⟨3, ![1, 8192, 2048]⟩

class Facts : Prop where
  bitsLt_bf16_f32 : FTy.bits .bf16 < FTy.bits .f32
  bcast_S_S3x8192x2048 : S_.BroadcastsInDim S3x8192x2048 (![] : Fin 0 → Fin S3x8192x2048.rank)
  bcast_S_S8192x2048 : S_.BroadcastsInDim S8192x2048 (![] : Fin 0 → Fin S8192x2048.rank)
  bcast_S8192x2048_S1x8192x2048_1_2 : S8192x2048.BroadcastsInDim S1x8192x2048 (![1, 2] : Fin 2 → Fin S1x8192x2048.rank)
  bcast_S1x8192x2048_S3x8192x2048_0_1_2 : S1x8192x2048.BroadcastsInDim S3x8192x2048 (![0, 1, 2] : Fin 3 → Fin S3x8192x2048.rank)

variable [Facts]

def fn {F : FTy → Type} [FloatOps F] (main_arg0 : FVec F S3x8192x2048 .bf16) (main_arg1 : FVec F S8192x2048 .bf16) : IVec S3x8192x2048 1 :=
  let main_v0 : FVec F S3x8192x2048 .f32 := (extf .f32 · bitsLt_bf16_f32) main_arg0
  let main_v1 : FVec F S3x8192x2048 .f32 := Host.absf main_v0
  let main_cst : FVec F S_ .f32 := constant S_ .f32 0x7F800000#32
  let main_v2 : FVec F S3x8192x2048 .f32 := broadcastInDim S3x8192x2048 ![] bcast_S_S3x8192x2048 main_cst
  let main_v3 : IVec S3x8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : IVec S1x8192x2048 1 := broadcastInDim S1x8192x2048 ![1, 2] bcast_S8192x2048_S1x8192x2048_1_2 main_v7
  let main_v9 : IVec S3x8192x2048 1 := broadcastInDim S3x8192x2048 ![0, 1, 2] bcast_S1x8192x2048_S3x8192x2048_0_1_2 main_v8
  let main_v10 : IVec S3x8192x2048 1 := andi main_v3 main_v9
  main_v10
-- ==== Pre_finite_qk.lean ====
abbrev S3x8192x2048 : Shape := ⟨3, ![3, 8192, 2048]⟩
abbrev S_ : Shape := ⟨0, ![]⟩
abbrev S3 : Shape := ⟨1, ![3]⟩
abbrev S3x1x1 : Shape := ⟨3, ![3, 1, 1]⟩

class Facts : Prop where
  bitsLt_bf16_f32 : FTy.bits .bf16 < FTy.bits .f32
  bcast_S_S3x8192x2048 : S_.BroadcastsInDim S3x8192x2048 (![] : Fin 0 → Fin S3x8192x2048.rank)
  bcast_S3_S3x1x1_0 : S3.BroadcastsInDim S3x1x1 (![0] : Fin 1 → Fin S3x1x1.rank)
  bcast_S_S3x1x1 : S_.BroadcastsInDim S3x1x1 (![] : Fin 0 → Fin S3x1x1.rank)
  bcast_S3x1x1_S3x8192x2048_0_1_2 : S3x1x1.BroadcastsInDim S3x8192x2048 (![0, 1, 2] : Fin 3 → Fin S3x8192x2048.rank)

variable [Facts]

def fn {F : FTy → Type} [FloatOps F] (main_arg0 : FVec F S3x8192x2048 .bf16) : IVec S3x8192x2048 1 :=
  let main_v0 : FVec F S3x8192x2048 .f32 := (extf .f32 · bitsLt_bf16_f32) main_arg0
  let main_v1 : FVec F S3x8192x2048 .f32 := Host.absf main_v0
  let main_cst : FVec F S_ .f32 := constant S_ .f32 0x7F800000#32
  let main_v2 : FVec F S3x8192x2048 .f32 := broadcastInDim S3x8192x2048 ![] bcast_S_S3x8192x2048 main_cst
  let main_v3 : IVec S3x8192x2048 1 := cmpf .olt main_v1 main_v2
  let main_v4 : IVec S3 32 := iotaInDim S3 32 0
  let main_v5 : IVec S3x1x1 32 := broadcastInDim S3x1x1 ![0] bcast_S3_S3x1x1_0 main_v4
  let main_c : IVec S_ 32 := constantI S_ 32 2#32
  let main_v6 : IVec S3x1x1 32 := broadcastInDim S3x1x1 ![] bcast_S_S3x1x1 main_c
  let main_v7 : IVec S3x1x1 1 := cmpi .eq main_v5 main_v6
  let main_v8 : IVec S3x8192x2048 1 := broadcastInDim S3x8192x2048 ![0, 1, 2] bcast_S3x1x1_S3x8192x2048_0_1_2 main_v7
  let main_v9 : IVec S3x8192x2048 1 := ori main_v3 main_v8
  main_v9
-- ==== Pre_place_gate.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x2048x512 .f32) (main_arg1 : FVec F S1x2048x512 .f32) (main_arg2 : FVec F S1x2048x512 .f32) (main_arg3 : FVec F S4x2048x512 .bf16) (main_arg4 : FVec F S3x2048x512 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_place_out.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x256x2048 .f32) (main_arg1 : FVec F S1x256x2048 .f32) (main_arg2 : FVec F S1x256x2048 .f32) (main_arg3 : FVec F S4x256x2048 .bf16) (main_arg4 : FVec F S3x256x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_place_qkv.lean ====
abbrev S1x2048x768 : Shape := ⟨3, ![1, 2048, 768]⟩
abbrev S4x2048x768 : Shape := ⟨3, ![4, 2048, 768]⟩
abbrev S3x2048x768 : Shape := ⟨3, ![3, 2048, 768]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x2048x768 .f32) (main_arg1 : FVec F S1x2048x768 .f32) (main_arg2 : FVec F S1x2048x768 .f32) (main_arg3 : FVec F S4x2048x768 .bf16) (main_arg4 : FVec F S3x2048x768 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Kernel.lean ====
abbrev S3x8192x2048 : Shape := ⟨3, ![3, 8192, 2048]⟩
abbrev S8192x2048 : Shape := ⟨2, ![8192, 2048]⟩
abbrev S1x8192x2048 : Shape := ⟨3, ![1, 8192, 2048]⟩
abbrev S8192x16x128 : Shape := ⟨3, ![8192, 16, 128]⟩
abbrev S16x8192x128 : Shape := ⟨3, ![16, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x8192 : Shape := ⟨3, ![16, 8192, 8192]⟩
abbrev S_ : Shape := ⟨0, ![]⟩
abbrev S16x8192x16 : Shape := ⟨3, ![16, 8192, 16]⟩
abbrev S16x16x512x16 : Shape := ⟨4, ![16, 16, 512, 16]⟩
abbrev S16x16x16x512 : Shape := ⟨4, ![16, 16, 16, 512]⟩
abbrev S16x16x16x1x512 : Shape := ⟨5, ![16, 16, 16, 1, 512]⟩
abbrev S16x16x16x8x512 : Shape := ⟨5, ![16, 16, 16, 8, 512]⟩
abbrev S16x16x128x512 : Shape := ⟨4, ![16, 16, 128, 512]⟩
abbrev S2x8192x2048 : Shape := ⟨3, ![2, 8192, 2048]⟩
abbrev S1x512x128 : Shape := ⟨3, ![1, 512, 128]⟩
abbrev S1x8192x128 : Shape := ⟨3, ![1, 8192, 128]⟩
abbrev S512x128 : Shape := ⟨2, ![512, 128]⟩
abbrev S1x1x128x512 : Shape := ⟨4, ![1, 1, 128, 512]⟩
abbrev S2x8192x128 : Shape := ⟨3, ![2, 8192, 128]⟩
abbrev S8192x128 : Shape := ⟨2, ![8192, 128]⟩
abbrev S128x128 : Shape := ⟨2, ![128, 128]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S128x512 : Shape := ⟨2, ![128, 512]⟩
abbrev S1024x128 : Shape := ⟨2, ![1024, 128]⟩
abbrev S512 : Shape := ⟨1, ![512]⟩

abbrev nBuf : Space → Nat
  | .hbm => 55
  | .vmem => 16
  | .smem => 0
  | _ => 0

abbrev bufTy : (tb : Table) → Fin (tcTables nBuf tb) → BufTy
  | .hbm, ⟨0, _⟩ => ⟨S3x8192x2048, .bf16⟩
  | .hbm, ⟨1, _⟩ => ⟨S8192x2048, .bf16⟩
  | .hbm, ⟨2, _⟩ => ⟨S3x8192x2048, .f32⟩
  | .hbm, ⟨3, _⟩ => ⟨S1x8192x2048, .f32⟩
  | .hbm, ⟨4, _⟩ => ⟨S8192x2048, .f32⟩
  | .hbm, ⟨5, _⟩ => ⟨S1x8192x2048, .f32⟩
  | .hbm, ⟨6, _⟩ => ⟨S8192x2048, .f32⟩
  | .hbm, ⟨7, _⟩ => ⟨S8192x16x128, .f32⟩
  | .hbm, ⟨8, _⟩ => ⟨S16x8192x128, .f32⟩
  | .hbm, ⟨9, _⟩ => ⟨S8192x16x128, .f32⟩
  | .hbm, ⟨10, _⟩ => ⟨S16x8192x128, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S16x8192x8192, .f32⟩
  | .hbm, ⟨18, _⟩ => ⟨S_, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S_, .f32⟩
  | .hbm, ⟨45, _⟩ => ⟨S16x8192x8192, .f32⟩
  | .hbm, ⟨46, _⟩ => ⟨S16x8192x8192, .f32⟩
  | .hbm, ⟨47, _⟩ => ⟨S16x8192x16, .f32⟩
  | .hbm, ⟨48, _⟩ => ⟨S16x16x512x16, .f32⟩
  | .hbm, ⟨49, _⟩ => ⟨S16x16x16x512, .f32⟩
  | .hbm, ⟨50, _⟩ => ⟨S16x16x16x1x512, .f32⟩
  | .hbm, ⟨51, _⟩ => ⟨S16x16x16x8x512, .f32⟩
  | .hbm, ⟨52, _⟩ => ⟨S16x16x128x512, .f32⟩
  | .hbm, ⟨53, _⟩ => ⟨S8192x2048, .bf16⟩
  | .hbm, ⟨54, _⟩ => ⟨S2x8192x2048, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S512x128, .bf16⟩
  | .local _ .vmem, ⟨7, _⟩ => ⟨S512x128, .bf16⟩
  | .local _ .vmem, ⟨8, _⟩ => ⟨S1x1x128x512, .f32⟩
  | .local _ .vmem, ⟨9, _⟩ => ⟨S1x1x128x512, .f32⟩
  | .local _ .vmem, ⟨10, _⟩ => ⟨S512x128, .bf16⟩
  | .local _ .vmem, ⟨11, _⟩ => ⟨S512x128, .bf16⟩
  | .local _ .vmem, ⟨12, _⟩ => ⟨S2x8192x128, .bf16⟩
  | .local _ .vmem, ⟨13, _⟩ => ⟨S2x8192x128, .bf16⟩
  | .local _ .vmem, ⟨14, _⟩ => ⟨S8192x128, .f32⟩
  | .local _ .vmem, ⟨15, _⟩ => ⟨S8192x128, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_call2_cst : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_11 : BitVec 32 := 1#32
  ⟨c0_i32_10, v26, c1_i32_11⟩
def k0_mult1 (i : grid0.Coords) (k0_t1 : Fin (k0_t1_loop i).trips) : BitVec 32 :=
  let c0_i32_10 : BitVec 32 := 0#32
  let c1_i32_11 : BitVec 32 := 1#32
  let arg11 : BitVec 32 := Scf.iv c0_i32_10 c1_i32_11 k0_t1
  let c512_i32_55 : BitVec 32 := 512#32
  let v210 : BitVec 32 := Scalar.muli arg11 c512_i32_55
  v210
def k0_off1 (i : grid0.Coords) (k0_t1 : Fin (k0_t1_loop i).trips) : Fin 3 → Nat :=
  let c0_56 : Index := 0#32
  let c0_i32_10 : BitVec 32 := 0#32
  let c1_i32_11 : BitVec 32 := 1#32
  let arg11 : BitVec 32 := Scf.iv c0_i32_10 c1_i32_11 k0_t1
  let c512_i32_55 : BitVec 32 := 512#32
  let v210 : BitVec 32 := Scalar.muli arg11 c512_i32_55
  let v211 : BitVec 32 := v210
  let v212 : Index := Scalar.indexCast v211
  let c0_57 : Index := 0#32
  ![0, v212.toNat, 0]
def k0_mult2 (i : grid0.Coords) (k0_t1 : Fin (k0_t1_loop i).trips) : BitVec 32 :=
  let c0_i32_10 : BitVec 32 := 0#32
  let c1_i32_11 : BitVec 32 := 1#32
  let arg11 : BitVec 32 := Scf.iv c0_i32_10 c1_i32_11 k0_t1
  let c8_i32_65 : BitVec 32 := 8#32
  let v232 : BitVec 32 := Scalar.muli arg11 c8_i32_65
  v232
def k0_off2 (i : grid0.Coords) (k0_t1 : Fin (k0_t1_loop i).trips) : Fin 4 → Nat :=
  let c0_66 : Index := 0#32
  let c0_67 : Index := 0#32
  let c0_i32_10 : BitVec 32 := 0#32
  let c1_i32_11 : BitVec 32 := 1#32
  let arg11 : BitVec 32 := Scf.iv c0_i32_10 c1_i32_11 k0_t1
  let c8_i32_65 : BitVec 32 := 8#32
  let v232 : BitVec 32 := Scalar.muli arg11 c8_i32_65
  let v233 : BitVec 32 := v232
  let v234 : Index := Scalar.indexCast v233
  let c0_68 : Index := 0#32
  ![0, 0, v234.toNat, 0]
def k0_off3 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c512_i32_55 : BitVec 32 := 512#32
  let v210 : BitVec 32 := Scalar.muli arg11 c512_i32_55
  let v211 : BitVec 32 := v210
  let v367 : Index := Scalar.indexCast v211
  let c0_88 : Index := 0#32
  ![v367.toNat, 0]
@[reducible] def k0_t2_loop (i : grid0.Coords) : Scf.Loop 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let v23 : BitVec 32 := Scalar.addi c0_i32_10 v22
  let c1_i32_12 : BitVec 32 := 1#32
  ⟨v26, v23, c1_i32_12⟩
def k0_mult3 (i : grid0.Coords) (k0_t2 : Fin (k0_t2_loop i).trips) : BitVec 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg11 : BitVec 32 := Scf.iv v26 c1_i32_12 k0_t2
  let c512_i32_55 : BitVec 32 := 512#32
  let v210 : BitVec 32 := Scalar.muli arg11 c512_i32_55
  v210
def k0_off4 (i : grid0.Coords) (k0_t2 : Fin (k0_t2_loop i).trips) : Fin 3 → Nat :=
  let c0_56 : Index := 0#32
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg11 : BitVec 32 := Scf.iv v26 c1_i32_12 k0_t2
  let c512_i32_55 : BitVec 32 := 512#32
  let v210 : BitVec 32 := Scalar.muli arg11 c512_i32_55
  let v211 : BitVec 32 := v210
  let v212 : Index := Scalar.indexCast v211
  let c0_57 : Index := 0#32
  ![0, v212.toNat, 0]
def k0_mult4 (i : grid0.Coords) (k0_t2 : Fin (k0_t2_loop i).trips) : BitVec 32 :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg11 : BitVec 32 := Scf.iv v26 c1_i32_12 k0_t2
  let c8_i32_65 : BitVec 32 := 8#32
  let v232 : BitVec 32 := Scalar.muli arg11 c8_i32_65
  v232
def k0_off5 (i : grid0.Coords) (k0_t2 : Fin (k0_t2_loop i).trips) : Fin 4 → Nat :=
  let c0_66 : Index := 0#32
  let c0_67 : Index := 0#32
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg11 : BitVec 32 := Scf.iv v26 c1_i32_12 k0_t2
  let c8_i32_65 : BitVec 32 := 8#32
  let v232 : BitVec 32 := Scalar.muli arg11 c8_i32_65
  let v233 : BitVec 32 := v232
  let v234 : Index := Scalar.indexCast v233
  let c0_68 : Index := 0#32
  ![0, 0, v234.toNat, 0]
def k0_off6 (i : grid0.Coords) (k0_t2 : Fin (k0_t2_loop i).trips) : Fin 2 → Nat :=
  let c0_i32_10 : BitVec 32 := 0#32
  let arg1 : BitVec 32 := BitVec.ofNat 32 (i 1).val
  let v22 : BitVec 32 := Scalar.subi arg1 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg11 : BitVec 32 := Scf.iv v26 c1_i32_12 k0_t2
  let c512_i32_55 : BitVec 32 := 512#32
  let v210 : BitVec 32 := Scalar.muli arg11 c512_i32_55
  let v211 : BitVec 32 := v210
  let v367 : Index := Scalar.indexCast v211
  let c0_88 : Index := 0#32
  ![v367.toNat, 0]
def k0_mult5 (i : grid0.Coords) : BitVec 32 :=
  let arg1 : BitVec 32 := BitVec.ofNat 32 (i 1).val
  let c512_i32 : BitVec 32 := 512#32
  let v29 : BitVec 32 := Scalar.muli arg1 c512_i32
  v29
def k0_off7 (i : grid0.Coords) : Fin 3 → Nat :=
  let c0_13 : Index := 0#32
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_14 : Index := 0#32
  ![0, v31.toNat, 0]
def k0_mult6 (i : grid0.Coords) : BitVec 32 :=
  let arg1 : BitVec 32 := BitVec.ofNat 32 (i 1).val
  let c8_i32 : BitVec 32 := 8#32
  let v58 : BitVec 32 := Scalar.muli arg1 c8_i32
  v58
def k0_off8 (i : grid0.Coords) : Fin 4 → Nat :=
  let c0_24 : Index := 0#32
  let c0_25 : Index := 0#32
  let arg1 : BitVec 32 := BitVec.ofNat 32 (i 1).val
  let c8_i32 : BitVec 32 := 8#32
  let v58 : BitVec 32 := Scalar.muli arg1 c8_i32
  let v59 : BitVec 32 := v58
  let v60 : Index := Scalar.indexCast v59
  let c0_26 : Index := 0#32
  ![0, 0, v60.toNat, 0]
def k0_off9 (i : grid0.Coords) : Fin 2 → Nat :=
  let arg1 : BitVec 32 := BitVec.ofNat 32 (i 1).val
  let c512_i32 : BitVec 32 := 512#32
  let v29 : BitVec 32 := Scalar.muli arg1 c512_i32
  let v30 : BitVec 32 := v29
  let v188 : Index := Scalar.indexCast v30
  let c0_46 : Index := 0#32
  ![v188.toNat, 0]
def k0_cond2 (i : grid0.Coords) : BitVec 1 :=
  let arg1 : BitVec 32 := BitVec.ofNat 32 (i 1).val
  let c15_i32 : BitVec 32 := 15#32
  let v207 : BitVec 1 := Scalar.cmpi .eq arg1 c15_i32
  let v208 : BitVec 32 := Scalar.extui v207
  let c0_i32_54 : BitVec 32 := 0#32
  let v209 : BitVec 1 := Scalar.cmpi .ne v208 c0_i32_54
  v209

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S3x8192x2048 : Shape := ⟨3, ![3, 8192, 2048]⟩
abbrev S8192x2048 : Shape := ⟨2, ![8192, 2048]⟩
abbrev S1x8192x2048 : Shape := ⟨3, ![1, 8192, 2048]⟩
abbrev S8192x16x128 : Shape := ⟨3, ![8192, 16, 128]⟩
abbrev S16x8192x128 : Shape := ⟨3, ![16, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x8192 : Shape := ⟨3, ![16, 8192, 8192]⟩
abbrev S_ : Shape := ⟨0, ![]⟩
abbrev S16x128x8192 : Shape := ⟨3, ![16, 128, 8192]⟩
abbrev S2x8192x2048 : Shape := ⟨3, ![2, 8192, 2048]⟩

abbrev nBuf : Space → Nat
  | .hbm => 187
  | .vmem => 0
  | .smem => 0
  | _ => 0

abbrev hbmTy0_0 (i : Nat) : BufTy := match i % 128 with
  | 0 => ⟨S3x8192x2048, .bf16⟩
  | 1 => ⟨S8192x2048, .bf16⟩
  | 2 => ⟨S3x8192x2048, .f32⟩
  | 3 => ⟨S1x8192x2048, .f32⟩
  | 4 => ⟨S8192x2048, .f32⟩
  | 5 => ⟨S1x8192x2048, .f32⟩
  | 6 => ⟨S8192x2048, .f32⟩
  | 7 => ⟨S1x8192x2048, .f32⟩
  | 8 => ⟨S8192x2048, .f32⟩
  | 9 => ⟨S8192x16x128, .f32⟩
  | 10 => ⟨S16x8192x128, .f32⟩
  | 11 => ⟨S8192x16x128, .f32⟩
  | 12 => ⟨S16x8192x128, .f32⟩
  | 13 => ⟨S8192x16x128, .f32⟩
  | 14 => ⟨S16x8192x128, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S16x8192x8192, .f32⟩
  | 22 => ⟨S_, .f32⟩
  | 23 => ⟨S16x8192x8192, .f32⟩
  | 24 => ⟨S16x8192x8192, .f32⟩
  | 25 => ⟨S16x8192x8192, .f32⟩
  | 26 => ⟨S16x8192x8192, .f32⟩
  | 27 => ⟨S_, .f32⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .i1⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x8192, .f32⟩
  | 41 => ⟨S_, .f32⟩
  | 42 => ⟨S16x8192x8192, .f32⟩
  | 43 => ⟨S16x8192x8192, .i1⟩
  | 44 => ⟨S_, .f32⟩
  | 45 => ⟨S16x8192x8192, .f32⟩
  | 46 => ⟨S16x8192x8192, .f32⟩
  | 47 => ⟨S_, .f32⟩
  | 48 => ⟨S16x8192x8192, .f32⟩
  | 49 => ⟨S16x8192x8192, .i1⟩
  | 50 => ⟨S_, .f32⟩
  | 51 => ⟨S16x8192x8192, .f32⟩
  | 52 => ⟨S16x8192x8192, .f32⟩
  | 53 => ⟨S16x8192x8192, .f32⟩
  | 54 => ⟨S16x8192x8192, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S16x8192x8192, .f32⟩
  | 63 => ⟨S16x8192x8192, .i1⟩
  | 64 => ⟨S_, .f32⟩
  | 65 => ⟨S16x8192x8192, .f32⟩
  | 66 => ⟨S16x8192x8192, .f32⟩
  | 67 => ⟨S16x8192x8192, .f32⟩
  | 68 => ⟨S16x8192x8192, .f32⟩
  | 69 => ⟨S16x8192x8192, .f32⟩
  | 70 => ⟨S_, .f32⟩
  | 71 => ⟨S16x8192x8192, .f32⟩
  | 72 => ⟨S16x8192x8192, .f32⟩
  | 73 => ⟨S16x8192x8192, .f32⟩
  | 74 => ⟨S_, .f32⟩
  | 75 => ⟨S_, .f32⟩
  | 76 => ⟨S16x8192x8192, .i1⟩
  | 77 => ⟨S16x8192x8192, .f32⟩
  | 78 => ⟨S16x8192x8192, .f32⟩
  | 79 => ⟨S_, .f32⟩
  | 80 => ⟨S16x8192x8192, .f32⟩
  | 81 => ⟨S_, .f32⟩
  | 82 => ⟨S_, .f32⟩
  | 83 => ⟨S16x8192x8192, .f32⟩
  | 84 => ⟨S16x8192x8192, .f32⟩
  | 85 => ⟨S16x8192x8192, .f32⟩
  | 86 => ⟨S_, .f32⟩
  | 87 => ⟨S16x8192x8192, .f32⟩
  | 88 => ⟨S16x8192x8192, .f32⟩
  | 89 => ⟨S16x8192x8192, .f32⟩
  | 90 => ⟨S16x8192x8192, .f32⟩
  | 91 => ⟨S16x8192x8192, .i1⟩
  | 92 => ⟨S16x8192x8192, .f32⟩
  | 93 => ⟨S16x8192x8192, .f32⟩
  | 94 => ⟨S16x8192x8192, .f32⟩
  | 95 => ⟨S16x8192x8192, .f32⟩
  | 96 => ⟨S16x8192x8192, .f32⟩
  | 97 => ⟨S16x8192x8192, .f32⟩
  | 98 => ⟨S16x8192x8192, .f32⟩
  | 99 => ⟨S16x8192x8192, .f32⟩
  | 100 => ⟨S_, .f32⟩
  | 101 => ⟨S16x8192x8192, .f32⟩
  | 102 => ⟨S16x8192x8192, .i1⟩
  | 103 => ⟨S_, .f32⟩
  | 104 => ⟨S16x8192x8192, .f32⟩
  | 105 => ⟨S16x8192x8192, .f32⟩
  | 106 => ⟨S_, .f32⟩
  | 107 => ⟨S16x8192x8192, .f32⟩
  | 108 => ⟨S16x8192x8192, .i1⟩
  | 109 => ⟨S_, .f32⟩
  | 110 => ⟨S16x8192x8192, .f32⟩
  | 111 => ⟨S16x8192x8192, .f32⟩
  | 112 => ⟨S16x8192x8192, .f32⟩
  | 113 => ⟨S16x8192x8192, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S16x8192x8192, .f32⟩
  | 122 => ⟨S16x8192x8192, .i1⟩
  | 123 => ⟨S_, .f32⟩
  | 124 => ⟨S16x8192x8192, .f32⟩
  | 125 => ⟨S16x8192x8192, .f32⟩
  | 126 => ⟨S16x8192x8192, .f32⟩
  | 127 => ⟨S16x8192x8192, .f32⟩
  | _ => ⟨S3x8192x2048, .bf16⟩

abbrev hbmTy0_1 (i : Nat) : BufTy := match i % 128 with
  | 0 => ⟨S16x8192x8192, .f32⟩
  | 1 => ⟨S_, .f32⟩
  | 2 => ⟨S16x8192x8192, .f32⟩
  | 3 => ⟨S16x8192x8192, .f32⟩
  | 4 => ⟨S16x8192x8192, .f32⟩
  | 5 => ⟨S16x8192x8192, .f32⟩
  | 6 => ⟨S16x8192x8192, .f32⟩
  | 7 => ⟨S_, .f32⟩
  | 8 => ⟨S_, .f32⟩
  | 9 => ⟨S16x8192x8192, .i1⟩
  | 10 => ⟨S16x8192x8192, .f32⟩
  | 11 => ⟨S16x8192x8192, .f32⟩
  | 12 => ⟨S_, .f32⟩
  | 13 => ⟨S16x8192x8192, .f32⟩
  | 14 => ⟨S16x8192x128, .f32⟩
  | 15 => ⟨S8192x16x128, .f32⟩
  | 16 => ⟨S8192x2048, .f32⟩
  | 17 => ⟨S8192x2048, .f32⟩
  | 18 => ⟨S8192x16x128, .f32⟩
  | 19 => ⟨S16x8192x128, .f32⟩
  | 20 => ⟨S16x128x8192, .f32⟩
  | 21 => ⟨S16x8192x128, .f32⟩
  | 22 => ⟨S16x8192x8192, .f32⟩
  | 23 => ⟨S_, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .f32⟩
  | 29 => ⟨S16x8192x8192, .f32⟩
  | 30 => ⟨S16x8192x8192, .f32⟩
  | 31 => ⟨S_, .f32⟩
  | 32 => ⟨S_, .f32⟩
  | 33 => ⟨S16x8192x8192, .f32⟩
  | 34 => ⟨S16x8192x8192, .f32⟩
  | 35 => ⟨S_, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x8192, .f32⟩
  | 41 => ⟨S16x8192x8192, .f32⟩
  | 42 => ⟨S16x8192x8192, .f32⟩
  | 43 => ⟨S_, .f32⟩
  | 44 => ⟨S16x8192x8192, .f32⟩
  | 45 => ⟨S16x8192x8192, .f32⟩
  | 46 => ⟨S16x8192x128, .f32⟩
  | 47 => ⟨S16x8192x128, .f32⟩
  | 48 => ⟨S8192x16x128, .f32⟩
  | 49 => ⟨S8192x2048, .f32⟩
  | 50 => ⟨S8192x16x128, .f32⟩
  | 51 => ⟨S8192x2048, .f32⟩
  | 52 => ⟨S8192x16x128, .f32⟩
  | 53 => ⟨S8192x2048, .f32⟩
  | 54 => ⟨S8192x2048, .bf16⟩
  | 55 => ⟨S1x8192x2048, .f32⟩
  | 56 => ⟨S1x8192x2048, .f32⟩
  | 57 => ⟨S2x8192x2048, .f32⟩
  | 58 => ⟨S2x8192x2048, .bf16⟩
  | _ => ⟨S3x8192x2048, .bf16⟩

abbrev hbmTy (i : Nat) : BufTy := match i / 128 with
  | 0 => hbmTy0_0 i
  | 1 => hbmTy0_1 i
  | _ => ⟨S3x8192x2048, .bf16⟩

abbrev bufTy : (tb : Table) → Fin (tcTables nBuf tb) → BufTy
  | .hbm, ⟨i, _⟩ => hbmTy i
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_call6_v0 : Ref sig .tc := ⟨.hbm, 155, rfl⟩
abbrev main_call6_v1 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩

abbrev nD : Nat := 1
abbrev τ : Topo := Topo.v7x

variable {F : FTy → Type} [FloatOps F]
-- ==== KernelUpDx.lean ====
abbrev S8192x2048 : Shape := ⟨2, ![8192, 2048]⟩
abbrev S2048x11264 : Shape := ⟨2, ![2048, 11264]⟩
abbrev S2x8192x5632 : Shape := ⟨3, ![2, 8192, 5632]⟩
abbrev S2x512x5632 : Shape := ⟨3, ![2, 512, 5632]⟩
abbrev S256x11264 : Shape := ⟨2, ![256, 11264]⟩
abbrev S512x256 : Shape := ⟨2, ![512, 256]⟩
abbrev S1x512x5632 : Shape := ⟨3, ![1, 512, 5632]⟩
abbrev S512x5632 : Shape := ⟨2, ![512, 5632]⟩
abbrev S256x5632 : Shape := ⟨2, ![256, 5632]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2x8192x5632, .bf16⟩
  | .hbm, ⟨3, _⟩ => ⟨S8192x2048, .f32⟩
  | .local _ .vmem, ⟨0, _⟩ => ⟨S2x512x5632, .bf16⟩
  | .local _ .vmem, ⟨1, _⟩ => ⟨S2x512x5632, .bf16⟩
  | .local _ .vmem, ⟨2, _⟩ => ⟨S256x11264, .bf16⟩
  | .local _ .vmem, ⟨3, _⟩ => ⟨S256x11264, .bf16⟩
  | .local _ .vmem, ⟨4, _⟩ => ⟨S512x256, .f32⟩
  | .local _ .vmem, ⟨5, _⟩ => ⟨S512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpDxIdeal.lean ====
abbrev S8192x2048 : Shape := ⟨2, ![8192, 2048]⟩
abbrev S2048x11264 : Shape := ⟨2, ![2048, 11264]⟩
abbrev S2x8192x5632 : Shape := ⟨3, ![2, 8192, 5632]⟩
abbrev S8192x11264 : Shape := ⟨2, ![8192, 11264]⟩
abbrev S8192x5632 : Shape := ⟨2, ![8192, 5632]⟩
abbrev S1x8192x5632 : Shape := ⟨3, ![1, 8192, 5632]⟩
abbrev S11264x2048 : Shape := ⟨2, ![11264, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2x8192x5632, .bf16⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S1x8192x5632, .f32⟩
  | .hbm, ⟨9, _⟩ => ⟨S1x8192x5632, .f32⟩
  | .hbm, ⟨10, _⟩ => ⟨S2x8192x5632, .f32⟩
  | .hbm, ⟨11, _⟩ => ⟨S2x8192x5632, .f32⟩
  | .hbm, ⟨12, _⟩ => ⟨S1x8192x5632, .f32⟩
  | .hbm, ⟨13, _⟩ => ⟨S8192x5632, .f32⟩
  | .hbm, ⟨14, _⟩ => ⟨S1x8192x5632, .f32⟩
  | .hbm, ⟨15, _⟩ => ⟨S8192x5632, .f32⟩
  | .hbm, ⟨16, _⟩ => ⟨S8192x11264, .f32⟩
  | .hbm, ⟨17, _⟩ => ⟨S11264x2048, .f32⟩
  | .hbm, ⟨18, _⟩ => ⟨S2048x11264, .f32⟩
  | .hbm, ⟨19, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== KernelUpDw.lean ====
abbrev S8192x2048 : Shape := ⟨2, ![8192, 2048]⟩
abbrev S2048x11264 : Shape := ⟨2, ![2048, 11264]⟩
abbrev S2x8192x5632 : Shape := ⟨3, ![2, 8192, 5632]⟩
abbrev S2048x512 : Shape := ⟨2, ![2048, 512]⟩
abbrev S1x2048x2816 : Shape := ⟨3, ![1, 2048, 2816]⟩
abbrev S512x2816 : Shape := ⟨2, ![512, 2816]⟩
abbrev S2048x2816 : Shape := ⟨2, ![2048, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2x8192x5632, .bf16⟩
  | .hbm, ⟨3, _⟩ => ⟨S2048x11264, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S8192x2048 : Shape := ⟨2, ![8192, 2048]⟩
abbrev S2048x11264 : Shape := ⟨2, ![2048, 11264]⟩
abbrev S2x8192x5632 : Shape := ⟨3, ![2, 8192, 5632]⟩
abbrev S8192x11264 : Shape := ⟨2, ![8192, 11264]⟩
abbrev S8192x5632 : Shape := ⟨2, ![8192, 5632]⟩
abbrev S1x8192x5632 : Shape := ⟨3, ![1, 8192, 5632]⟩
abbrev S11264x2048 : Shape := ⟨2, ![11264, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S2x8192x5632, .bf16⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S1x8192x5632, .f32⟩
  | .hbm, ⟨9, _⟩ => ⟨S1x8192x5632, .f32⟩
  | .hbm, ⟨10, _⟩ => ⟨S2x8192x5632, .f32⟩
  | .hbm, ⟨11, _⟩ => ⟨S2x8192x5632, .f32⟩
  | .hbm, ⟨12, _⟩ => ⟨S1x8192x5632, .f32⟩
  | .hbm, ⟨13, _⟩ => ⟨S8192x5632, .f32⟩
  | .hbm, ⟨14, _⟩ => ⟨S1x8192x5632, .f32⟩
  | .hbm, ⟨15, _⟩ => ⟨S8192x5632, .f32⟩
  | .hbm, ⟨16, _⟩ => ⟨S8192x11264, .f32⟩
  | .hbm, ⟨17, _⟩ => ⟨S11264x2048, .f32⟩
  | .hbm, ⟨18, _⟩ => ⟨S2048x11264, .f32⟩
  | .hbm, ⟨19, _⟩ => ⟨S8192x2048, .f32⟩
  | .hbm, ⟨20, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== KernelInDw3.lean ====
abbrev S8192x2048 : Shape := ⟨2, ![8192, 2048]⟩
abbrev S2048x6144 : Shape := ⟨2, ![2048, 6144]⟩
abbrev S3x8192x2048 : Shape := ⟨3, ![3, 8192, 2048]⟩
abbrev S2048x512 : Shape := ⟨2, ![2048, 512]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S3x8192x2048, .bf16⟩
  | .hbm, ⟨3, _⟩ => ⟨S2048x6144, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDw3Ideal.lean ====
abbrev S8192x2048 : Shape := ⟨2, ![8192, 2048]⟩
abbrev S2048x6144 : Shape := ⟨2, ![2048, 6144]⟩
abbrev S3x8192x2048 : Shape := ⟨3, ![3, 8192, 2048]⟩
abbrev S8192x6144 : Shape := ⟨2, ![8192, 6144]⟩
abbrev S1x8192x2048 : Shape := ⟨3, ![1, 8192, 2048]⟩
abbrev S6144x2048 : Shape := ⟨2, ![6144, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S3x8192x2048, .bf16⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S3x8192x2048, .f32⟩
  | .hbm, ⟨13, _⟩ => ⟨S3x8192x2048, .f32⟩
  | .hbm, ⟨14, _⟩ => ⟨S1x8192x2048, .f32⟩
  | .hbm, ⟨15, _⟩ => ⟨S8192x2048, .f32⟩
  | .hbm, ⟨16, _⟩ => ⟨S1x8192x2048, .f32⟩
  | .hbm, ⟨17, _⟩ => ⟨S8192x2048, .f32⟩
  | .hbm, ⟨18, _⟩ => ⟨S1x8192x2048, .f32⟩
  | .hbm, ⟨19, _⟩ => ⟨S8192x2048, .f32⟩
  | .hbm, ⟨20, _⟩ => ⟨S8192x6144, .f32⟩
  | .hbm, ⟨21, _⟩ => ⟨S6144x2048, .f32⟩
  | .hbm, ⟨22, _⟩ => ⟨S2048x6144, .f32⟩
  | .hbm, ⟨23, _⟩ => ⟨S8192x2048, .f32⟩
  | .hbm, ⟨24, _⟩ => ⟨S2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== KernelInDw2.lean ====
abbrev S8192x2048 : Shape := ⟨2, ![8192, 2048]⟩
abbrev S2048x4096 : Shape := ⟨2, ![2048, 4096]⟩
abbrev S2x8192x2048 : Shape := ⟨3, ![2, 8192, 2048]⟩
abbrev S2048x512 : Shape := ⟨2, ![2048, 512]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2x8192x2048, .bf16⟩
  | .hbm, ⟨3, _⟩ => ⟨S2048x4096, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDw2Ideal.lean ====
abbrev S8192x2048 : Shape := ⟨2, ![8192, 2048]⟩
abbrev S2048x4096 : Shape := ⟨2, ![2048, 4096]⟩
abbrev S2x8192x2048 : Shape := ⟨3, ![2, 8192, 2048]⟩
abbrev S8192x4096 : Shape := ⟨2, ![8192, 4096]⟩
abbrev S1x8192x2048 : Shape := ⟨3, ![1, 8192, 2048]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2x8192x2048, .bf16⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S1x8192x2048, .f32⟩
  | .hbm, ⟨9, _⟩ => ⟨S1x8192x2048, .f32⟩
  | .hbm, ⟨10, _⟩ => ⟨S2x8192x2048, .f32⟩
  | .hbm, ⟨11, _⟩ => ⟨S2x8192x2048, .f32⟩
  | .hbm, ⟨12, _⟩ => ⟨S1x8192x2048, .f32⟩
  | .hbm, ⟨13, _⟩ => ⟨S8192x2048, .f32⟩
  | .hbm, ⟨14, _⟩ => ⟨S1x8192x2048, .f32⟩
  | .hbm, ⟨15, _⟩ => ⟨S8192x2048, .f32⟩
  | .hbm, ⟨16, _⟩ => ⟨S8192x4096, .f32⟩
  | .hbm, ⟨17, _⟩ => ⟨S4096x2048, .f32⟩
  | .hbm, ⟨18, _⟩ => ⟨S2048x4096, .f32⟩
  | .hbm, ⟨19, _⟩ => ⟨S8192x2048, .f32⟩
  | .hbm, ⟨20, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== KernelDownDx.lean ====
abbrev S8192x5632 : Shape := ⟨2, ![8192, 5632]⟩
abbrev S5632x2048 : Shape := ⟨2, ![5632, 2048]⟩
abbrev S8192x2048 : Shape := ⟨2, ![8192, 2048]⟩
abbrev S1x8192x2048 : Shape := ⟨3, ![1, 8192, 2048]⟩
abbrev S1x1024x2048 : Shape := ⟨3, ![1, 1024, 2048]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S1x8192x2048, .bf16⟩
  | .hbm, ⟨4, _⟩ => ⟨S8192x5632, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownDxIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDownDw.lean ====
abbrev S8192x5632 : Shape := ⟨2, ![8192, 5632]⟩
abbrev S5632x2048 : Shape := ⟨2, ![5632, 2048]⟩
abbrev S8192x2048 : Shape := ⟨2, ![8192, 2048]⟩
abbrev S1x8192x2048 : Shape := ⟨3, ![1, 8192, 2048]⟩
abbrev S2048x512 : Shape := ⟨2, ![2048, 512]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S1x8192x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelIn3.lean ====
abbrev S8192x2048 : Shape := ⟨2, ![8192, 2048]⟩
abbrev S2048x6144 : Shape := ⟨2, ![2048, 6144]⟩
abbrev S3x8192x2048 : Shape := ⟨3, ![3, 8192, 2048]⟩
abbrev S2048x2048 : Shape := ⟨2, ![2048, 2048]⟩
abbrev S2048x512 : Shape := ⟨2, ![2048, 512]⟩
abbrev S1x2048x512 : Shape := ⟨3, ![1, 2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S3x8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x2048x512, .bf16⟩
  | .local _ .vmem, ⟨5, _⟩ => ⟨S1x2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIn3Ideal.lean ====
abbrev S8192x2048 : Shape := ⟨2, ![8192, 2048]⟩
abbrev S2048x6144 : Shape := ⟨2, ![2048, 6144]⟩
abbrev S8192x6144 : Shape := ⟨2, ![8192, 6144]⟩
abbrev S1x8192x2048 : Shape := ⟨3, ![1, 8192, 2048]⟩
abbrev S3x8192x2048 : Shape := ⟨3, ![3, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S3x8192x2048, .f32⟩
  | .hbm, ⟨12, _⟩ => ⟨S3x8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelIn2.lean ====
abbrev S8192x2048 : Shape := ⟨2, ![8192, 2048]⟩
abbrev S2048x4096 : Shape := ⟨2, ![2048, 4096]⟩
abbrev S2x8192x2048 : Shape := ⟨3, ![2, 8192, 2048]⟩
abbrev S2048x2048 : Shape := ⟨2, ![2048, 2048]⟩
abbrev S2048x512 : Shape := ⟨2, ![2048, 512]⟩
abbrev S1x2048x512 : Shape := ⟨3, ![1, 2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2x8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x2048x512, .bf16⟩
  | .local _ .vmem, ⟨5, _⟩ => ⟨S1x2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIn2Ideal.lean ====
abbrev S8192x2048 : Shape := ⟨2, ![8192, 2048]⟩
abbrev S2048x4096 : Shape := ⟨2, ![2048, 4096]⟩
abbrev S8192x4096 : Shape := ⟨2, ![8192, 4096]⟩
abbrev S1x8192x2048 : Shape := ⟨3, ![1, 8192, 2048]⟩
abbrev S2x8192x2048 : Shape := ⟨3, ![2, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S1x8192x2048, .f32⟩
  | .hbm, ⟨8, _⟩ => ⟨S1x8192x2048, .f32⟩
  | .hbm, ⟨9, _⟩ => ⟨S2x8192x2048, .f32⟩
  | .hbm, ⟨10, _⟩ => ⟨S2x8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSb.lean ====
abbrev S3x8192x2048 : Shape := ⟨3, ![3, 8192, 2048]⟩
abbrev S8192x2048 : Shape := ⟨2, ![8192, 2048]⟩
abbrev S16x16x128x512 : Shape := ⟨4, ![16, 16, 128, 512]⟩
abbrev S1x512x128 : Shape := ⟨3, ![1, 512, 128]⟩
abbrev S1x8192x128 : Shape := ⟨3, ![1, 8192, 128]⟩
abbrev S512x128 : Shape := ⟨2, ![512, 128]⟩
abbrev S1x1x128x512 : Shape := ⟨4, ![1, 1, 128, 512]⟩
abbrev S128x128 : Shape := ⟨2, ![128, 128]⟩
abbrev S128x512 : Shape := ⟨2, ![128, 512]⟩
abbrev S512x1 : Shape := ⟨2, ![512, 1]⟩
abbrev S8x512 : Shape := ⟨2, ![8, 512]⟩
abbrev S1x1x8x512 : Shape := ⟨4, ![1, 1, 8, 512]⟩
abbrev S512x512 : Shape := ⟨2, ![512, 512]⟩
abbrev S1024x128 : Shape := ⟨2, ![1024, 128]⟩
abbrev S512 : Shape := ⟨1, ![512]⟩

abbrev nBuf : Space → Nat
  | .hbm => 3
  | .vmem => 10
  | .smem => 0
  | _ => 0

abbrev bufTy : (tb : Table) → Fin (tcTables nBuf tb) → BufTy
  | .hbm, ⟨0, _⟩ => ⟨S3x8192x2048, .bf16⟩
  | .hbm, ⟨1, _⟩ => ⟨S8192x2048, .bf16⟩
  | .hbm, ⟨2, _⟩ => ⟨S16x16x128x512, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S512x128, .bf16⟩
  | .local _ .vmem, ⟨7, _⟩ => ⟨S512x128, .bf16⟩
  | .local _ .vmem, ⟨8, _⟩ => ⟨S1x1x128x512, .f32⟩
  | .local _ .vmem, ⟨9, _⟩ => ⟨S1x1x128x512, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_mult2 (i : grid0.Coords) : BitVec 32 :=
  let arg1 : BitVec 32 := BitVec.ofNat 32 (i 1).val
  let c8_i32 : BitVec 32 := 8#32
  let v21 : BitVec 32 := Scalar.muli arg1 c8_i32
  v21
def k0_off1 (i : grid0.Coords) : Fin 4 → Nat :=
  let c0_10 : Index := 0#32
  let c0_11 : Index := 0#32
  let arg1 : BitVec 32 := BitVec.ofNat 32 (i 1).val
  let c8_i32 : BitVec 32 := 8#32
  let v21 : BitVec 32 := Scalar.muli arg1 c8_i32
  let v22 : BitVec 32 := v21
  let v23 : Index := Scalar.indexCast v22
  let c0_12 : Index := 0#32
  ![0, 0, v23.toNat, 0]
def k0_off2 (i : grid0.Coords) : Fin 3 → Nat :=
  let c0_13 : Index := 0#32
  let arg1 : BitVec 32 := BitVec.ofNat 32 (i 1).val
  let c512_i32 : BitVec 32 := 512#32
  let v15 : BitVec 32 := Scalar.muli arg1 c512_i32
  let v16 : BitVec 32 := v15
  let v27 : Index := Scalar.indexCast v16
  let c0_14 : Index := 0#32
  ![0, v27.toNat, 0]
@[reducible] def k0_t1_loop (i : grid0.Coords) : Scf.Loop 32 :=
  let c0_i32_33 : BitVec 32 := 0#32
  let arg1 : BitVec 32 := BitVec.ofNat 32 (i 1).val
  let v118 : BitVec 32 := Scalar.subi arg1 c0_i32_33
  let c1_i32 : BitVec 32 := 1#32
  let v120 : BitVec 32 := Scalar.divsi v118 c1_i32
  let v121 : BitVec 32 := Scalar.muli v120 c1_i32
  let v122 : BitVec 32 := Scalar.addi c0_i32_33 v121
  let c1_i32_34 : BitVec 32 := 1#32
  ⟨c0_i32_33, v122, c1_i32_34⟩
def k0_mult3 (i : grid0.Coords) (k0_t1 : Fin (k0_t1_loop i).trips) : BitVec 32 :=
  let arg1 : BitVec 32 := BitVec.ofNat 32 (i 1).val
  let c1_i32_38 : BitVec 32 := 1#32
  let v127 : BitVec 32 := Scalar.subi arg1 c1_i32_38
  let c0_i32_33 : BitVec 32 := 0#32
  let c1_i32_34 : BitVec 32 := 1#32
  let arg7 : BitVec 32 := Scf.iv c0_i32_33 c1_i32_34 k0_t1
  let v128 : BitVec 32 := Scalar.subi v127 arg7
  let c512_i32_39 : BitVec 32 := 512#32
  let v129 : BitVec 32 := Scalar.muli v128 c512_i32_39
  v129
def k0_mult4 (i : grid0.Coords) (k0_t1 : Fin (k0_t1_loop i).trips) : BitVec 32 :=
  let arg1 : BitVec 32 := BitVec.ofNat 32 (i 1).val
  let c1_i32_38 : BitVec 32 := 1#32
  let v127 : BitVec 32 := Scalar.subi arg1 c1_i32_38
  let c0_i32_33 : BitVec 32 := 0#32
  let c1_i32_34 : BitVec 32 := 1#32
  let arg7 : BitVec 32 := Scf.iv c0_i32_33 c1_i32_34 k0_t1
  let v128 : BitVec 32 := Scalar.subi v127 arg7
  let c8_i32_40 : BitVec 32 := 8#32
  let v135 : BitVec 32 := Scalar.muli v128 c8_i32_40
  v135
def k0_off3 (i : grid0.Coords) (k0_t1 : Fin (k0_t1_loop i).trips) : Fin 4 → Nat :=
  let c0_41 : Index := 0#32
  let c0_42 : Index := 0#32
  let arg1 : BitVec 32 := BitVec.ofNat 32 (i 1).val
  let c1_i32_38 : BitVec 32 := 1#32
  let v127 : BitVec 32 := Scalar.subi arg1 c1_i32_38
  let c0_i32_33 : BitVec 32 := 0#32
  let c1_i32_34 : BitVec 32 := 1#32
  let arg7 : BitVec 32 := Scf.iv c0_i32_33 c1_i32_34 k0_t1
  let v128 : BitVec 32 := Scalar.subi v127 arg7
  let c8_i32_40 : BitVec 32 := 8#32
  let v135 : BitVec 32 := Scalar.muli v128 c8_i32_40
  let v136 : BitVec 32 := v135
  let v137 : Index := Scalar.indexCast v136
  let c0_43 : Index := 0#32
  ![0, 0, v137.toNat, 0]
def k0_off4 (i : grid0.Coords) (k0_t1 : Fin (k0_t1_loop i).trips) : Fin 3 → Nat :=
  let c0_44 : Index := 0#32
  let arg1 : BitVec 32 := BitVec.ofNat 32 (i 1).val
  let c1_i32_38 : BitVec 32 := 1#32
  let v127 : BitVec 32 := Scalar.subi arg1 c1_i32_38
  let c0_i32_33 : BitVec 32 := 0#32
  let c1_i32_34 : BitVec 32 := 1#32
  let arg7 : BitVec 32 := Scf.iv c0_i32_33 c1_i32_34 k0_t1
  let v128 : BitVec 32 := Scalar.subi v127 arg7
  let c512_i32_39 : BitVec 32 := 512#32
  let v129 : BitVec 32 := Scalar.muli v128 c512_i32_39
  let v130 : BitVec 32 := v129
  let v141 : Index := Scalar.indexCast v130
  let c0_45 : Index := 0#32
  ![0, v141.toNat, 0]
@[reducible] def k0_t2_loop (i : grid0.Coords) : Scf.Loop 32 :=
  let c0_i32_33 : BitVec 32 := 0#32
  let arg1 : BitVec 32 := BitVec.ofNat 32 (i 1).val
  let v118 : BitVec 32 := Scalar.subi arg1 c0_i32_33
  let c1_i32 : BitVec 32 := 1#32
  let v120 : BitVec 32 := Scalar.divsi v118 c1_i32
  let v121 : BitVec 32 := Scalar.muli v120 c1_i32
  let v122 : BitVec 32 := Scalar.addi c0_i32_33 v121
  let v119 : BitVec 32 := Scalar.addi c0_i32_33 v118
  let c1_i32_35 : BitVec 32 := 1#32
  ⟨v122, v119, c1_i32_35⟩
def k0_mult5 (i : grid0.Coords) (k0_t2 : Fin (k0_t2_loop i).trips) : BitVec 32 :=
  let arg1 : BitVec 32 := BitVec.ofNat 32 (i 1).val
  let c1_i32_38 : BitVec 32 := 1#32
  let v127 : BitVec 32 := Scalar.subi arg1 c1_i32_38
  let c0_i32_33 : BitVec 32 := 0#32
  let v118 : BitVec 32 := Scalar.subi arg1 c0_i32_33
  let c1_i32 : BitVec 32 := 1#32
  let v120 : BitVec 32 := Scalar.divsi v118 c1_i32
  let v121 : BitVec 32 := Scalar.muli v120 c1_i32
  let v122 : BitVec 32 := Scalar.addi c0_i32_33 v121
  let c1_i32_35 : BitVec 32 := 1#32
  let arg7 : BitVec 32 := Scf.iv v122 c1_i32_35 k0_t2
  let v128 : BitVec 32 := Scalar.subi v127 arg7
  let c512_i32_39 : BitVec 32 := 512#32
  let v129 : BitVec 32 := Scalar.muli v128 c512_i32_39
  v129
def k0_mult6 (i : grid0.Coords) (k0_t2 : Fin (k0_t2_loop i).trips) : BitVec 32 :=
  let arg1 : BitVec 32 := BitVec.ofNat 32 (i 1).val
  let c1_i32_38 : BitVec 32 := 1#32
  let v127 : BitVec 32 := Scalar.subi arg1 c1_i32_38
  let c0_i32_33 : BitVec 32 := 0#32
  let v118 : BitVec 32 := Scalar.subi arg1 c0_i32_33
  let c1_i32 : BitVec 32 := 1#32
  let v120 : BitVec 32 := Scalar.divsi v118 c1_i32
  let v121 : BitVec 32 := Scalar.muli v120 c1_i32
  let v122 : BitVec 32 := Scalar.addi c0_i32_33 v121
  let c1_i32_35 : BitVec 32 := 1#32
  let arg7 : BitVec 32 := Scf.iv v122 c1_i32_35 k0_t2
  let v128 : BitVec 32 := Scalar.subi v127 arg7
  let c8_i32_40 : BitVec 32 := 8#32
  let v135 : BitVec 32 := Scalar.muli v128 c8_i32_40
  v135
def k0_off5 (i : grid0.Coords) (k0_t2 : Fin (k0_t2_loop i).trips) : Fin 4 → Nat :=
  let c0_41 : Index := 0#32
  let c0_42 : Index := 0#32
  let arg1 : BitVec 32 := BitVec.ofNat 32 (i 1).val
  let c1_i32_38 : BitVec 32 := 1#32
  let v127 : BitVec 32 := Scalar.subi arg1 c1_i32_38
  let c0_i32_33 : BitVec 32 := 0#32
  let v118 : BitVec 32 := Scalar.subi arg1 c0_i32_33
  let c1_i32 : BitVec 32 := 1#32
  let v120 : BitVec 32 := Scalar.divsi v118 c1_i32
  let v121 : BitVec 32 := Scalar.muli v120 c1_i32
  let v122 : BitVec 32 := Scalar.addi c0_i32_33 v121
  let c1_i32_35 : BitVec 32 := 1#32
  let arg7 : BitVec 32 := Scf.iv v122 c1_i32_35 k0_t2
  let v128 : BitVec 32 := Scalar.subi v127 arg7
  let c8_i32_40 : BitVec 32 := 8#32
  let v135 : BitVec 32 := Scalar.muli v128 c8_i32_40
  let v136 : BitVec 32 := v135
  let v137 : Index := Scalar.indexCast v136
  let c0_43 : Index := 0#32
  ![0, 0, v137.toNat, 0]
def k0_off6 (i : grid0.Coords) (k0_t2 : Fin (k0_t2_loop i).trips) : Fin 3 → Nat :=
  let c0_44 : Index := 0#32
  let arg1 : BitVec 32 := BitVec.ofNat 32 (i 1).val
  let c1_i32_38 : BitVec 32 := 1#32
  let v127 : BitVec 32 := Scalar.subi arg1 c1_i32_38
  let c0_i32_33 : BitVec 32 := 0#32
  let v118 : BitVec 32 := Scalar.subi arg1 c0_i32_33
  let c1_i32 : BitVec 32 := 1#32
  let v120 : BitVec 32 := Scalar.divsi v118 c1_i32
  let v121 : BitVec 32 := Scalar.muli v120 c1_i32
  let v122 : BitVec 32 := Scalar.addi c0_i32_33 v121
  let c1_i32_35 : BitVec 32 := 1#32
  let arg7 : BitVec 32 := Scf.iv v122 c1_i32_35 k0_t2
  let v128 : BitVec 32 := Scalar.subi v127 arg7
  let c512_i32_39 : BitVec 32 := 512#32
  let v129 : BitVec 32 := Scalar.muli v128 c512_i32_39
  let v130 : BitVec 32 := v129
  let v141 : Index := Scalar.indexCast v130
  let c0_45 : Index := 0#32
  ![0, v141.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSbIdeal.lean ====
abbrev S3x8192x2048 : Shape := ⟨3, ![3, 8192, 2048]⟩
abbrev S1x8192x2048 : Shape := ⟨3, ![1, 8192, 2048]⟩
abbrev S8192x2048 : Shape := ⟨2, ![8192, 2048]⟩
abbrev S8192x16x128 : Shape := ⟨3, ![8192, 16, 128]⟩
abbrev S16x8192x128 : Shape := ⟨3, ![16, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x8192 : Shape := ⟨3, ![16, 8192, 8192]⟩
abbrev S_ : Shape := ⟨0, ![]⟩
abbrev S16x8192x16 : Shape := ⟨3, ![16, 8192, 16]⟩
abbrev S16x16x512x16 : Shape := ⟨4, ![16, 16, 512, 16]⟩
abbrev S16x16x16x512 : Shape := ⟨4, ![16, 16, 16, 512]⟩
abbrev S16x16x16x1x512 : Shape := ⟨5, ![16, 16, 16, 1, 512]⟩
abbrev S16x16x16x8x512 : Shape := ⟨5, ![16, 16, 16, 8, 512]⟩
abbrev S16x16x128x512 : Shape := ⟨4, ![16, 16, 128, 512]⟩

abbrev nBuf : Space → Nat
  | .hbm => 127
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S3x8192x2048, .f32⟩
  | .hbm, ⟨2, _⟩ => ⟨S1x8192x2048, .f32⟩
  | .hbm, ⟨3, _⟩ => ⟨S8192x2048, .f32⟩
  | .hbm, ⟨4, _⟩ => ⟨S1x8192x2048, .f32⟩
  | .hbm, ⟨5, _⟩ => ⟨S8192x2048, .f32⟩
  | .hbm, ⟨6, _⟩ => ⟨S1x8192x2048, .f32⟩
  | .hbm, ⟨7, _⟩ => ⟨S8192x2048, .f32⟩
  | .hbm, ⟨8, _⟩ => ⟨S8192x16x128, .f32⟩
  | .hbm, ⟨9, _⟩ => ⟨S16x8192x128, .f32⟩
  | .hbm, ⟨10, _⟩ => ⟨S8192x16x128, .f32⟩
  | .hbm, ⟨11, _⟩ => ⟨S16x8192x128, .f32⟩
  | .hbm, ⟨12, _⟩ => ⟨S8192x16x128, .f32⟩
  | .hbm, ⟨13, _⟩ => ⟨S16x8192x128, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .i1⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S_, .f32⟩
  | .hbm, ⟨43, _⟩ => ⟨S16x8192x8192, .i1⟩
  | .hbm, ⟨44, _⟩ => ⟨S16x8192x8192, .f32⟩
  | .hbm, ⟨45, _⟩ => ⟨S16x8192x8192, .f32⟩
  | .hbm, ⟨46, _⟩ => ⟨S_, .f32⟩
  | .hbm, ⟨47, _⟩ => ⟨S_, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S_, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .i1⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S16x8192x8192, .f32⟩
  | .hbm, ⟨68, _⟩ => ⟨S_, .f32⟩
  | .hbm, ⟨69, _⟩ => ⟨S_, .f32⟩
  | .hbm, ⟨70, _⟩ => ⟨S16x8192x8192, .i1⟩
  | .hbm, ⟨71, _⟩ => ⟨S16x8192x8192, .f32⟩
  | .hbm, ⟨72, _⟩ => ⟨S16x8192x8192, .f32⟩
  | .hbm, ⟨73, _⟩ => ⟨S16x8192x128, .f32⟩
  | .hbm, ⟨74, _⟩ => ⟨S8192x16x128, .f32⟩
  | .hbm, ⟨75, _⟩ => ⟨S8192x2048, .f32⟩
  | .hbm, ⟨76, _⟩ => ⟨S8192x2048, .bf16⟩
  | .hbm, ⟨77, _⟩ => ⟨S1x8192x2048, .f32⟩
  | .hbm, ⟨78, _⟩ => ⟨S8192x2048, .f32⟩
  | .hbm, ⟨79, _⟩ => ⟨S1x8192x2048, .f32⟩
  | .hbm, ⟨80, _⟩ => ⟨S8192x2048, .f32⟩
  | .hbm, ⟨81, _⟩ => ⟨S8192x16x128, .f32⟩
  | .hbm, ⟨82, _⟩ => ⟨S16x8192x128, .f32⟩
  | .hbm, ⟨83, _⟩ => ⟨S8192x16x128, .f32⟩
  | .hbm, ⟨84, _⟩ => ⟨S16x8192x128, .f32⟩
  | .hbm, ⟨85, _⟩ => ⟨S8192, .i32⟩
  | .hbm, ⟨86, _⟩ => ⟨S1x8192, .i32⟩
  | .hbm, ⟨87, _⟩ => ⟨S8192x1, .i32⟩
  | .hbm, ⟨88, _⟩ => ⟨S8192x8192, .i32⟩
  | .hbm, ⟨89, _⟩ => ⟨S8192x8192, .i32⟩
  | .hbm, ⟨90, _⟩ => ⟨S8192x8192, .i1⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S16x8192x8192, .f32⟩
  | .hbm, ⟨97, _⟩ => ⟨S_, .f32⟩
  | .hbm, ⟨98, _⟩ => ⟨S16x8192x8192, .f32⟩
  | .hbm, ⟨99, _⟩ => ⟨S16x8192x8192, .f32⟩
  | .hbm, ⟨100, _⟩ => ⟨S16x8192x8192, .f32⟩
  | .hbm, ⟨101, _⟩ => ⟨S16x8192x8192, .f32⟩
  | .hbm, ⟨102, _⟩ => ⟨S16x8192x8192, .i1⟩
  | .hbm, ⟨103, _⟩ => ⟨S16x8192x8192, .f32⟩
  | .hbm, ⟨104, _⟩ => ⟨S16x8192x8192, .f32⟩
  | .hbm, ⟨105, _⟩ => ⟨S16x8192x8192, .f32⟩
  | .hbm, ⟨106, _⟩ => ⟨S16x8192x8192, .f32⟩
  | .hbm, ⟨107, _⟩ => ⟨S16x8192x8192, .f32⟩
  | .hbm, ⟨108, _⟩ => ⟨S16x8192x8192, .f32⟩
  | .hbm, ⟨109, _⟩ => ⟨S16x8192x8192, .f32⟩
  | .hbm, ⟨110, _⟩ => ⟨S16x8192x8192, .f32⟩
  | .hbm, ⟨111, _⟩ => ⟨S16x8192x8192, .f32⟩
  | .hbm, ⟨112, _⟩ => ⟨S_, .f32⟩
  | .hbm, ⟨113, _⟩ => ⟨S_, .f32⟩
  | .hbm, ⟨114, _⟩ => ⟨S16x8192x8192, .i1⟩
  | .hbm, ⟨115, _⟩ => ⟨S16x8192x8192, .f32⟩
  | .hbm, ⟨116, _⟩ => ⟨S16x8192x8192, .f32⟩
  | .hbm, ⟨117, _⟩ => ⟨S_, .f32⟩
  | .hbm, ⟨118, _⟩ => ⟨S_, .f32⟩
  | .hbm, ⟨119, _⟩ => ⟨S16x8192x8192, .f32⟩
  | .hbm, ⟨120, _⟩ => ⟨S16x8192x8192, .f32⟩
  | .hbm, ⟨121, _⟩ => ⟨S16x8192x16, .f32⟩
  | .hbm, ⟨122, _⟩ => ⟨S16x16x512x16, .f32⟩
  | .hbm, ⟨123, _⟩ => ⟨S16x16x16x512, .f32⟩
  | .hbm, ⟨124, _⟩ => ⟨S16x16x16x1x512, .f32⟩
  | .hbm, ⟨125, _⟩ => ⟨S16x16x16x8x512, .f32⟩
  | .hbm, ⟨126, _⟩ => ⟨S16x16x128x512, .f32⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_cst : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_2 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call5_v0 : Ref sig .tc := ⟨.hbm, 96, rfl⟩
abbrev main_call5_call0_cst : Ref sig .tc := ⟨.hbm, 97, rfl⟩
abbrev main_call5_call0_v0 : Ref sig .tc := ⟨.hbm, 98, rfl⟩
abbrev main_call5_call0_v1 : Ref sig .tc := ⟨.hbm, 99, rfl⟩
abbrev main_call5_call0_v2 : Ref sig .tc := ⟨.hbm, 100, rfl⟩
abbrev main_call5_call0_v3 : Ref sig .tc := ⟨.hbm, 101, rfl⟩
abbrev main_call5_call0_v4 : Ref sig .tc := ⟨.hbm, 102, rfl⟩
abbrev main_call5_call0_v5 : Ref sig .tc := ⟨.hbm, 103, rfl⟩
abbrev main_call5_call0_v6 : Ref sig .tc := ⟨.hbm, 104, rfl⟩
abbrev main_call5_call0_v7 : Ref sig .tc := ⟨.hbm, 105, rfl⟩
abbrev main_call5_call0_v8 : Ref sig .tc := ⟨.hbm, 106, rfl⟩
abbrev main_call5_call0_v9 : Ref sig .tc := ⟨.hbm, 107, rfl⟩
abbrev main_call5_call0_v10 : Ref sig .tc := ⟨.hbm, 108, rfl⟩
abbrev main_call5_call0_v11 : Ref sig .tc := ⟨.hbm, 109, rfl⟩
abbrev main_call5_v1 : Ref sig .tc := ⟨.hbm, 110, rfl⟩
abbrev main_v53 : Ref sig .tc := ⟨.hbm, 111, rfl⟩
abbrev main_cst_3 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_v54 : Ref sig .tc := ⟨.hbm, 116, rfl⟩
abbrev main_call7_cst : Ref sig .tc := ⟨.hbm, 117, rfl⟩
abbrev main_call7_v0 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩

abbrev nD : Nat := 1
abbrev τ : Topo := Topo.v7x

variable {F : FTy → Type} [FloatOps F]
-- ==== KernelAdamGate.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S1x512x512 : Shape := ⟨3, ![1, 512, 512]⟩
abbrev S3x512x512 : Shape := ⟨3, ![3, 512, 512]⟩
abbrev S512x512 : Shape := ⟨2, ![512, 512]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S4x2048x512, .bf16⟩
  | .hbm, ⟨4, _⟩ => ⟨S3x2048x512, .bf16⟩
  | .hbm, ⟨5, _⟩ => ⟨S1x2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S3x512x512, .bf16⟩
  | .local _ .vmem, ⟨9, _⟩ => ⟨S3x512x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .smem, ⟨0, _⟩ => ⟨S1, .i32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamGateIdeal.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S1x512x512 : Shape := ⟨3, ![1, 512, 512]⟩
abbrev S3x512x512 : Shape := ⟨3, ![3, 512, 512]⟩
abbrev S512x512 : Shape := ⟨2, ![512, 512]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S4x2048x512, .bf16⟩
  | .hbm, ⟨4, _⟩ => ⟨S3x2048x512, .bf16⟩
  | .hbm, ⟨5, _⟩ => ⟨S1x2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S3x512x512, .bf16⟩
  | .local _ .vmem, ⟨9, _⟩ => ⟨S3x512x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .smem, ⟨0, _⟩ => ⟨S1, .i32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamGateIdeal.lean ====
abbrev S1x2048x512 : Shape := ⟨3, ![1, 2048, 512]⟩
abbrev S4x2048x512 : Shape := ⟨3, ![4, 2048, 512]⟩
abbrev S3x2048x512 : Shape := ⟨3, ![3, 2048, 512]⟩
abbrev S1 : Shape := ⟨1, ![1]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S2048x512 : Shape := ⟨2, ![2048, 512]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S4x2048x512, .bf16⟩
  | .hbm, ⟨4, _⟩ => ⟨S3x2048x512, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x2048x512, .f32⟩
  | .hbm, ⟨12, _⟩ => ⟨S_, .f32⟩
  | .hbm, ⟨13, _⟩ => ⟨S_, .f32⟩
  | .hbm, ⟨14, _⟩ => ⟨S4x2048x512, .i1⟩
  | .hbm, ⟨15, _⟩ => ⟨S4x2048x512, .f32⟩
  | .hbm, ⟨16, _⟩ => ⟨S4x2048x512, .f32⟩
  | .hbm, ⟨17, _⟩ => ⟨S_, .f32⟩
  | .hbm, ⟨18, _⟩ => ⟨S2048x512, .f32⟩
  | .hbm, ⟨19, _⟩ => ⟨S3x2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S1x2048x512, .f32⟩
  | .hbm, ⟨24, _⟩ => ⟨S_, .f32⟩
  | .hbm, ⟨25, _⟩ => ⟨S1x2048x512, .f32⟩
  | .hbm, ⟨26, _⟩ => ⟨S1x2048x512, .f32⟩
  | .hbm, ⟨27, _⟩ => ⟨S_, .f32⟩
  | .hbm, ⟨28, _⟩ => ⟨S1x2048x512, .f32⟩
  | .hbm, ⟨29, _⟩ => ⟨S1x2048x512, .f32⟩
  | .hbm, ⟨30, _⟩ => ⟨S1x2048x512, .f32⟩
  | .hbm, ⟨31, _⟩ => ⟨S_, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S_, .f32⟩
  | .hbm, ⟨36, _⟩ => ⟨S1x2048x512, .f32⟩
  | .hbm, ⟨37, _⟩ => ⟨S1x2048x512, .f32⟩
  | .hbm, ⟨38, _⟩ => ⟨S1x2048x512, .f32⟩
  | .hbm, ⟨39, _⟩ => ⟨S_, .f32⟩
  | .hbm, ⟨40, _⟩ => ⟨S1x2048x512, .f32⟩
  | .hbm, ⟨41, _⟩ => ⟨S1x2048x512, .f32⟩
  | .hbm, ⟨42, _⟩ => ⟨S_, .f32⟩
  | .hbm, ⟨43, _⟩ => ⟨S1x2048x512, .f32⟩
  | .hbm, ⟨44, _⟩ => ⟨S1x2048x512, .f32⟩
  | .hbm, ⟨45, _⟩ => ⟨S1x2048x512, .f32⟩
  | .hbm, ⟨46, _⟩ => ⟨S_, .f32⟩
  | .hbm, ⟨47, _⟩ => ⟨S1x2048x512, .f32⟩
  | .hbm, ⟨48, _⟩ => ⟨S1x2048x512, .f32⟩
  | .hbm, ⟨49, _⟩ => ⟨S1x2048x512, .f32⟩
  | .hbm, ⟨50, _⟩ => ⟨S_, .f32⟩
  | .hbm, ⟨51, _⟩ => ⟨S1x2048x512, .f32⟩
  | .hbm, ⟨52, _⟩ => ⟨S1x2048x512, .f32⟩
  | .hbm, ⟨53, _⟩ => ⟨S1x2048x512, .f32⟩
  | .hbm, ⟨54, _⟩ => ⟨S_, .f32⟩
  | .hbm, ⟨55, _⟩ => ⟨S1x2048x512, .f32⟩
  | .hbm, ⟨56, _⟩ => ⟨S1x2048x512, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== KernelAdamQkv.lean ====
abbrev S1x2048x768 : Shape := ⟨3, ![1, 2048, 768]⟩
abbrev S4x2048x768 : Shape := ⟨3, ![4, 2048, 768]⟩
abbrev S3x2048x768 : Shape := ⟨3, ![3, 2048, 768]⟩
abbrev S1 : Shape := ⟨1, ![1]⟩
abbrev S1x256x768 : Shape := ⟨3, ![1, 256, 768]⟩
abbrev S3x256x768 : Shape := ⟨3, ![3, 256, 768]⟩
abbrev S256x768 : Shape := ⟨2, ![256, 768]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S3x2048x768, .bf16⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .bf16⟩
  | .local _ .vmem, ⟨7, _⟩ => ⟨S1x256x768, .bf16⟩
  | .local _ .vmem, ⟨8, _⟩ => ⟨S3x256x768, .bf16⟩
  | .local _ .vmem, ⟨9, _⟩ => ⟨S3x256x768, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamQkvIdeal.lean ====
abbrev S1x2048x768 : Shape := ⟨3, ![1, 2048, 768]⟩
abbrev S4x2048x768 : Shape := ⟨3, ![4, 2048, 768]⟩
abbrev S3x2048x768 : Shape := ⟨3, ![3, 2048, 768]⟩
abbrev S1 : Shape := ⟨1, ![1]⟩
abbrev S1x256x768 : Shape := ⟨3, ![1, 256, 768]⟩
abbrev S3x256x768 : Shape := ⟨3, ![3, 256, 768]⟩
abbrev S256x768 : Shape := ⟨2, ![256, 768]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S3x2048x768, .bf16⟩
  | .hbm, ⟨5, _⟩ => ⟨S1x2048x768, .f32⟩
  | .hbm, ⟨6, _⟩ => ⟨S1x2048x768, .f32⟩
  | .hbm, ⟨7, _⟩ => ⟨S1x2048x768, .f32⟩
  | .hbm, ⟨8, _⟩ => ⟨S1x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .bf16⟩
  | .local _ .vmem, ⟨7, _⟩ => ⟨S1x256x768, .bf16⟩
  | .local _ .vmem, ⟨8, _⟩ => ⟨S3x256x768, .bf16⟩
  | .local _ .vmem, ⟨9, _⟩ => ⟨S3x256x768, .bf16⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .smem, ⟨0, _⟩ => ⟨S1, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamQkvIdeal.lean ====
abbrev S1x2048x768 : Shape := ⟨3, ![1, 2048, 768]⟩
abbrev S4x2048x768 : Shape := ⟨3, ![4, 2048, 768]⟩
abbrev S3x2048x768 : Shape := ⟨3, ![3, 2048, 768]⟩
abbrev S1 : Shape := ⟨1, ![1]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S2048x768 : Shape := ⟨2, ![2048, 768]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S3x2048x768, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x2048x768, .f32⟩
  | .hbm, ⟨12, _⟩ => ⟨S_, .f32⟩
  | .hbm, ⟨13, _⟩ => ⟨S_, .f32⟩
  | .hbm, ⟨14, _⟩ => ⟨S4x2048x768, .i1⟩
  | .hbm, ⟨15, _⟩ => ⟨S4x2048x768, .f32⟩
  | .hbm, ⟨16, _⟩ => ⟨S4x2048x768, .f32⟩
  | .hbm, ⟨17, _⟩ => ⟨S_, .f32⟩
  | .hbm, ⟨18, _⟩ => ⟨S2048x768, .f32⟩
  | .hbm, ⟨19, _⟩ => ⟨S3x2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S1x2048x768, .f32⟩
  | .hbm, ⟨24, _⟩ => ⟨S_, .f32⟩
  | .hbm, ⟨25, _⟩ => ⟨S1x2048x768, .f32⟩
  | .hbm, ⟨26, _⟩ => ⟨S1x2048x768, .f32⟩
  | .hbm, ⟨27, _⟩ => ⟨S_, .f32⟩
  | .hbm, ⟨28, _⟩ => ⟨S1x2048x768, .f32⟩
  | .hbm, ⟨29, _⟩ => ⟨S1x2048x768, .f32⟩
  | .hbm, ⟨30, _⟩ => ⟨S1x2048x768, .f32⟩
  | .hbm, ⟨31, _⟩ => ⟨S_, .f32⟩
  | .hbm, ⟨32, _⟩ => ⟨S1x2048x768, .f32⟩
  | .hbm, ⟨33, _⟩ => ⟨S1x2048x768, .f32⟩
  | .hbm, ⟨34, _⟩ => ⟨S1x2048x768, .f32⟩
  | .hbm, ⟨35, _⟩ => ⟨S_, .f32⟩
  | .hbm, ⟨36, _⟩ => ⟨S1x2048x768, .f32⟩
  | .hbm, ⟨37, _⟩ => ⟨S1x2048x768, .f32⟩
  | .hbm, ⟨38, _⟩ => ⟨S1x2048x768, .f32⟩
  | .hbm, ⟨39, _⟩ => ⟨S_, .f32⟩
  | .hbm, ⟨40, _⟩ => ⟨S1x2048x768, .f32⟩
  | .hbm, ⟨41, _⟩ => ⟨S1x2048x768, .f32⟩
  | .hbm, ⟨42, _⟩ => ⟨S_, .f32⟩
  | .hbm, ⟨43, _⟩ => ⟨S1x2048x768, .f32⟩
  | .hbm, ⟨44, _⟩ => ⟨S1x2048x768, .f32⟩
  | .hbm, ⟨45, _⟩ => ⟨S1x2048x768, .f32⟩
  | .hbm, ⟨46, _⟩ => ⟨S_, .f32⟩
  | .hbm, ⟨47, _⟩ => ⟨S1x2048x768, .f32⟩
  | .hbm, ⟨48, _⟩ => ⟨S1x2048x768, .f32⟩
  | .hbm, ⟨49, _⟩ => ⟨S1x2048x768, .f32⟩
  | .hbm, ⟨50, _⟩ => ⟨S_, .f32⟩
  | .hbm, ⟨51, _⟩ => ⟨S1x2048x768, .f32⟩
  | .hbm, ⟨52, _⟩ => ⟨S1x2048x768, .f32⟩
  | .hbm, ⟨53, _⟩ => ⟨S1x2048x768, .f32⟩
  | .hbm, ⟨54, _⟩ => ⟨S_, .f32⟩
  | .hbm, ⟨55, _⟩ => ⟨S1x2048x768, .f32⟩
  | .hbm, ⟨56, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== KernelAdamOut.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S1 : Shape := ⟨1, ![1]⟩
abbrev S1x128x2048 : Shape := ⟨3, ![1, 128, 2048]⟩
abbrev S3x128x2048 : Shape := ⟨3, ![3, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1x256x2048, .f32⟩
  | .hbm, ⟨6, _⟩ => ⟨S1x256x2048, .f32⟩
  | .hbm, ⟨7, _⟩ => ⟨S1x256x2048, .f32⟩
  | .hbm, ⟨8, _⟩ => ⟨S1x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamOutIdeal.lean ====
abbrev S1x256x2048 : Shape := ⟨3, ![1, 256, 2048]⟩
abbrev S4x256x2048 : Shape := ⟨3, ![4, 256, 2048]⟩
abbrev S3x256x2048 : Shape := ⟨3, ![3, 256, 2048]⟩
abbrev S1 : Shape := ⟨1, ![1]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S256x2048 : Shape := ⟨2, ![256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S3x256x2048, .bf16⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x256x2048, .f32⟩
  | .hbm, ⟨12, _⟩ => ⟨S_, .f32⟩
  | .hbm, ⟨13, _⟩ => ⟨S_, .f32⟩
  | .hbm, ⟨14, _⟩ => ⟨S4x256x2048, .i1⟩
  | .hbm, ⟨15, _⟩ => ⟨S4x256x2048, .f32⟩
  | .hbm, ⟨16, _⟩ => ⟨S4x256x2048, .f32⟩
  | .hbm, ⟨17, _⟩ => ⟨S_, .f32⟩
  | .hbm, ⟨18, _⟩ => ⟨S256x2048, .f32⟩
  | .hbm, ⟨19, _⟩ => ⟨S3x256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S1x256x2048, .f32⟩
  | .hbm, ⟨24, _⟩ => ⟨S_, .f32⟩
  | .hbm, ⟨25, _⟩ => ⟨S1x256x2048, .f32⟩
  | .hbm, ⟨26, _⟩ => ⟨S1x256x2048, .f32⟩
  | .hbm, ⟨27, _⟩ => ⟨S_, .f32⟩
  | .hbm, ⟨28, _⟩ => ⟨S1x256x2048, .f32⟩
  | .hbm, ⟨29, _⟩ => ⟨S1x256x2048, .f32⟩
  | .hbm, ⟨30, _⟩ => ⟨S1x256x2048, .f32⟩
  | .hbm, ⟨31, _⟩ => ⟨S_, .f32⟩
  | .hbm, ⟨32, _⟩ => ⟨S1x256x2048, .f32⟩
  | .hbm, ⟨33, _⟩ => ⟨S1x256x2048, .f32⟩
  | .hbm, ⟨34, _⟩ => ⟨S1x256x2048, .f32⟩
  | .hbm, ⟨35, _⟩ => ⟨S_, .f32⟩
  | .hbm, ⟨36, _⟩ => ⟨S1x256x2048, .f32⟩
  | .hbm, ⟨37, _⟩ => ⟨S1x256x2048, .f32⟩
  | .hbm, ⟨38, _⟩ => ⟨S1x256x2048, .f32⟩
  | .hbm, ⟨39, _⟩ => ⟨S_, .f32⟩
  | .hbm, ⟨40, _⟩ => ⟨S1x256x2048, .f32⟩
  | .hbm, ⟨41, _⟩ => ⟨S1x256x2048, .f32⟩
  | .hbm, ⟨42, _⟩ => ⟨S_, .f32⟩
  | .hbm, ⟨43, _⟩ => ⟨S1x256x2048, .f32⟩
  | .hbm, ⟨44, _⟩ => ⟨S1x256x2048, .f32⟩
  | .hbm, ⟨45, _⟩ => ⟨S1x256x2048, .f32⟩
  | .hbm, ⟨46, _⟩ => ⟨S_, .f32⟩
  | .hbm, ⟨47, _⟩ => ⟨S1x256x2048, .f32⟩
  | .hbm, ⟨48, _⟩ => ⟨S1x256x2048, .f32⟩
  | .hbm, ⟨49, _⟩ => ⟨S1x256x2048, .f32⟩
  | .hbm, ⟨50, _⟩ => ⟨S_, .f32⟩
  | .hbm, ⟨51, _⟩ => ⟨S1x256x2048, .f32⟩
  | .hbm, ⟨52, _⟩ => ⟨S1x256x2048, .f32⟩
  | .hbm, ⟨53, _⟩ => ⟨S1x256x2048, .f32⟩
  | .hbm, ⟨54, _⟩ => ⟨S_, .f32⟩
  | .hbm, ⟨55, _⟩ => ⟨S1x256x2048, .f32⟩
  | .hbm, ⟨56, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== KernelAdamSmall.lean ====
abbrev S1816x128 : Shape := ⟨2, ![1816, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S1816x128, .f32⟩
  | .hbm, ⟨1, _⟩ => ⟨S1816x128, .f32⟩
  | .hbm, ⟨2, _⟩ => ⟨S1816x128, .f32⟩
  | .hbm, ⟨3, _⟩ => ⟨S1816x128, .f32⟩
  | .hbm, ⟨4, _⟩ => ⟨S1816x128, .f32⟩
  | .hbm, ⟨5, _⟩ => ⟨S1816x128, .f32⟩
  | .hbm, ⟨6, _⟩ => ⟨S1816x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S1816x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![227], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamSmallIdeal.lean ====
abbrev S1816x128 : Shape := ⟨2, ![1816, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1816x128, .f32⟩
  | .hbm, ⟨1, _⟩ => ⟨S1816x128, .f32⟩
  | .hbm, ⟨2, _⟩ => ⟨S1816x128, .f32⟩
  | .hbm, ⟨3, _⟩ => ⟨S1816x128, .f32⟩
  | .hbm, ⟨4, _⟩ => ⟨S_, .f32⟩
  | .hbm, ⟨5, _⟩ => ⟨S1816x128, .f32⟩
  | .hbm, ⟨6, _⟩ => ⟨S1816x128, .f32⟩
  | .hbm, ⟨7, _⟩ => ⟨S_, .f32⟩
  | .hbm, ⟨8, _⟩ => ⟨S1816x128, .f32⟩
  | .hbm, ⟨9, _⟩ => ⟨S1816x128, .f32⟩
  | .hbm, ⟨10, _⟩ => ⟨S1816x128, .f32⟩
  | .hbm, ⟨11, _⟩ => ⟨S_, .f32⟩
  | .hbm, ⟨12, _⟩ => ⟨S1816x128, .f32⟩
  | .hbm, ⟨13, _⟩ => ⟨S1816x128, .f32⟩
  | .hbm, ⟨14, _⟩ => ⟨S1816x128, .f32⟩
  | .hbm, ⟨15, _⟩ => ⟨S_, .f32⟩
  | .hbm, ⟨16, _⟩ => ⟨S1816x128, .f32⟩
  | .hbm, ⟨17, _⟩ => ⟨S1816x128, .f32⟩
  | .hbm, ⟨18, _⟩ => ⟨S1816x128, .f32⟩
  | .hbm, ⟨19, _⟩ => ⟨S_, .f32⟩
  | .hbm, ⟨20, _⟩ => ⟨S1816x128, .f32⟩
  | .hbm, ⟨21, _⟩ => ⟨S1816x128, .f32⟩
  | .hbm, ⟨22, _⟩ => ⟨S_, .f32⟩
  | .hbm, ⟨23, _⟩ => ⟨S1816x128, .f32⟩
  | .hbm, ⟨24, _⟩ => ⟨S1816x128, .f32⟩
  | .hbm, ⟨25, _⟩ => ⟨S1816x128, .f32⟩
  | .hbm, ⟨26, _⟩ => ⟨S_, .f32⟩
  | .hbm, ⟨27, _⟩ => ⟨S1816x128, .f32⟩
  | .hbm, ⟨28, _⟩ => ⟨S1816x128, .f32⟩
  | .hbm, ⟨29, _⟩ => ⟨S1816x128, .f32⟩
  | .hbm, ⟨30, _⟩ => ⟨S_, .f32⟩
  | .hbm, ⟨31, _⟩ => ⟨S1816x128, .f32⟩
  | .hbm, ⟨32, _⟩ => ⟨S1816x128, .f32⟩
  | .hbm, ⟨33, _⟩ => ⟨S1816x128, .f32⟩
  | .hbm, ⟨34, _⟩ => ⟨S_, .f32⟩
  | .hbm, ⟨35, _⟩ => ⟨S1816x128, .f32⟩
  | .hbm, ⟨36, _⟩ => ⟨S1816x128, .f32⟩
  | _, _ => ⟨S1816x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSumSmall.lean ====
abbrev S22656x128 : Shape := ⟨2, ![22656, 128]⟩
abbrev S8x2832x128 : Shape := ⟨3, ![8, 2832, 128]⟩
abbrev S2832x128 : Shape := ⟨2, ![2832, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 3
  | .vmem => 4
  | .smem => 0
  | _ => 0

abbrev bufTy : (tb : Table) → Fin (tcTables nBuf tb) → BufTy
  | .hbm, ⟨0, _⟩ => ⟨S22656x128, .f32⟩
  | .hbm, ⟨1, _⟩ => ⟨S8x2832x128, .f32⟩
  | .hbm, ⟨2, _⟩ => ⟨S2832x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S22656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![177], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumSmallIdeal.lean ====
abbrev S22656x128 : Shape := ⟨2, ![22656, 128]⟩
abbrev S8x2832x128 : Shape := ⟨3, ![8, 2832, 128]⟩
abbrev S_ : Shape := ⟨0, ![]⟩
abbrev S2832x128 : Shape := ⟨2, ![2832, 128]⟩

abbrev nBuf : Space → Nat
  | .hbm => 4
  | .vmem => 0
  | .smem => 0
  | _ => 0

abbrev bufTy : (tb : Table) → Fin (tcTables nBuf tb) → BufTy
  | .hbm, ⟨0, _⟩ => ⟨S22656x128, .f32⟩
  | .hbm, ⟨1, _⟩ => ⟨S8x2832x128, .f32⟩
  | .hbm, ⟨2, _⟩ => ⟨S_, .f32⟩
  | .hbm, ⟨3, _⟩ => ⟨S2832x128, .f32⟩
  | _, _ => ⟨S22656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reals.lean ====
/-
  Arrays of finite numbers. An array over the extended reals whose entries are all real numbers is described here by a
  function of natural-number coordinates, so that a slice is a shift of the function and a sum runs over an interval of
  numbers. Each lemma says what one vector operation does to such descriptions.
-/
module

public import Idealize.ShloMosaic.Lib.Pointwise
public import Idealize.ShloMosaic.PureOps.Ideal.Laws

@[expose] public section

set_option maxRecDepth 16384

noncomputable section

namespace Stick

open Idealize.ShloMosaic

/-- The entries of the rank-2 array `x` are the real numbers `f r c`. -/
def Is2 {n m : Nat} {φ : FTy} (x : FVec Ideal ⟨2, ![n, m]⟩ φ) (f : ℕ → ℕ → ℝ) : Prop :=
  ∀ (r : Fin n) (c : Fin m), x (ix2 r c) = ((f r c : ℝ) : EReal)

/-- The entries of the rank-3 array `x` are the real numbers `f a r c`. -/
def Is3 {k n m : Nat} {φ : FTy} (x : FVec Ideal ⟨3, ![k, n, m]⟩ φ) (f : ℕ → ℕ → ℕ → ℝ) : Prop :=
  ∀ (a : Fin k) (r : Fin n) (c : Fin m), x (ix3 a r c) = ((f a r c : ℝ) : EReal)

variable {n m : Nat} {φ : FTy} {x y : FVec Ideal ⟨2, ![n, m]⟩ φ} {f g : ℕ → ℕ → ℝ}

/-- A description may be replaced by one that agrees with it on the array's coordinates. -/
theorem Is2.congr (hx : Is2 x f) (h : ∀ r c, r < n → c < m → f r c = g r c) : Is2 x g :=
  fun r c => by rw [hx r c, h r c r.isLt c.isLt]

/-- A finite sum of real numbers, read in the extended reals. -/
theorem coe_sum (k : ℕ) (f : ℕ → ℝ) : (∑ i : Fin k, ((f i : ℝ) : EReal)) = ((∑ i ∈ Finset.range k, f i : ℝ) : EReal) := by
  rw [← Finset.sum_range (fun i => ((f i : ℝ) : EReal))]
  induction k with
  | zero => simp
  | succ k ih => rw [Finset.sum_range_succ, Finset.sum_range_succ, ih, EReal.coe_add]

theorem Is2.add (hx : Is2 x f) (hy : Is2 y g) : Is2 (addf x y) (fun r c => f r c + g r c) :=
  fun r c => by pointwise; rw [hx r c, hy r c, EReal.coe_add]

theorem Is2.sub (hx : Is2 x f) (hy : Is2 y g) : Is2 (subf x y) (fun r c => f r c - g r c) :=
  fun r c => by pointwise; rw [hx r c, hy r c, EReal.coe_sub]

theorem Is2.mul (hx : Is2 x f) (hy : Is2 y g) : Is2 (mulf x y) (fun r c => f r c * g r c) :=
  fun r c => by pointwise; rw [hx r c, hy r c, EReal.coe_mul]

theorem Is2.exp (hx : Is2 x f) : Is2 (Idealize.ShloMosaic.exp x) (fun r c => Real.exp (f r c)) :=
  fun r c => by pointwise; rw [hx r c, Ideal.exp_coe]

theorem Is2.trunc {ψ : FTy} (h : ψ.bits < φ.bits) (hx : Is2 x f) : Is2 (truncf ψ x h) f :=
  fun r c => by pointwise; rw [hx r c]

theorem Is2.ext {ψ : FTy} (h : φ.bits < ψ.bits) (hx : Is2 x f) : Is2 (extf ψ x h) f :=
  fun r c => by pointwise; rw [hx r c]

/-- Zero, spelt as the float's word. -/
theorem lit_zero : (Scalar.ofBits .f32 0x00000000#32 : Ideal .f32) = ((0 : ℝ) : EReal) := by
  show Ideal.ofBits .f32 0x00000000#32 = _
  rw [Ideal.ofBits_zero_f32]; rfl

/-- One, spelt as the float's word. -/
theorem lit_one : (Scalar.ofBits .f32 0x3F800000#32 : Ideal .f32) = ((1 : ℝ) : EReal) := by
  show Ideal.ofBits .f32 0x3F800000#32 = _
  rw [Ideal.ofBits_one_f32]; rfl

/-- The scale by which a score is multiplied: the rational number of the float's word. -/
def cs : ℝ := 11863283 * ((2 : ℝ) ^ 27)⁻¹

theorem lit_cs : (Scalar.ofBits .f32 0x3DB504F3#32 : Ideal .f32) = ((cs : ℝ) : EReal) := by
  show Ideal.ofBits .f32 0x3DB504F3#32 = _
  unfold cs
  simp [Ideal.ofBits, Ideal.ieee]

/-- A splat of a real number. -/
theorem Is2.splat {v : Ideal φ} {c : ℝ} (h : v = ((c : ℝ) : EReal)) : Is2 (broadcast (⟨2, ![n, m]⟩ : Shape) v) (fun _ _ => c) :=
  fun _ _ => h

/-- The logarithm of the logistic function as the kernel spells it. -/
def lsig (z : ℝ) : ℝ := min z 0 - Real.log (1 + Real.exp (0 - max z (-z)))

/-- The absolute value of a real number. -/
theorem absf_coe (z : ℝ) : FloatOps.absf (F := Ideal) (φ := .f32) ((z : ℝ) : EReal) = ((max z (-z) : ℝ) : EReal) := by
  rw [Ideal.absf_def, ← EReal.coe_neg]; exact (EReal.coe_strictMono.monotone.map_max).symm

/-- The logarithm of a positive real number. -/
theorem log_pos {z : ℝ} (h : 0 < z) : Ideal.log ((z : ℝ) : EReal) = ((Real.log z : ℝ) : EReal) := by
  rw [Ideal.log_coe, if_neg (not_le.2 h)]

theorem Is2.lsig {x : FVec Ideal ⟨2, ![n, m]⟩ .f32} (hx : Is2 x f) :
    Is2 (subf (minimumf x (broadcast (⟨2, ![n, m]⟩ : Shape) (Scalar.ofBits .f32 0x00000000#32)))
      (Idealize.ShloMosaic.log (addf (broadcast (⟨2, ![n, m]⟩ : Shape) (Scalar.ofBits .f32 0x3F800000#32))
        (Idealize.ShloMosaic.exp (subf (broadcast (⟨2, ![n, m]⟩ : Shape) (Scalar.ofBits .f32 0x00000000#32)) (absf x))))))
      (fun r c => Stick.lsig (f r c)) := by
  intro r c
  have hp : 0 < 1 + Real.exp (0 - max (f r c) (-(f r c))) := by
    have := Real.exp_pos (0 - max (f r c) (-(f r c))); linarith
  show min (x (ix2 r c)) (Scalar.ofBits .f32 0x00000000#32 : Ideal .f32) - Ideal.log ((Scalar.ofBits .f32 0x3F800000#32 : Ideal .f32)
    + Ideal.exp ((Scalar.ofBits .f32 0x00000000#32 : Ideal .f32) - FloatOps.absf (F := Ideal) (φ := .f32) (x (ix2 r c)))) = _
  rw [lit_zero, lit_one, hx r c, absf_coe, ← EReal.coe_sub, Ideal.exp_coe, ← EReal.coe_add, log_pos hp,
    ← EReal.coe_strictMono.monotone.map_min, ← EReal.coe_sub]
  rfl

/-- A slice of 128 columns of a 512-column array that begins at column `o`. -/
theorem Is2.cols {x : FVec Ideal ⟨2, ![512, 512]⟩ φ} (hx : Is2 x f) (o : ℕ)
    (h : (⟨2, ![512, 512]⟩ : Shape).Slices ![0, o] ⟨2, ![512, 128]⟩) :
    Is2 (extractStridedSlice (⟨2, ![512, 128]⟩ : Shape) ![0, o] x h) (fun r c => f r (o + c)) := by
  intro r c
  pointwise
  exact hx _ _

/-- The upper and the lower half of an array of 1024 rows. -/
theorem Is2.rows {x : FVec Ideal ⟨2, ![1024, 128]⟩ φ} (hx : Is2 x f) (o : ℕ)
    (h : (⟨2, ![1024, 128]⟩ : Shape).Slices ![o, 0] ⟨2, ![512, 128]⟩) :
    Is2 (extractStridedSlice (⟨2, ![512, 128]⟩ : Shape) ![o, 0] x h) (fun r c => f (o + r) c) := by
  intro r c
  pointwise
  exact hx _ _

/-- Two arrays of 512 rows, one above the other. -/
theorem Is2.stack {x y : FVec Ideal ⟨2, ![512, 128]⟩ φ} (hx : Is2 x f) (hy : Is2 y g)
    (h : Shape.Concatenates [(⟨2, ![512, 128]⟩ : Shape), ⟨2, ![512, 128]⟩] (⟨2, ![1024, 128]⟩ : Shape) 0) :
    Is2 (concatenate (⟨2, ![1024, 128]⟩ : Shape) 0 [⟨⟨2, ![512, 128]⟩, x⟩, ⟨⟨2, ![512, 128]⟩, y⟩] h)
      (fun r c => if r < 512 then f r c else g (r - 512) c) := by
  intro r c
  pointwise
  by_cases hr : (r : ℕ) < 512
  · rw [dif_pos hr, if_pos hr]; exact hx _ _
  · rw [dif_neg hr, if_neg hr]; exact hy _ _

/-- The sums of the 128 entries of each row, spread over 128 columns. -/
theorem Is2.edge {x : FVec Ideal ⟨2, ![512, 128]⟩ .f32} (hx : Is2 x f)
    (h1 : (⟨2, ![512, 128]⟩ : Shape).Reduces [1] ⟨1, ![512]⟩)
    (h2 : (⟨1, ![512]⟩ : Shape).ShapeCasts ⟨2, ![512, 1]⟩) :
    Is2 (shapeCast (⟨2, ![512, 1]⟩ : Shape) (multiReduction .add [1] (⟨1, ![512]⟩ : Shape) x 0x00000000#32 h1 (.inl rfl) rfl) h2)
      (fun r _ => ∑ k ∈ Finset.range 128, f r k) := by
  intro r c
  pointwise
  rw [← coe_sum]
  exact Finset.sum_congr rfl fun k _ => hx r k

/-- A column spread over 128 columns. -/
theorem Is2.spread {x : FVec Ideal ⟨2, ![512, 1]⟩ φ} {f : ℕ → ℝ} (hx : Is2 x (fun r _ => f r))
    (h : (⟨2, ![512, 1]⟩ : Shape).Broadcasts ⟨2, ![512, 128]⟩) :
    Is2 (broadcastTo (⟨2, ![512, 128]⟩ : Shape) x h) (fun r _ => f r) := by
  intro r c
  pointwise
  exact hx _ _

/-- Four arrays of 128 columns side by side. -/
theorem Is2.beside {x0 x1 x2 x3 : FVec Ideal ⟨2, ![512, 128]⟩ φ} {f : ℕ → ℕ → ℝ}
    (h0 : Is2 x0 (fun r c => f r c)) (h1 : Is2 x1 (fun r c => f r (128 + c))) (h2 : Is2 x2 (fun r c => f r (256 + c)))
    (h3 : Is2 x3 (fun r c => f r (384 + c)))
    (h : Shape.Concatenates [(⟨2, ![512, 128]⟩ : Shape), ⟨2, ![512, 128]⟩, ⟨2, ![512, 128]⟩, ⟨2, ![512, 128]⟩]
      (⟨2, ![512, 512]⟩ : Shape) 1) :
    Is2 (concatenate (⟨2, ![512, 512]⟩ : Shape) 1 [⟨⟨2, ![512, 128]⟩, x0⟩, ⟨⟨2, ![512, 128]⟩, x1⟩, ⟨⟨2, ![512, 128]⟩, x2⟩,
      ⟨⟨2, ![512, 128]⟩, x3⟩] h) f := by
  intro r c
  pointwise
  have e : (c : ℕ) < 512 := c.isLt
  by_cases a0 : (c : ℕ) < 128
  · rw [dif_pos a0]; exact h0 _ _
  rw [dif_neg a0]
  by_cases a1 : (c : ℕ) - 128 < 128
  · rw [dif_pos a1, h1]; congr 1; show f r (128 + ((c : ℕ) - 128)) = f r c; congr 1; omega
  rw [dif_neg a1]
  by_cases a2 : (c : ℕ) - 128 - 128 < 128
  · rw [dif_pos a2, h2]; congr 1; show f r (256 + ((c : ℕ) - 128 - 128)) = f r c; congr 1; omega
  rw [dif_neg a2, h3]; congr 1; show f r (384 + ((c : ℕ) - 128 - 128 - 128)) = f r c; congr 1; omega

end Stick
-- ==== Proof.Tile.lean ====
/-
  One tile of 512 queries and 512 keys: the vector operations of the kernel's body on arrays of finite numbers.
-/
module

public import proofs.«01_k».proof.Proof.Gen.KernelIdeal.Skeleton
public import proofs.«01_k».proof.Proof.Reals
public import Idealize.ShloMosaic.Lib.WordCmp

@[expose] public section

set_option maxRecDepth 16384

noncomputable section

namespace Stick

open Idealize.ShloMosaic Cert.KernelIdeal Cert.KernelIdeal.Gen

variable {φ ψ : FTy} {f g : ℕ → ℕ → ℝ}

theorem Is2.mulQK {x : FVec Ideal S512x128 .bf16} {y : FVec Ideal S512x128 .bf16} (hx : Is2 x f) (hy : Is2 y g) :
    Is2 (matmul dot_S512x128_S512x128_S512x512_1_1_0_0_n_n none x y (constant (F := Ideal) S512x512 .f32 0x00000000#32))
      (fun r c => ∑ i ∈ Finset.range 128, f r i * g c i) := by
  intro r c
  pointwise [dot_S512x128_S512x128_S512x512_1_1_0_0_n_n]
  rw [← coe_sum]
  exact Finset.sum_congr rfl fun k _ => by rw [hx r k, hy c k, EReal.coe_mul]

theorem Is2.mulTri {x : FVec Ideal S1024x128 .bf16} {y : FVec Ideal S128x128 .bf16} (hx : Is2 x f) (hy : Is2 y g) :
    Is2 (matmul dot_S1024x128_S128x128_S1024x128_1_0_0_1_n_n none x y (constant (F := Ideal) S1024x128 .f32 0x00000000#32))
      (fun r c => ∑ i ∈ Finset.range 128, f r i * g i c) := by
  intro r c
  pointwise [dot_S1024x128_S128x128_S1024x128_1_0_0_1_n_n]
  rw [← coe_sum]
  exact Finset.sum_congr rfl fun k _ => by rw [hx r k, hy k c, EReal.coe_mul]

theorem Is2.mulDS {x : FVec Ideal S512x512 .bf16} {y : FVec Ideal S512x128 .bf16} (hx : Is2 x f) (hy : Is2 y g) :
    Is2 (matmul dot_S512x512_S512x128_S512x128_1_0_0_1_n_n none x y (constant (F := Ideal) S512x128 .f32 0x00000000#32))
      (fun r c => ∑ i ∈ Finset.range 512, f r i * g i c) := by
  intro r c
  pointwise [dot_S512x512_S512x128_S512x128_1_0_0_1_n_n]
  rw [← coe_sum]
  exact Finset.sum_congr rfl fun k _ => by rw [hx r k, hy k c, EReal.coe_mul]

theorem Is2.mulDT {x : FVec Ideal S512x512 .bf16} {y : FVec Ideal S512x128 .bf16} (hx : Is2 x f) (hy : Is2 y g) :
    Is2 (matmul dot_S512x512_S512x128_S512x128_0_0_1_1_n_n none x y (constant (F := Ideal) S512x128 .f32 0x00000000#32))
      (fun r c => ∑ i ∈ Finset.range 512, f i r * g i c) := by
  intro r c
  pointwise [dot_S512x512_S512x128_S512x128_0_0_1_1_n_n]
  rw [← coe_sum]
  exact Finset.sum_congr rfl fun k _ => by rw [hx k r, hy k c, EReal.coe_mul]

/-- The triangle that sums the entries to the right of a column. -/
theorem is_right : Is2 (k0_pay47 (F := Ideal)) (fun r c => if c < r then 1 else 0) := by
  intro r c
  unfold k0_pay47
  pointwise
  rw [WordCmp.cmpi_sgt_ofNat (by omega) (by omega)]
  by_cases h : (c : ℕ) < r <;> simp [h, Scalar.select]

/-- The triangle that sums the entries to the left of a column. -/
theorem is_left : Is2 (k0_pay48 (F := Ideal)) (fun r c => if r < c then 1 else 0) := by
  intro r c
  unfold k0_pay48
  pointwise
  rw [WordCmp.cmpi_slt_ofNat (by omega) (by omega)]
  by_cases h : (r : ℕ) < c <;> simp [h, Scalar.select]

/-- The mask of the tile on the diagonal: the key lies strictly before the query. -/
theorem mask_at (r c : Fin 512) : k0_pay65 (ix2 r c) = BitVec.ofBool (decide ((c : ℕ) < r)) := by
  unfold k0_pay65
  pointwise
  have hr := r.isLt
  have hc := c.isLt
  rw [WordCmp.cmpi_sgt_eq]
  have e : (IntOp.subi (BitVec.ofNat 32 r) (BitVec.ofNat 32 c)).toInt = (r : ℤ) - c := by
    show (BitVec.ofNat 32 r - BitVec.ofNat 32 c).toInt = _
    rw [BitVec.toInt_sub, WordCmp.toInt_eq_toNat_of_lt_half (x := BitVec.ofNat 32 r) (by simp; omega),
      WordCmp.toInt_eq_toNat_of_lt_half (x := BitVec.ofNat 32 c) (by simp; omega), BitVec.toNat_ofNat, BitVec.toNat_ofNat,
      Nat.mod_eq_of_lt (by omega), Nat.mod_eq_of_lt (by omega)]
    simp only [Int.bmod_def]
    omega
  rw [e]
  congr 2
  simp

/-! ## Sums to the right and to the left of a column, inside 128 columns and across the tile -/

/-- The product with a triangle of two stacked arrays, the upper and the lower half of the result added. -/
def triSum (t : FVec Ideal S128x128 .bf16) (a b : FVec Ideal S512x128 .bf16) : FVec Ideal S512x128 .f32 :=
  addf
    (extractStridedSlice S512x128 ![0, 0] (matmul dot_S1024x128_S128x128_S1024x128_1_0_0_1_n_n none
      (concatenate S1024x128 0 [⟨S512x128, a⟩, ⟨S512x128, b⟩] concatenates_S512x128_S512x128_S1024x128_d0) t
      (constant S1024x128 .f32 0x00000000#32)) slices_S1024x128_o0_0_S512x128)
    (extractStridedSlice S512x128 ![512, 0] (matmul dot_S1024x128_S128x128_S1024x128_1_0_0_1_n_n none
      (concatenate S1024x128 0 [⟨S512x128, a⟩, ⟨S512x128, b⟩] concatenates_S512x128_S512x128_S1024x128_d0) t
      (constant S1024x128 .f32 0x00000000#32)) slices_S1024x128_o512_0_S512x128)

theorem is_triSum {t : FVec Ideal S128x128 .bf16} {a b : FVec Ideal S512x128 .bf16} {w : ℕ → ℕ → ℝ} (ht : Is2 t w)
    (ha : Is2 a f) (hb : Is2 b (fun _ _ => 0)) :
    Is2 (triSum t a b) (fun r c => ∑ k ∈ Finset.range 128, f r k * w k c) := by
  refine ((((ha.stack hb _).mulTri ht).rows 0 _).add (((ha.stack hb _).mulTri ht).rows 512 _)).congr fun r c hr hc => ?_
  simp [hr]

/-- Terms to the right of a column: those the triangle keeps are an interval of columns. -/
theorem right_terms (h : ℕ → ℝ) (o j : ℕ) (hj : j < 128) :
    ∑ k ∈ Finset.range 128, h (o + k) * (if j < k then 1 else 0) = ∑ k ∈ Finset.Ico (o + j + 1) (o + 128), h k := by
  rw [Finset.sum_Ico_eq_sum_range]
  have e : (Finset.range 128).filter (fun k => j < k) = Finset.Ico (j + 1) 128 := by
    ext k; simp; omega
  simp only [mul_ite, mul_one, mul_zero]
  rw [← Finset.sum_filter, e, Finset.sum_Ico_eq_sum_range, show o + 128 - (o + j + 1) = 128 - (j + 1) by omega]
  exact Finset.sum_congr rfl fun k _ => by congr 1; omega

/-- Terms to the left of a column. -/
theorem left_terms (h : ℕ → ℝ) (o j : ℕ) (hj : j < 128) :
    ∑ k ∈ Finset.range 128, h (o + k) * (if k < j then 1 else 0) = ∑ k ∈ Finset.Ico o (o + j), h k := by
  rw [Finset.sum_Ico_eq_sum_range]
  have e : (Finset.range 128).filter (fun k => k < j) = Finset.range j := by
    ext k; simp; omega
  simp only [mul_ite, mul_one, mul_zero]
  rw [← Finset.sum_filter, e, show o + j - o = j by omega]

/-- The 128 terms of one group of columns. -/
theorem all_terms (h : ℕ → ℝ) (o : ℕ) : ∑ k ∈ Finset.range 128, h (o + k) = ∑ k ∈ Finset.Ico o (o + 128), h k := by
  rw [Finset.sum_Ico_eq_sum_range, show o + 128 - o = 128 by omega]

/-- A row's sum over 128 columns, as a column. -/
def rowSum (x : FVec Ideal S512x128 .f32) : FVec Ideal S512x1 .f32 :=
  shapeCast S512x1 (multiReduction .add [1] S512 x 0x00000000#32 reduces_S512x128_S512 (.inl rfl) rfl) shapeCasts_S512_S512x1

/-- The sums to the right of each column of a tile, from the sums inside each group of 128 columns and the row sums of
    the groups to its right; `v251` and `v256` are the last group's sums and what the third group adds. -/
def rightCat (v9 : FVec Ideal S128x128 .bf16) (l : FVec Ideal S512x512 .f32) (hi lo : FVec Ideal S512x512 .bf16)
    (v251 v256 : FVec Ideal S512x128 .f32) : FVec Ideal S512x512 .f32 :=
  have v269 := addf v256 (broadcastTo S512x128 (rowSum (extractStridedSlice S512x128 ![0, 256] l slices_S512x512_o0_256_S512x128)) broadcasts_S512x1_S512x128)
  have v282 := addf v269 (broadcastTo S512x128 (rowSum (extractStridedSlice S512x128 ![0, 128] l slices_S512x512_o0_128_S512x128)) broadcasts_S512x1_S512x128)
  concatenate S512x512 1
    [⟨S512x128, addf (triSum v9 (extractStridedSlice S512x128 ![0, 0] hi slices_S512x512_o0_0_S512x128)
      (extractStridedSlice S512x128 ![0, 0] lo slices_S512x512_o0_0_S512x128)) v282⟩,
     ⟨S512x128, addf (triSum v9 (extractStridedSlice S512x128 ![0, 128] hi slices_S512x512_o0_128_S512x128)
      (extractStridedSlice S512x128 ![0, 128] lo slices_S512x512_o0_128_S512x128)) v269⟩,
     ⟨S512x128, addf (triSum v9 (extractStridedSlice S512x128 ![0, 256] hi slices_S512x512_o0_256_S512x128)
      (extractStridedSlice S512x128 ![0, 256] lo slices_S512x512_o0_256_S512x128)) v256⟩,
     ⟨S512x128, v251⟩] concatenates_S512x128_S512x128_S512x128_S512x128_S512x512_d1

theorem is_spread_rowSum {x : FVec Ideal S512x128 .f32} (hx : Is2 x f) :
    Is2 (broadcastTo S512x128 (rowSum x) broadcasts_S512x1_S512x128) (fun r _ => ∑ k ∈ Finset.range 128, f r k) :=
  Is2.spread (f := fun r => ∑ k ∈ Finset.range 128, f r k) (hx.edge _ _) _

/-- What the right-hand sums of a tile are: with the run's value added, the sum over the columns to the right. -/
theorem is_rightCat {v9 : FVec Ideal S128x128 .bf16} {l : FVec Ideal S512x512 .f32} {hi lo : FVec Ideal S512x512 .bf16}
    {v251 v256 : FVec Ideal S512x128 .f32} {run : ℕ → ℝ}
    (h9 : Is2 v9 (fun r c => if c < r then 1 else 0)) (hl : Is2 l f) (hhi : Is2 hi f) (hlo : Is2 lo (fun _ _ => 0))
    (h251 : Is2 v251 (fun r c => ∑ k ∈ Finset.Ico (384 + c + 1) 512, f r k + run r))
    (h256 : Is2 v256 (fun r _ => run r + ∑ k ∈ Finset.Ico 384 512, f r k)) :
    Is2 (rightCat v9 l hi lo v251 v256) (fun r c => ∑ k ∈ Finset.Ico (c + 1) 512, f r k + run r) := by
  have h269 := h256.add (is_spread_rowSum (hl.cols 256 slices_S512x512_o0_256_S512x128))
  have h282 := h269.add (is_spread_rowSum (hl.cols 128 slices_S512x512_o0_128_S512x128))
  have t (o : ℕ) (h : S512x512.Slices ![0, o] S512x128) :
      Is2 (triSum v9 (extractStridedSlice S512x128 ![0, o] hi h) (extractStridedSlice S512x128 ![0, o] lo h))
        (fun r c => ∑ k ∈ Finset.Ico (o + c + 1) (o + 128), f r k) :=
    (is_triSum h9 (hhi.cols o h) (hlo.cols o h)).congr fun r c _ hc => right_terms (f r) o c hc
  refine Is2.beside (((t 0 _).add h282).congr ?_) (((t 128 _).add h269).congr ?_) (((t 256 _).add h256).congr ?_) h251
    concatenates_S512x128_S512x128_S512x128_S512x128_S512x512_d1
  all_goals
    intro r c hr hc
    try simp only [all_terms]
  · rw [← Finset.sum_Ico_consecutive (f r) (show c + 1 ≤ 128 by omega) (show 128 ≤ 512 by omega),
      ← Finset.sum_Ico_consecutive (f r) (show 128 ≤ 256 by omega) (show 256 ≤ 512 by omega),
      ← Finset.sum_Ico_consecutive (f r) (show 256 ≤ 384 by omega) (show 384 ≤ 512 by omega)]
    simp only [Nat.zero_add, Nat.reduceAdd]
    ring
  · rw [← Finset.sum_Ico_consecutive (f r) (show 128 + c + 1 ≤ 256 by omega) (show 256 ≤ 512 by omega),
      ← Finset.sum_Ico_consecutive (f r) (show 256 ≤ 384 by omega) (show 384 ≤ 512 by omega)]
    ring
  · rw [← Finset.sum_Ico_consecutive (f r) (show 256 + c + 1 ≤ 384 by omega) (show 384 ≤ 512 by omega)]
    ring

/-- The sums to the left of each column of a tile: `v311` is the first group's, and the column `c` is what is carried in. -/
def leftCat (v16 : FVec Ideal S128x128 .bf16) (c : FVec Ideal S512x1 .f32) (e : FVec Ideal S512x512 .f32)
    (hi lo : FVec Ideal S512x512 .bf16) (v311 : FVec Ideal S512x128 .f32) : FVec Ideal S512x512 .f32 :=
  have c1 := addf c (rowSum (extractStridedSlice S512x128 ![0, 0] e slices_S512x512_o0_0_S512x128))
  have c2 := addf c1 (rowSum (extractStridedSlice S512x128 ![0, 128] e slices_S512x512_o0_128_S512x128))
  have c3 := addf c2 (rowSum (extractStridedSlice S512x128 ![0, 256] e slices_S512x512_o0_256_S512x128))
  concatenate S512x512 1
    [⟨S512x128, addf v311 (broadcastTo S512x128 c broadcasts_S512x1_S512x128)⟩,
     ⟨S512x128, addf (triSum v16 (extractStridedSlice S512x128 ![0, 128] hi slices_S512x512_o0_128_S512x128)
      (extractStridedSlice S512x128 ![0, 128] lo slices_S512x512_o0_128_S512x128)) (broadcastTo S512x128 c1 broadcasts_S512x1_S512x128)⟩,
     ⟨S512x128, addf (triSum v16 (extractStridedSlice S512x128 ![0, 256] hi slices_S512x512_o0_256_S512x128)
      (extractStridedSlice S512x128 ![0, 256] lo slices_S512x512_o0_256_S512x128)) (broadcastTo S512x128 c2 broadcasts_S512x1_S512x128)⟩,
     ⟨S512x128, addf (triSum v16 (extractStridedSlice S512x128 ![0, 384] hi slices_S512x512_o0_384_S512x128)
      (extractStridedSlice S512x128 ![0, 384] lo slices_S512x512_o0_384_S512x128)) (broadcastTo S512x128 c3 broadcasts_S512x1_S512x128)⟩]
    concatenates_S512x128_S512x128_S512x128_S512x128_S512x512_d1

theorem is_rowSum {x : FVec Ideal S512x128 .f32} (hx : Is2 x f) :
    Is2 (rowSum x) (fun r _ => ∑ k ∈ Finset.range 128, f r k) := hx.edge _ _

/-- What the left-hand sums of a tile are: what is carried in and the sum over the columns to the left. -/
theorem is_leftCat {v16 : FVec Ideal S128x128 .bf16} {c : FVec Ideal S512x1 .f32} {e : FVec Ideal S512x512 .f32}
    {hi lo : FVec Ideal S512x512 .bf16} {v311 : FVec Ideal S512x128 .f32} {carry : ℕ → ℝ}
    (h16 : Is2 v16 (fun r c => if r < c then 1 else 0)) (hc : Is2 c (fun r _ => carry r)) (he : Is2 e f)
    (hhi : Is2 hi f) (hlo : Is2 lo (fun _ _ => 0)) (h311 : Is2 v311 (fun r c => ∑ k ∈ Finset.Ico 0 c, f r k)) :
    Is2 (leftCat v16 c e hi lo v311) (fun r c => carry r + ∑ k ∈ Finset.Ico 0 c, f r k) := by
  have h1 := hc.add (is_rowSum (he.cols 0 slices_S512x512_o0_0_S512x128))
  have h2 := h1.add (is_rowSum (he.cols 128 slices_S512x512_o0_128_S512x128))
  have h3 := h2.add (is_rowSum (he.cols 256 slices_S512x512_o0_256_S512x128))
  have t (o : ℕ) (h : S512x512.Slices ![0, o] S512x128) :
      Is2 (triSum v16 (extractStridedSlice S512x128 ![0, o] hi h) (extractStridedSlice S512x128 ![0, o] lo h))
        (fun r c => ∑ k ∈ Finset.Ico o (o + c), f r k) :=
    (is_triSum h16 (hhi.cols o h) (hlo.cols o h)).congr fun r c _ hc => left_terms (f r) o c hc
  refine Is2.beside ((h311.add (hc.spread broadcasts_S512x1_S512x128)).congr ?_)
    (((t 128 _).add (h1.spread broadcasts_S512x1_S512x128)).congr ?_)
    (((t 256 _).add (h2.spread broadcasts_S512x1_S512x128)).congr ?_)
    (((t 384 _).add (h3.spread broadcasts_S512x1_S512x128)).congr ?_) concatenates_S512x128_S512x128_S512x128_S512x128_S512x512_d1
  all_goals
    intro r c hr hc
    try simp only [all_terms]
    try simp only [Nat.zero_add, Nat.reduceAdd]
  · ring
  · rw [← Finset.sum_Ico_consecutive (f r) (show 0 ≤ 128 by omega) (show 128 ≤ 128 + c by omega)]
    ring
  · rw [← Finset.sum_Ico_consecutive (f r) (show 0 ≤ 128 by omega) (show 128 ≤ 256 + c by omega),
      ← Finset.sum_Ico_consecutive (f r) (show 128 ≤ 256 by omega) (show 256 ≤ 256 + c by omega)]
    ring
  · rw [← Finset.sum_Ico_consecutive (f r) (show 0 ≤ 128 by omega) (show 128 ≤ 384 + c by omega),
      ← Finset.sum_Ico_consecutive (f r) (show 128 ≤ 256 by omega) (show 256 ≤ 384 + c by omega),
      ← Finset.sum_Ico_consecutive (f r) (show 256 ≤ 384 by omega) (show 384 ≤ 384 + c by omega)]
    ring

/-! ## The tile's payloads -/

/-- A score: the product of the query's row with the key's row, scaled. -/
def score (q k : ℕ → ℕ → ℝ) (r c : ℕ) : ℝ := (∑ i ∈ Finset.range 128, q r i * k c i) * cs

/-- The logarithm of the complementary logistic function. -/
def lneg (z : ℝ) : ℝ := lsig z - z

/-- A weight of a tile: `run` is the sum over the keys after the tile. -/
def tileA (lb l : ℕ → ℕ → ℝ) (run : ℕ → ℝ) (r c : ℕ) : ℝ :=
  Real.exp (lb r c + (∑ k ∈ Finset.Ico (c + 1) 512, l r k + run r))

/-- The gradient of a score of a tile from the weight's gradient times the weight, `e`, and what is carried in. -/
def tileDS (lb e : ℕ → ℕ → ℝ) (carry : ℕ → ℝ) (r c : ℕ) : ℝ :=
  (e r c - (e r c + (carry r + ∑ k ∈ Finset.Ico 0 c, e r k)) * Real.exp (lb r c)) * cs

variable {q k v d : ℕ → ℕ → ℝ} {run carry : ℕ → ℝ}

theorem is_slab {x : FVec Ideal S1x512x128 .bf16} (hx : Is3 x (fun _ => f)) (h : S1x512x128.ShapeCasts S512x128) :
    Is2 (shapeCast S512x128 x h) f := by
  intro r c
  pointwise
  exact hx _ _ _

theorem is_pay6 {x : FVec Ideal S1x512x128 .bf16} (hx : Is3 x (fun _ => f)) : Is2 (k0_pay6 x) f := is_slab hx _
theorem is_pay7 {x : FVec Ideal S1x512x128 .bf16} (hx : Is3 x (fun _ => f)) : Is2 (k0_pay7 x) f := is_slab hx _
theorem is_pay46 {x : FVec Ideal S1x512x128 .bf16} (hx : Is3 x (fun _ => f)) : Is2 (k0_pay46 x) f := is_slab hx _
theorem is_pay61 {x : FVec Ideal S1x512x128 .bf16} (hx : Is3 x (fun _ => f)) : Is2 (k0_pay61 x) f := is_slab hx _
theorem is_pay62 {x : FVec Ideal S1x512x128 .bf16} (hx : Is3 x (fun _ => f)) : Is2 (k0_pay62 x) f := is_slab hx _

/-- The scores of a tile and their two logarithms. -/
theorem is_pay63 {x y : FVec Ideal S512x128 .bf16} (hx : Is2 x q) (hy : Is2 y k) : Is2 (k0_pay63 x y) (score q k) :=
  (hx.mulQK hy).mul (Is2.splat lit_cs)

theorem is_pay64 {x y : FVec Ideal S512x128 .bf16} (hx : Is2 x q) (hy : Is2 y k) :
    Is2 (k0_pay64 x y) (fun r c => lsig (score q k r c)) := (is_pay63 hx hy).lsig

theorem is_pay9 {x : FVec Ideal S512x128 .bf16} {y : FVec Ideal S1x512x128 .bf16} (hx : Is2 x q) (hy : Is3 y (fun _ => k)) :
    Is2 (k0_pay9 x y) (fun r c => lsig (score q k r c)) := is_pay64 hx (is_pay6 hy)

theorem is_pay10 {x : FVec Ideal S512x128 .bf16} {y : FVec Ideal S1x512x128 .bf16} (hx : Is2 x q) (hy : Is3 y (fun _ => k)) :
    Is2 (k0_pay10 x y) (fun r c => lneg (score q k r c)) := (is_pay9 hx hy).sub (is_pay63 hx (is_pay6 hy))

/-- Where the mask is not set the masked logarithm is zero. -/
theorem is_pay66 {x y : FVec Ideal S512x128 .bf16} (hx : Is2 x q) (hy : Is2 y k) :
    Is2 (k0_pay66 x y) (fun r c => if c < r then lneg (score q k r c) else 0) := by
  intro r c
  have h := ((is_pay64 hx hy).sub (is_pay63 hx hy)) r c
  show Scalar.select (k0_pay65 (ix2 r c)) (subf (k0_pay64 x y) (k0_pay63 x y) (ix2 r c)) (Scalar.ofBits .f32 0x00000000#32 : Ideal .f32) = _
  rw [h, mask_at, lit_zero]
  by_cases e : (c : ℕ) < r <;> simp [e, Scalar.select, lneg]

/-- A run's row spread over 128 columns. -/
theorem is_pay67 {x : FVec Ideal S1x1x1x512 .f32} (hx : ∀ r : Fin 512, x (ix4 0 0 0 r) = ((run r : ℝ) : EReal)) :
    Is2 (k0_pay67 x) (fun r _ => run r) := by
  intro r c
  unfold k0_pay67
  pointwise
  exact hx r

theorem is_pay11 {x : FVec Ideal S1x1x1x512 .f32} (hx : ∀ r : Fin 512, x (ix4 0 0 0 r) = ((run r : ℝ) : EReal)) :
    Is2 (k0_pay11 x) (fun r _ => run r) := is_pay67 hx

/-! ## A tile off the diagonal -/

theorem zeros {x y : ℕ → ℕ → ℝ} (h : ∀ r c, x r c = y r c) : (fun r c => x r c - y r c) = fun _ _ => 0 := by
  funext r c; rw [h, sub_self]

section Off
variable {x v2 : FVec Ideal S512x128 .bf16} {y z : FVec Ideal S1x512x128 .bf16} {w : FVec Ideal S1x1x1x512 .f32}
  {c13 : FVec Ideal S512x1 .f32}

/-- The tile's weights … -/
def wts (q k : ℕ → ℕ → ℝ) (run : ℕ → ℝ) : ℕ → ℕ → ℝ :=
  tileA (fun r c => lsig (score q k r c)) (fun r c => lneg (score q k r c)) run

/-- … those times their gradients … -/
def prods (q k v d : ℕ → ℕ → ℝ) (run : ℕ → ℝ) (r c : ℕ) : ℝ :=
  wts q k run r c * ∑ i ∈ Finset.range 128, d r i * v c i

/-- … and the scores' gradients. -/
def dsc (q k v d : ℕ → ℕ → ℝ) (run carry : ℕ → ℝ) : ℕ → ℕ → ℝ :=
  tileDS (fun r c => lsig (score q k r c)) (prods q k v d run) carry

theorem is_pay16 (hx : Is2 x q) (hy : Is3 y (fun _ => k)) (hw : ∀ r : Fin 512, w (ix4 0 0 0 r) = ((run r : ℝ) : EReal)) :
    Is2 (k0_pay16 k0_pay47 (k0_pay9 x y) (k0_pay10 x y) (k0_pay11 w) (k0_pay12 x y) (k0_pay13 x y)
      (k0_pay14 x k0_pay47 y w) (k0_pay15 x y)) (wts q k run) := by
  have hl := is_pay10 hx hy
  have hhi : Is2 (k0_pay12 x y) _ := hl.trunc bitsLt_bf16_f32
  have hlo : Is2 (k0_pay13 x y) (fun _ _ => 0) := by
    have h := (hl.sub (hhi.ext bitsLt_bf16_f32)).trunc bitsLt_bf16_f32
    rw [zeros fun _ _ => rfl] at h
    exact h
  have hrun := is_pay11 hw
  have h251 : Is2 (k0_pay14 x k0_pay47 y w) _ :=
    ((is_triSum is_right (hhi.cols 384 slices_S512x512_o0_384_S512x128) (hlo.cols 384 slices_S512x512_o0_384_S512x128)).add hrun)
  have h256 := hrun.add (is_spread_rowSum (hl.cols 384 slices_S512x512_o0_384_S512x128))
  refine ((is_pay9 hx hy).add (is_rightCat (run := run) is_right hl hhi hlo (h251.congr fun r c _ hc => ?_) (h256.congr fun r c _ hc => ?_))).exp
  · rw [right_terms (fun k' => lneg (score q k r k')) 384 c hc]
  · rw [all_terms (fun k' => lneg (score q k r k')) 384]

theorem is_pay17 (hx : Is2 x q) (hy : Is3 y (fun _ => k)) (hw : ∀ r : Fin 512, w (ix4 0 0 0 r) = ((run r : ℝ) : EReal))
    (h2 : Is2 v2 d) (hz : Is3 z (fun _ => v)) :
    Is2 (k0_pay17 v2 k0_pay47 (k0_pay7 z) (k0_pay9 x y) (k0_pay10 x y) (k0_pay11 w) (k0_pay12 x y) (k0_pay13 x y)
      (k0_pay14 x k0_pay47 y w) (k0_pay15 x y)) (prods q k v d run) :=
  (is_pay16 hx hy hw).mul (h2.mulQK (is_pay7 hz))

/-- What is carried to the next tile: the products' row sums are added. -/
theorem is_pay24 {e : FVec Ideal S512x512 .f32} (hc : Is2 c13 (fun r _ => carry r)) (he : Is2 e f) :
    Is2 (k0_pay24 c13 e) (fun r _ => carry r + ∑ k ∈ Finset.Ico 0 512, f r k) := by
  have h1 := hc.add (is_rowSum (he.cols 0 slices_S512x512_o0_0_S512x128))
  have h2 := h1.add (is_rowSum (he.cols 128 slices_S512x512_o0_128_S512x128))
  have h3 := h2.add (is_rowSum (he.cols 256 slices_S512x512_o0_256_S512x128))
  have h4 : Is2 (k0_pay24 c13 e) _ := h3.add (is_rowSum (he.cols 384 slices_S512x512_o0_384_S512x128))
  refine h4.congr fun r c _ _ => ?_
  simp only [all_terms]
  simp only [Nat.zero_add, Nat.reduceAdd]
  rw [← Finset.sum_Ico_consecutive (f r) (show 0 ≤ 128 by omega) (show 128 ≤ 512 by omega),
      ← Finset.sum_Ico_consecutive (f r) (show 128 ≤ 256 by omega) (show 256 ≤ 512 by omega),
      ← Finset.sum_Ico_consecutive (f r) (show 256 ≤ 384 by omega) (show 384 ≤ 512 by omega)]
  ring

/-- The sums of the products to the left of a column. -/
theorem is_pay25 {e : FVec Ideal S512x512 .f32} (hc : Is2 c13 (fun r _ => carry r)) (he : Is2 e f) :
    Is2 (k0_pay25 k0_pay48 c13 e (truncf .bf16 e bitsLt_bf16_f32)
        (truncf .bf16 (subf e (extf .f32 (truncf .bf16 e bitsLt_bf16_f32) bitsLt_bf16_f32)) bitsLt_bf16_f32)
        (extractStridedSlice S512x128 ![0, 0] (truncf .bf16 e bitsLt_bf16_f32) slices_S512x512_o0_0_S512x128))
      (fun r c => carry r + ∑ k ∈ Finset.Ico 0 c, f r k) := by
  have hhi : Is2 (truncf .bf16 e bitsLt_bf16_f32) f := he.trunc bitsLt_bf16_f32
  have hlo : Is2 (truncf .bf16 (subf e (extf .f32 (truncf .bf16 e bitsLt_bf16_f32) bitsLt_bf16_f32)) bitsLt_bf16_f32) (fun _ _ => 0) := by
    have h := (he.sub (hhi.ext bitsLt_bf16_f32)).trunc bitsLt_bf16_f32
    rw [zeros fun _ _ => rfl] at h
    exact h
  refine is_leftCat is_left hc he hhi hlo ((is_triSum is_left (hhi.cols 0 slices_S512x512_o0_0_S512x128)
    (hlo.cols 0 slices_S512x512_o0_0_S512x128)).congr fun r c _ hc => ?_)
  rw [left_terms (f r) 0 c hc, Nat.zero_add]

/-- The scores' gradients of a tile. -/
theorem is_pay53 {lb e cc : FVec Ideal S512x512 .f32} {g : ℕ → ℕ → ℝ} (hl : Is2 lb g) (he : Is2 e f)
    (hc : Is2 cc (fun r c => carry r + ∑ k ∈ Finset.Ico 0 c, f r k)) : Is2 (k0_pay53 lb e cc) (tileDS g f carry) :=
  ((he.sub ((he.add hc).mul hl.exp)).mul (Is2.splat lit_cs)).trunc bitsLt_bf16_f32

/-- What a tile adds to the gradient of its queries, its keys and its values. -/
theorem is_pay54 {lb e cc : FVec Ideal S512x512 .f32} {a : FVec Ideal S512x128 .f32} {b : FVec Ideal S512x128 .bf16}
    {s h : ℕ → ℕ → ℝ} (hs : Is2 (k0_pay53 lb e cc) s) (ha : Is2 a h) (hb : Is2 b k) :
    Is2 (k0_pay54 a b lb e cc) (fun r c => h r c + ∑ i ∈ Finset.range 512, s r i * k i c) := ha.add (hs.mulDS hb)

theorem is_self {a : FVec Ideal S512x128 .f32} (h : Is2 a f) : Is2 (shapeCast S512x128 a shapeCasts_S512x128_S512x128) f := by
  intro r c
  pointwise
  exact h r c

theorem is_pay55 {lb e cc : FVec Ideal S512x512 .f32} {a : FVec Ideal S512x128 .f32} {b : FVec Ideal S1x512x128 .bf16}
    {s h : ℕ → ℕ → ℝ} (hs : Is2 (k0_pay53 lb e cc) s) (ha : Is2 a h) (hb : Is3 b (fun _ => q)) :
    Is2 (k0_pay55 b lb e cc a) (fun r c => h r c + ∑ i ∈ Finset.range 512, s i r * q i c) :=
  is_self (ha.add (hs.mulDT (is_pay46 hb)))

theorem is_pay56 {p : FVec Ideal S512x512 .f32} {a : FVec Ideal S512x128 .f32}
    {s h : ℕ → ℕ → ℝ} (hs : Is2 p s) (ha : Is2 a h) (hb : Is2 v2 d) :
    Is2 (k0_pay56 v2 p a) (fun r c => h r c + ∑ i ∈ Finset.range 512, s i r * d i c) :=
  is_self (ha.add ((hs.trunc bitsLt_bf16_f32).mulDT hb))

end Off

/-! ## The tile on the diagonal -/

section On
variable {x y z v2 : FVec Ideal S512x128 .bf16} {w : FVec Ideal S1x1x1x512 .f32} {c13 : FVec Ideal S512x1 .f32}

/-- Where a mask is not set an array is zero. -/
theorem is_masked {a : FVec Ideal S512x512 .f32} (ha : Is2 a f) :
    Is2 (select k0_pay65 a (broadcast S512x512 (Scalar.ofBits .f32 0x00000000#32 : Ideal .f32)))
      (fun r c => if c < r then f r c else 0) := by
  intro r c
  show Scalar.select (k0_pay65 (ix2 r c)) (a (ix2 r c)) (Scalar.ofBits .f32 0x00000000#32 : Ideal .f32) = _
  rw [ha, mask_at, lit_zero]
  by_cases e : (c : ℕ) < r <;> simp [e, Scalar.select]

/-- The masked tile's weights … -/
def wtsD (q k : ℕ → ℕ → ℝ) (run : ℕ → ℝ) (r c : ℕ) : ℝ :=
  if c < r then tileA (fun r c => lsig (score q k r c)) (fun r c => if c < r then lneg (score q k r c) else 0) run r c else 0

/-- … those times their gradients … -/
def prodsD (q k v d : ℕ → ℕ → ℝ) (run : ℕ → ℝ) (r c : ℕ) : ℝ :=
  wtsD q k run r c * ∑ i ∈ Finset.range 128, d r i * v c i

/-- … and the scores' gradients. -/
def dscD (q k v d : ℕ → ℕ → ℝ) (run carry : ℕ → ℝ) (r c : ℕ) : ℝ :=
  if c < r then tileDS (fun r c => lsig (score q k r c)) (prodsD q k v d run) carry r c else 0

theorem is_pay72 (hx : Is2 x q) (hy : Is2 y k) (hw : ∀ r : Fin 512, w (ix4 0 0 0 r) = ((run r : ℝ) : EReal)) :
    Is2 (k0_pay72 k0_pay47 (k0_pay64 x y) k0_pay65 (k0_pay66 x y) (k0_pay67 w) (k0_pay68 x y) (k0_pay69 x y)
      (k0_pay70 x k0_pay47 y w) (k0_pay71 x y)) (wtsD q k run) := by
  have hl := is_pay66 hx hy
  have hhi : Is2 (k0_pay68 x y) _ := hl.trunc bitsLt_bf16_f32
  have hlo : Is2 (k0_pay69 x y) (fun _ _ => 0) := by
    have h := (hl.sub (hhi.ext bitsLt_bf16_f32)).trunc bitsLt_bf16_f32
    rw [zeros fun _ _ => rfl] at h
    exact h
  have hrun := is_pay67 hw
  have h251 : Is2 (k0_pay70 x k0_pay47 y w) _ :=
    ((is_triSum is_right (hhi.cols 384 slices_S512x512_o0_384_S512x128) (hlo.cols 384 slices_S512x512_o0_384_S512x128)).add hrun)
  have h256 := hrun.add (is_spread_rowSum (hl.cols 384 slices_S512x512_o0_384_S512x128))
  refine is_masked ((is_pay64 hx hy).add (is_rightCat (run := run) is_right hl hhi hlo (h251.congr fun r c _ hc => ?_) (h256.congr fun r c _ hc => ?_))).exp
  · rw [right_terms (fun k' => if k' < r then lneg (score q k r k') else 0) 384 c hc]
  · rw [all_terms (fun k' => if k' < r then lneg (score q k r k') else 0) 384]

theorem is_pay73 (hx : Is2 x q) (hy : Is2 y k) (hw : ∀ r : Fin 512, w (ix4 0 0 0 r) = ((run r : ℝ) : EReal))
    (h2 : Is2 v2 d) (hz : Is2 z v) :
    Is2 (k0_pay73 v2 k0_pay47 z (k0_pay64 x y) k0_pay65 (k0_pay66 x y) (k0_pay67 w) (k0_pay68 x y) (k0_pay69 x y)
      (k0_pay70 x k0_pay47 y w) (k0_pay71 x y)) (prodsD q k v d run) :=
  (is_pay72 hx hy hw).mul (h2.mulQK hz)

/-- The masked scores' gradients of the tile on the diagonal. -/
theorem is_pay79 {lb e : FVec Ideal S512x512 .f32} {g : ℕ → ℕ → ℝ} (hl : Is2 lb g) (he : Is2 e f)
    (hc : Is2 c13 (fun r _ => carry r)) :
    Is2 (k0_pay79 k0_pay48 c13 lb k0_pay65 e (truncf .bf16 e bitsLt_bf16_f32)
        (truncf .bf16 (subf e (extf .f32 (truncf .bf16 e bitsLt_bf16_f32) bitsLt_bf16_f32)) bitsLt_bf16_f32)
        (extractStridedSlice S512x128 ![0, 0] (matmul dot_S1024x128_S128x128_S1024x128_1_0_0_1_n_n none
          (concatenate S1024x128 0 [⟨S512x128, extractStridedSlice S512x128 ![0, 0] (truncf .bf16 e bitsLt_bf16_f32) slices_S512x512_o0_0_S512x128⟩,
            ⟨S512x128, extractStridedSlice S512x128 ![0, 0] (truncf .bf16 (subf e (extf .f32 (truncf .bf16 e bitsLt_bf16_f32) bitsLt_bf16_f32)) bitsLt_bf16_f32) slices_S512x512_o0_0_S512x128⟩]
            concatenates_S512x128_S512x128_S1024x128_d0) k0_pay48 (constant S1024x128 .f32 0x00000000#32)) slices_S1024x128_o0_0_S512x128)
        (extractStridedSlice S512x128 ![512, 0] (matmul dot_S1024x128_S128x128_S1024x128_1_0_0_1_n_n none
          (concatenate S1024x128 0 [⟨S512x128, extractStridedSlice S512x128 ![0, 0] (truncf .bf16 e bitsLt_bf16_f32) slices_S512x512_o0_0_S512x128⟩,
            ⟨S512x128, extractStridedSlice S512x128 ![0, 0] (truncf .bf16 (subf e (extf .f32 (truncf .bf16 e bitsLt_bf16_f32) bitsLt_bf16_f32)) bitsLt_bf16_f32) slices_S512x512_o0_0_S512x128⟩]
            concatenates_S512x128_S512x128_S1024x128_d0) k0_pay48 (constant S1024x128 .f32 0x00000000#32)) slices_S1024x128_o512_0_S512x128))
      (fun r c => if c < r then tileDS g f carry r c else 0) := by
  have hhi : Is2 (truncf .bf16 e bitsLt_bf16_f32) f := he.trunc bitsLt_bf16_f32
  have hlo : Is2 (truncf .bf16 (subf e (extf .f32 (truncf .bf16 e bitsLt_bf16_f32) bitsLt_bf16_f32)) bitsLt_bf16_f32) (fun _ _ => 0) := by
    have h := (he.sub (hhi.ext bitsLt_bf16_f32)).trunc bitsLt_bf16_f32
    rw [zeros fun _ _ => rfl] at h
    exact h
  have hcc := is_leftCat is_left hc he hhi hlo ((is_triSum is_left (hhi.cols 0 slices_S512x512_o0_0_S512x128)
    (hlo.cols 0 slices_S512x512_o0_0_S512x128)).congr fun r c _ hc => left_terms (f r) 0 c hc |>.trans (by rw [Nat.zero_add]))
  exact (is_masked ((he.sub ((he.add hcc).mul hl.exp)).mul (Is2.splat lit_cs))).trunc bitsLt_bf16_f32

/-- What the tile on the diagonal adds to the gradient of its keys, its values and its queries. -/
theorem is_pay1 {p : FVec Ideal S512x512 .bf16} {a : FVec Ideal S512x128 .f32} {s h : ℕ → ℕ → ℝ} (hs : Is2 p s) (ha : Is2 a h)
    (hx : Is2 x q) : Is2 (k0_pay1 x p a) (fun r c => h r c + ∑ i ∈ Finset.range 512, s i r * q i c) :=
  is_self (ha.add (hs.mulDT hx))

theorem is_pay2 {p : FVec Ideal S512x512 .f32} {a : FVec Ideal S512x128 .f32} {s h : ℕ → ℕ → ℝ} (hs : Is2 p s) (ha : Is2 a h)
    (h2 : Is2 v2 d) : Is2 (k0_pay2 v2 p a) (fun r c => h r c + ∑ i ∈ Finset.range 512, s i r * d i c) :=
  is_self (ha.add ((hs.trunc bitsLt_bf16_f32).mulDT h2))

theorem is_pay3 {p : FVec Ideal S512x512 .bf16} {a : FVec Ideal S512x128 .f32} {s h : ℕ → ℕ → ℝ} (hs : Is2 p s) (ha : Is2 a h)
    (hy : Is2 y k) : Is2 (k0_pay3 a y p) (fun r c => h r c + ∑ i ∈ Finset.range 512, s r i * k i c) :=
  (ha.add (hs.mulDS hy)).trunc bitsLt_bf16_f32

end On

end Stick
-- ==== Proof.Whole.lean ====
/-
  The gradient of the attention by stick-breaking, over the real numbers.
-/
module

public import proofs.«01_k».proof.Proof.Tile

@[expose] public section

noncomputable section

namespace Stick

/-- Softplus as the host spells it. -/
def splus (x : ℝ) : ℝ := max x 0 + Real.log (1 + Real.exp (-max x (-x)))

theorem neg_splus_neg (z : ℝ) : -splus (-z) = lsig z := by
  unfold splus lsig
  rw [neg_neg, max_comm (-z) z, neg_add, zero_sub, ← min_neg_neg, neg_neg, neg_zero]
  ring

theorem lsig_eq (z : ℝ) : lsig z = -Real.log (1 + Real.exp (-z)) := by
  unfold lsig
  rcases le_total 0 z with h | h
  · rw [min_eq_right h, max_eq_left (by linarith), zero_sub, zero_sub]
  · rw [min_eq_left h, max_eq_right (by linarith), zero_sub, neg_neg]
    have e : 1 + Real.exp (-z) = Real.exp (-z) * (1 + Real.exp z) := by
      rw [mul_add, ← Real.exp_add]; simp [add_comm]
    have h1 := Real.exp_pos z
    rw [e, Real.log_mul (Real.exp_pos _).ne' (by linarith), Real.log_exp]
    ring

theorem neg_splus (z : ℝ) : -splus z = lneg z := by
  have h := neg_splus_neg (-z)
  rw [neg_neg] at h
  rw [h, lneg, lsig_eq, lsig_eq, neg_neg]
  have e : 1 + Real.exp z = Real.exp z * (1 + Real.exp (-z)) := by
    rw [mul_add, ← Real.exp_add]; simp [add_comm]
  have h1 := Real.exp_pos (-z)
  rw [e, Real.log_mul (Real.exp_pos _).ne' (by linarith), Real.log_exp]
  ring

/-- The logistic function and its complement add up to one. -/
theorem logistic_compl (z : ℝ) : Real.exp (lneg z) = 1 - Real.exp (lsig z) := by
  have h1 := Real.exp_pos (-z)
  rw [lneg, Real.exp_sub, lsig_eq, Real.exp_neg, Real.exp_log (by linarith)]
  rw [eq_sub_iff_add_eq, div_eq_mul_inv, ← Real.exp_neg z]
  field_simp
  ring

variable (X : ℕ → ℕ → ℕ → ℝ) (Y : ℕ → ℕ → ℝ)

/-- The score of a query and a key of a head; the logarithm of the stick left over by a key before the query, summed over
    the keys in between; the weight; the gradient of the weight. -/
def zS (h t s : ℕ) : ℝ := (∑ d ∈ Finset.range 128, X 0 t (128 * h + d) * X 1 s (128 * h + d)) * cs
def stickL (h t s : ℕ) : ℝ := if s < t then lneg (zS X h t s) else 0
def right (h t s : ℕ) : ℝ := ∑ k ∈ Finset.Ico (s + 1) 8192, stickL X h t k
def expW (h t s : ℕ) : ℝ := Real.exp (lsig (zS X h t s) + right X h t s)
def wt (h t s : ℕ) : ℝ := if s < t then expW X h t s else 0
def gradW (h t s : ℕ) : ℝ := ∑ d ∈ Finset.range 128, Y t (128 * h + d) * X 2 s (128 * h + d)

/-- A weight times its gradient, these products summed over the earlier keys, and the gradient of the score. -/
def eW (h t s : ℕ) : ℝ := (if s < t then gradW X Y h t s else 0) * expW X h t s
def pre (h t s : ℕ) : ℝ := ∑ k ∈ Finset.range s, eW X Y h t k
def gradZ (h t s : ℕ) : ℝ :=
  if s < t then (eW X Y h t s - (eW X Y h t s + pre X Y h t s) * Real.exp (lsig (zS X h t s))) * cs else 0

/-- The gradients of a head's queries, keys and values. -/
def gradQ (h t d : ℕ) : ℝ := ∑ s ∈ Finset.range 8192, gradZ X Y h t s * X 1 s (128 * h + d)
def gradK (h s d : ℕ) : ℝ := ∑ t ∈ Finset.range 8192, gradZ X Y h t s * X 0 t (128 * h + d)
def gradV (h s d : ℕ) : ℝ := ∑ t ∈ Finset.range 8192, wt X h t s * Y t (128 * h + d)

end Stick
-- ==== Proof.Softplus.lean ====
/-
  Softplus and its derivative, spelt as the host's operations, at a real number.
-/
module

public import proofs.«01_k».proof.Proof.Whole

@[expose] public section

noncomputable section

namespace Stick

open Idealize.ShloMosaic

/-- Softplus of one number. -/
def splusW (x : Ideal .f32) : Ideal .f32 :=
  Scalar.select (FloatOps.cmpf .une (FloatOps.subf x (FloatOps.ofBits .f32 0x00000000#32)) (FloatOps.subf x (FloatOps.ofBits .f32 0x00000000#32)))
    (FloatOps.addf x (FloatOps.ofBits .f32 0x00000000#32))
    (FloatOps.addf (FloatOps.maximumf x (FloatOps.ofBits .f32 0x00000000#32))
      (FloatOps.hostUnary .log1p (FloatOps.hostUnary .exp (FloatOps.hostNegf (FloatOps.hostAbsf (FloatOps.subf x (FloatOps.ofBits .f32 0x00000000#32)))))))

/-- Its derivative, from the number and its softplus. -/
def logisticW (x y : Ideal .f32) : Ideal .f32 :=
  FloatOps.hostUnary .exp (FloatOps.subf
    (Scalar.select (FloatOps.cmpf .oeq x (FloatOps.ofBits .f32 0x7F800000#32)) (FloatOps.ofBits .f32 0x00000000#32) x)
    (Scalar.select (FloatOps.cmpf .oeq y (FloatOps.ofBits .f32 0x7F800000#32)) (FloatOps.ofBits .f32 0x00000000#32) y))

theorem word_zero : (FloatOps.ofBits .f32 0x00000000#32 : Ideal .f32) = ((0 : ℝ) : EReal) := lit_zero

theorem word_inf : (FloatOps.ofBits .f32 0x7F800000#32 : Ideal .f32) = (⊤ : EReal) := by
  show Ideal.ofBits .f32 0x7F800000#32 = _
  simp [Ideal.ofBits, Ideal.ieee]

theorem splusW_coe (r : ℝ) : splusW ((r : ℝ) : EReal) = ((splus r : ℝ) : EReal) := by
  have hp : 0 < 1 + Real.exp (-max r (-r)) := by
    have := Real.exp_pos (-max r (-r)); linarith
  unfold splusW
  rw [word_zero]
  have e1 : (FloatOps.subf (F := Ideal) (φ := .f32) ((r : ℝ) : EReal) ((0 : ℝ) : EReal)) = ((r : ℝ) : EReal) := by
    show ((r : ℝ) : EReal) - ((0 : ℝ) : EReal) = _
    rw [← EReal.coe_sub, sub_zero]
  rw [e1]
  have e2 : (FloatOps.cmpf (F := Ideal) (φ := .f32) .une ((r : ℝ) : EReal) ((r : ℝ) : EReal)) = 0#1 := by
    show Ideal.cmp .une _ _ = _
    simp [Ideal.cmp]
  rw [e2]
  show max ((r : ℝ) : EReal) ((0 : ℝ) : EReal) + Ideal.log (1 + Ideal.exp (-(FloatOps.absf (F := Ideal) (φ := .f32) ((r : ℝ) : EReal)))) = _
  rw [absf_coe, ← EReal.coe_neg, Ideal.exp_coe, ← EReal.coe_one, ← EReal.coe_add, log_pos hp,
    ← EReal.coe_strictMono.monotone.map_max, ← EReal.coe_add]
  rfl

theorem logisticW_coe (r s : ℝ) : logisticW ((r : ℝ) : EReal) ((s : ℝ) : EReal) = ((Real.exp (r - s) : ℝ) : EReal) := by
  have e : ∀ t : ℝ, (FloatOps.cmpf (F := Ideal) (φ := .f32) .oeq ((t : ℝ) : EReal) (⊤ : EReal)) = 0#1 := by
    intro t
    show Ideal.cmp .oeq _ _ = _
    simp [Ideal.cmp]
  unfold logisticW
  rw [word_inf, e, e]
  show Ideal.exp (((r : ℝ) : EReal) - ((s : ℝ) : EReal)) = _
  rw [← EReal.coe_sub, Ideal.exp_coe]

end Stick
-- ==== Proof.Sums.lean ====
/-
  Running sums along the last axis of an array of real numbers, as the host computes them.
-/
module

public import proofs.«01_k».proof.Proof.Reals

@[expose] public section

noncomputable section

namespace Stick

open Idealize.ShloMosaic

/-- Adding real numbers one after another to zero gives their sum. -/
theorem fold_add (M : ℕ) (f : Fin M → EReal) (g : ℕ → ℝ) (hf : ∀ n, f n = ((g n : ℝ) : EReal)) :
    (List.finRange M).foldl (fun r n => r + f n) ((0 : ℝ) : EReal) = ((∑ n ∈ Finset.range M, g n : ℝ) : EReal) := by
  have key : ∀ (l : List (Fin M)) (v : ℝ), l.foldl (fun r n => r + f n) ((v : ℝ) : EReal)
      = ((v + (l.map fun n : Fin M => g n.val).sum : ℝ) : EReal) := by
    intro l
    induction l with
    | nil => intro v; simp
    | cons a l ih =>
      intro v
      rw [List.foldl_cons, hf a, ← EReal.coe_add, ih, List.map_cons, List.sum_cons, add_assoc]
  rw [key, zero_add, Finset.sum_range, ← List.sum_ofFn, List.ofFn_eq_map]

variable {A B N : ℕ}

/-- The row-major positions of a window of one row. -/
theorem row_numel (N : ℕ) : (⟨3, ![1, 1, N]⟩ : Shape).numel = N := by
  simp [Shape.numel, Fin.prod_univ_three]

theorem row_symm (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have h := Shape.rowMajor_val_three ((⟨3, ![1, 1, N]⟩ : Shape).rowMajor.symm n)
  rw [Equiv.apply_symm_apply] at h
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have e0 : ((⟨3, ![1, 1, N]⟩ : Shape).rowMajor.symm n 0).val = 0 := by omega
  have e1 : ((⟨3, ![1, 1, N]⟩ : Shape).rowMajor.symm n 1).val = 0 := by omega
  refine ⟨e0, e1, ?_⟩
  rw [e0, e1] at h
  simpa using h.symm

variable {x : FVec Ideal ⟨3, ![A, B, N]⟩ .f32} {f : ℕ → ℕ → ℕ → ℝ} {u : Shape} {init : FVec Ideal u .f32}

/-- The sum from each entry to the end of its row. -/
theorem Is3.tail {M : ℕ} (hM : M + 1 = N) (hx : Is3 x f)
    (h : (⟨3, ![A, B, N]⟩ : Shape).ReduceWindows (![1, 1, N] : Fin 3 → ℕ) ![1, 1, 1] ![0, 0, 0] ![0, 0, M] ⟨3, ![A, B, N]⟩) (hu : 0 < u.numel)
    (hi : init (Shape.Idx.first hu) = ((0 : ℝ) : EReal)) :
    Is3 (Host.reduceWindowAdd (t := ⟨3, ![A, B, N]⟩) ![1, 1, N] ![1, 1, 1] ![0, 0, 0] ![0, 0, M] x init h hu)
      (fun a b c => ∑ k ∈ Finset.Ico c N, f a b k) := by
  intro a b c
  have hc := c.isLt
  have e : ∑ k ∈ Finset.Ico c.val N, f a b k
      = ∑ n ∈ Finset.range (⟨3, ![1, 1, N]⟩ : Shape).numel, (if c.val + n < N then f a b (c.val + n) else 0) := by
    rw [row_numel, Finset.sum_Ico_eq_sum_range, ← Finset.sum_filter]
    refine Finset.sum_congr (Finset.ext fun n => ?_) fun _ _ => rfl
    rw [Finset.mem_range, Finset.mem_filter, Finset.mem_range]
    omega
  refine Eq.trans ?_ (congrArg (fun r : ℝ => (r : EReal)) e.symm)
  unfold Host.reduceWindowAdd
  show Host.reduceWindow (· + ·) (![1, 1, N] : Fin 3 → ℕ) ![1, 1, 1] ![0, 0, 0] ![0, 0, M] x
    (fun _ : (⟨0, ![]⟩ : Shape).Idx => init (Shape.Idx.first hu)) h (by decide) (ix3 a b c) = _
  rw [hi]
  unfold Host.reduceWindow
  refine fold_add _ _ (fun n => if c.val + n < N then f a b (c.val + n) else 0) fun n => ?_
  obtain ⟨w0, w1, w2⟩ := row_symm n
  dsimp only
  split
  · next hin =>
    have h2 : 0 ≤ c.val * 1 + ((⟨3, ![1, 1, N]⟩ : Shape).rowMajor.symm n 2).val
      ∧ c.val * 1 + ((⟨3, ![1, 1, N]⟩ : Shape).rowMajor.symm n 2).val - 0 < N := hin 2
    rw [w2] at h2
    rw [if_pos (by omega)]
    refine (congrArg x (funext fun k => Fin.ext ?_)).trans (hx a b ⟨c.val + n.val, by omega⟩)
    match k with
    | ⟨0, _⟩ =>
      show a.val * 1 + ((⟨3, ![1, 1, N]⟩ : Shape).rowMajor.symm n 0).val - 0 = a.val
      rw [w0]; omega
    | ⟨1, _⟩ =>
      show b.val * 1 + ((⟨3, ![1, 1, N]⟩ : Shape).rowMajor.symm n 1).val - 0 = b.val
      rw [w1]; omega
    | ⟨2, _⟩ =>
      show c.val * 1 + ((⟨3, ![1, 1, N]⟩ : Shape).rowMajor.symm n 2).val - 0 = c.val + n.val
      rw [w2]; omega
  · next hin =>
    rw [if_neg fun hlt => hin fun k => by
      match k with
      | ⟨0, _⟩ =>
        show 0 ≤ a.val * 1 + ((⟨3, ![1, 1, N]⟩ : Shape).rowMajor.symm n 0).val
          ∧ a.val * 1 + ((⟨3, ![1, 1, N]⟩ : Shape).rowMajor.symm n 0).val - 0 < A
        rw [w0]; have := a.isLt; omega
      | ⟨1, _⟩ =>
        show 0 ≤ b.val * 1 + ((⟨3, ![1, 1, N]⟩ : Shape).rowMajor.symm n 1).val
          ∧ b.val * 1 + ((⟨3, ![1, 1, N]⟩ : Shape).rowMajor.symm n 1).val - 0 < B
        rw [w1]; have := b.isLt; omega
      | ⟨2, _⟩ =>
        show 0 ≤ c.val * 1 + ((⟨3, ![1, 1, N]⟩ : Shape).rowMajor.symm n 2).val
          ∧ c.val * 1 + ((⟨3, ![1, 1, N]⟩ : Shape).rowMajor.symm n 2).val - 0 < N
        rw [w2]; omega]

/-- The sum from the beginning of each row to the entry. -/
theorem Is3.upto {M : ℕ} (hM : M + 1 = N) (hx : Is3 x f)
    (h : (⟨3, ![A, B, N]⟩ : Shape).ReduceWindows (![1, 1, N] : Fin 3 → ℕ) ![1, 1, 1] ![0, 0, M] ![0, 0, 0] ⟨3, ![A, B, N]⟩) (hu : 0 < u.numel)
    (hi : init (Shape.Idx.first hu) = ((0 : ℝ) : EReal)) :
    Is3 (Host.reduceWindowAdd (t := ⟨3, ![A, B, N]⟩) ![1, 1, N] ![1, 1, 1] ![0, 0, M] ![0, 0, 0] x init h hu)
      (fun a b c => ∑ k ∈ Finset.range (c + 1), f a b k) := by
  intro a b c
  have hc := c.isLt
  have e : ∑ k ∈ Finset.range (c.val + 1), f a b k
      = ∑ n ∈ Finset.range (⟨3, ![1, 1, N]⟩ : Shape).numel, (if M ≤ c.val + n then f a b (c.val + n - M) else 0) := by
    rw [row_numel, ← Finset.sum_filter, show (Finset.range N).filter (fun n => M ≤ c.val + n) = Finset.Ico (M - c.val) N from
      Finset.ext fun n => by rw [Finset.mem_filter, Finset.mem_range, Finset.mem_Ico]; omega, Finset.sum_Ico_eq_sum_range,
      show N - (M - c.val) = c.val + 1 by omega]
    refine Finset.sum_congr rfl fun n _ => ?_
    rw [show c.val + (M - c.val + n) - M = n by omega]
  refine Eq.trans ?_ (congrArg (fun r : ℝ => (r : EReal)) e.symm)
  unfold Host.reduceWindowAdd
  show Host.reduceWindow (· + ·) (![1, 1, N] : Fin 3 → ℕ) ![1, 1, 1] ![0, 0, M] ![0, 0, 0] x
    (fun _ : (⟨0, ![]⟩ : Shape).Idx => init (Shape.Idx.first hu)) h (by decide) (ix3 a b c) = _
  rw [hi]
  unfold Host.reduceWindow
  refine fold_add _ _ (fun n => if M ≤ c.val + n then f a b (c.val + n - M) else 0) fun n => ?_
  obtain ⟨w0, w1, w2⟩ := row_symm n
  have hn : n.val < N := lt_of_lt_of_eq n.isLt (row_numel N)
  dsimp only
  split
  · next hin =>
    have h2 : M ≤ c.val * 1 + ((⟨3, ![1, 1, N]⟩ : Shape).rowMajor.symm n 2).val
      ∧ c.val * 1 + ((⟨3, ![1, 1, N]⟩ : Shape).rowMajor.symm n 2).val - M < N := hin 2
    rw [w2] at h2
    rw [if_pos (by omega)]
    refine (congrArg x (funext fun k => Fin.ext ?_)).trans (hx a b ⟨c.val + n.val - M, by omega⟩)
    match k with
    | ⟨0, _⟩ =>
      show a.val * 1 + ((⟨3, ![1, 1, N]⟩ : Shape).rowMajor.symm n 0).val - 0 = a.val
      rw [w0]; omega
    | ⟨1, _⟩ =>
      show b.val * 1 + ((⟨3, ![1, 1, N]⟩ : Shape).rowMajor.symm n 1).val - 0 = b.val
      rw [w1]; omega
    | ⟨2, _⟩ =>
      show c.val * 1 + ((⟨3, ![1, 1, N]⟩ : Shape).rowMajor.symm n 2).val - M = c.val + n.val - M
      rw [w2]; omega
  · next hin =>
    rw [if_neg fun hle => hin fun k => by
      match k with
      | ⟨0, _⟩ =>
        show 0 ≤ a.val * 1 + ((⟨3, ![1, 1, N]⟩ : Shape).rowMajor.symm n 0).val
          ∧ a.val * 1 + ((⟨3, ![1, 1, N]⟩ : Shape).rowMajor.symm n 0).val - 0 < A
        rw [w0]; have := a.isLt; omega
      | ⟨1, _⟩ =>
        show 0 ≤ b.val * 1 + ((⟨3, ![1, 1, N]⟩ : Shape).rowMajor.symm n 1).val
          ∧ b.val * 1 + ((⟨3, ![1, 1, N]⟩ : Shape).rowMajor.symm n 1).val - 0 < B
        rw [w1]; have := b.isLt; omega
      | ⟨2, _⟩ =>
        show M ≤ c.val * 1 + ((⟨3, ![1, 1, N]⟩ : Shape).rowMajor.symm n 2).val
          ∧ c.val * 1 + ((⟨3, ![1, 1, N]⟩ : Shape).rowMajor.symm n 2).val - M < N
        rw [w2]; omega]

end Stick
-- ==== Proof.Ref.lean ====
/-
  What the reference computes, as functions of real numbers.
-/
module

public import proofs.«01_k».proof.Proof.Gen.ReferenceIdeal.Read
public import proofs.«01_k».proof.Proof.Softplus
public import proofs.«01_k».proof.Proof.Sums

@[expose] public section

noncomputable section

namespace Stick

open Idealize.ShloMosaic Cert.ReferenceIdeal Cert.ReferenceIdeal.Gen Cert.ReferenceIdeal.Read

variable {x0 : FVec Ideal S3x8192x2048 .bf16} {x1 : FVec Ideal S8192x2048 .bf16} {X : ℕ → ℕ → ℕ → ℝ} {Y : ℕ → ℕ → ℝ}

/-! ## The heads of the arguments -/

theorem ref_q (hX : Is3 x0 X) : Is3 (φ := .f32) (val_main_v8 (F := Ideal) x0 : FVec Ideal S16x8192x128 .f32) (fun h s d => X 0 s (128 * h + d)) := by
  intro h s d
  rw [val_main_v8_apply, val_main_v7_apply, val_main_v2_apply, val_main_v1_apply, val_main_v0_apply]
  have hh := h.isLt
  have hs := s.isLt
  have hd := d.isLt
  refine Eq.trans (congrArg x0 (?_ : _ = ix3 (0 : Fin 3) s ⟨128 * h.val + d.val, by omega⟩)) (hX _ _ _)
  funext a
  match a with
  | ⟨0, _⟩ => rfl
  | ⟨1, _⟩ => apply Fin.ext; dsimp [ix3]; omega
  | ⟨2, _⟩ => apply Fin.ext; dsimp [ix3]; omega

theorem ref_k (hX : Is3 x0 X) : Is3 (φ := .f32) (val_main_v10 (F := Ideal) x0 : FVec Ideal S16x8192x128 .f32) (fun h s d => X 1 s (128 * h + d)) := by
  intro h s d
  rw [val_main_v10_apply, val_main_v9_apply, val_main_v4_apply, val_main_v3_apply, val_main_v0_apply]
  have hh := h.isLt
  have hs := s.isLt
  have hd := d.isLt
  refine Eq.trans (congrArg x0 (?_ : _ = ix3 (1 : Fin 3) s ⟨128 * h.val + d.val, by omega⟩)) (hX _ _ _)
  funext a
  match a with
  | ⟨0, _⟩ => rfl
  | ⟨1, _⟩ => apply Fin.ext; dsimp [ix3]; omega
  | ⟨2, _⟩ => apply Fin.ext; dsimp [ix3]; omega

theorem ref_v (hX : Is3 x0 X) : Is3 (φ := .f32) (val_main_v12 (F := Ideal) x0 : FVec Ideal S16x8192x128 .f32) (fun h s d => X 2 s (128 * h + d)) := by
  intro h s d
  rw [val_main_v12_apply, val_main_v11_apply, val_main_v6_apply, val_main_v5_apply, val_main_v0_apply]
  have hh := h.isLt
  have hs := s.isLt
  have hd := d.isLt
  refine Eq.trans (congrArg x0 (?_ : _ = ix3 (2 : Fin 3) s ⟨128 * h.val + d.val, by omega⟩)) (hX _ _ _)
  funext a
  match a with
  | ⟨0, _⟩ => rfl
  | ⟨1, _⟩ => apply Fin.ext; dsimp [ix3]; omega
  | ⟨2, _⟩ => apply Fin.ext; dsimp [ix3]; omega

theorem ref_do (hY : Is2 x1 Y) : Is3 (φ := .f32) (val_main_v36 (F := Ideal) x1 : FVec Ideal S16x8192x128 .f32) (fun h s d => Y s (128 * h + d)) := by
  intro h s d
  rw [val_main_v36_apply, val_main_v35_apply, val_main_v34_apply]
  have hh := h.isLt
  have hs := s.isLt
  have hd := d.isLt
  refine Eq.trans (congrArg x1 (?_ : _ = ix2 s ⟨128 * h.val + d.val, by omega⟩)) (hY _ _)
  funext a
  match a with
  | ⟨0, _⟩ => apply Fin.ext; dsimp [ix3, ix2]; omega
  | ⟨1, _⟩ => apply Fin.ext; dsimp [ix3, ix2]; omega

/-! ## The mask -/

theorem ref_mask (h : Fin 16) (t s : Fin 8192) :
    (val_main_v24_1 (F := Ideal) : IVec S16x8192x8192 1) (ix3 h t s) = BitVec.ofBool (decide (s.val < t.val)) := by
  rw [val_main_v24_1_apply, val_main_v18_apply, val_main_v16_apply, val_main_v17_apply, val_main_v14_apply, val_main_v15_apply,
    val_main_v13_apply, val_main_v13_apply]
  have hs := s.isLt
  have ht := t.isLt
  show BitVec.ofBool ((BitVec.ofNat 32 s.val).slt (BitVec.ofNat 32 t.val)) = _
  congr 1
  rw [BitVec.slt, decide_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  omega

/-! ## The scores and what follows from them entry by entry -/

theorem ref_z (hX : Is3 x0 X) : Is3 (φ := .f32) (val_main_v21 (F := Ideal) x0 : FVec Ideal S16x8192x8192 .f32) (zS X) := by
  intro h t s
  rw [val_main_v21_apply, val_main_v20_apply, val_main_v19_apply]
  have e : ∀ k : Fin 128, (val_main_v8 (F := Ideal) x0) (lidx_main_v19 (ix3 h t s) k) * (val_main_v10 (F := Ideal) x0) (ridx_main_v19 (ix3 h t s) k)
      = ((X 0 t (128 * h + k) * X 1 s (128 * h + k) : ℝ) : EReal) := by
    intro k
    rw [EReal.coe_mul]
    exact congrArg₂ (· * ·) ((congrArg (val_main_v8 (F := Ideal) x0) (by funext a; match a with | ⟨0, _⟩ => rfl | ⟨1, _⟩ => rfl | ⟨2, _⟩ => rfl)).trans (ref_q hX h t k))
      ((congrArg (val_main_v10 (F := Ideal) x0) (by funext a; match a with | ⟨0, _⟩ => rfl | ⟨1, _⟩ => rfl | ⟨2, _⟩ => rfl)).trans (ref_k hX h s k))
  rw [Finset.sum_congr rfl fun k _ => e k, coe_sum 128 (fun k => X 0 t (128 * h + k) * X 1 s (128 * h + k))]
  show _ * (Scalar.ofBits .f32 0x3DB504F3#32 : Ideal .f32) = _
  rw [lit_cs, ← EReal.coe_mul]
  rfl

/-- The host's arithmetic at real numbers. -/
theorem neg_coe (r : ℝ) : FloatOps.hostNegf (F := Ideal) (φ := .f32) ((r : ℝ) : EReal) = ((-r : ℝ) : EReal) := (EReal.coe_neg r).symm
theorem add_coe (r s : ℝ) : FloatOps.addf (F := Ideal) (φ := .f32) ((r : ℝ) : EReal) ((s : ℝ) : EReal) = ((r + s : ℝ) : EReal) := (EReal.coe_add r s).symm
theorem sub_coe (r s : ℝ) : FloatOps.subf (F := Ideal) (φ := .f32) ((r : ℝ) : EReal) ((s : ℝ) : EReal) = ((r - s : ℝ) : EReal) := (EReal.coe_sub r s).symm
theorem mul_coe (r s : ℝ) : FloatOps.mulf (F := Ideal) (φ := .f32) ((r : ℝ) : EReal) ((s : ℝ) : EReal) = ((r * s : ℝ) : EReal) := (EReal.coe_mul r s).symm
theorem exp_coe (r : ℝ) : FloatOps.hostUnary (F := Ideal) (φ := .f32) .exp ((r : ℝ) : EReal) = ((Real.exp r : ℝ) : EReal) := Ideal.exp_coe r
theorem select_coe (p : Prop) [Decidable p] (r s : ℝ) :
    Scalar.select (BitVec.ofBool (decide p)) ((r : ℝ) : EReal) ((s : ℝ) : EReal) = ((if p then r else s : ℝ) : EReal) := by
  by_cases h : p <;> simp [h, Scalar.select]

/-- Softplus of the score, and the logistic function of the score. -/
theorem splus_z (hX : Is3 x0 X) (h : Fin 16) (t s : Fin 8192) :
    val_main_call0_v1_0 (F := Ideal) x0 (ix3 h t s) = ((splus (zS X h t s) : ℝ) : EReal) := by
  have e : val_main_call0_v1_0 (F := Ideal) x0 (ix3 h t s)
      = splusW (FloatOps.hostNegf (FloatOps.hostNegf (val_main_v21 (F := Ideal) x0 (ix3 h t s)))) := rfl
  rw [e, ref_z hX h t s, neg_coe, neg_coe, neg_neg, splusW_coe]

theorem logistic_z (hX : Is3 x0 X) (h : Fin 16) (t s : Fin 8192) :
    val_main_v23_1 (F := Ideal) x0 (ix3 h t s) = ((Real.exp (lsig (zS X h t s)) : ℝ) : EReal) := by
  have e : val_main_v23_1 (F := Ideal) x0 (ix3 h t s)
      = logisticW (FloatOps.hostNegf (FloatOps.hostNegf (val_main_v21 (F := Ideal) x0 (ix3 h t s)))) (val_main_call0_v1_0 (F := Ideal) x0 (ix3 h t s)) := rfl
  rw [e, splus_z hX, ref_z hX h t s, neg_coe, neg_coe, neg_neg, logisticW_coe, sub_eq_add_neg, neg_splus, lneg]
  congr 2
  ring

/-- Softplus of the score's negative, and the logistic function there. -/
theorem splus_neg (hX : Is3 x0 X) (h : Fin 16) (t s : Fin 8192) :
    val_main_call3_v1_0 (F := Ideal) x0 (ix3 h t s) = ((splus (-zS X h t s) : ℝ) : EReal) := by
  have e : val_main_call3_v1_0 (F := Ideal) x0 (ix3 h t s)
      = splusW (FloatOps.hostNegf (val_main_v21 (F := Ideal) x0 (ix3 h t s))) := rfl
  rw [e, ref_z hX h t s, neg_coe, splusW_coe]

theorem logistic_neg (hX : Is3 x0 X) (h : Fin 16) (t s : Fin 8192) :
    val_main_v27_1 (F := Ideal) x0 (ix3 h t s) = ((Real.exp (lneg (zS X h t s)) : ℝ) : EReal) := by
  have e : val_main_v27_1 (F := Ideal) x0 (ix3 h t s)
      = logisticW (FloatOps.hostNegf (val_main_v21 (F := Ideal) x0 (ix3 h t s))) (val_main_call3_v1_0 (F := Ideal) x0 (ix3 h t s)) := rfl
  rw [e, splus_neg hX, ref_z hX h t s, neg_coe, logisticW_coe, sub_eq_add_neg, neg_splus_neg, lneg]
  congr 2
  ring

theorem ref_left (hX : Is3 x0 X) : Is3 (φ := .f32) (val_main_v24_0 (F := Ideal) x0 : FVec Ideal S16x8192x8192 .f32) (stickL X) := by
  intro h t s
  rw [val_main_v24_0_apply, ref_mask, val_main_v23_0_apply, splus_z hX, neg_coe, neg_splus, val_main_call1_v2_apply]
  show Scalar.select _ _ (FloatOps.ofBits .f32 0x00000000#32 : Ideal .f32) = _
  rw [word_zero, select_coe]
  rfl

theorem ref_right (hX : Is3 x0 X) : Is3 (φ := .f32) (val_main_v26 (F := Ideal) x0 : FVec Ideal S16x8192x8192 .f32) (right X) := by
  intro h t s
  have ht : val_main_v25 (F := Ideal) x0 (ix3 h t s) = ((∑ k ∈ Finset.Ico s.val 8192, stickL X h t k : ℝ) : EReal) :=
    Is3.tail (M := 8191) rfl (ref_left hX) _ _ word_zero h t s
  rw [val_main_v26_apply, ht, ref_left hX h t s, sub_coe, Finset.sum_eq_sum_Ico_succ_bot s.isLt]
  refine congrArg (fun r : ℝ => (r : EReal)) ?_
  show stickL X h t s + _ - stickL X h t s = _
  rw [add_sub_cancel_left]
  rfl

theorem ref_expW (hX : Is3 x0 X) : Is3 (φ := .f32) (val_main_v29 (F := Ideal) x0 : FVec Ideal S16x8192x8192 .f32) (expW X) := by
  intro h t s
  rw [val_main_v29_apply, val_main_v28_apply, val_main_v27_0_apply, splus_neg hX, neg_coe, neg_splus_neg, ref_right hX h t s, add_coe, exp_coe]
  rfl

theorem ref_wt (hX : Is3 x0 X) : Is3 (φ := .f32) (val_main_v30_0 (F := Ideal) x0 : FVec Ideal S16x8192x8192 .f32) (wt X) := by
  intro h t s
  rw [val_main_v30_0_apply, ref_expW hX h t s]
  have e : val_main_v30_1 (F := Ideal) (ix3 h t s) = BitVec.ofBool (decide (s.val < t.val)) := ref_mask h t s
  rw [e]
  show Scalar.select _ _ (FloatOps.ofBits .f32 0x00000000#32 : Ideal .f32) = _
  rw [word_zero, select_coe]
  rfl

/-! ## Backwards -/

theorem ref_gradW (hX : Is3 x0 X) (hY : Is2 x1 Y) :
    Is3 (φ := .f32) (val_main_v39 (F := Ideal) x0 x1 : FVec Ideal S16x8192x8192 .f32) (gradW X Y) := by
  intro h t s
  rw [val_main_v39_apply]
  have e : ∀ k : Fin 128, (val_main_v36 (F := Ideal) x1) (lidx_main_v39 (ix3 h t s) k) * (val_main_v12 (F := Ideal) x0) (ridx_main_v39 (ix3 h t s) k)
      = ((Y t (128 * h + k) * X 2 s (128 * h + k) : ℝ) : EReal) := by
    intro k
    rw [EReal.coe_mul]
    exact congrArg₂ (· * ·) ((congrArg (val_main_v36 (F := Ideal) x1) (by funext a; match a with | ⟨0, _⟩ => rfl | ⟨1, _⟩ => rfl | ⟨2, _⟩ => rfl)).trans (ref_do hY h t k))
      ((congrArg (val_main_v12 (F := Ideal) x0) (by funext a; match a with | ⟨0, _⟩ => rfl | ⟨1, _⟩ => rfl | ⟨2, _⟩ => rfl)).trans (ref_v hX h s k))
  rw [Finset.sum_congr rfl fun k _ => e k, coe_sum 128 (fun k => Y t (128 * h + k) * X 2 s (128 * h + k))]
  rfl

theorem ref_eW (hX : Is3 x0 X) (hY : Is2 x1 Y) :
    Is3 (φ := .f32) (val_main_v41 (F := Ideal) x0 x1 : FVec Ideal S16x8192x8192 .f32) (eW X Y) := by
  intro h t s
  rw [val_main_v41_apply, val_main_v40_apply, ref_gradW hX hY h t s, ref_expW hX h t s]
  have e : val_main_v30_1 (F := Ideal) (ix3 h t s) = BitVec.ofBool (decide (s.val < t.val)) := ref_mask h t s
  have e0 : val_main_call5_v0 (F := Ideal) (ix3 h t s) = (FloatOps.ofBits .f32 0x00000000#32 : Ideal .f32) := rfl
  rw [e, e0, word_zero, select_coe, mul_coe]
  rfl

theorem ref_pre (hX : Is3 x0 X) (hY : Is2 x1 Y) :
    Is3 (φ := .f32) (val_main_v45 (F := Ideal) x0 x1 : FVec Ideal S16x8192x8192 .f32) (pre X Y) := by
  intro h t s
  have ht : val_main_v44 (F := Ideal) x0 x1 (ix3 h t s) = ((∑ k ∈ Finset.range (s.val + 1), eW X Y h t k : ℝ) : EReal) :=
    Is3.upto (M := 8191) rfl (ref_eW hX hY) _ _ word_zero h t s
  rw [val_main_v45_apply, val_main_v43_apply, ht, ref_eW hX hY h t s, neg_coe, add_coe, Finset.sum_range_succ]
  refine congrArg (fun r : ℝ => (r : EReal)) ?_
  show -eW X Y h t s + (_ + eW X Y h t s) = _
  rw [add_comm, add_neg_cancel_right]
  rfl

theorem ref_gradZ (hX : Is3 x0 X) (hY : Is2 x1 Y) :
    Is3 (φ := .f32) (val_main_v51 (F := Ideal) x0 x1 : FVec Ideal S16x8192x8192 .f32) (gradZ X Y) := by
  intro h t s
  have e0 : val_main_call8_v0 (F := Ideal) (ix3 h t s) = (FloatOps.ofBits .f32 0x00000000#32 : Ideal .f32) := rfl
  have e1 : val_main_v50 (F := Ideal) (ix3 h t s) = (Scalar.ofBits .f32 0x3DB504F3#32 : Ideal .f32) := rfl
  rw [val_main_v51_apply, val_main_v49_apply, val_main_v42_apply, val_main_call6_v1_apply, val_main_call6_v0_apply, val_main_v48_apply,
    val_main_v47_apply, val_main_call9_v1_apply, val_main_call9_v0_apply, val_main_v46_apply, ref_mask, ref_pre hX hY h t s, ref_eW hX hY h t s,
    logistic_neg hX, logistic_z hX, e0, e1, word_zero, lit_cs, select_coe]
  simp only [neg_coe, mul_coe, add_coe]
  congr 1
  unfold gradZ
  rw [logistic_compl]
  by_cases hm : s.val < t.val
  · rw [if_pos hm, if_pos hm]; ring
  · have hz : eW X Y h t s = 0 := by unfold eW; rw [if_neg hm, zero_mul]
    rw [if_neg hm, if_neg hm, hz]; ring

/-! ## The three gradients, head by head -/

theorem ref_gradQ (hX : Is3 x0 X) (hY : Is2 x1 Y) :
    Is3 (φ := .f32) (val_main_v53 (F := Ideal) x0 x1 : FVec Ideal S16x8192x128 .f32) (gradQ X Y) := by
  intro h t d
  rw [val_main_v53_apply]
  have e : ∀ k : Fin 8192, (val_main_v51 (F := Ideal) x0 x1) (lidx_main_v53 (ix3 h t d) k) * (val_main_v10 (F := Ideal) x0) (ridx_main_v53 (ix3 h t d) k)
      = ((gradZ X Y h t k * X 1 k (128 * h + d) : ℝ) : EReal) := by
    intro k
    rw [EReal.coe_mul]
    exact congrArg₂ (· * ·) ((congrArg (val_main_v51 (F := Ideal) x0 x1) (by funext a; match a with | ⟨0, _⟩ => rfl | ⟨1, _⟩ => rfl | ⟨2, _⟩ => rfl)).trans (ref_gradZ hX hY h t k))
      ((congrArg (val_main_v10 (F := Ideal) x0) (by funext a; match a with | ⟨0, _⟩ => rfl | ⟨1, _⟩ => rfl | ⟨2, _⟩ => rfl)).trans (ref_k hX h k d))
  rw [Finset.sum_congr rfl fun k _ => e k, coe_sum 8192 (fun k => gradZ X Y h t k * X 1 k (128 * h + d))]
  rfl

theorem ref_gradK (hX : Is3 x0 X) (hY : Is2 x1 Y) :
    Is3 (φ := .f32) (val_main_v52 (F := Ideal) x0 x1 : FVec Ideal S16x8192x128 .f32) (gradK X Y) := by
  intro h s d
  rw [val_main_v52_apply]
  have e : ∀ k : Fin 8192, (val_main_v51 (F := Ideal) x0 x1) (lidx_main_v52 (ix3 h s d) k) * (val_main_v8 (F := Ideal) x0) (ridx_main_v52 (ix3 h s d) k)
      = ((gradZ X Y h k s * X 0 k (128 * h + d) : ℝ) : EReal) := by
    intro k
    rw [EReal.coe_mul]
    exact congrArg₂ (· * ·) ((congrArg (val_main_v51 (F := Ideal) x0 x1) (by funext a; match a with | ⟨0, _⟩ => rfl | ⟨1, _⟩ => rfl | ⟨2, _⟩ => rfl)).trans (ref_gradZ hX hY h k s))
      ((congrArg (val_main_v8 (F := Ideal) x0) (by funext a; match a with | ⟨0, _⟩ => rfl | ⟨1, _⟩ => rfl | ⟨2, _⟩ => rfl)).trans (ref_q hX h k d))
  rw [Finset.sum_congr rfl fun k _ => e k, coe_sum 8192 (fun k => gradZ X Y h k s * X 0 k (128 * h + d))]
  rfl

theorem ref_gradV (hX : Is3 x0 X) (hY : Is2 x1 Y) :
    Is3 (φ := .f32) (val_main_v38 (F := Ideal) x0 x1 : FVec Ideal S16x8192x128 .f32) (gradV X Y) := by
  intro h s d
  rw [val_main_v38_apply, val_main_v37_apply]
  have e : ∀ k : Fin 8192, (val_main_v36 (F := Ideal) x1) (lidx_main_v37 (idx_main_v38 (ix3 h s d)) k)
        * (val_main_v30_0 (F := Ideal) x0) (ridx_main_v37 (idx_main_v38 (ix3 h s d)) k)
      = ((wt X h k s * Y k (128 * h + d) : ℝ) : EReal) := by
    intro k
    rw [mul_comm (wt X h k s), EReal.coe_mul]
    exact congrArg₂ (· * ·) ((congrArg (val_main_v36 (F := Ideal) x1) (by funext a; match a with | ⟨0, _⟩ => rfl | ⟨1, _⟩ => rfl | ⟨2, _⟩ => rfl)).trans (ref_do hY h k d))
      ((congrArg (val_main_v30_0 (F := Ideal) x0) (by funext a; match a with | ⟨0, _⟩ => rfl | ⟨1, _⟩ => rfl | ⟨2, _⟩ => rfl)).trans (ref_wt hX h k s))
  rw [Finset.sum_congr rfl fun k _ => e k, coe_sum 8192 (fun k => wt X h k s * Y k (128 * h + d))]
  rfl

/-! ## The two results -/

/-- The gradients of the queries, heads side by side. -/
theorem ref_first (hX : Is3 x0 X) (hY : Is2 x1 Y) :
    Is2 (φ := .bf16) (val_main_v60 (F := Ideal) x0 x1 : FVec Ideal S8192x2048 .bf16) (fun s e => gradQ X Y (e / 128) s (e % 128)) := by
  intro s e
  have hs := s.isLt
  have he := e.isLt
  rw [val_main_v60_apply, val_main_v59_apply, val_main_v58_apply]
  refine Eq.trans (congrArg (val_main_v53 (F := Ideal) x0 x1)
    (?_ : _ = ix3 (⟨e.val / 128, by omega⟩ : Fin 16) s (⟨e.val % 128, by omega⟩ : Fin 128))) (ref_gradQ hX hY _ _ _)
  funext a
  match a with
  | ⟨0, _⟩ => apply Fin.ext; dsimp [ix3, ix2]; omega
  | ⟨1, _⟩ => apply Fin.ext; dsimp [ix3, ix2]; omega
  | ⟨2, _⟩ => apply Fin.ext; dsimp [ix3, ix2]; omega

theorem ref_keys (hX : Is3 x0 X) (hY : Is2 x1 Y) :
    Is3 (φ := .f32) (val_main_v61 (F := Ideal) x0 x1 : FVec Ideal S1x8192x2048 .f32) (fun _ s e => gradK X Y (e / 128) s (e % 128)) := by
  intro z s e
  have hs := s.isLt
  have he := e.isLt
  rw [val_main_v61_apply, val_main_v57_apply, val_main_v56_apply]
  refine Eq.trans (congrArg (val_main_v52 (F := Ideal) x0 x1)
    (?_ : _ = ix3 (⟨e.val / 128, by omega⟩ : Fin 16) s (⟨e.val % 128, by omega⟩ : Fin 128))) (ref_gradK hX hY _ _ _)
  funext a
  match a with
  | ⟨0, _⟩ => apply Fin.ext; dsimp [ix3, ix2]; omega
  | ⟨1, _⟩ => apply Fin.ext; dsimp [ix3, ix2]; omega
  | ⟨2, _⟩ => apply Fin.ext; dsimp [ix3, ix2]; omega

theorem ref_values (hX : Is3 x0 X) (hY : Is2 x1 Y) :
    Is3 (φ := .f32) (val_main_v62 (F := Ideal) x0 x1 : FVec Ideal S1x8192x2048 .f32) (fun _ s e => gradV X Y (e / 128) s (e % 128)) := by
  intro z s e
  have hs := s.isLt
  have he := e.isLt
  rw [val_main_v62_apply, val_main_v55_apply, val_main_v54_apply]
  refine Eq.trans (congrArg (val_main_v38 (F := Ideal) x0 x1)
    (?_ : _ = ix3 (⟨e.val / 128, by omega⟩ : Fin 16) s (⟨e.val % 128, by omega⟩ : Fin 128))) (ref_gradV hX hY _ _ _)
  funext a
  match a with
  | ⟨0, _⟩ => apply Fin.ext; dsimp [ix3, ix2]; omega
  | ⟨1, _⟩ => apply Fin.ext; dsimp [ix3, ix2]; omega
  | ⟨2, _⟩ => apply Fin.ext; dsimp [ix3, ix2]; omega

/-- The gradients of the keys (plane 0) and of the values (plane 1). -/
theorem ref_second (hX : Is3 x0 X) (hY : Is2 x1 Y) :
    Is3 (φ := .bf16) (val_main_v64 (F := Ideal) x0 x1 : FVec Ideal S2x8192x2048 .bf16)
      (fun a s e => if a = 0 then gradK X Y (e / 128) s (e % 128) else gradV X Y (e / 128) s (e % 128)) := by
  intro a s e
  rw [val_main_v64_apply]
  show val_main_v63 (F := Ideal) x0 x1 (ix3 a s e) = _
  unfold val_main_v63
  have h1 := ref_keys hX hY
  have h2 := ref_values hX hY
  generalize (val_main_v61 (F := Ideal) x0 x1) = y at *
  generalize (val_main_v62 (F := Ideal) x0 x1) = w at *
  pointwise
  by_cases ha : a.val < 1
  · have h0 : a.val = 0 := by omega
    exact (dif_pos ha).trans ((h1 _ _ _).trans (congrArg (fun r : ℝ => (r : EReal)) (if_pos h0).symm))
  · have h0 : ¬ a.val = 0 := by omega
    exact (dif_neg ha).trans ((h2 _ _ _).trans (congrArg (fun r : ℝ => (r : EReal)) (if_neg h0).symm))

end Stick
-- ==== Proof.HostRuns.lean ====
/-
  The sums to the right of each tile, as the host prepares them.
-/
module

public import proofs.«01_k».proof.Proof.Gen.KernelIdeal.Frame
public import proofs.«01_k».proof.Proof.Ref

@[expose] public section

set_option maxRecDepth 16384

noncomputable section

namespace Stick

open Idealize.ShloMosaic Idealize.ShloMosaic.TcCoe Cert.KernelIdeal Cert.KernelIdeal.Gen

variable (σ : Valuation τ sig (Elt Ideal))

/-- The entries at the right edge of each block of keys, laid out by blocks of queries, each row eight times over. -/
def prep (x : FVec Ideal S16x8192x8192 .f32) : FVec Ideal S16x16x128x512 .f32 :=
  shapeCast S16x16x128x512 (broadcastInDim S16x16x16x8x512 ![0, 1, 2, 3, 4] bcast_S16x16x16x1x512_S16x16x16x8x512_0_1_2_3_4
    (broadcastInDim S16x16x16x1x512 ![0, 1, 2, 4] bcast_S16x16x16x512_S16x16x16x1x512_0_1_2_4
      (transpose S16x16x16x512 [0, 1, 3, 2]
        (shapeCast S16x16x512x16 (Host.slice S16x8192x16 ![0, 0, 511] ![1, 1, 512] x
          slicesBy_S16x8192x8192_S16x8192x16_0s1_0s1_511s512) shapeCasts_S16x8192x16_S16x16x512x16)
        transposes_S16x16x512x16_S16x16x16x512_0_1_3_2))) shapeCasts_S16x16x16x8x512_S16x16x128x512

theorem stage5 : (StableHlo.after hostOps0_5 σ main_v28 : FVec Ideal S16x16x128x512 .f32)
    = prep (subf (σ main_v21 : FVec Ideal S16x8192x8192 .f32) (σ main_v20 : FVec Ideal S16x8192x8192 .f32)) := by
  entry_read
  rfl

theorem stage4 : (StableHlo.after hostOps0_4 σ main_v21 : FVec Ideal S16x8192x8192 .f32)
    = Host.reduceWindowAdd ![1, 1, 8192] ![1, 1, 1] ![0, 0, 0] ![0, 0, 8191] (σ main_v20 : FVec Ideal S16x8192x8192 .f32)
        (broadcastInDim S_ ![] bcast_S_S_ (constant S_ .f32 0x00000000#32 : FVec Ideal S_ .f32))
        reduceWindows_S16x8192x8192_S16x8192x8192_w1s1p0_0_w1s1p0_0_w8192s1p0_8191 h_S_ := by
  entry_read
  rfl

theorem stage3 : (StableHlo.after hostOps0_3 σ main_v20 : FVec Ideal S16x8192x8192 .f32)
    = select (broadcastInDim S16x8192x8192 ![1, 2] bcast_S8192x8192_S16x8192x8192_1_2 (σ main_v14 : IVec S8192x8192 1))
        (σ main_v19 : FVec Ideal S16x8192x8192 .f32)
        (broadcastInDim S16x8192x8192 ![] bcast_S_S16x8192x8192 (σ main_cst_0 : FVec Ideal S_ .f32)) := by
  entry_read
  rfl

theorem stage2 : (StableHlo.after hostOps0_2 σ main_cst_0 : FVec Ideal S_ .f32) = (constant S_ .f32 0x00000000#32 : FVec Ideal S_ .f32) := by
  entry_read
  rfl

theorem stage1 : (StableHlo.after hostOps0_1 σ main_v19 : FVec Ideal S16x8192x8192 .f32)
    = fun i => FloatOps.hostNegf (splusW (FloatOps.hostNegf ((σ main_v18 : FVec Ideal S16x8192x8192 .f32) i))) := by
  entry_read
  rfl

theorem stage0 : (StableHlo.after hostOps0 σ main_v18 : FVec Ideal S16x8192x8192 .f32)
    = Cert.ReferenceIdeal.Read.val_main_v22 (F := Ideal) (σ main_arg0) := by
  entry_read
  rfl

theorem stage0_mask : (StableHlo.after hostOps0 σ main_v14 : IVec S8192x8192 1)
    = Cert.ReferenceIdeal.Read.val_main_v18 (F := Ideal) := by
  entry_read
  rfl

/-! ## The layout -/

/-- An index of an array with five axes. -/
def ix5 {n0 n1 n2 n3 n4 : ℕ} (a : Fin n0) (b : Fin n1) (c : Fin n2) (d : Fin n3) (e : Fin n4) : (⟨5, ![n0, n1, n2, n3, n4]⟩ : Shape).Idx
  | ⟨0, _⟩ => a
  | ⟨1, _⟩ => b
  | ⟨2, _⟩ => c
  | ⟨3, _⟩ => d
  | ⟨4, _⟩ => e

theorem prep_apply (x : FVec Ideal S16x8192x8192 .f32) (h i g : Fin 16) (r : Fin 512) :
    prep x (ix4 h i (⟨8 * g.val, by omega⟩ : Fin 128) r)
      = x (ix3 h (⟨512 * i.val + r.val, by omega⟩ : Fin 8192) (⟨512 * g.val + 511, by omega⟩ : Fin 8192)) := by
  have hh := h.isLt
  have hi := i.isLt
  have hg := g.isLt
  have hr := r.isLt
  unfold prep
  refine (shapeCast_apply _ _ _ (ix5 h i g (0 : Fin 8) r) ?_).trans ?_
  · rw [Shape.rowMajor_val_five, Shape.rowMajor_val_four]
    show (((h.val * 16 + i.val) * 16 + g.val) * 8 + 0) * 512 + r.val = ((h.val * 16 + i.val) * 128 + 8 * g.val) * 512 + r.val
    omega
  refine (broadcastInDim_apply _ _ _ _ (ix5 h i g (0 : Fin 1) r) ?_).trans ?_
  · intro a
    match a with
    | ⟨0, _⟩ => rfl
    | ⟨1, _⟩ => rfl
    | ⟨2, _⟩ => rfl
    | ⟨3, _⟩ => rfl
    | ⟨4, _⟩ => rfl
  refine (broadcastInDim_apply _ _ _ _ (ix4 h i g r) ?_).trans ?_
  · intro a
    match a with
    | ⟨0, _⟩ => rfl
    | ⟨1, _⟩ => rfl
    | ⟨2, _⟩ => rfl
    | ⟨3, _⟩ => rfl
  refine (transpose_apply _ _ _ _ (ix4 h i r g) ?_).trans ?_
  · intro a
    match a with
    | ⟨0, _⟩ => rfl
    | ⟨1, _⟩ => rfl
    | ⟨2, _⟩ => rfl
    | ⟨3, _⟩ => rfl
  refine (shapeCast_apply _ _ _ (ix3 h (⟨512 * i.val + r.val, by omega⟩ : Fin 8192) g) ?_).trans ?_
  · rw [Shape.rowMajor_val_three, Shape.rowMajor_val_four]
    show (h.val * 8192 + (512 * i.val + r.val)) * 16 + g.val = ((h.val * 16 + i.val) * 512 + r.val) * 16 + g.val
    omega
  unfold Host.slice
  refine congrArg x (funext fun a => ?_)
  match a with
  | ⟨0, _⟩ => apply Fin.ext; dsimp [ix3]; omega
  | ⟨1, _⟩ => apply Fin.ext; dsimp [ix3]; omega
  | ⟨2, _⟩ => apply Fin.ext; dsimp [ix3]; omega

/-! ## The stages in turn -/

theorem after_two (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons o l ih => exact ih _

theorem keep1 : (StableHlo.after hostOps0_1 σ main_v14 : IVec S8192x8192 1) = σ main_v14 :=
  StableHlo.after_of_forall_not_mem _ _ (List.forall_iff_forall_mem.mp (by
    simp only [hostOps0_1, List.Forall, StableHlo.nullary_writes, StableHlo.unary_writes, StableHlo.binary_writes,
      StableHlo.ternary_writes, StableHlo.reshape_writes, StableHlo.binaryIndexed_writes, Finset.mem_singleton]
    repeat' apply And.intro
    all_goals exact StableHlo.devRef_ne_of_ne (by decide)))

theorem keep2 {b : Ref sig .tc} (hb : b ≠ main_cst_0) : StableHlo.after hostOps0_2 σ b = σ b :=
  StableHlo.after_of_forall_not_mem _ _ (List.forall_iff_forall_mem.mp (by
    simp only [hostOps0_2, List.Forall, StableHlo.nullary_writes, Finset.mem_singleton]
    exact StableHlo.devRef_ne_of_ne hb))

theorem keep4 : (StableHlo.after hostOps0_4 σ main_v20 : FVec Ideal S16x8192x8192 .f32) = σ main_v20 :=
  StableHlo.after_of_forall_not_mem _ _ (List.forall_iff_forall_mem.mp (by
    simp only [hostOps0_4, List.Forall, StableHlo.nullary_writes, StableHlo.unary_writes, StableHlo.binary_writes,
      StableHlo.ternary_writes, StableHlo.reshape_writes, StableHlo.binaryIndexed_writes, Finset.mem_singleton]
    repeat' apply And.intro
    all_goals exact StableHlo.devRef_ne_of_ne (by decide)))

variable {σ} {X : ℕ → ℕ → ℕ → ℝ}

/-- The logarithms of what the keys leave over, masked. -/
theorem host_left (hX : Is3 (φ := .bf16) (σ main_arg0 : FVec Ideal S3x8192x2048 .bf16) X) :
    Is3 (φ := .f32) (StableHlo.after hostOps0_3 (StableHlo.after hostOps0_2 (StableHlo.after hostOps0_1 (StableHlo.after hostOps0 σ))) main_v20
      : FVec Ideal S16x8192x8192 .f32) (stickL X) := by
  intro h t s
  have e19 : ((StableHlo.after hostOps0_2 (StableHlo.after hostOps0_1 (StableHlo.after hostOps0 σ)) main_v19 : FVec Ideal S16x8192x8192 .f32)
      (ix3 h t s)) = ((lneg (zS X h t s) : ℝ) : EReal) := by
    rw [keep2 _ (by decide), stage1, stage0]
    show FloatOps.hostNegf (splusW (FloatOps.hostNegf (Cert.ReferenceIdeal.Read.val_main_v22 (F := Ideal) (σ main_arg0) (ix3 h t s)))) = _
    rw [Cert.ReferenceIdeal.Read.val_main_v22_apply, ref_z hX h t s, neg_coe, neg_coe, neg_neg,
      splusW_coe, neg_coe, neg_splus]
  have e14 : (StableHlo.after hostOps0_2 (StableHlo.after hostOps0_1 (StableHlo.after hostOps0 σ)) main_v14 : IVec S8192x8192 1)
      = Cert.ReferenceIdeal.Read.val_main_v18 (F := Ideal) := by
    rw [keep2 _ (by decide), keep1, stage0_mask]
  rw [stage3, e14, stage2]
  show Scalar.select (Cert.ReferenceIdeal.Read.val_main_v24_1 (F := Ideal) (ix3 h t s)) _ (FloatOps.ofBits .f32 0x00000000#32 : Ideal .f32) = _
  rw [ref_mask, e19, word_zero, select_coe]
  rfl

/-- What the kernel reads of the sums to the right. -/
theorem host_runs (hX : Is3 (φ := .bf16) (σ main_arg0 : FVec Ideal S3x8192x2048 .bf16) X) (h i g : Fin 16) (r : Fin 512) :
    (StableHlo.after (hostOps0 ++ (hostOps0_1 ++ (hostOps0_2 ++ (hostOps0_3 ++ (hostOps0_4 ++ hostOps0_5))))) σ main_v28
      : FVec Ideal S16x16x128x512 .f32) (ix4 h i ⟨8 * g.val, by omega⟩ r)
      = ((right X h (512 * i + r) (512 * g + 511) : ℝ) : EReal) := by
  rw [after_two, after_two, after_two, after_two, after_two]
  have hl := host_left hX
  generalize StableHlo.after hostOps0_3 (StableHlo.after hostOps0_2 (StableHlo.after hostOps0_1 (StableHlo.after hostOps0 σ))) = σ' at hl ⊢
  rw [stage5, prep_apply, stage4, keep4]
  have ht := Is3.tail (M := 8191) rfl hl reduceWindows_S16x8192x8192_S16x8192x8192_w1s1p0_0_w1s1p0_0_w8192s1p0_8191 h_S_
    (init := broadcastInDim S_ ![] bcast_S_S_ (constant S_ .f32 0x00000000#32 : FVec Ideal S_ .f32)) word_zero h
    ⟨512 * i.val + r.val, by omega⟩ ⟨512 * g.val + 511, by omega⟩
  show FloatOps.subf _ _ = _
  refine (congrArg₂ FloatOps.subf ht (hl h ⟨512 * i.val + r.val, by omega⟩ ⟨512 * g.val + 511, by omega⟩)).trans ?_
  rw [sub_coe]
  refine congrArg (fun r : ℝ => (r : EReal)) ?_
  show ∑ k ∈ Finset.Ico (512 * g.val + 511) 8192, stickL X h (512 * i.val + r.val) k - stickL X h (512 * i.val + r.val) (512 * g.val + 511) = _
  rw [Finset.sum_eq_sum_Ico_succ_bot (show 512 * g.val + 511 < 8192 by omega)]
  rw [add_sub_cancel_left]
  rfl

end Stick
-- ==== Proof.Loop.lean ====
/-
  The loop over the tiles left of the diagonal: what it hands on and what it leaves in the two accumulators.
-/
module

public import proofs.«01_k».proof.Proof.Gen.KernelIdeal.Loops
public import proofs.«01_k».proof.Proof.Tile
public import Idealize.ShloMosaic.Lib.WritesUnit

@[expose] public section

set_option maxRecDepth 16384

noncomputable section

namespace Stick

open Idealize.ShloMosaic Cert.KernelIdeal Cert.KernelIdeal.Gen

/-! ## Where the loop loads and stores -/

/-- There are as many tiles left of the diagonal as the query block's number says. -/
theorem trips_left (i : grid0.Coords) : (k0_t1_loop i).trips = (i 1).val := by
  have h : ∀ n : Fin 16, Scf.trips (0#32) (Scalar.addi 0#32 (Scalar.muli (Scalar.divsi (Scalar.subi (BitVec.ofNat 32 n.val) 0#32) 1#32) 1#32)) 1#32
      = n.val := by decide
  exact h (i 1)

/-- The second loop has nothing left to do. -/
theorem trips_rest (i : grid0.Coords) : (k0_t2_loop i).trips = 0 := by
  have h : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide
  exact h (i 1)

theorem trip_lt {i : grid0.Coords} (k : Fin (k0_t1_loop i).trips) : k.val < 16 :=
  lt_trans (lt_of_lt_of_eq k.isLt (trips_left i)) (i 1).isLt

theorem by512 : ∀ n : Fin 16, (Scalar.indexCast (Scalar.muli (Scf.iv 0#32 1#32 n.val) 512#32)).toNat = 512 * n.val := by decide
theorem by8 : ∀ n : Fin 16, (Scalar.indexCast (Scalar.muli (Scf.iv 0#32 1#32 n.val) 8#32)).toNat = 8 * n.val := by decide
theorem own512 : ∀ n : Fin 16, (Scalar.indexCast (Scalar.muli (BitVec.ofNat 32 n.val) 512#32)).toNat = 512 * n.val := by decide
theorem own8 : ∀ n : Fin 16, (Scalar.indexCast (Scalar.muli (BitVec.ofNat 32 n.val) 8#32)).toNat = 8 * n.val := by decide

theorem off1 {i : grid0.Coords} (k : Fin (k0_t1_loop i).trips) : k0_off1 i k = ![0, 512 * k.val, 0] := by
  unfold k0_off1
  exact congrArg (fun n => ![0, n, 0]) (by512 ⟨k.val, trip_lt k⟩)
theorem off2 {i : grid0.Coords} (k : Fin (k0_t1_loop i).trips) : k0_off2 i k = ![0, 0, 8 * k.val, 0] := by
  unfold k0_off2
  exact congrArg (fun n => ![0, 0, n, 0]) (by8 ⟨k.val, trip_lt k⟩)
theorem off3 {i : grid0.Coords} (k : Fin (k0_t1_loop i).trips) : k0_off3 i k = ![512 * k.val, 0] := by
  unfold k0_off3
  exact congrArg (fun n => ![n, 0]) (by512 ⟨k.val, trip_lt k⟩)
theorem off7 (i : grid0.Coords) : k0_off7 i = ![0, 512 * (i 1).val, 0] := by
  unfold k0_off7
  exact congrArg (fun n => ![0, n, 0]) (own512 (i 1))
theorem off8 (i : grid0.Coords) : k0_off8 i = ![0, 0, 8 * (i 1).val, 0] := by
  unfold k0_off8
  exact congrArg (fun n => ![0, 0, n, 0]) (own8 (i 1))
theorem off9 (i : grid0.Coords) : k0_off9 i = ![512 * (i 1).val, 0] := by
  unfold k0_off9
  exact congrArg (fun n => ![n, 0]) (own512 (i 1))

/-! ## Loads of 512 rows, and a store of 512 rows -/

/-- The rows of block number `g`. -/
def blk (K : ℕ → ℕ → ℝ) (g r d : ℕ) : ℝ := K (512 * g + r) d

section Rows

variable {sig' : RefSig} {κ : Kind} {sp : Space} {K : ℕ → ℕ → ℝ} {g : ℕ}

theorem load_slab (v : View sig' κ sp S1x8192x128 .bf16) (X : v.ty.Contents (Elt Ideal)) {off : Fin 3 → ℕ}
    (inb : ∀ a, off a + S1x512x128.size a ≤ S1x8192x128.size a) (ho : off = ![0, 512 * g, 0]) (hg : g < 16)
    (hX : Is3 (φ := .bf16) (v.read (Elt Ideal) X) (fun _ => K)) :
    Is3 (n := 512) (m := 128) (k := 1) (φ := .bf16) (v.readAt (Elt Ideal) (Rect.unit (s := S1x8192x128) off S1x512x128.size inb).toLoadRect X)
      (fun _ => blk K g) := by
  subst ho
  intro a r c
  rw [View.readAt_apply]
  refine Eq.trans (congrArg (v.read (Elt Ideal) X) ?_) (hX (0 : Fin 1) (⟨512 * g + r.val, by omega⟩ : Fin 8192) c)
  funext b
  apply Fin.ext
  rw [LoadRect.idx_apply]
  match b with
  | ⟨0, _⟩ => show 0 + 1 * a.val = 0; omega
  | ⟨1, _⟩ => show 512 * g + 1 * r.val = 512 * g + r.val; omega
  | ⟨2, _⟩ => show 0 + 1 * c.val = c.val; omega

theorem load_run (v : View sig' κ sp S1x1x128x512 .f32) (X : v.ty.Contents (Elt Ideal)) {off : Fin 4 → ℕ} {R : ℕ → ℕ → ℝ}
    (inb : ∀ a, off a + S1x1x1x512.size a ≤ S1x1x128x512.size a) (ho : off = ![0, 0, 8 * g, 0]) (hg : g < 16)
    (hX : ∀ (g : Fin 16) (r : Fin 512), (v.read (Elt Ideal) X : FVec Ideal S1x1x128x512 .f32) (ix4 0 0 ⟨8 * g.val, by omega⟩ r) = ((R g r : ℝ) : EReal))
    (r : Fin 512) :
    (v.readAt (Elt Ideal) (Rect.unit (s := S1x1x128x512) off S1x1x1x512.size inb).toLoadRect X : FVec Ideal S1x1x1x512 .f32) (ix4 0 0 0 r)
      = ((R g r : ℝ) : EReal) := by
  subst ho
  rw [View.readAt_apply]
  refine Eq.trans (congrArg (v.read (Elt Ideal) X) ?_) (hX ⟨g, hg⟩ r)
  funext b
  apply Fin.ext
  rw [LoadRect.idx_apply]
  match b with
  | ⟨0, _⟩ => rfl
  | ⟨1, _⟩ => rfl
  | ⟨2, _⟩ => show 8 * g + 1 * 0 = 8 * g; omega
  | ⟨3, _⟩ => show 0 + 1 * r.val = r.val; omega

theorem load_rows (v : View sig' κ sp S8192x128 .f32) (X : v.ty.Contents (Elt Ideal)) {off : Fin 2 → ℕ}
    (inb : ∀ a, off a + S512x128.size a ≤ S8192x128.size a) (ho : off = ![512 * g, 0]) (hg : g < 16)
    (hX : Is2 (φ := .f32) (v.read (Elt Ideal) X) K) :
    Is2 (n := 512) (m := 128) (φ := .f32) (v.readAt (Elt Ideal) (Rect.unit (s := S8192x128) off S512x128.size inb).toLoadRect X)
      (blk K g) := by
  subst ho
  intro r c
  rw [View.readAt_apply]
  refine Eq.trans (congrArg (v.read (Elt Ideal) X) ?_) (hX (⟨512 * g + r.val, by omega⟩ : Fin 8192) c)
  funext b
  apply Fin.ext
  rw [LoadRect.idx_apply]
  match b with
  | ⟨0, _⟩ => show 512 * g + 1 * r.val = 512 * g + r.val; omega
  | ⟨1, _⟩ => show 0 + 1 * c.val = c.val; omega

/-- Storing the rows of block `g` changes these rows and no others. -/
theorem store_rows (v : View sig' κ sp S8192x128 .f32) (X : v.ty.Contents (Elt Ideal)) {off : Fin 2 → ℕ}
    (inb : ∀ a, off a + S512x128.size a ≤ S8192x128.size a) (ho : off = ![512 * g, 0]) {p : FVec Ideal S512x128 .f32} {T : ℕ → ℕ → ℝ}
    (hX : Is2 (φ := .f32) (v.read (Elt Ideal) X) K) (hp : Is2 p T) :
    Is2 (φ := .f32) (v.read (Elt Ideal) (v.writes (Elt Ideal) X [⟨Rect.unit (s := S8192x128) off S512x128.size inb, p⟩]))
      (fun s d => if s / 512 = g then T (s % 512) d else K s d) := by
  intro s d
  by_cases h : s.val / 512 = g
  · have e := View.read_writes_cons_rows_of_mem (Val := Elt Ideal) v X inb p [] (ix2 s d) (ix2 (⟨s.val % 512, by omega⟩ : Fin 512) d) ho
      (by show s.val = 512 * g + s.val % 512; omega) rfl
    rw [e]
    show _ = (((if s.val / 512 = g then T (s.val % 512) d.val else K s d : ℝ)) : EReal)
    rw [if_pos h]
    exact hp (⟨s.val % 512, by omega⟩ : Fin 512) d
  · have e := View.read_writes_cons_rows_of_not_mem (Val := Elt Ideal) (W := 512) v X inb p [] (ix2 s d) ho rfl
      (by show s.val < 512 * g ∨ 512 * g + 512 ≤ s.val; omega)
    rw [e]
    show _ = (((if s.val / 512 = g then T (s.val % 512) d.val else K s d : ℝ)) : EReal)
    rw [if_neg h]
    exact hX s d

end Rows

/-! ## One trip, and all of them -/

section Trip

variable (Q D K V R : ℕ → ℕ → ℝ)

/-- Of one block of queries: its weights on the keys of block `g`, those times their gradients, what the blocks before `n`
hand on, and the gradients of the scores. -/
def tw (g : ℕ) : ℕ → ℕ → ℝ := wts Q (blk K g) (R g)
def te (g : ℕ) : ℕ → ℕ → ℝ := prods Q (blk K g) (blk V g) D (R g)
def hand (n r : ℕ) : ℝ := ∑ g ∈ Finset.range n, ∑ k ∈ Finset.Ico 0 512, te Q D K V R g r k
def tg (g : ℕ) : ℕ → ℕ → ℝ := dsc Q (blk K g) (blk V g) D (R g) (hand Q D K V R g)

/-- What the blocks before `n` add to the gradient of the queries, of key `s` and of value `s`. -/
def addQ (n r d : ℕ) : ℝ := ∑ g ∈ Finset.range n, ∑ c ∈ Finset.range 512, tg Q D K V R g r c * K (512 * g + c) d
def addK (s d : ℕ) : ℝ := ∑ r ∈ Finset.range 512, tg Q D K V R (s / 512) r (s % 512) * Q r d
def addV (s d : ℕ) : ℝ := ∑ r ∈ Finset.range 512, tw Q K R (s / 512) r (s % 512) * D r d

end Trip

/-- Adding a term to the rows of block `n` is one more block with its terms added. -/
theorem grow {B A : ℕ → ℕ → ℝ} {n s d : ℕ} {t : ℝ} (ht : s / 512 = n → t = A s d) :
    (if s / 512 = n then blk (fun s d => if s / 512 < n then B s d + A s d else B s d) n (s % 512) d + t
      else if s / 512 < n then B s d + A s d else B s d) = if s / 512 < n + 1 then B s d + A s d else B s d := by
  by_cases h : s / 512 = n
  · have e : 512 * n + s % 512 = s := by omega
    have e' : blk (fun s d => if s / 512 < n then B s d + A s d else B s d) n (s % 512) d = B s d := by
      show (if (512 * n + s % 512) / 512 < n then B (512 * n + s % 512) d + A (512 * n + s % 512) d else B (512 * n + s % 512) d) = _
      rw [e, if_neg (by omega)]
    rw [if_pos h, if_pos (by omega), e', ht h]
  · rw [if_neg h]
    by_cases h' : s / 512 < n
    · rw [if_pos h', if_pos (by omega)]
    · rw [if_neg h', if_neg (by omega)]

section Run

variable (𝒱 : Variants) (dev : Dev nD) (bd : Option 𝒱.V) (i : grid0.Coords)
  (a2 : Memref sig .tc .vmem S1x512x128 .bf16) (h2 : a2.IsWhole) (a3 : Memref sig .tc .vmem S1x8192x128 .bf16) (h3 : a3.IsWhole)
  (a4 : Memref sig .tc .vmem S1x8192x128 .bf16) (h4 : a4.IsWhole) (a5 : Memref sig .tc .vmem S512x128 .bf16) (h5 : a5.IsWhole)
  (a6 : Memref sig .tc .vmem S1x1x128x512 .f32) (h6 : a6.IsWhole) (a7 : Memref sig .tc .vmem S512x128 .bf16) (h7 : a7.IsWhole)
  (a8 : Memref sig .tc .vmem S2x8192x128 .bf16) (h8 : a8.IsWhole) (a9 : Memref sig .tc .vmem S8192x128 .f32) (h9 : a9.IsWhole)
  (a10 : Memref sig .tc .vmem S8192x128 .f32) (h10 : a10.IsWhole)
  (v0 : FVec Ideal S1x512x128 .bf16) (v2 : FVec Ideal S512x128 .bf16) (X3 : a3.view.ty.Contents (Elt Ideal))
  (X4 : a4.view.ty.Contents (Elt Ideal)) (X6 : a6.view.ty.Contents (Elt Ideal))
  {Q D K V R K9 K10 : ℕ → ℕ → ℝ}

/-- Before trip `n`: what is handed on, and what the accumulators hold. -/
def Before (n : ℕ) (Q D K V R K9 K10 : ℕ → ℕ → ℝ) (acc : FVec Ideal S512x128 .f32 × FVec Ideal S512x1 .f32)
    (x9 x10 : FVec Ideal S8192x128 .f32) : Prop :=
  Is2 acc.1 (addQ Q D K V R n) ∧ Is2 acc.2 (fun r _ => hand Q D K V R n r)
    ∧ Is2 x9 (fun s d => if s / 512 < n then K9 s d + addK Q D K V R s d else K9 s d)
    ∧ Is2 x10 (fun s d => if s / 512 < n then K10 s d + addV Q D K R s d else K10 s d)

theorem trip (k : Fin (k0_t1_loop i).trips) (acc : FVec Ideal S512x128 .f32 × FVec Ideal S512x1 .f32) (f9 : a9.view.ty.Contents (Elt Ideal))
    (f10 : a10.view.ty.Contents (Elt Ideal)) (hq : Is3 v0 (fun _ => Q)) (hd : Is2 v2 D)
    (hk : Is3 (φ := .bf16) (a3.view.read (Elt Ideal) X3) (fun _ => K)) (hv : Is3 (φ := .bf16) (a4.view.read (Elt Ideal) X4) (fun _ => V))
    (hr : ∀ (g : Fin 16) (r : Fin 512), (a6.view.read (Elt Ideal) X6 : FVec Ideal S1x1x128x512 .f32) (ix4 0 0 ⟨8 * g.val, by omega⟩ r) = ((R g r : ℝ) : EReal))
    (hb : Before k.val Q D K V R K9 K10 acc (a9.view.read (Elt Ideal) f9) (a10.view.read (Elt Ideal) f10)) :
    Before (k.val + 1) Q D K V R K9 K10
      (tripR_k0_t1 (F := Ideal) 𝒱 dev bd i a2 h2 a3 h3 a4 h4 a5 h5 a6 h6 a7 h7 a8 h8 a9 h9 a10 h10 v0 v2 X3 X4 X6 k acc f9 f10)
      (a9.view.read (Elt Ideal) (a9.view.writes (Elt Ideal) f9
        (tripL_k0_t1 (F := Ideal) 𝒱 dev bd i a2 h2 a3 h3 a4 h4 a5 h5 a6 h6 a7 h7 a8 h8 a9 h9 a10 h10 v0 v2 X3 X4 X6 k acc f9 f10).1))
      (a10.view.read (Elt Ideal) (a10.view.writes (Elt Ideal) f10
        (tripL_k0_t1 (F := Ideal) 𝒱 dev bd i a2 h2 a3 h3 a4 h4 a5 h5 a6 h6 a7 h7 a8 h8 a9 h9 a10 h10 v0 v2 X3 X4 X6 k acc f9 f10).2)) := by
  obtain ⟨hb1, hb2, hb3, hb4⟩ := hb
  have hg := trip_lt k
  have hx : Is2 (k0_pay46 v0) Q := is_pay46 hq
  have hy := load_slab a3.view X3 (k0_off1_inb i k) (off1 k) hg hk
  have hz := load_slab a4.view X4 (k0_off1_inb i k) (off1 k) hg hv
  have hw := load_run a6.view X6 (k0_off2_inb i k) (off2 k) hg hr
  have hl := is_pay9 hx hy
  have hA := is_pay16 hx hy hw
  have hE := is_pay17 hx hy hw hd hz
  have hC := is_pay25 hb2 hE
  have hS := is_pay53 hl hE hC
  have h9 := load_rows a9.view f9 (k0_off3_inb i k) (off3 k) hg hb3
  have h10 := load_rows a10.view f10 (k0_off3_inb i k) (off3 k) hg hb4
  have e9 := store_rows a9.view f9 (k0_off3_inb i k) (off3 k) hb3 (is_pay55 hS h9 hq)
  have e10 := store_rows a10.view f10 (k0_off3_inb i k) (off3 k) hb4 (is_pay56 hA h10 hd)
  unfold tripR_k0_t1 tripL_k0_t1 trip_k0_t1
  refine ⟨?_, ?_, ?_, ?_⟩
  · refine Is2.congr (is_pay54 hS hb1 (is_pay6 hy)) fun r c _ _ => ?_
    exact (Finset.sum_range_succ (fun g => ∑ c' ∈ Finset.range 512, tg Q D K V R g r c' * K (512 * g + c') c) k.val).symm
  · refine Is2.congr (is_pay24 hb2 hE) fun r c _ _ => ?_
    exact (Finset.sum_range_succ (fun g => ∑ j ∈ Finset.Ico 0 512, te Q D K V R g r j) k.val).symm
  · exact Is2.congr e9 fun s d _ _ => grow fun h => by rw [addK, h]; rfl
  · exact Is2.congr e10 fun s d _ _ => grow fun h => by rw [addV, h]; rfl

/-- The whole loop: before every trip, from accumulators that hold `K9` and `K10` and nothing carried. -/
theorem trips (G9 : a9.view.ty.Contents (Elt Ideal)) (G10 : a10.view.ty.Contents (Elt Ideal)) (init : FVec Ideal S512x128 .f32 × FVec Ideal S512x1 .f32)
    (hq : Is3 v0 (fun _ => Q)) (hd : Is2 v2 D)
    (hk : Is3 (φ := .bf16) (a3.view.read (Elt Ideal) X3) (fun _ => K)) (hv : Is3 (φ := .bf16) (a4.view.read (Elt Ideal) X4) (fun _ => V))
    (hr : ∀ (g : Fin 16) (r : Fin 512), (a6.view.read (Elt Ideal) X6 : FVec Ideal S1x1x128x512 .f32) (ix4 0 0 ⟨8 * g.val, by omega⟩ r) = ((R g r : ℝ) : EReal))
    (hi1 : Is2 init.1 (fun _ _ => 0)) (hi2 : Is2 init.2 (fun _ _ => 0)) (h9' : Is2 (φ := .f32) (a9.view.read (Elt Ideal) G9) K9)
    (h10' : Is2 (φ := .f32) (a10.view.read (Elt Ideal) G10) K10) :
    ∀ n, n ≤ (k0_t1_loop i).trips → Before n Q D K V R K9 K10
      (st_k0_t1 (F := Ideal) 𝒱 dev bd i a2 h2 a3 h3 a4 h4 a5 h5 a6 h6 a7 h7 a8 h8 a9 h9 a10 h10 v0 v2 X3 X4 X6 G9 G10 init n).1
      (a9.view.read (Elt Ideal) (a9.view.writes (Elt Ideal) G9
        (st_k0_t1 (F := Ideal) 𝒱 dev bd i a2 h2 a3 h3 a4 h4 a5 h5 a6 h6 a7 h7 a8 h8 a9 h9 a10 h10 v0 v2 X3 X4 X6 G9 G10 init n).2.1))
      (a10.view.read (Elt Ideal) (a10.view.writes (Elt Ideal) G10
        (st_k0_t1 (F := Ideal) 𝒱 dev bd i a2 h2 a3 h3 a4 h4 a5 h5 a6 h6 a7 h7 a8 h8 a9 h9 a10 h10 v0 v2 X3 X4 X6 G9 G10 init n).2.2))
  | 0, _ => by
    refine ⟨hi1.congr fun r c _ _ => ?_, hi2.congr fun r c _ _ => ?_, h9'.congr fun r c _ _ => ?_, h10'.congr fun r c _ _ => ?_⟩
    · rfl
    · rfl
    · rw [if_neg (by omega)]
    · rw [if_neg (by omega)]
  | n + 1, hn => by
    have ih := trips G9 G10 init hq hd hk hv hr hi1 hi2 h9' h10' n (by omega)
    have h := trip 𝒱 dev bd i a2 h2 a3 h3 a4 h4 a5 h5 a6 h6 a7 h7 a8 h8 a9 h9 a10 h10 v0 v2 X3 X4 X6 ⟨n, hn⟩ _ _ _ hq hd hk hv hr ih
    have e := st_k0_t1_succ (F := Ideal) 𝒱 dev bd i a2 h2 a3 h3 a4 h4 a5 h5 a6 h6 a7 h7 a8 h8 a9 h9 a10 h10 v0 v2 X3 X4 X6 G9 G10 init ⟨n, hn⟩
    rw [show (⟨n, hn⟩ : Fin (k0_t1_loop i).trips).val + 1 = n + 1 from rfl] at e
    rw [e, View.writes_append, View.writes_append]
    exact h

end Run

end Stick

end
-- ==== Proof.Point.lean ====
/-
  One block of queries: the loop over the tiles left of the diagonal, then the tile on it.
-/
module

public import proofs.«01_k».proof.Proof.Gen.KernelIdeal.Frame
public import proofs.«01_k».proof.Proof.Loop
public import Idealize.ShloMosaic.Lib.VecWindow

@[expose] public section

set_option maxRecDepth 16384

noncomputable section

namespace Stick

open Idealize.ShloMosaic Cert.KernelIdeal Cert.KernelIdeal.Gen

/-! ## The tile on the diagonal, from what its loads read -/

section Diagonal

variable (v0 : FVec Ideal S1x512x128 .bf16) (v2 : FVec Ideal S512x128 .bf16) (y z : FVec Ideal S1x512x128 .bf16) (w : FVec Ideal S1x1x1x512 .f32)
  (c13 : FVec Ideal S512x1 .f32)

/-- Its weights, their products with their gradients, and the gradients of its scores. -/
def dW : FVec Ideal S512x512 .f32 :=
  k0_pay72 k0_pay47 (k0_pay64 (k0_pay46 v0) (k0_pay61 y)) k0_pay65 (k0_pay66 (k0_pay46 v0) (k0_pay61 y)) (k0_pay67 w)
    (k0_pay68 (k0_pay46 v0) (k0_pay61 y)) (k0_pay69 (k0_pay46 v0) (k0_pay61 y)) (k0_pay70 (k0_pay46 v0) k0_pay47 (k0_pay61 y) w)
    (k0_pay71 (k0_pay46 v0) (k0_pay61 y))
def dE : FVec Ideal S512x512 .f32 :=
  k0_pay73 v2 k0_pay47 (k0_pay62 z) (k0_pay64 (k0_pay46 v0) (k0_pay61 y)) k0_pay65 (k0_pay66 (k0_pay46 v0) (k0_pay61 y)) (k0_pay67 w)
    (k0_pay68 (k0_pay46 v0) (k0_pay61 y)) (k0_pay69 (k0_pay46 v0) (k0_pay61 y)) (k0_pay70 (k0_pay46 v0) k0_pay47 (k0_pay61 y) w)
    (k0_pay71 (k0_pay46 v0) (k0_pay61 y))
def dHi : FVec Ideal S512x512 .bf16 := truncf .bf16 (dE v0 v2 y z w) bitsLt_bf16_f32
def dLo : FVec Ideal S512x512 .bf16 := truncf .bf16 (subf (dE v0 v2 y z w) (extf .f32 (dHi v0 v2 y z w) bitsLt_bf16_f32)) bitsLt_bf16_f32
def dTri : FVec Ideal S1024x128 .f32 :=
  matmul dot_S1024x128_S128x128_S1024x128_1_0_0_1_n_n none
    (concatenate S1024x128 0 [⟨S512x128, extractStridedSlice S512x128 ![0, 0] (dHi v0 v2 y z w) slices_S512x512_o0_0_S512x128⟩,
      ⟨S512x128, extractStridedSlice S512x128 ![0, 0] (dLo v0 v2 y z w) slices_S512x512_o0_0_S512x128⟩]
      concatenates_S512x128_S512x128_S1024x128_d0) k0_pay48 (constant S1024x128 .f32 0x00000000#32)
def dG : FVec Ideal S512x512 .bf16 :=
  k0_pay79 k0_pay48 c13 (k0_pay64 (k0_pay46 v0) (k0_pay61 y)) k0_pay65 (dE v0 v2 y z w) (dHi v0 v2 y z w) (dLo v0 v2 y z w)
    (extractStridedSlice S512x128 ![0, 0] (dTri v0 v2 y z w) slices_S1024x128_o0_0_S512x128)
    (extractStridedSlice S512x128 ![512, 0] (dTri v0 v2 y z w) slices_S1024x128_o512_0_S512x128)

variable {v0 v2 y z w c13} {Q D K V R : ℕ → ℕ → ℝ} {n : ℕ}

/-- The weights of the masked tile, and the gradients of its scores. -/
def twD (Q K R : ℕ → ℕ → ℝ) (n : ℕ) : ℕ → ℕ → ℝ := wtsD Q (blk K n) (R n)
def tgD (Q D K V R : ℕ → ℕ → ℝ) (n : ℕ) : ℕ → ℕ → ℝ := dscD Q (blk K n) (blk V n) D (R n) (hand Q D K V R n)

theorem is_dW (hq : Is3 v0 (fun _ => Q)) (hy : Is3 y (fun _ => blk K n)) (hw : ∀ r : Fin 512, w (ix4 0 0 0 r) = ((R n r : ℝ) : EReal)) :
    Is2 (dW v0 y w) (twD Q K R n) := is_pay72 (is_pay46 hq) (is_pay61 hy) hw

theorem is_dG (hq : Is3 v0 (fun _ => Q)) (hd : Is2 v2 D) (hy : Is3 y (fun _ => blk K n)) (hz : Is3 z (fun _ => blk V n))
    (hw : ∀ r : Fin 512, w (ix4 0 0 0 r) = ((R n r : ℝ) : EReal)) (hc : Is2 c13 (fun r _ => hand Q D K V R n r)) :
    Is2 (dG v0 v2 y z w c13) (tgD Q D K V R n) :=
  is_pay79 (is_pay64 (is_pay46 hq) (is_pay61 hy)) (is_pay73 (is_pay46 hq) (is_pay61 hy) hw hd (is_pay62 hz)) hc

end Diagonal

/-! ## The run of one block of queries -/

section Out

variable (Q D K V R : ℕ → ℕ → ℝ) (n : ℕ)

/-- The gradient of the queries of block `n`, and what the block adds to key `s` and to value `s`. -/
def outQ (r d : ℕ) : ℝ := addQ Q D K V R n r d + ∑ c ∈ Finset.range 512, tgD Q D K V R n r c * K (512 * n + c) d
def outK (s d : ℕ) : ℝ :=
  if s / 512 < n then addK Q D K V R s d else if s / 512 = n then ∑ r ∈ Finset.range 512, tgD Q D K V R n r (s % 512) * Q r d else 0
def outV (s d : ℕ) : ℝ :=
  if s / 512 < n then addV Q D K R s d else if s / 512 = n then ∑ r ∈ Finset.range 512, twD Q K R n r (s % 512) * D r d else 0

end Out

/-- The rows of the block on the diagonal get their term, those before it have theirs, the others are as they were. -/
theorem last {B A : ℕ → ℕ → ℝ} {n s d : ℕ} {t : ℝ} :
    (if s / 512 = n then blk (fun s d => if s / 512 < n then B s d + A s d else B s d) n (s % 512) d + t
      else if s / 512 < n then B s d + A s d else B s d) = B s d + if s / 512 < n then A s d else if s / 512 = n then t else 0 := by
  by_cases h : s / 512 = n
  · have e : 512 * n + s % 512 = s := by omega
    have e' : blk (fun s d => if s / 512 < n then B s d + A s d else B s d) n (s % 512) d = B s d := by
      show (if (512 * n + s % 512) / 512 < n then B (512 * n + s % 512) d + A (512 * n + s % 512) d else B (512 * n + s % 512) d) = _
      rw [e, if_neg (by omega)]
    rw [if_pos h, e', if_neg (by omega), if_pos h]
  · rw [if_neg h, if_neg h]
    by_cases h' : s / 512 < n
    · rw [if_pos h', if_pos h']
    · rw [if_neg h', if_neg h', add_zero]

section Run

variable (dev : Dev nD) (i : grid0.Coords)
  (a2 : Memref sig .tc .vmem S1x512x128 .bf16) (h2 : a2.IsWhole) (a3 : Memref sig .tc .vmem S1x8192x128 .bf16) (h3 : a3.IsWhole)
  (a4 : Memref sig .tc .vmem S1x8192x128 .bf16) (h4 : a4.IsWhole) (a5 : Memref sig .tc .vmem S512x128 .bf16) (h5 : a5.IsWhole)
  (a6 : Memref sig .tc .vmem S1x1x128x512 .f32) (h6 : a6.IsWhole) (a7 : Memref sig .tc .vmem S512x128 .bf16) (h7 : a7.IsWhole)
  (a8 : Memref sig .tc .vmem S2x8192x128 .bf16) (h8 : a8.IsWhole) (a9 : Memref sig .tc .vmem S8192x128 .f32) (h9 : a9.IsWhole)
  (a10 : Memref sig .tc .vmem S8192x128 .f32) (h10 : a10.IsWhole)
  (v0 : FVec Ideal S1x512x128 .bf16) (v2 : FVec Ideal S512x128 .bf16) (X3 : a3.view.ty.Contents (Elt Ideal))
  (X4 : a4.view.ty.Contents (Elt Ideal)) (X6 : a6.view.ty.Contents (Elt Ideal))

/-- What the loop left of the diagonal leaves. -/
def left (G9 : a9.view.ty.Contents (Elt Ideal)) (G10 : a10.view.ty.Contents (Elt Ideal)) :=
  st_k0_t1 (F := Ideal) Variants.none dev none i a2 h2 a3 h3 a4 h4 a5 h5 a6 h6 a7 h7 a8 h8 a9 h9 a10 h10 v0 v2 X3 X4 X6 G9 G10
    (k0_pay51, k0_pay52) (k0_t1_loop i).trips

/-- What the second loop leaves of it. -/
def rest (G9 : a9.view.ty.Contents (Elt Ideal)) (G10 : a10.view.ty.Contents (Elt Ideal)) (acc : FVec Ideal S512x128 .f32 × FVec Ideal S512x1 .f32) :=
  st_k0_t2 (F := Ideal) Variants.none dev none i a2 h2 a3 h3 a4 h4 a5 h5 a6 h6 a7 h7 a8 h8 a9 h9 a10 h10 v0 v2 (k0_t1_loop i).ub X3 X4 X6 G9 G10
    (acc.1, acc.2) (k0_t2_loop i).trips

theorem rest_eq (G9 : a9.view.ty.Contents (Elt Ideal)) (G10 : a10.view.ty.Contents (Elt Ideal)) (acc : FVec Ideal S512x128 .f32 × FVec Ideal S512x1 .f32) :
    rest dev i a2 h2 a3 h3 a4 h4 a5 h5 a6 h6 a7 h7 a8 h8 a9 h9 a10 h10 v0 v2 X3 X4 X6 G9 G10 acc = (acc, [], []) := by
  unfold rest
  rw [trips_rest]
  rfl

/-- The loads of the tile on the diagonal. -/
def ky : FVec Ideal S1x512x128 .bf16 := a3.view.readAt (Elt Ideal) (Rect.unit (s := S1x8192x128) (k0_off7 i) S1x512x128.size (k0_off7_inb i)).toLoadRect X3
def kz : FVec Ideal S1x512x128 .bf16 := a4.view.readAt (Elt Ideal) (Rect.unit (s := S1x8192x128) (k0_off7 i) S1x512x128.size (k0_off7_inb i)).toLoadRect X4
def kw : FVec Ideal S1x1x1x512 .f32 := a6.view.readAt (Elt Ideal) (Rect.unit (s := S1x1x128x512) (k0_off8 i) S1x1x1x512.size (k0_off8_inb i)).toLoadRect X6

/-- What the tile on the diagonal stores: the gradient of the queries, and the rows of the two accumulators. -/
def put7 (acc : FVec Ideal S512x128 .f32 × FVec Ideal S512x1 .f32) : FVec Ideal S512x128 .bf16 :=
  k0_pay3 acc.1 (k0_pay61 (ky i a3 X3)) (dG v0 v2 (ky i a3 X3) (kz i a4 X4) (kw i a6 X6) acc.2)
def put9 (acc : FVec Ideal S512x128 .f32 × FVec Ideal S512x1 .f32) (C : a9.view.ty.Contents (Elt Ideal)) : View.Piece (Elt Ideal) S8192x128 .f32 :=
  ⟨Rect.unit (s := S8192x128) (k0_off9 i) S512x128.size (k0_off9_inb i),
    k0_pay1 (k0_pay46 v0) (dG v0 v2 (ky i a3 X3) (kz i a4 X4) (kw i a6 X6) acc.2)
      (a9.view.readAt (Elt Ideal) (Rect.unit (s := S8192x128) (k0_off9 i) S512x128.size (k0_off9_inb i)).toLoadRect C)⟩
def put10 (C : a10.view.ty.Contents (Elt Ideal)) : View.Piece (Elt Ideal) S8192x128 .f32 :=
  ⟨Rect.unit (s := S8192x128) (k0_off9 i) S512x128.size (k0_off9_inb i),
    k0_pay2 v2 (dW v0 (ky i a3 X3) (kw i a6 X6))
      (a10.view.readAt (Elt Ideal) (Rect.unit (s := S8192x128) (k0_off9 i) S512x128.size (k0_off9_inb i)).toLoadRect C)⟩

variable {v0 v2 X3 X4 X6} {Q D K V R K9 K10 : ℕ → ℕ → ℝ}

/-- What the block of queries reads: its queries, the gradients of its outputs, all keys, all values, and for every block of
keys the sum of the logarithms right of it. -/
def Reads (Q D K V R : ℕ → ℕ → ℝ) (v0 : FVec Ideal S1x512x128 .bf16) (v2 : FVec Ideal S512x128 .bf16)
    (x3 x4 : FVec Ideal S1x8192x128 .bf16) (x6 : FVec Ideal S1x1x128x512 .f32) : Prop :=
  Is3 v0 (fun _ => Q) ∧ Is2 v2 D ∧ Is3 x3 (fun _ => K) ∧ Is3 x4 (fun _ => V)
    ∧ ∀ (g : Fin 16) (r : Fin 512), x6 (ix4 0 0 ⟨8 * g.val, by omega⟩ r) = ((R g r : ℝ) : EReal)

theorem zero51 : Is2 (k0_pay51 : FVec Ideal S512x128 .f32) (fun _ _ => 0) := Is2.splat lit_zero
theorem zero52 : Is2 (k0_pay52 : FVec Ideal S512x1 .f32) (fun _ _ => 0) := Is2.splat lit_zero

/-- The whole block: what it writes out and what the accumulators hold after it. -/
theorem block (hR : Reads Q D K V R v0 v2 (a3.view.read (Elt Ideal) X3) (a4.view.read (Elt Ideal) X4) (a6.view.read (Elt Ideal) X6))
    (G9 : a9.view.ty.Contents (Elt Ideal)) (G10 : a10.view.ty.Contents (Elt Ideal))
    (hk : Is2 (φ := .f32) (a9.view.read (Elt Ideal) G9) K9) (hv : Is2 (φ := .f32) (a10.view.read (Elt Ideal) G10) K10) :
    let s := left dev i a2 h2 a3 h3 a4 h4 a5 h5 a6 h6 a7 h7 a8 h8 a9 h9 a10 h10 v0 v2 X3 X4 X6 G9 G10
    Is2 (put7 i a3 a4 a6 v0 v2 X3 X4 X6 s.1) (outQ Q D K V R (i 1).val)
      ∧ Is2 (φ := .f32) (a9.view.read (Elt Ideal) (a9.view.writes (Elt Ideal) G9
          (put9 i a3 a4 a6 a9 v0 v2 X3 X4 X6 s.1 (a9.view.writes (Elt Ideal) G9 s.2.1) :: s.2.1)))
          (fun s d => K9 s d + outK Q D K V R (i 1).val s d)
      ∧ Is2 (φ := .f32) (a10.view.read (Elt Ideal) (a10.view.writes (Elt Ideal) G10
          (put10 i a3 a6 a10 v0 v2 X3 X6 (a10.view.writes (Elt Ideal) G10 s.2.2) :: s.2.2)))
          (fun s d => K10 s d + outV Q D K R (i 1).val s d) := by
  intro s
  obtain ⟨hq, hd, hx, hz, hr⟩ := hR
  have hn := (i 1).isLt
  have hb := trips Variants.none dev none i a2 h2 a3 h3 a4 h4 a5 h5 a6 h6 a7 h7 a8 h8 a9 h9 a10 h10 v0 v2 X3 X4 X6 G9 G10 (k0_pay51, k0_pay52)
    hq hd hx hz hr zero51 zero52 hk hv _ le_rfl
  have hy := load_slab a3.view X3 (k0_off7_inb i) (off7 i) hn hx
  have hz := load_slab a4.view X4 (k0_off7_inb i) (off7 i) hn hz
  have hw := load_run a6.view X6 (k0_off8_inb i) (off8 i) hn hr
  obtain ⟨hb1, hb2, hb3, hb4⟩ : Before (i 1).val Q D K V R K9 K10 s.1 (a9.view.read (Elt Ideal) (a9.view.writes (Elt Ideal) G9 s.2.1))
      (a10.view.read (Elt Ideal) (a10.view.writes (Elt Ideal) G10 s.2.2)) := by
    have e := trips_left i
    rw [← e]
    exact hb
  have hG := is_dG hq hd hy hz hw hb2
  have hW := is_dW hq hy hw
  have l9 := load_rows a9.view _ (k0_off9_inb i) (off9 i) hn hb3
  have l10 := load_rows a10.view _ (k0_off9_inb i) (off9 i) hn hb4
  have e9 := store_rows a9.view _ (k0_off9_inb i) (off9 i) hb3 (is_pay1 hG l9 (is_pay46 hq))
  have e10 := store_rows a10.view _ (k0_off9_inb i) (off9 i) hb4 (is_pay2 hW l10 hd)
  refine ⟨is_pay3 hG hb1 (is_pay61 hy), ?_, ?_⟩
  · exact Is2.congr e9 fun s d _ _ => last
  · exact Is2.congr e10 fun s d _ _ => last

/-! ### The three kinds of grid point -/

/-- The loads of the queries and of the gradients of the outputs, of a whole block each, read the block. -/
theorem whole3 {sig' : RefSig} {κ : Kind} {sp : Space} (v : View sig' κ sp S1x512x128 .bf16) (X : v.ty.Contents (Elt Ideal))
    (inb : ∀ a, (![0, 0, 0] : Fin 3 → ℕ) a + S1x512x128.size a ≤ S1x512x128.size a) :
    v.readAt (Elt Ideal) (Rect.unit (s := S1x512x128) ![0, 0, 0] S1x512x128.size inb).toLoadRect X = v.read (Elt Ideal) X :=
  View.readAt_full v X inb

theorem whole2 {sig' : RefSig} {κ : Kind} {sp : Space} (v : View sig' κ sp S512x128 .bf16) (X : v.ty.Contents (Elt Ideal))
    (inb : ∀ a, (![0, 0] : Fin 2 → ℕ) a + S512x128.size a ≤ S512x128.size a) :
    v.readAt (Elt Ideal) (Rect.unit (s := S512x128) ![0, 0] S512x128.size inb).toLoadRect X = v.read (Elt Ideal) X :=
  View.readAt_full v X inb

variable {x0 : Vec Ideal S1x512x128 .bf16} {x1 x2 : Vec Ideal S1x8192x128 .bf16} {x3 : Vec Ideal S512x128 .bf16}
  {x4 : Vec Ideal S1x1x128x512 .f32} {y0 y1 : Vec Ideal S8192x128 .f32}

/-- The loads of the body, of blocks that hold `x0` to `x4`. -/
def ld0 (x0 : Vec Ideal S1x512x128 .bf16) : FVec Ideal S1x512x128 .bf16 :=
  a2.view.readAt (Elt Ideal) (Rect.unit (s := S1x512x128) ![0, 0, 0] S1x512x128.size inb_S1x512x128_S1x512x128_0_0_0).toLoadRect (h2.unread x0)
def ld3 (x3 : Vec Ideal S512x128 .bf16) : FVec Ideal S512x128 .bf16 :=
  a5.view.readAt (Elt Ideal) (Rect.unit (s := S512x128) ![0, 0] S512x128.size inb_S512x128_S512x128_0_0).toLoadRect (h5.unread x3)

theorem reads (hR : Reads Q D K V R x0 x3 x1 x2 x4) :
    Reads Q D K V R (ld0 a2 h2 x0) (ld3 a5 h5 x3) (a3.view.read (Elt Ideal) (h3.unread x1)) (a4.view.read (Elt Ideal) (h4.unread x2))
      (a6.view.read (Elt Ideal) (h6.unread x4)) := by
  unfold ld0 ld3
  rw [whole3, whole2, h2.read_unread, h3.read_unread, h4.read_unread, h5.read_unread, h6.read_unread]
  exact hR

/-- The loop and what is left of it, from accumulators with these contents. -/
def atS (x0 : Vec Ideal S1x512x128 .bf16) (x1 x2 : Vec Ideal S1x8192x128 .bf16) (x3 : Vec Ideal S512x128 .bf16) (x4 : Vec Ideal S1x1x128x512 .f32)
    (G9 : a9.view.ty.Contents (Elt Ideal)) (G10 : a10.view.ty.Contents (Elt Ideal)) :=
  left dev i a2 h2 a3 h3 a4 h4 a5 h5 a6 h6 a7 h7 a8 h8 a9 h9 a10 h10 (ld0 a2 h2 x0) (ld3 a5 h5 x3) (h3.unread x1) (h4.unread x2) (h6.unread x4) G9 G10
def atT (x0 : Vec Ideal S1x512x128 .bf16) (x1 x2 : Vec Ideal S1x8192x128 .bf16) (x3 : Vec Ideal S512x128 .bf16) (x4 : Vec Ideal S1x1x128x512 .f32)
    (G9 : a9.view.ty.Contents (Elt Ideal)) (G10 : a10.view.ty.Contents (Elt Ideal)) (acc : FVec Ideal S512x128 .f32 × FVec Ideal S512x1 .f32) :=
  rest dev i a2 h2 a3 h3 a4 h4 a5 h5 a6 h6 a7 h7 a8 h8 a9 h9 a10 h10 (ld0 a2 h2 x0) (ld3 a5 h5 x3) (h3.unread x1) (h4.unread x2) (h6.unread x4) G9 G10 acc
def at7 (x0 : Vec Ideal S1x512x128 .bf16) (x1 x2 : Vec Ideal S1x8192x128 .bf16) (x3 : Vec Ideal S512x128 .bf16) (x4 : Vec Ideal S1x1x128x512 .f32)
    (acc : FVec Ideal S512x128 .f32 × FVec Ideal S512x1 .f32) : FVec Ideal S512x128 .bf16 :=
  put7 i a3 a4 a6 (ld0 a2 h2 x0) (ld3 a5 h5 x3) (h3.unread x1) (h4.unread x2) (h6.unread x4) acc
def at9 (x0 : Vec Ideal S1x512x128 .bf16) (x1 x2 : Vec Ideal S1x8192x128 .bf16) (x3 : Vec Ideal S512x128 .bf16) (x4 : Vec Ideal S1x1x128x512 .f32)
    (acc : FVec Ideal S512x128 .f32 × FVec Ideal S512x1 .f32) (C : a9.view.ty.Contents (Elt Ideal)) : View.Piece (Elt Ideal) S8192x128 .f32 :=
  put9 i a3 a4 a6 a9 (ld0 a2 h2 x0) (ld3 a5 h5 x3) (h3.unread x1) (h4.unread x2) (h6.unread x4) acc C
def at10 (x0 : Vec Ideal S1x512x128 .bf16) (x1 : Vec Ideal S1x8192x128 .bf16) (x3 : Vec Ideal S512x128 .bf16) (x4 : Vec Ideal S1x1x128x512 .f32)
    (C : a10.view.ty.Contents (Elt Ideal)) : View.Piece (Elt Ideal) S8192x128 .f32 :=
  put10 i a3 a6 a10 (ld0 a2 h2 x0) (ld3 a5 h5 x3) (h3.unread x1) (h6.unread x4) C

variable (x0 x1 x2 x3 x4 y0 y1)

/-- At the first point of a head both accumulators are cleared. -/
def clear9 : List (View.Piece (Elt Ideal) S8192x128 .f32) := [⟨Rect.unit (s := S8192x128) ![0, 0] S8192x128.size inb_S8192x128_S8192x128_0_0, (k0_pay49 : FVec Ideal S8192x128 .f32)⟩]
def clear10 : List (View.Piece (Elt Ideal) S8192x128 .f32) := [⟨Rect.unit (s := S8192x128) ![0, 0] S8192x128.size inb_S8192x128_S8192x128_0_0, (k0_pay50 : FVec Ideal S8192x128 .f32)⟩]

theorem pieces5_B (hc0 : ¬ cond0_0 i) (hc1 : ¬ cond0_1 i) :
    let s := atS dev i a2 h2 a3 h3 a4 h4 a5 h5 a6 h6 a7 h7 a8 h8 a9 h9 a10 h10 x0 x1 x2 x3 x4 (h9.unread y0) (h10.unread y1)
    let t := atT dev i a2 h2 a3 h3 a4 h4 a5 h5 a6 h6 a7 h7 a8 h8 a9 h9 a10 h10 x0 x1 x2 x3 x4 (a9.view.writes (Elt Ideal) (h9.unread y0) s.2.1) (a10.view.writes (Elt Ideal) (h10.unread y1) s.2.2) s.1
    (kernelRun0_B (F := Ideal) dev i a2 h2 a3 h3 a4 h4 a5 h5 a6 h6 a7 h7 a8 h8 a9 h9 a10 h10 hc0 hc1 x0 x1 x2 x3 x4 y0 y1).1
      = [⟨Rect.unit (s := S512x128) ![0, 0] S512x128.size inb_S512x128_S512x128_0_0, at7 i a2 h2 a3 h3 a4 h4 a5 h5 a6 h6 x0 x1 x2 x3 x4 t.1⟩] := by
  unfold kernelRun0_B; rfl
theorem pieces9_B (hc0 : ¬ cond0_0 i) (hc1 : ¬ cond0_1 i) :
    let s := atS dev i a2 h2 a3 h3 a4 h4 a5 h5 a6 h6 a7 h7 a8 h8 a9 h9 a10 h10 x0 x1 x2 x3 x4 (h9.unread y0) (h10.unread y1)
    let t := atT dev i a2 h2 a3 h3 a4 h4 a5 h5 a6 h6 a7 h7 a8 h8 a9 h9 a10 h10 x0 x1 x2 x3 x4 (a9.view.writes (Elt Ideal) (h9.unread y0) s.2.1) (a10.view.writes (Elt Ideal) (h10.unread y1) s.2.2) s.1
    (kernelRun0_B (F := Ideal) dev i a2 h2 a3 h3 a4 h4 a5 h5 a6 h6 a7 h7 a8 h8 a9 h9 a10 h10 hc0 hc1 x0 x1 x2 x3 x4 y0 y1).2.2.1
      = at9 i a2 h2 a3 h3 a4 h4 a5 h5 a6 h6 a9 x0 x1 x2 x3 x4 t.1 (a9.view.writes (Elt Ideal) (h9.unread y0) (t.2.1 ++ s.2.1)) :: (t.2.1 ++ s.2.1) := by
  unfold kernelRun0_B; rfl
theorem pieces10_B (hc0 : ¬ cond0_0 i) (hc1 : ¬ cond0_1 i) :
    let s := atS dev i a2 h2 a3 h3 a4 h4 a5 h5 a6 h6 a7 h7 a8 h8 a9 h9 a10 h10 x0 x1 x2 x3 x4 (h9.unread y0) (h10.unread y1)
    let t := atT dev i a2 h2 a3 h3 a4 h4 a5 h5 a6 h6 a7 h7 a8 h8 a9 h9 a10 h10 x0 x1 x2 x3 x4 (a9.view.writes (Elt Ideal) (h9.unread y0) s.2.1) (a10.view.writes (Elt Ideal) (h10.unread y1) s.2.2) s.1
    (kernelRun0_B (F := Ideal) dev i a2 h2 a3 h3 a4 h4 a5 h5 a6 h6 a7 h7 a8 h8 a9 h9 a10 h10 hc0 hc1 x0 x1 x2 x3 x4 y0 y1).2.2.2.1
      = at10 i a2 h2 a3 h3 a5 h5 a6 h6 a10 x0 x1 x3 x4 (a10.view.writes (Elt Ideal) (h10.unread y1) (t.2.2 ++ s.2.2)) :: (t.2.2 ++ s.2.2) := by
  unfold kernelRun0_B; rfl

theorem pieces5_C (hc0 : ¬ cond0_0 i) (hc1 : cond0_1 i) :
    let s := atS dev i a2 h2 a3 h3 a4 h4 a5 h5 a6 h6 a7 h7 a8 h8 a9 h9 a10 h10 x0 x1 x2 x3 x4 (h9.unread y0) (h10.unread y1)
    let t := atT dev i a2 h2 a3 h3 a4 h4 a5 h5 a6 h6 a7 h7 a8 h8 a9 h9 a10 h10 x0 x1 x2 x3 x4 (a9.view.writes (Elt Ideal) (h9.unread y0) s.2.1) (a10.view.writes (Elt Ideal) (h10.unread y1) s.2.2) s.1
    (kernelRun0_C (F := Ideal) dev i a2 h2 a3 h3 a4 h4 a5 h5 a6 h6 a7 h7 a8 h8 a9 h9 a10 h10 hc0 hc1 x0 x1 x2 x3 x4 y0 y1).1
      = [⟨Rect.unit (s := S512x128) ![0, 0] S512x128.size inb_S512x128_S512x128_0_0, at7 i a2 h2 a3 h3 a4 h4 a5 h5 a6 h6 x0 x1 x2 x3 x4 t.1⟩] := by
  unfold kernelRun0_C; rfl
theorem pieces9_C (hc0 : ¬ cond0_0 i) (hc1 : cond0_1 i) :
    let s := atS dev i a2 h2 a3 h3 a4 h4 a5 h5 a6 h6 a7 h7 a8 h8 a9 h9 a10 h10 x0 x1 x2 x3 x4 (h9.unread y0) (h10.unread y1)
    let t := atT dev i a2 h2 a3 h3 a4 h4 a5 h5 a6 h6 a7 h7 a8 h8 a9 h9 a10 h10 x0 x1 x2 x3 x4 (a9.view.writes (Elt Ideal) (h9.unread y0) s.2.1) (a10.view.writes (Elt Ideal) (h10.unread y1) s.2.2) s.1
    (kernelRun0_C (F := Ideal) dev i a2 h2 a3 h3 a4 h4 a5 h5 a6 h6 a7 h7 a8 h8 a9 h9 a10 h10 hc0 hc1 x0 x1 x2 x3 x4 y0 y1).2.2.1
      = at9 i a2 h2 a3 h3 a4 h4 a5 h5 a6 h6 a9 x0 x1 x2 x3 x4 t.1 (a9.view.writes (Elt Ideal) (h9.unread y0) (t.2.1 ++ s.2.1)) :: (t.2.1 ++ s.2.1) := by
  unfold kernelRun0_C; rfl
theorem pieces10_C (hc0 : ¬ cond0_0 i) (hc1 : cond0_1 i) :
    let s := atS dev i a2 h2 a3 h3 a4 h4 a5 h5 a6 h6 a7 h7 a8 h8 a9 h9 a10 h10 x0 x1 x2 x3 x4 (h9.unread y0) (h10.unread y1)
    let t := atT dev i a2 h2 a3 h3 a4 h4 a5 h5 a6 h6 a7 h7 a8 h8 a9 h9 a10 h10 x0 x1 x2 x3 x4 (a9.view.writes (Elt Ideal) (h9.unread y0) s.2.1) (a10.view.writes (Elt Ideal) (h10.unread y1) s.2.2) s.1
    (kernelRun0_C (F := Ideal) dev i a2 h2 a3 h3 a4 h4 a5 h5 a6 h6 a7 h7 a8 h8 a9 h9 a10 h10 hc0 hc1 x0 x1 x2 x3 x4 y0 y1).2.2.2.1
      = at10 i a2 h2 a3 h3 a5 h5 a6 h6 a10 x0 x1 x3 x4 (a10.view.writes (Elt Ideal) (h10.unread y1) (t.2.2 ++ s.2.2)) :: (t.2.2 ++ s.2.2) := by
  unfold kernelRun0_C; rfl

/-- At the last point of a head the accumulators are written out. -/
theorem pieces6_C (hc0 : ¬ cond0_0 i) (hc1 : cond0_1 i) :
    (kernelRun0_C (F := Ideal) dev i a2 h2 a3 h3 a4 h4 a5 h5 a6 h6 a7 h7 a8 h8 a9 h9 a10 h10 hc0 hc1 x0 x1 x2 x3 x4 y0 y1).2.1
      = [⟨Rect.unit (s := S2x8192x128) ![1, 0, 0] S1x8192x128.size inb_S2x8192x128_S1x8192x128_1_0_0,
          k0_pay5 (a10.view.readAt (Elt Ideal) (Rect.unit (s := S8192x128) ![0, 0] S8192x128.size inb_S8192x128_S8192x128_0_0).toLoadRect
            (a10.view.writes (Elt Ideal) (h10.unread y1) (kernelRun0_C (F := Ideal) dev i a2 h2 a3 h3 a4 h4 a5 h5 a6 h6 a7 h7 a8 h8 a9 h9 a10 h10 hc0 hc1 x0 x1 x2 x3 x4 y0 y1).2.2.2.1))⟩,
        ⟨Rect.unit (s := S2x8192x128) ![0, 0, 0] S1x8192x128.size inb_S2x8192x128_S1x8192x128_0_0_0,
          k0_pay4 (a9.view.readAt (Elt Ideal) (Rect.unit (s := S8192x128) ![0, 0] S8192x128.size inb_S8192x128_S8192x128_0_0).toLoadRect
            (a9.view.writes (Elt Ideal) (h9.unread y0) (kernelRun0_C (F := Ideal) dev i a2 h2 a3 h3 a4 h4 a5 h5 a6 h6 a7 h7 a8 h8 a9 h9 a10 h10 hc0 hc1 x0 x1 x2 x3 x4 y0 y1).2.2.1))⟩] := by
  unfold kernelRun0_C; rfl

theorem pieces5_A (hc0 : cond0_0 i) (hc1 : ¬ cond0_1 i) :
    let s := atS dev i a2 h2 a3 h3 a4 h4 a5 h5 a6 h6 a7 h7 a8 h8 a9 h9 a10 h10 x0 x1 x2 x3 x4 (a9.view.writes (Elt Ideal) a9.view.junk clear9) (a10.view.writes (Elt Ideal) a10.view.junk clear10)
    let t := atT dev i a2 h2 a3 h3 a4 h4 a5 h5 a6 h6 a7 h7 a8 h8 a9 h9 a10 h10 x0 x1 x2 x3 x4 (a9.view.writes (Elt Ideal) a9.view.junk (s.2.1 ++ clear9)) (a10.view.writes (Elt Ideal) a10.view.junk (s.2.2 ++ clear10)) s.1
    (kernelRun0_A (F := Ideal) dev i a2 h2 a3 h3 a4 h4 a5 h5 a6 h6 a7 h7 a8 h8 a9 h9 a10 h10 hc0 hc1 x0 x1 x2 x3 x4).1
      = [⟨Rect.unit (s := S512x128) ![0, 0] S512x128.size inb_S512x128_S512x128_0_0, at7 i a2 h2 a3 h3 a4 h4 a5 h5 a6 h6 x0 x1 x2 x3 x4 t.1⟩] := by
  unfold kernelRun0_A; rfl
theorem pieces9_A (hc0 : cond0_0 i) (hc1 : ¬ cond0_1 i) :
    let s := atS dev i a2 h2 a3 h3 a4 h4 a5 h5 a6 h6 a7 h7 a8 h8 a9 h9 a10 h10 x0 x1 x2 x3 x4 (a9.view.writes (Elt Ideal) a9.view.junk clear9) (a10.view.writes (Elt Ideal) a10.view.junk clear10)
    let t := atT dev i a2 h2 a3 h3 a4 h4 a5 h5 a6 h6 a7 h7 a8 h8 a9 h9 a10 h10 x0 x1 x2 x3 x4 (a9.view.writes (Elt Ideal) a9.view.junk (s.2.1 ++ clear9)) (a10.view.writes (Elt Ideal) a10.view.junk (s.2.2 ++ clear10)) s.1
    (kernelRun0_A (F := Ideal) dev i a2 h2 a3 h3 a4 h4 a5 h5 a6 h6 a7 h7 a8 h8 a9 h9 a10 h10 hc0 hc1 x0 x1 x2 x3 x4).2.2.1
      = at9 i a2 h2 a3 h3 a4 h4 a5 h5 a6 h6 a9 x0 x1 x2 x3 x4 t.1 (a9.view.writes (Elt Ideal) a9.view.junk (t.2.1 ++ (s.2.1 ++ clear9))) :: (t.2.1 ++ (s.2.1 ++ clear9)) := by
  unfold kernelRun0_A; rfl
theorem pieces10_A (hc0 : cond0_0 i) (hc1 : ¬ cond0_1 i) :
    let s := atS dev i a2 h2 a3 h3 a4 h4 a5 h5 a6 h6 a7 h7 a8 h8 a9 h9 a10 h10 x0 x1 x2 x3 x4 (a9.view.writes (Elt Ideal) a9.view.junk clear9) (a10.view.writes (Elt Ideal) a10.view.junk clear10)
    let t := atT dev i a2 h2 a3 h3 a4 h4 a5 h5 a6 h6 a7 h7 a8 h8 a9 h9 a10 h10 x0 x1 x2 x3 x4 (a9.view.writes (Elt Ideal) a9.view.junk (s.2.1 ++ clear9)) (a10.view.writes (Elt Ideal) a10.view.junk (s.2.2 ++ clear10)) s.1
    (kernelRun0_A (F := Ideal) dev i a2 h2 a3 h3 a4 h4 a5 h5 a6 h6 a7 h7 a8 h8 a9 h9 a10 h10 hc0 hc1 x0 x1 x2 x3 x4).2.2.2.1
      = at10 i a2 h2 a3 h3 a5 h5 a6 h6 a10 x0 x1 x3 x4 (a10.view.writes (Elt Ideal) a10.view.junk (t.2.2 ++ (s.2.2 ++ clear10))) :: (t.2.2 ++ (s.2.2 ++ clear10)) := by
  unfold kernelRun0_A; rfl

/-- From the pieces a point stores to what is in the result's block and in the accumulators after it. -/
theorem finish (B9 : a9.view.ty.Contents (Elt Ideal)) (B10 : a10.view.ty.Contents (Elt Ideal))
    (I9 I10 : List (View.Piece (Elt Ideal) S8192x128 .f32)) (L5 : List (View.Piece (Elt Ideal) S512x128 .bf16))
    (L9 L10 : List (View.Piece (Elt Ideal) S8192x128 .f32))
    (hR : Reads Q D K V R x0 x3 x1 x2 x4)
    (hk : Is2 (φ := .f32) (a9.view.read (Elt Ideal) (a9.view.writes (Elt Ideal) B9 I9)) K9)
    (hv : Is2 (φ := .f32) (a10.view.read (Elt Ideal) (a10.view.writes (Elt Ideal) B10 I10)) K10) :
    let s := atS dev i a2 h2 a3 h3 a4 h4 a5 h5 a6 h6 a7 h7 a8 h8 a9 h9 a10 h10 x0 x1 x2 x3 x4 (a9.view.writes (Elt Ideal) B9 I9) (a10.view.writes (Elt Ideal) B10 I10)
    let t := atT dev i a2 h2 a3 h3 a4 h4 a5 h5 a6 h6 a7 h7 a8 h8 a9 h9 a10 h10 x0 x1 x2 x3 x4 (a9.view.writes (Elt Ideal) B9 (s.2.1 ++ I9)) (a10.view.writes (Elt Ideal) B10 (s.2.2 ++ I10)) s.1
    (g5 : L5 = [⟨Rect.unit (s := S512x128) ![0, 0] S512x128.size inb_S512x128_S512x128_0_0, at7 i a2 h2 a3 h3 a4 h4 a5 h5 a6 h6 x0 x1 x2 x3 x4 t.1⟩]) →
    (g9 : L9 = at9 i a2 h2 a3 h3 a4 h4 a5 h5 a6 h6 a9 x0 x1 x2 x3 x4 t.1 (a9.view.writes (Elt Ideal) B9 (t.2.1 ++ (s.2.1 ++ I9))) :: (t.2.1 ++ (s.2.1 ++ I9))) →
    (g10 : L10 = at10 i a2 h2 a3 h3 a5 h5 a6 h6 a10 x0 x1 x3 x4 (a10.view.writes (Elt Ideal) B10 (t.2.2 ++ (s.2.2 ++ I10))) :: (t.2.2 ++ (s.2.2 ++ I10))) →
    Is2 (φ := .bf16) (VO0_5.read (Elt Ideal) (VO0_5.writes (Elt Ideal) VO0_5.junk L5)) (outQ Q D K V R (i 1).val)
      ∧ Is2 (φ := .f32) (a9.view.read (Elt Ideal) (a9.view.writes (Elt Ideal) B9 L9)) (fun s d => K9 s d + outK Q D K V R (i 1).val s d)
      ∧ Is2 (φ := .f32) (a10.view.read (Elt Ideal) (a10.view.writes (Elt Ideal) B10 L10)) (fun s d => K10 s d + outV Q D K R (i 1).val s d) := by
  intro s t e5 e9 e10
  have hb := block dev i a2 h2 a3 h3 a4 h4 a5 h5 a6 h6 a7 h7 a8 h8 a9 h9 a10 h10 (reads a2 h2 a3 h3 a4 h4 a5 h5 a6 h6 hR) (a9.view.writes (Elt Ideal) B9 I9) (a10.view.writes (Elt Ideal) B10 I10) hk hv
  have ht : t = (s.1, [], []) := rest_eq ..
  rw [ht] at e5 e9 e10
  rw [List.nil_append] at e9 e10
  refine ⟨?_, ?_, ?_⟩
  · rw [e5, View.read_writes_full (Val := Elt Ideal) VO0_5 VO0_5.junk inb_S512x128_S512x128_0_0]
    exact hb.1
  · rw [e9, View.writes_cons, View.writes_append]
    exact hb.2.1
  · rw [e10, View.writes_cons, View.writes_append]
    exact hb.2.2

variable {x0 x1 x2 x3 x4 y0 y1}

theorem zero49 : Is2 (k0_pay49 : FVec Ideal S8192x128 .f32) (fun _ _ => 0) := by
  intro r c
  unfold k0_pay49
  pointwise
  exact EReal.coe_zero.symm
theorem zero50 : Is2 (k0_pay50 : FVec Ideal S8192x128 .f32) (fun _ _ => 0) := zero49
theorem is_pay4 {x : FVec Ideal S8192x128 .f32} {f : ℕ → ℕ → ℝ} (h : Is2 x f) : Is3 (k0_pay4 x) (fun _ => f) := by
  intro a r c
  unfold k0_pay4
  pointwise
  exact h r c
theorem is_pay5 {x : FVec Ideal S8192x128 .f32} {f : ℕ → ℕ → ℝ} (h : Is2 x f) : Is3 (k0_pay5 x) (fun _ => f) := is_pay4 h

/-- At a point in the middle of a head. -/
theorem point_B (hc0 : ¬ cond0_0 i) (hc1 : ¬ cond0_1 i) (hR : Reads Q D K V R x0 x3 x1 x2 x4) (hk : Is2 (φ := .f32) y0 K9)
    (hv : Is2 (φ := .f32) y1 K10) :
    Is2 (φ := .bf16) (out0_B_5 dev i a2 h2 a3 h3 a4 h4 a5 h5 a6 h6 a7 h7 a8 h8 a9 h9 a10 h10 hc0 hc1 x0 x1 x2 x3 x4 y0 y1) (outQ Q D K V R (i 1).val)
      ∧ Is2 (φ := .f32) (sout0_B_0 dev i a2 h2 a3 h3 a4 h4 a5 h5 a6 h6 a7 h7 a8 h8 a9 h9 a10 h10 hc0 hc1 x0 x1 x2 x3 x4 y0 y1) (fun s d => K9 s d + outK Q D K V R (i 1).val s d)
      ∧ Is2 (φ := .f32) (sout0_B_1 dev i a2 h2 a3 h3 a4 h4 a5 h5 a6 h6 a7 h7 a8 h8 a9 h9 a10 h10 hc0 hc1 x0 x1 x2 x3 x4 y0 y1) (fun s d => K10 s d + outV Q D K R (i 1).val s d) := by
  unfold out0_B_5 sout0_B_0 sout0_B_1
  refine finish dev i a2 h2 a3 h3 a4 h4 a5 h5 a6 h6 a7 h7 a8 h8 a9 h9 a10 h10 x0 x1 x2 x3 x4 (h9.unread y0) (h10.unread y1) [] [] _ _ _ hR ?_ ?_ ?_ ?_ ?_
  · rw [View.writes_nil, h9.read_unread]; exact hk
  · rw [View.writes_nil, h10.read_unread]; exact hv
  · rw [List.append_nil, List.append_nil]; exact pieces5_B ..
  · rw [List.append_nil, List.append_nil]; exact pieces9_B ..
  · rw [List.append_nil, List.append_nil]; exact pieces10_B ..

/-- At a point at the end of a head. -/
theorem point_C (hc0 : ¬ cond0_0 i) (hc1 : cond0_1 i) (hR : Reads Q D K V R x0 x3 x1 x2 x4) (hk : Is2 (φ := .f32) y0 K9)
    (hv : Is2 (φ := .f32) y1 K10) :
    Is2 (φ := .bf16) (out0_C_5 dev i a2 h2 a3 h3 a4 h4 a5 h5 a6 h6 a7 h7 a8 h8 a9 h9 a10 h10 hc0 hc1 x0 x1 x2 x3 x4 y0 y1) (outQ Q D K V R (i 1).val)
      ∧ Is2 (φ := .f32) (sout0_C_0 dev i a2 h2 a3 h3 a4 h4 a5 h5 a6 h6 a7 h7 a8 h8 a9 h9 a10 h10 hc0 hc1 x0 x1 x2 x3 x4 y0 y1) (fun s d => K9 s d + outK Q D K V R (i 1).val s d)
      ∧ Is2 (φ := .f32) (sout0_C_1 dev i a2 h2 a3 h3 a4 h4 a5 h5 a6 h6 a7 h7 a8 h8 a9 h9 a10 h10 hc0 hc1 x0 x1 x2 x3 x4 y0 y1) (fun s d => K10 s d + outV Q D K R (i 1).val s d) := by
  unfold out0_C_5 sout0_C_0 sout0_C_1
  refine finish dev i a2 h2 a3 h3 a4 h4 a5 h5 a6 h6 a7 h7 a8 h8 a9 h9 a10 h10 x0 x1 x2 x3 x4 (h9.unread y0) (h10.unread y1) [] [] _ _ _ hR ?_ ?_ ?_ ?_ ?_
  · rw [View.writes_nil, h9.read_unread]; exact hk
  · rw [View.writes_nil, h10.read_unread]; exact hv
  · rw [List.append_nil, List.append_nil]; exact pieces5_C ..
  · rw [List.append_nil, List.append_nil]; exact pieces9_C ..
  · rw [List.append_nil, List.append_nil]; exact pieces10_C ..

/-- At a point at the start of a head. -/
theorem point_A (hc0 : cond0_0 i) (hc1 : ¬ cond0_1 i) (hR : Reads Q D K V R x0 x3 x1 x2 x4)  :
    Is2 (φ := .bf16) (out0_A_5 dev i a2 h2 a3 h3 a4 h4 a5 h5 a6 h6 a7 h7 a8 h8 a9 h9 a10 h10 hc0 hc1 x0 x1 x2 x3 x4) (outQ Q D K V R (i 1).val)
      ∧ Is2 (φ := .f32) (sout0_A_0 dev i a2 h2 a3 h3 a4 h4 a5 h5 a6 h6 a7 h7 a8 h8 a9 h9 a10 h10 hc0 hc1 x0 x1 x2 x3 x4) (fun s d => outK Q D K V R (i 1).val s d)
      ∧ Is2 (φ := .f32) (sout0_A_1 dev i a2 h2 a3 h3 a4 h4 a5 h5 a6 h6 a7 h7 a8 h8 a9 h9 a10 h10 hc0 hc1 x0 x1 x2 x3 x4) (fun s d => outV Q D K R (i 1).val s d) := by
  unfold out0_A_5 sout0_A_0 sout0_A_1
  have h := finish dev i a2 h2 a3 h3 a4 h4 a5 h5 a6 h6 a7 h7 a8 h8 a9 h9 a10 h10 x0 x1 x2 x3 x4 a9.view.junk a10.view.junk clear9 clear10 _ _ _ hR
    (by unfold clear9; rw [View.read_writes_full (Val := Elt Ideal) a9.view]; exact zero49)
    (by unfold clear10; rw [View.read_writes_full (Val := Elt Ideal) a10.view]; exact zero50)
    (pieces5_A dev i a2 h2 a3 h3 a4 h4 a5 h5 a6 h6 a7 h7 a8 h8 a9 h9 a10 h10 x0 x1 x2 x3 x4 hc0 hc1) (pieces9_A dev i a2 h2 a3 h3 a4 h4 a5 h5 a6 h6 a7 h7 a8 h8 a9 h9 a10 h10 x0 x1 x2 x3 x4 hc0 hc1) (pieces10_A dev i a2 h2 a3 h3 a4 h4 a5 h5 a6 h6 a7 h7 a8 h8 a9 h9 a10 h10 x0 x1 x2 x3 x4 hc0 hc1)
  refine ⟨h.1, ?_, ?_⟩
  · rw [← View.read_writes_of_cover a9.view a9.view.junk VS0_0 VS0_0.junk _ (scover0_A_0 dev i a2 h2 a3 h3 a4 h4 a5 h5 a6 h6 a7 h7 a8 h8 a9 h9 a10 h10 hc0 hc1 x0 x1 x2 x3 x4)]
    exact h.2.1.congr fun s d _ _ => zero_add _
  · rw [← View.read_writes_of_cover a10.view a10.view.junk VS0_1 VS0_1.junk _ (scover0_A_1 dev i a2 h2 a3 h3 a4 h4 a5 h5 a6 h6 a7 h7 a8 h8 a9 h9 a10 h10 hc0 hc1 x0 x1 x2 x3 x4)]
    exact h.2.2.congr fun s d _ _ => zero_add _

/-- … where the last block of the head also writes out what the accumulators hold: the keys' gradients, then the values'. -/
theorem point_C_6 (hc0 : ¬ cond0_0 i) (hc1 : cond0_1 i) (hR : Reads Q D K V R x0 x3 x1 x2 x4) (hk : Is2 (φ := .f32) y0 K9)
    (hv : Is2 (φ := .f32) y1 K10) :
    Is3 (φ := .bf16) (out0_C_6 dev i a2 h2 a3 h3 a4 h4 a5 h5 a6 h6 a7 h7 a8 h8 a9 h9 a10 h10 hc0 hc1 x0 x1 x2 x3 x4 y0 y1)
      (fun a s d => if a = 0 then K9 s d + outK Q D K V R (i 1).val s d else K10 s d + outV Q D K R (i 1).val s d) := by
  have h := point_C dev i a2 h2 a3 h3 a4 h4 a5 h5 a6 h6 a7 h7 a8 h8 a9 h9 a10 h10 hc0 hc1 hR hk hv
  unfold sout0_C_0 sout0_C_1 at h
  unfold out0_C_6
  rw [pieces6_C, View.readAt_full, View.readAt_full]
  intro a s d
  match a with
  | ⟨0, _⟩ =>
    have e := View.read_writes_cons_unit_of_not_mem (Val := Elt Ideal) VO0_6 VO0_6.junk inb_S2x8192x128_S1x8192x128_1_0_0
      (k0_pay5 (a10.view.read (Elt Ideal) (a10.view.writes (Elt Ideal) (h10.unread y1) (kernelRun0_C (F := Ideal) dev i a2 h2 a3 h3 a4 h4 a5 h5 a6 h6 a7 h7 a8 h8 a9 h9 a10 h10 hc0 hc1 x0 x1 x2 x3 x4 y0 y1).2.2.2.1)))
      [⟨Rect.unit (s := S2x8192x128) ![0, 0, 0] S1x8192x128.size inb_S2x8192x128_S1x8192x128_0_0_0,
        k0_pay4 (a9.view.read (Elt Ideal) (a9.view.writes (Elt Ideal) (h9.unread y0) (kernelRun0_C (F := Ideal) dev i a2 h2 a3 h3 a4 h4 a5 h5 a6 h6 a7 h7 a8 h8 a9 h9 a10 h10 hc0 hc1 x0 x1 x2 x3 x4 y0 y1).2.2.1))⟩]
      (ix3 (0 : Fin 2) s d) rfl (0 : Fin 3) (Or.inl Nat.zero_lt_one)
    refine e.trans ?_
    refine (View.read_writes_cons_unit_of_mem (Val := Elt Ideal) VO0_6 VO0_6.junk inb_S2x8192x128_S1x8192x128_0_0_0 _ [] (ix3 (0 : Fin 2) s d)
      (ix3 (0 : Fin 1) s d) rfl (fun b => by match b with | ⟨0, _⟩ => rfl | ⟨1, _⟩ => exact (Nat.zero_add _).symm | ⟨2, _⟩ => exact (Nat.zero_add _).symm)).trans ?_
    exact is_pay4 h.2.1 (0 : Fin 1) s d
  | ⟨1, _⟩ =>
    refine (View.read_writes_cons_unit_of_mem (Val := Elt Ideal) VO0_6 VO0_6.junk inb_S2x8192x128_S1x8192x128_1_0_0 _ _ (ix3 (1 : Fin 2) s d)
      (ix3 (0 : Fin 1) s d) rfl (fun b => by match b with | ⟨0, _⟩ => rfl | ⟨1, _⟩ => exact (Nat.zero_add _).symm | ⟨2, _⟩ => exact (Nat.zero_add _).symm)).trans ?_
    exact is_pay5 h.2.2 (0 : Fin 1) s d

end Run

end Stick

end
-- ==== Proof.Heads.lean ====
/-
  One head: its sixteen blocks of queries in turn, and the two arrays the kernel leaves.
-/
module

public import proofs.«01_k».proof.Proof.Gen.KernelIdeal.Value
public import proofs.«01_k».proof.Proof.Point
public import Idealize.ShloMosaic.Lib.Pipeline.ValueKit.Point

@[expose] public section

set_option maxRecDepth 16384

noncomputable section

namespace Stick

open Idealize.ShloMosaic Idealize.ShloMosaic.TcCoe Cert.KernelIdeal Cert.KernelIdeal.Gen Cert.KernelIdeal.Value

/-! ## The blocks of the windows -/

/-- Grid point `t` is head `t / 16`, block of queries `t % 16`; the blocks its windows stand on. -/
theorem coords_t : ∀ t : Fin cfg0.N, ((grid0.coords t) 1).val = t.val % 16 :=
  (by decide +kernel : ∀ t : Fin grid0.N, _)

theorem index_t : ∀ t : Fin cfg0.N, win0_0.index t = ![0, t.val % 16, t.val / 16] ∧ win0_1.index t = ![1, 0, t.val / 16]
    ∧ win0_2.index t = ![2, 0, t.val / 16] ∧ win0_3.index t = ![t.val % 16, t.val / 16]
    ∧ win0_4.index t = ![t.val / 16, t.val % 16, 0, 0] :=
  (by decide +kernel : ∀ t : Fin grid0.N, _)

/-- An element of a window's block is an element of its array. -/
theorem read0 (t : Fin cfg0.N) (A : FVec Ideal S3x8192x2048 .bf16) (a : Fin 1) (r : Fin 512) (d : Fin 128) (h1 : 512 * (t.val % 16) + r.val < 8192)
    (h2 : 128 * (t.val / 16) + d.val < 2048) :
    ((cfg0.win 0).blk t).view.read (Elt Ideal) A (ix3 a r d) = A (ix3 0 ⟨512 * (t.val % 16) + r.val, h1⟩ ⟨128 * (t.val / 16) + d.val, h2⟩) := by
  obtain ⟨e0, e1, e2, e3, e4⟩ := index_t t
  blk_ext [e0]
theorem read1 (t : Fin cfg0.N) (A : FVec Ideal S3x8192x2048 .bf16) (a : Fin 1) (s : Fin 8192) (d : Fin 128)
    (h2 : 128 * (t.val / 16) + d.val < 2048) :
    ((cfg0.win 1).blk t).view.read (Elt Ideal) A (ix3 a s d) = A (ix3 1 s ⟨128 * (t.val / 16) + d.val, h2⟩) := by
  obtain ⟨e0, e1, e2, e3, e4⟩ := index_t t
  blk_ext [e1]
theorem read2 (t : Fin cfg0.N) (A : FVec Ideal S3x8192x2048 .bf16) (a : Fin 1) (s : Fin 8192) (d : Fin 128)
    (h2 : 128 * (t.val / 16) + d.val < 2048) :
    ((cfg0.win 2).blk t).view.read (Elt Ideal) A (ix3 a s d) = A (ix3 2 s ⟨128 * (t.val / 16) + d.val, h2⟩) := by
  obtain ⟨e0, e1, e2, e3, e4⟩ := index_t t
  blk_ext [e2]
theorem read3 (t : Fin cfg0.N) (A : FVec Ideal S8192x2048 .bf16) (r : Fin 512) (d : Fin 128) (h1 : 512 * (t.val % 16) + r.val < 8192)
    (h2 : 128 * (t.val / 16) + d.val < 2048) :
    ((cfg0.win 3).blk t).view.read (Elt Ideal) A (ix2 r d) = A (ix2 ⟨512 * (t.val % 16) + r.val, h1⟩ ⟨128 * (t.val / 16) + d.val, h2⟩) := by
  obtain ⟨e0, e1, e2, e3, e4⟩ := index_t t
  blk_ext [e3]
theorem read4 (t : Fin cfg0.N) (A : FVec Ideal S16x16x128x512 .f32) (g : Fin 128) (r : Fin 512) (h1 : t.val / 16 < 16) (h2 : t.val % 16 < 16) :
    ((cfg0.win 4).blk t).view.read (Elt Ideal) A (ix4 0 0 g r) = A (ix4 ⟨t.val / 16, h1⟩ ⟨t.val % 16, h2⟩ g r) := by
  obtain ⟨e0, e1, e2, e3, e4⟩ := index_t t
  blk_ext [e4]

variable (m : (ℓ : Loc nD τ sig) → Buf (Elt Ideal) ℓ) (c : Dev nD)

/-- The arguments are the real arrays `X` (queries, keys and values) and `Y` (the incoming gradient), and the sums to the
    right of each tile are `U`: at head, block of queries, block of keys, query. -/
structure Args (X : ℕ → ℕ → ℕ → ℝ) (Y : ℕ → ℕ → ℝ) (U : ℕ → ℕ → ℕ → ℕ → ℝ) : Prop where
  qkv : Is3 (φ := .bf16) (m ((c : Thread nD τ).loc main_arg0) : FVec Ideal S3x8192x2048 .bf16) X
  dO : Is2 (φ := .bf16) (m ((c : Thread nD τ).loc main_arg1) : FVec Ideal S8192x2048 .bf16) Y
  runs : ∀ (h i g : Fin 16) (r : Fin 512),
    (V m c (Pipeline.arrRef spec0 4) : FVec Ideal S16x16x128x512 .f32) (ix4 h i ⟨8 * g.val, by omega⟩ r) = ((U h i g r : ℝ) : EReal)

variable (X : ℕ → ℕ → ℕ → ℝ) (Y : ℕ → ℕ → ℝ) (U : ℕ → ℕ → ℕ → ℕ → ℝ)

/-- A head's queries and incoming gradients in one block, its keys and values. -/
def qB (h i : ℕ) : ℕ → ℕ → ℝ := fun r d => X 0 (512 * i + r) (128 * h + d)
def dB (h i : ℕ) : ℕ → ℕ → ℝ := fun r d => Y (512 * i + r) (128 * h + d)
def kB (h : ℕ) : ℕ → ℕ → ℝ := fun s d => X 1 s (128 * h + d)
def vB (h : ℕ) : ℕ → ℕ → ℝ := fun s d => X 2 s (128 * h + d)

variable {m c X Y U}

/-- What the windows hold at a point. -/
theorem reads_t (hA : Args m c X Y U) (t : Fin cfg0.N) :
    Reads (qB X (t.val / 16) (t.val % 16)) (dB Y (t.val / 16) (t.val % 16)) (kB X (t.val / 16)) (vB X (t.val / 16))
      (U (t.val / 16) (t.val % 16)) (iblk m c 0 t) (iblk m c 3 t) (iblk m c 1 t) (iblk m c 2 t) (iblk m c 4 t) := by
  have ht : t.val < 256 := lt_of_lt_of_eq t.isLt N_0
  refine ⟨?_, ?_, ?_, ?_, ?_⟩
  · intro a r d
    have h := read0 t (V m c main_arg0) a r d (by omega) (by omega)
    rw [V_main_arg0] at h
    exact h.trans (hA.qkv _ _ _)
  · intro r d
    have h := read3 t (V m c main_arg1) r d (by omega) (by omega)
    rw [V_main_arg1] at h
    exact h.trans (hA.dO _ _)
  · intro a s d
    have h := read1 t (V m c main_arg0) a s d (by omega)
    rw [V_main_arg0] at h
    exact h.trans (hA.qkv _ _ _)
  · intro a s d
    have h := read2 t (V m c main_arg0) a s d (by omega)
    rw [V_main_arg0] at h
    exact h.trans (hA.qkv _ _ _)
  · intro g r
    exact (read4 t (V m c (Pipeline.arrRef spec0 4)) ⟨8 * g.val, by omega⟩ r (by omega) (by omega)).trans
      (hA.runs ⟨t.val / 16, by omega⟩ ⟨t.val % 16, by omega⟩ g r)

/-! ## The blocks of one head in turn -/

variable (X Y U)

/-- What one block of queries writes out for its queries, and what it adds for the keys and for the values. -/
def blkQ (h i : ℕ) : ℕ → ℕ → ℝ := outQ (qB X h i) (dB Y h i) (kB X h) (vB X h) (U h i) i
def blkK (h i : ℕ) : ℕ → ℕ → ℝ := outK (qB X h i) (dB Y h i) (kB X h) (vB X h) (U h i) i
def blkV (h i : ℕ) : ℕ → ℕ → ℝ := outV (qB X h i) (dB Y h i) (kB X h) (U h i) i

/-- What the accumulators hold after the first `n` blocks of a head. -/
def accK (h n : ℕ) : ℕ → ℕ → ℝ := fun s d => ∑ i ∈ Finset.range n, blkK X Y U h i s d
def accV (h n : ℕ) : ℕ → ℕ → ℝ := fun s d => ∑ i ∈ Finset.range n, blkV X Y U h i s d

variable {X Y U}

/-- What a point leaves: its block's gradients of the queries, and the accumulators over the head's blocks up to it. -/
def After (X : ℕ → ℕ → ℕ → ℝ) (Y : ℕ → ℕ → ℝ) (U : ℕ → ℕ → ℕ → ℕ → ℝ) (t : ℕ)
    (o : FVec Ideal S512x128 .bf16 × FVec Ideal S2x8192x128 .bf16 × FVec Ideal S8192x128 .f32 × FVec Ideal S8192x128 .f32) : Prop :=
  Is2 o.1 (blkQ X Y U (t / 16) (t % 16)) ∧ Is2 o.2.2.1 (accK X Y U (t / 16) (t % 16 + 1)) ∧ Is2 o.2.2.2 (accV X Y U (t / 16) (t % 16 + 1))

theorem After.mk {t : ℕ} {o5 : FVec Ideal S512x128 .bf16} {o6 : FVec Ideal S2x8192x128 .bf16} {a b : FVec Ideal S8192x128 .f32}
    (h5 : Is2 o5 (blkQ X Y U (t / 16) (t % 16))) (ha : Is2 a (accK X Y U (t / 16) (t % 16 + 1)))
    (hb : Is2 b (accV X Y U (t / 16) (t % 16 + 1))) : After X Y U t (o5, o6, a, b) := ⟨h5, ha, hb⟩

theorem second {f : ℕ → ℕ → ℕ → ℝ} {o5 : FVec Ideal S512x128 .bf16} {o6 : FVec Ideal S2x8192x128 .bf16} {a b : FVec Ideal S8192x128 .f32}
    (h : Is3 o6 f) : Is3 (o5, o6, a, b).2.1 f := h

theorem after_A (hA : Args m c X Y U) (t : Fin cfg0.N) (h0 : t.val % 16 = 0) (h1 : ¬ t.val % 16 = 15) :
    After X Y U t.val (outsAt0 m c t.val t.isLt) := by
  have h := point_A c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    ((hcond0_0 t).mpr h0) (fun h => h1 ((hcond0_1 t).mp h)) (reads_t hA t)
  rw [coords_t t] at h
  rw [outsAt0_A m c t h0 h1]
  refine After.mk h.1 (h.2.1.congr fun s d _ _ => ?_) (h.2.2.congr fun s d _ _ => ?_)
  · rw [accK, h0]; exact (Finset.sum_range_one (fun i => blkK X Y U (t.val / 16) i s d)).symm
  · rw [accV, h0]; exact (Finset.sum_range_one (fun i => blkV X Y U (t.val / 16) i s d)).symm

/-- What the point before left for this point to add to. -/
def Ahead (X : ℕ → ℕ → ℕ → ℝ) (Y : ℕ → ℕ → ℝ) (U : ℕ → ℕ → ℕ → ℕ → ℝ) (t : ℕ)
    (o : FVec Ideal S512x128 .bf16 × FVec Ideal S2x8192x128 .bf16 × FVec Ideal S8192x128 .f32 × FVec Ideal S8192x128 .f32) : Prop :=
  Is2 o.2.2.1 (accK X Y U (t / 16) (t % 16)) ∧ Is2 o.2.2.2 (accV X Y U (t / 16) (t % 16))

theorem After.ahead {t : ℕ} (h0 : ¬ t % 16 = 0)
    {o : FVec Ideal S512x128 .bf16 × FVec Ideal S2x8192x128 .bf16 × FVec Ideal S8192x128 .f32 × FVec Ideal S8192x128 .f32}
    (h : After X Y U (t - 1) o) : Ahead X Y U t o := by
  have h' := h.2
  rw [show (t - 1) / 16 = t / 16 by omega, show (t - 1) % 16 + 1 = t % 16 by omega] at h'
  exact h'

theorem after_B (hA : Args m c X Y U) (t : Fin cfg0.N) (h0 : ¬ t.val % 16 = 0) (h1 : ¬ t.val % 16 = 15)
    (hb : Ahead X Y U t.val (outsAt0 m c (t.val - 1) (by omega))) : After X Y U t.val (outsAt0 m c t.val t.isLt) := by
  have h := point_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (fun h => h0 ((hcond0_0 t).mp h)) (fun h => h1 ((hcond0_1 t).mp h)) (reads_t hA t) hb.1 hb.2
  rw [coords_t t] at h
  rw [outsAt0_B m c t h0 h1]
  exact After.mk h.1 (h.2.1.congr fun s d _ _ => (Finset.sum_range_succ (fun i => blkK X Y U (t.val / 16) i s d) (t.val % 16)).symm)
    (h.2.2.congr fun s d _ _ => (Finset.sum_range_succ (fun i => blkV X Y U (t.val / 16) i s d) (t.val % 16)).symm)

theorem after_C (hA : Args m c X Y U) (t : Fin cfg0.N) (h0 : ¬ t.val % 16 = 0) (h1 : t.val % 16 = 15)
    (hb : Ahead X Y U t.val (outsAt0 m c (t.val - 1) (by omega))) : After X Y U t.val (outsAt0 m c t.val t.isLt) := by
  have h := point_C c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (fun h => h0 ((hcond0_0 t).mp h)) ((hcond0_1 t).mpr h1) (reads_t hA t) hb.1 hb.2
  rw [coords_t t] at h
  rw [outsAt0_C m c t h0 h1]
  exact After.mk h.1 (h.2.1.congr fun s d _ _ => (Finset.sum_range_succ (fun i => blkK X Y U (t.val / 16) i s d) (t.val % 16)).symm)
    (h.2.2.congr fun s d _ _ => (Finset.sum_range_succ (fun i => blkV X Y U (t.val / 16) i s d) (t.val % 16)).symm)

theorem after_t (hA : Args m c X Y U) : ∀ (t : ℕ) (ht : t < cfg0.N), After X Y U t (outsAt0 m c t ht) := by
  intro t
  induction t using Nat.strong_induction_on with
  | _ t ih =>
    intro ht
    by_cases h0 : t % 16 = 0
    · exact after_A hA ⟨t, ht⟩ h0 (by show ¬ t % 16 = 15; omega)
    · have hb := (ih (t - 1) (by omega) (by omega)).ahead h0
      by_cases h1 : t % 16 = 15
      · exact after_C hA ⟨t, ht⟩ h0 h1 hb
      · exact after_B hA ⟨t, ht⟩ h0 h1 hb

/-- After a head's last point: the block written out holds the sums for its keys, then those for its values. -/
theorem last_t (hA : Args m c X Y U) (t : Fin cfg0.N) (h1 : t.val % 16 = 15) :
    Is3 (φ := .bf16) (outsAt0 m c t.val t.isLt).2.1
      (fun a s d => if a = 0 then accK X Y U (t.val / 16) 16 s d else accV X Y U (t.val / 16) 16 s d) := by
  have h0 : ¬ t.val % 16 = 0 := by omega
  have hb := (after_t hA (t.val - 1) (by omega)).ahead h0
  have h := point_C_6 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    (fun h => h0 ((hcond0_0 t).mp h)) ((hcond0_1 t).mpr h1) (reads_t hA t) hb.1 hb.2
  rw [coords_t t] at h
  rw [outsAt0_C m c t h0 h1]
  refine second fun a s d => (h a s d).trans (congrArg (fun r : ℝ => (r : EReal)) ?_)
  generalize a.val = a
  generalize s.val = s
  generalize d.val = d
  rw [h1]
  by_cases ha : a = 0
  · exact (if_pos ha).trans ((Finset.sum_range_succ (fun i => blkK X Y U (t.val / 16) i s d) 15).symm.trans (if_pos ha).symm)
  · exact (if_neg ha).trans ((Finset.sum_range_succ (fun i => blkV X Y U (t.val / 16) i s d) 15).symm.trans (if_neg ha).symm)

/-! ## The two arrays -/

/-- The gradients of the queries: head `e / 128`, block `s / 512`. -/
theorem G5_eq (hA : Args m c X Y U) :
    Is2 (φ := .bf16) (G5 m c : FVec Ideal S8192x2048 .bf16) (fun s e => blkQ X Y U (e / 128) (s / 512) (s % 512) (e % 128)) := by
  intro s e
  have hs := s.isLt
  have he := e.isLt
  have hp : pt5Of (ix2 s e) = 16 * (e.val / 128) + s.val / 512 := by
    show 1 * (s.val / 512 - 0) + 16 * (e.val / 128 - 0) = _
    omega
  have hN : pt5Of (ix2 s e) < cfg0.N := by
    rw [hp]; exact lt_of_lt_of_eq (b := 256) (by omega) N_0.symm
  have e1 : pt5Of (ix2 s e) / 16 = e.val / 128 := by omega
  have e2 : pt5Of (ix2 s e) % 16 = s.val / 512 := by omega
  have h := (after_t hA _ hN).1 ⟨s.val % 512, Nat.mod_lt _ (by decide)⟩ ⟨e.val % 128, Nat.mod_lt _ (by decide)⟩
  rw [e1, e2] at h
  unfold G5
  rw [dif_pos hN, ← outsAt0_sweep (hn := hN)]
  refine Eq.trans (congrArg _ ?_) h
  funext a
  match a with
  | ⟨0, _⟩ => rfl
  | ⟨1, _⟩ => rfl

/-- The gradients of the keys (plane 0) and of the values (plane 1). -/
theorem G6_eq (hA : Args m c X Y U) :
    Is3 (φ := .bf16) (G6 m c : FVec Ideal S2x8192x2048 .bf16)
      (fun a s e => if a = 0 then accK X Y U (e / 128) 16 s (e % 128) else accV X Y U (e / 128) 16 s (e % 128)) := by
  intro a s e
  have ha := a.isLt
  have hs := s.isLt
  have he := e.isLt
  have hp : pt6Of (ix3 a s e) = 16 * (e.val / 128) + 15 := by
    show 16 * (16 * (a.val / 2 - 0) + 16 * (s.val / 8192 - 0) + 1 * (e.val / 128 - 0)) + 15 = _
    omega
  have hN : pt6Of (ix3 a s e) < cfg0.N := by
    rw [hp]; exact lt_of_lt_of_eq (b := 256) (by omega) N_0.symm
  have e1 : pt6Of (ix3 a s e) / 16 = e.val / 128 := by omega
  have h := last_t hA ⟨pt6Of (ix3 a s e), hN⟩ (by show pt6Of (ix3 a s e) % 16 = 15; omega) a s ⟨e.val % 128, Nat.mod_lt _ (by decide)⟩
  rw [show (⟨pt6Of (ix3 a s e), hN⟩ : Fin cfg0.N).val / 16 = e.val / 128 from e1] at h
  unfold G6
  rw [dif_pos hN, ← outsAt0_sweep (hn := hN)]
  refine Eq.trans (congrArg _ ?_) h
  funext b
  match b with
  | ⟨0, _⟩ => exact Fin.ext (Nat.mod_eq_of_lt a.isLt)
  | ⟨1, _⟩ => exact Fin.ext (Nat.mod_eq_of_lt s.isLt)
  | ⟨2, _⟩ => rfl

end Stick
-- ==== Proof.Equation.lean ====
/-
  Added over the blocks, what the kernel computes block by block is the gradient.
-/
module

public import proofs.«01_k».proof.Proof.Heads
public import proofs.«01_k».proof.Proof.Whole

@[expose] public section

noncomputable section

namespace Stick

variable (X : ℕ → ℕ → ℕ → ℝ) (Y : ℕ → ℕ → ℝ)

/-- The sum over the keys to the right of the last key of block `g`, for query `r` of block `i`. -/
def edge (h i g r : ℕ) : ℝ := right X h (512 * i + r) (512 * g + 511)

/-- Blocks of 512 in a row. -/
theorem blocks {M : Type} [AddCommMonoid M] (f : ℕ → M) (n : ℕ) :
    ∑ g ∈ Finset.range n, ∑ c ∈ Finset.range 512, f (512 * g + c) = ∑ s ∈ Finset.range (512 * n), f s := by
  induction n with
  | zero => simp
  | succ n ih => rw [Finset.sum_range_succ, ih, Nat.mul_succ, Finset.sum_range_add]

variable {X Y} {h i g r c : ℕ}

/-- The sum to the right of a key: over the rest of its block, and over the later blocks. -/
theorem right_split (t : ℕ) (hg : g < 16) (hc : c < 512) :
    right X h t (512 * g + c) = ∑ k ∈ Finset.Ico (c + 1) 512, stickL X h t (512 * g + k) + right X h t (512 * g + 511) := by
  unfold right
  rw [← Finset.sum_Ico_consecutive _ (show 512 * g + c + 1 ≤ 512 * g + 511 + 1 by omega) (show 512 * g + 511 + 1 ≤ 8192 by omega),
    Finset.sum_Ico_add (fun k => stickL X h t k) (c + 1) 512 (512 * g), show c + 1 + 512 * g = 512 * g + c + 1 by omega,
    show 512 + 512 * g = 512 * g + 511 + 1 by omega]

theorem pre_split (t : ℕ) :
    pre X Y h t (512 * g + c) = pre X Y h t (512 * g) + ∑ k ∈ Finset.Ico 0 c, eW X Y h t (512 * g + k) := by
  unfold pre
  rw [Finset.sum_range_add, Finset.range_eq_Ico c]

theorem tileDS_eq {lb e : ℕ → ℕ → ℝ} {carry : ℕ → ℝ} {b x p : ℝ} (h1 : lb r c = lsig b) (h2 : e r c = x)
    (h3 : carry r + ∑ k ∈ Finset.Ico 0 c, e r k = p) : tileDS lb e carry r c = (x - (x + p) * Real.exp (lsig b)) * cs := by
  unfold tileDS
  rw [h1, h2, h3]

/-! ## Blocks of keys before the block of queries -/

theorem tw_eq (hgi : g < i) (hi : i < 16) (hc : c < 512) :
    tw (qB X h i) (kB X h) (edge X h i) g r c = expW X h (512 * i + r) (512 * g + c) := by
  unfold expW
  rw [right_split _ (by omega) hc]
  refine congrArg Real.exp (congrArg₂ (· + ·) rfl (congrArg₂ (· + ·) (Finset.sum_congr rfl fun k hk => ?_) rfl))
  have hk := Finset.mem_Ico.mp hk
  unfold stickL
  rw [if_pos (by omega)]
  rfl

theorem te_eq (hgi : g < i) (hi : i < 16) (hc : c < 512) :
    te (qB X h i) (dB Y h i) (kB X h) (vB X h) (edge X h i) g r c = eW X Y h (512 * i + r) (512 * g + c) := by
  have e := tw_eq (X := X) (h := h) (r := r) hgi hi hc
  unfold eW
  rw [if_pos (by omega), mul_comm, ← e]
  rfl

theorem hand_eq (n : ℕ) (hn : n ≤ i) (hi : i < 16) :
    hand (qB X h i) (dB Y h i) (kB X h) (vB X h) (edge X h i) n r = pre X Y h (512 * i + r) (512 * n) := by
  unfold hand pre
  rw [← blocks]
  refine Finset.sum_congr rfl fun g hg => ?_
  rw [Finset.range_eq_Ico]
  refine Finset.sum_congr rfl fun k hk => ?_
  exact te_eq (by have := Finset.mem_range.mp hg; omega) hi (Finset.mem_Ico.mp hk).2

theorem tg_eq (hgi : g < i) (hi : i < 16) (hc : c < 512) :
    tg (qB X h i) (dB Y h i) (kB X h) (vB X h) (edge X h i) g r c = gradZ X Y h (512 * i + r) (512 * g + c) := by
  unfold gradZ
  rw [if_pos (by omega)]
  show tileDS (fun r c => lsig (score (qB X h i) (blk (kB X h) g) r c)) (te (qB X h i) (dB Y h i) (kB X h) (vB X h) (edge X h i) g)
    (hand (qB X h i) (dB Y h i) (kB X h) (vB X h) (edge X h i) g) r c = _
  exact tileDS_eq (b := zS X h (512 * i + r) (512 * g + c)) rfl (te_eq hgi hi hc)
    ((congrArg₂ (· + ·) (hand_eq g hgi.le hi) (Finset.sum_congr rfl fun k hk =>
      te_eq hgi hi (by have := (Finset.mem_Ico.mp hk).2; omega))).trans (pre_split _).symm)

/-! ## The block of keys beside the block of queries -/

theorem tileA_own (hi : i < 16) (hcr : c < r) (hr : r < 512) :
    tileA (fun r c => lsig (score (qB X h i) (blk (kB X h) i) r c))
      (fun r c => if c < r then lneg (score (qB X h i) (blk (kB X h) i) r c) else 0) (edge X h i i) r c
      = expW X h (512 * i + r) (512 * i + c) := by
  unfold expW
  rw [right_split _ hi (by omega)]
  refine congrArg Real.exp (congrArg₂ (· + ·) rfl (congrArg₂ (· + ·) (Finset.sum_congr rfl fun k hk => ?_) rfl))
  have e : (k < r) = (512 * i + k < 512 * i + r) := propext (by omega)
  unfold stickL
  simp only [← e]
  rfl

theorem twD_eq (hi : i < 16) (hr : r < 512) :
    twD (qB X h i) (kB X h) (edge X h i) i r c = wt X h (512 * i + r) (512 * i + c) := by
  unfold wt twD wtsD
  by_cases hcr : c < r
  · rw [if_pos hcr, if_pos (by omega), tileA_own hi hcr hr]
  · rw [if_neg hcr, if_neg (by omega)]

theorem prodsD_eq (hi : i < 16) (hr : r < 512) (hcr : c < r) :
    prodsD (qB X h i) (blk (kB X h) i) (blk (vB X h) i) (dB Y h i) (edge X h i i) r c = eW X Y h (512 * i + r) (512 * i + c) := by
  have e := twD_eq (X := X) (h := h) (c := c) hi hr
  unfold wt at e
  rw [if_pos (by omega)] at e
  unfold eW
  rw [if_pos (by omega), mul_comm, ← e]
  rfl

theorem tgD_eq (hi : i < 16) (hr : r < 512) :
    tgD (qB X h i) (dB Y h i) (kB X h) (vB X h) (edge X h i) i r c = gradZ X Y h (512 * i + r) (512 * i + c) := by
  unfold gradZ tgD dscD
  by_cases hcr : c < r
  · rw [if_pos hcr, if_pos (by omega)]
    refine tileDS_eq (r := r) (c := c) (b := zS X h (512 * i + r) (512 * i + c)) (Eq.refl (lsig (zS X h (512 * i + r) (512 * i + c)))) (prodsD_eq hi hr hcr)
      ((congrArg₂ (· + ·) (hand_eq i le_rfl hi) (Finset.sum_congr rfl fun k hk =>
        prodsD_eq hi hr (by have := (Finset.mem_Ico.mp hk).2; omega))).trans (pre_split _).symm)
  · rw [if_neg hcr, if_neg (by omega)]

/-! ## The gradients -/

theorem gradZ_late {t s : ℕ} (hs : t ≤ s) : gradZ X Y h t s = 0 := if_neg (by omega)
theorem wt_late {t s : ℕ} (hs : t ≤ s) : wt X h t s = 0 := if_neg (by omega)

/-- The gradient of the queries, a block of them at a time. -/
theorem blkQ_eq (hi : i < 16) (hr : r < 512) (d : ℕ) :
    blkQ X Y (edge X) h i r d = gradQ X Y h (512 * i + r) d := by
  have e1 : ∀ g ∈ Finset.range i, ∑ c ∈ Finset.range 512, tg (qB X h i) (dB Y h i) (kB X h) (vB X h) (edge X h i) g r c * kB X h (512 * g + c) d
      = ∑ c ∈ Finset.range 512, gradZ X Y h (512 * i + r) (512 * g + c) * X 1 (512 * g + c) (128 * h + d) := by
    intro g hg
    refine Finset.sum_congr rfl fun c hc => ?_
    rw [tg_eq (Finset.mem_range.mp hg) hi (Finset.mem_range.mp hc)]
    rfl
  have e2 : ∑ c ∈ Finset.range 512, tgD (qB X h i) (dB Y h i) (kB X h) (vB X h) (edge X h i) i r c * kB X h (512 * i + c) d
      = ∑ c ∈ Finset.range 512, gradZ X Y h (512 * i + r) (512 * i + c) * X 1 (512 * i + c) (128 * h + d) := by
    refine Finset.sum_congr rfl fun c hc => ?_
    rw [tgD_eq hi hr]
    rfl
  show (∑ g ∈ Finset.range i, _) + _ = _
  rw [Finset.sum_congr rfl e1, e2, ← Finset.sum_range_succ (fun g => ∑ c ∈ Finset.range 512, gradZ X Y h (512 * i + r) (512 * g + c) * X 1 (512 * g + c) (128 * h + d)),
    blocks (fun s => gradZ X Y h (512 * i + r) s * X 1 s (128 * h + d))]
  refine Finset.sum_subset (Finset.range_subset_range.mpr (by omega)) fun s _ hs => ?_
  rw [gradZ_late (by have := mt Finset.mem_range.mpr hs; omega), zero_mul]

/-- What a block of queries adds to the gradient of the keys. -/
theorem blkK_eq (hi : i < 16) (s d : ℕ) :
    blkK X Y (edge X) h i s d = ∑ r ∈ Finset.range 512, gradZ X Y h (512 * i + r) s * X 0 (512 * i + r) (128 * h + d) := by
  have hs := Nat.div_add_mod s 512
  have hm := Nat.mod_lt s (show 0 < 512 by omega)
  show (if s / 512 < i then ∑ r ∈ Finset.range 512, _ else if s / 512 = i then ∑ r ∈ Finset.range 512, _ else 0) = _
  by_cases h1 : s / 512 < i
  · rw [if_pos h1]
    refine Finset.sum_congr rfl fun r hr => ?_
    rw [tg_eq h1 hi hm, hs]
    rfl
  rw [if_neg h1]
  by_cases h2 : s / 512 = i
  · rw [if_pos h2]
    refine Finset.sum_congr rfl fun r hr => ?_
    rw [tgD_eq hi (Finset.mem_range.mp hr), show 512 * i + s % 512 = s by omega]
    rfl
  rw [if_neg h2]
  refine (Finset.sum_eq_zero fun r hr => ?_).symm
  have := Finset.mem_range.mp hr
  rw [gradZ_late (by omega), zero_mul]

/-- What a block of queries adds to the gradient of the values. -/
theorem blkV_eq (hi : i < 16) (s d : ℕ) :
    blkV X Y (edge X) h i s d = ∑ r ∈ Finset.range 512, wt X h (512 * i + r) s * Y (512 * i + r) (128 * h + d) := by
  have hs := Nat.div_add_mod s 512
  have hm := Nat.mod_lt s (show 0 < 512 by omega)
  show (if s / 512 < i then ∑ r ∈ Finset.range 512, _ else if s / 512 = i then ∑ r ∈ Finset.range 512, _ else 0) = _
  by_cases h1 : s / 512 < i
  · rw [if_pos h1]
    refine Finset.sum_congr rfl fun r hr => ?_
    rw [tw_eq h1 hi hm, hs]
    unfold wt
    rw [if_pos (by omega)]
    rfl
  rw [if_neg h1]
  by_cases h2 : s / 512 = i
  · rw [if_pos h2]
    refine Finset.sum_congr rfl fun r hr => ?_
    rw [twD_eq hi (Finset.mem_range.mp hr), show 512 * i + s % 512 = s by omega]
    rfl
  rw [if_neg h2]
  refine (Finset.sum_eq_zero fun r hr => ?_).symm
  have := Finset.mem_range.mp hr
  rw [wt_late (by omega), zero_mul]

theorem accK_eq (s d : ℕ) : accK X Y (edge X) h 16 s d = gradK X Y h s d := by
  show ∑ i ∈ Finset.range 16, blkK X Y (edge X) h i s d = _
  rw [Finset.sum_congr rfl fun i hi => blkK_eq (Finset.mem_range.mp hi) s d, blocks (fun t => gradZ X Y h t s * X 0 t (128 * h + d))]
  rfl

theorem accV_eq (s d : ℕ) : accV X Y (edge X) h 16 s d = gradV X Y h s d := by
  show ∑ i ∈ Finset.range 16, blkV X Y (edge X) h i s d = _
  rw [Finset.sum_congr rfl fun i hi => blkV_eq (Finset.mem_range.mp hi) s d, blocks (fun t => wt X h t s * Y t (128 * h + d))]
  rfl

end Stick
-- ==== Proof.Finite.lean ====
/-
  Arguments that are finite, as arrays of real numbers.
-/
module

public import proofs.«01_k».proof.Pre_finite
public import proofs.«01_k».proof.Proof.Softplus
public import Idealize.ShloMosaic.Lib.Pipeline.Value

@[expose] public section

noncomputable section

namespace Stick

open Idealize.ShloMosaic

/-- The side conditions of the precondition. -/
theorem finiteFacts : Cert.Pre_finite.Facts where
  bitsLt_bf16_f32 := by decide
  bcast_S_S3x8192x2048 := by decide
  bcast_S_S8192x2048 := by decide
  bcast_S8192x2048_S1x8192x2048_1_2 := by decide
  bcast_S1x8192x2048_S3x8192x2048_0_1_2 := by decide

/-- A number whose absolute value is less than infinity is real. -/
theorem real_of_abs {x : EReal} (h : Ideal.cmp .olt (max x (-x)) (FloatOps.ofBits .f32 0x7F800000#32 : Ideal .f32) = 1#1) :
    ((x.toReal : ℝ) : EReal) = x := by
  rw [word_inf] at h
  induction x with
  | coe r => rfl
  | bot => simp [Ideal.cmp] at h
  | top => simp [Ideal.cmp] at h

/-- The real numbers an array holds. -/
def real3 (x : FVec Ideal (⟨3, ![3, 8192, 2048]⟩ : Shape) .bf16) (a s e : ℕ) : ℝ :=
  if h : a < 3 ∧ s < 8192 ∧ e < 2048 then EReal.toReal (x (ix3 ⟨a, h.1⟩ ⟨s, h.2.1⟩ ⟨e, h.2.2⟩)) else 0
def real2 (x : FVec Ideal (⟨2, ![8192, 2048]⟩ : Shape) .bf16) (s e : ℕ) : ℝ :=
  if h : s < 8192 ∧ e < 2048 then EReal.toReal (x (ix2 ⟨s, h.1⟩ ⟨e, h.2⟩)) else 0

variable [Cert.Pre_finite.Facts] {x0 : FVec Ideal Cert.Pre_finite.S3x8192x2048 .bf16} {x1 : FVec Ideal Cert.Pre_finite.S8192x2048 .bf16}

theorem and_one {a b : BitVec 1} (h : IntOp.andi a b = 1#1) : a = 1#1 ∧ b = 1#1 := by
  revert a b
  decide

/-- Under the precondition both arguments hold real numbers. -/
theorem finite_both (h : Cert.Pre_finite.fn (F := Ideal) x0 x1 = fun _ => 1#1) (a : Fin 3) (s : Fin 8192) (e : Fin 2048) :
    (((EReal.toReal (x0 (ix3 a s e))) : ℝ) : EReal) = x0 (ix3 a s e) ∧ (((EReal.toReal (x1 (ix2 s e))) : ℝ) : EReal) = x1 (ix2 s e) := by
  obtain ⟨h0, h1⟩ := and_one (congrFun h (ix3 a s e))
  refine ⟨real_of_abs h0, real_of_abs ?_⟩
  have e1 := (broadcastInDim_apply _ Cert.Pre_finite.Facts.bcast_S1x8192x2048_S3x8192x2048_0_1_2 _ (ix3 a s e) (ix3 (0 : Fin 1) s e) (by
    intro b
    match b with
    | ⟨0, _⟩ => rfl
    | ⟨1, _⟩ => rfl
    | ⟨2, _⟩ => rfl)).symm.trans h1
  exact (broadcastInDim_apply _ Cert.Pre_finite.Facts.bcast_S8192x2048_S1x8192x2048_1_2 _ (ix3 (0 : Fin 1) s e) (ix2 s e) (by
    intro b
    match b with
    | ⟨0, _⟩ => rfl
    | ⟨1, _⟩ => rfl)).symm.trans e1

theorem is_real3 (h : Cert.Pre_finite.fn (F := Ideal) x0 x1 = fun _ => 1#1) : Is3 x0 (real3 x0) := by
  intro a s e
  unfold real3
  rw [dif_pos ⟨a.isLt, s.isLt, e.isLt⟩]
  exact (finite_both h a s e).1.symm

theorem is_real2 (h : Cert.Pre_finite.fn (F := Ideal) x0 x1 = fun _ => 1#1) : Is2 x1 (real2 x1) := by
  intro s e
  unfold real2
  rw [dif_pos ⟨s.isLt, e.isLt⟩]
  exact (finite_both h 0 s e).2.symm

end Stick
-- ==== Proof.Result.lean ====
/-
  The kernel's two results are the reference's.
-/
module

public import proofs.«01_k».proof.Proof.HostRuns
public import proofs.«01_k».proof.Proof.Equation
public import proofs.«01_k».proof.Proof.Finite

@[expose] public section

noncomputable section

namespace Stick

open Idealize.ShloMosaic Idealize.ShloMosaic.TcCoe Cert.KernelIdeal Cert.KernelIdeal.Gen Cert.KernelIdeal.Value

variable [Cert.Pre_finite.Facts] (m : (ℓ : Loc nD τ sig) → Buf (Elt Ideal) ℓ) (c : Dev nD)

omit [Cert.Pre_finite.Facts] in
/-- Arrays that hold the same real numbers are equal. -/
theorem Is2.unique {n k : ℕ} {φ : FTy} {x y : FVec Ideal (⟨2, ![n, k]⟩ : Shape) φ} {f g : ℕ → ℕ → ℝ} (hx : Is2 x f) (hy : Is2 y g)
    (h : ∀ r c, r < n → c < k → f r c = g r c) : x = y := by
  funext j
  have e : j = ix2 (j 0) (j 1) := funext fun a => match a with | ⟨0, _⟩ => rfl | ⟨1, _⟩ => rfl
  rw [e]
  exact (hx _ _).trans ((congrArg (fun r : ℝ => (r : EReal)) (h _ _ (j 0).isLt (j 1).isLt)).trans (hy _ _).symm)

omit [Cert.Pre_finite.Facts] in
theorem Is3.unique {l n k : ℕ} {φ : FTy} {x y : FVec Ideal (⟨3, ![l, n, k]⟩ : Shape) φ} {f g : ℕ → ℕ → ℕ → ℝ} (hx : Is3 x f) (hy : Is3 y g)
    (h : ∀ a r c, a < l → r < n → c < k → f a r c = g a r c) : x = y := by
  funext j
  have e : j = ix3 (j 0) (j 1) (j 2) := funext fun a => match a with | ⟨0, _⟩ => rfl | ⟨1, _⟩ => rfl | ⟨2, _⟩ => rfl
  rw [e]
  exact (hx _ _ _).trans ((congrArg (fun r : ℝ => (r : EReal)) (h _ _ _ (j 0).isLt (j 1).isLt (j 2).isLt)).trans (hy _ _ _).symm)

/-- The arguments of the run hold real numbers, and the sums to the right are as the host prepares them. -/
theorem args (h : Cert.Pre_finite.fn (F := Ideal) (m ((c : Thread nD τ).loc main_arg0)) (m ((c : Thread nD τ).loc main_arg1)) = fun _ => 1#1) :
    Args m c (real3 (m ((c : Thread nD τ).loc main_arg0))) (real2 (m ((c : Thread nD τ).loc main_arg1)))
      (edge (real3 (m ((c : Thread nD τ).loc main_arg0)))) where
  qkv := is_real3 h
  dO := is_real2 h
  runs := fun hh i g r => by
    have e := host_runs (σ := fun b => m (c, b)) (is_real3 h) hh i g r
    exact e

/-- The gradient of the queries. -/
theorem first_eq (h : Cert.Pre_finite.fn (F := Ideal) (m ((c : Thread nD τ).loc main_arg0)) (m ((c : Thread nD τ).loc main_arg1)) = fun _ => 1#1) :
    (G5 m c : FVec Ideal S8192x2048 .bf16)
      = Cert.ReferenceIdeal.Read.val_main_v60 (F := Ideal) (m ((c : Thread nD τ).loc main_arg0)) (m ((c : Thread nD τ).loc main_arg1)) := by
  refine Is2.unique (G5_eq (args m c h)) (ref_first (is_real3 h) (is_real2 h)) fun s e hs he => ?_
  exact (blkQ_eq (by omega) (by omega) _).trans (congrArg (fun t => gradQ _ _ _ t _) (Nat.div_add_mod s 512))

/-- The gradients of the keys and of the values. -/
theorem second_eq (h : Cert.Pre_finite.fn (F := Ideal) (m ((c : Thread nD τ).loc main_arg0)) (m ((c : Thread nD τ).loc main_arg1)) = fun _ => 1#1) :
    (G6 m c : FVec Ideal S2x8192x2048 .bf16)
      = Cert.ReferenceIdeal.Read.val_main_v64 (F := Ideal) (m ((c : Thread nD τ).loc main_arg0)) (m ((c : Thread nD τ).loc main_arg1)) := by
  refine Is3.unique (G6_eq (args m c h)) (ref_second (is_real3 h) (is_real2 h)) fun a s e _ _ _ => ?_
  exact congrArg₂ (fun x y : ℝ => if a = 0 then x else y) (accK_eq _ _) (accV_eq _ _)

end Stick
-- ==== Proof.Products.lean ====
/-
  Indices and sums that the products of the network's layers share.
-/
module

public import Idealize.ShloMosaic.Lib.Pointwise
public import Idealize.ShloMosaic.PureOps.Ideal.Laws

@[expose] public section

noncomputable section

namespace Products

open Idealize.ShloMosaic

/-- Indices with equal coordinates are equal. -/
theorem ix2_ext {a b : ℕ} {x : (⟨2, ![a, b]⟩ : Shape).Idx} {i : Fin a} {j : Fin b} (h0 : (x 0).val = i.val) (h1 : (x 1).val = j.val) :
    x = ix2 i j := funext fun n => match n with | ⟨0, _⟩ => Fin.ext h0 | ⟨1, _⟩ => Fin.ext h1
theorem ix3_ext {a b c : ℕ} {x : (⟨3, ![a, b, c]⟩ : Shape).Idx} {i : Fin a} {j : Fin b} {k : Fin c} (h0 : (x 0).val = i.val)
    (h1 : (x 1).val = j.val) (h2 : (x 2).val = k.val) : x = ix3 i j k :=
  funext fun n => match n with | ⟨0, _⟩ => Fin.ext h0 | ⟨1, _⟩ => Fin.ext h1 | ⟨2, _⟩ => Fin.ext h2

/-- Every index is given by its coordinates. -/
theorem ix2_of {a b : ℕ} (x : (⟨2, ![a, b]⟩ : Shape).Idx) : ∃ (i : Fin a) (j : Fin b), x = ix2 i j := ⟨x 0, x 1, ix2_ext rfl rfl⟩
theorem ix3_of {a b c : ℕ} (x : (⟨3, ![a, b, c]⟩ : Shape).Idx) : ∃ (i : Fin a) (j : Fin b) (k : Fin c), x = ix3 i j k :=
  ⟨x 0, x 1, x 2, ix3_ext rfl rfl rfl⟩

/-- A place in a block that starts at zero. -/
theorem at_zero {n : ℕ} (k : Fin n) : 0 + 1 * k.val = k.val := by omega
/-- A place in a block that starts at `o`. -/
theorem at_start {n : ℕ} (o : ℕ) (k : Fin n) : o + 1 * k.val = o + k.val := by omega

/-- Sums of products of equal factors. -/
theorem dot_congr {n : ℕ} {a b a' b' : Fin n → EReal} (ha : ∀ k, a k = a' k) (hb : ∀ k, b k = b' k) :
    (∑ k, a k * b k) = ∑ k, a' k * b' k := Finset.sum_congr rfl fun k _ => by rw [ha, hb]
theorem dot_add_congr {n : ℕ} {a b a' b' c d c' d' : Fin n → EReal} (ha : ∀ k, a k = a' k) (hb : ∀ k, b k = b' k) (hc : ∀ k, c k = c' k)
    (hd : ∀ k, d k = d' k) : (∑ k, a k * b k) + (∑ k, c k * d k) = (∑ k, a' k * b' k) + ∑ k, c' k * d' k := by
  rw [dot_congr ha hb, dot_congr hc hd]

/-- A sum over `S` blocks of `n` is the sum over all `L = S * n`. -/
theorem sum_blocks {S n L : ℕ} (hL : L = S * n) {g : Fin S → Fin n → EReal} (f : Fin L → EReal)
    (h : ∀ (s : Fin S) (k : Fin n) (hk : n * s.val + k.val < L), g s k = f ⟨n * s.val + k.val, hk⟩) :
    (∑ s, ∑ k, g s k) = ∑ l, f l := by
  subst hL
  rw [← Equiv.sum_comp finProdFinEquiv f, Fintype.sum_prod_type]
  refine Finset.sum_congr rfl fun s _ => Finset.sum_congr rfl fun k _ => ?_
  have e : (finProdFinEquiv (s, k)).val = n * s.val + k.val := by
    rw [show (finProdFinEquiv (s, k)).val = k.val + n * s.val from rfl]; omega
  rw [h s k (by rw [← e]; exact (finProdFinEquiv (s, k)).isLt)]
  exact congrArg f (Fin.ext e.symm)

/-- A coordinate is in the range of the tile its quotient names. -/
theorem in_range {q n x : ℕ} (hn : 0 < n) (h : x / n = q) : q * n ≤ x ∧ x < q * n + n := by
  subst h
  exact ⟨Nat.div_mul_le_self x n, by rw [mul_comm]; exact Nat.lt_mul_div_succ x hn⟩

/-- The matrix product. -/
def mul {M K N : ℕ} {φ ψ χ : FTy} (a : FVec Ideal ⟨2, ![M, K]⟩ φ) (b : FVec Ideal ⟨2, ![K, N]⟩ ψ) : FVec Ideal ⟨2, ![M, N]⟩ χ := fun j =>
  ∑ k : Fin K, (a (ix2 (⟨(j 0).val, (j 0).isLt⟩ : Fin M) k) : EReal) * b (ix2 k (⟨(j 1).val, (j 1).isLt⟩ : Fin N))

/-- The matrix product with the second factor transposed. -/
def mulT {M K N : ℕ} {φ ψ χ : FTy} (a : FVec Ideal ⟨2, ![M, K]⟩ φ) (b : FVec Ideal ⟨2, ![N, K]⟩ ψ) : FVec Ideal ⟨2, ![M, N]⟩ χ := fun j =>
  ∑ k : Fin K, (a (ix2 (⟨(j 0).val, (j 0).isLt⟩ : Fin M) k) : EReal) * b (ix2 (⟨(j 1).val, (j 1).isLt⟩ : Fin N) k)

/-- The matrix product with the first factor transposed. -/
def tmul {S M N : ℕ} {φ ψ χ : FTy} (a : FVec Ideal ⟨2, ![S, M]⟩ φ) (b : FVec Ideal ⟨2, ![S, N]⟩ ψ) : FVec Ideal ⟨2, ![M, N]⟩ χ := fun j =>
  ∑ s : Fin S, (a (ix2 s (⟨(j 0).val, (j 0).isLt⟩ : Fin M)) : EReal) * b (ix2 s (⟨(j 1).val, (j 1).isLt⟩ : Fin N))

theorem tmul_apply {S M N : ℕ} {φ ψ χ : FTy} (a : FVec Ideal ⟨2, ![S, M]⟩ φ) (b : FVec Ideal ⟨2, ![S, N]⟩ ψ) (f : Fin M) (e : Fin N) :
    (tmul a b : FVec Ideal ⟨2, ![M, N]⟩ χ) (ix2 f e) = ∑ s : Fin S, (a (ix2 s f) : EReal) * b (ix2 s e) := rfl

/-- Where a part's column lies among all the columns, and back. -/
theorem in_part {P n : ℕ} (p : Fin P) (e : Fin n) : n * p.val + e.val < P * n := by
  have h := Nat.mul_le_mul_left n (Nat.succ_le_of_lt p.isLt)
  rw [Nat.mul_succ] at h
  rw [Nat.mul_comm P n]
  have := e.isLt
  omega
theorem part_lt {P n L : ℕ} (hL : L = P * n) (l : Fin L) : l.val / n < P :=
  Nat.div_lt_of_lt_mul (by have := l.isLt; rw [Nat.mul_comm]; omega)
theorem place_lt {P n L : ℕ} (hL : L = P * n) (l : Fin L) : l.val % n < n :=
  Nat.mod_lt _ (Nat.pos_of_ne_zero fun h => by subst h; have := l.isLt; omega)

/-- The matrix product whose columns are stored in parts of `n`: part `p` holds columns `n * p` and on. -/
def mulParts {M K P n L : ℕ} (hL : L = P * n) {φ ψ χ : FTy} (a : FVec Ideal ⟨2, ![M, K]⟩ φ) (b : FVec Ideal ⟨2, ![K, L]⟩ ψ) :
    FVec Ideal ⟨3, ![P, M, n]⟩ χ := fun j =>
  ∑ k : Fin K, (a (ix2 (⟨(j 1).val, (j 1).isLt⟩ : Fin M) k) : EReal)
    * b (ix2 k (⟨n * (j 0).val + (j 2).val, hL ▸ in_part (j 0) (j 2)⟩ : Fin L))

theorem mulParts_apply {M K P n L : ℕ} (hL : L = P * n) {φ ψ χ : FTy} (a : FVec Ideal ⟨2, ![M, K]⟩ φ) (b : FVec Ideal ⟨2, ![K, L]⟩ ψ)
    (p : Fin P) (r : Fin M) (e : Fin n) :
    (mulParts hL a b : FVec Ideal ⟨3, ![P, M, n]⟩ χ) (ix3 p r e)
      = ∑ k : Fin K, (a (ix2 r k) : EReal) * b (ix2 k (⟨n * p.val + e.val, hL ▸ in_part p e⟩ : Fin L)) := rfl

/-- The product of the transposed first factor with columns stored in parts of `n`. -/
def tmulParts {S M P n L : ℕ} (hL : L = P * n) {φ ψ χ : FTy} (a : FVec Ideal ⟨2, ![S, M]⟩ φ) (b : FVec Ideal ⟨3, ![P, S, n]⟩ ψ) :
    FVec Ideal ⟨2, ![M, L]⟩ χ := fun j =>
  ∑ s : Fin S, (a (ix2 s (⟨(j 0).val, (j 0).isLt⟩ : Fin M)) : EReal)
    * b (ix3 (⟨(j 1).val / n, part_lt hL (j 1)⟩ : Fin P) s (⟨(j 1).val % n, place_lt hL (j 1)⟩ : Fin n))

theorem tmulParts_apply {S M P n L : ℕ} (hL : L = P * n) {φ ψ χ : FTy} (a : FVec Ideal ⟨2, ![S, M]⟩ φ) (b : FVec Ideal ⟨3, ![P, S, n]⟩ ψ)
    (f : Fin M) (l : Fin L) :
    (tmulParts hL a b : FVec Ideal ⟨2, ![M, L]⟩ χ) (ix2 f l)
      = ∑ s : Fin S, (a (ix2 s f) : EReal) * b (ix3 (⟨l.val / n, part_lt hL l⟩ : Fin P) s (⟨l.val % n, place_lt hL l⟩ : Fin n)) := rfl

end Products
end
-- ==== Proof.UpDx.lean ====
/-
  The gradient of the two up-projections' common input: a sum of two products against the two halves of the weights.
-/
module

public import proofs.«01_k».proof.Defs
public import proofs.«01_k».proof.Proof.Gen.KernelUpDxIdeal.Value
public import Idealize.ShloMosaic.Adequacy
public import Idealize.ShloMosaic.Init
public import proofs.«01_k».proof.Proof.Gen.ReferenceUpDxIdeal.Read
public import proofs.«01_k».proof.Proof.Products
public import Idealize.ShloMosaic.Lib.Pipeline.ValueKit.Point

@[expose] public section

set_option maxRecDepth 16384

noncomputable section

namespace UpDx

open Products Idealize.ShloMosaic Idealize.ShloMosaic.TcCoe Cert.KernelUpDxIdeal Cert.KernelUpDxIdeal.Gen Cert.KernelUpDxIdeal.Value

/-- The gradient at row `s`, feature `e`: the products with the weights' left half, then with their right half. -/
def dx (w : FVec Ideal S2048x11264 .bf16) (du : FVec Ideal S2x8192x5632 .bf16) : FVec Ideal S8192x2048 .f32 := fun j =>
  (∑ k : Fin 5632, (du (ix3 (0 : Fin 2) (⟨(j 0).val, (j 0).isLt⟩ : Fin 8192) k) : EReal) * w (ix2 (⟨(j 1).val, (j 1).isLt⟩ : Fin 2048) ⟨k.val, by omega⟩))
    + ∑ k : Fin 5632, (du (ix3 (1 : Fin 2) (⟨(j 0).val, (j 0).isLt⟩ : Fin 8192) k) : EReal) * w (ix2 (⟨(j 1).val, (j 1).isLt⟩ : Fin 2048) ⟨5632 + k.val, by omega⟩)

/-- The blocks the windows stand on at each grid point. -/
theorem index_t : ∀ t : Fin cfg0.N, win0_0.index t = ![0, t.val / 8, 0] ∧ win0_1.index t = ![t.val % 8, 0]
    ∧ win0_2.index t = ![t.val / 8, t.val % 8] :=
  (by decide +kernel : ∀ t : Fin grid0.N, _)

theorem writes_t : ∀ t : Fin cfg0.N, (cfg0.win 2).flush t = true :=
  (by decide +kernel : ∀ t : Fin grid0.N, _)

/-- One tile of the kernel's result. -/
theorem tile (v0 : Vec Ideal S1x512x5632 .bf16) (v2 : Vec Ideal S256x5632 .bf16) (v4 : Vec Ideal S1x512x5632 .bf16)
    (v6 : Vec Ideal S256x5632 .bf16) (r : Fin 512) (e : Fin 256) :
    k0_pay1 v0 v2 v4 v6 (ix2 r e)
      = (∑ k : Fin 5632, (v0 (ix3 0 r k) : EReal) * v2 (ix2 e k)) + ∑ k : Fin 5632, (v4 (ix3 0 r k) : EReal) * v6 (ix2 e k) := by
  pointwise [k0_pay1, dot_S512x5632_S256x5632_S512x256_1_1_0_0_n_n]

variable (m : (ℓ : Loc nD τ sig) → Buf (Elt Ideal) ℓ) (c : Dev nD)

/-- What one grid point leaves in its window, from the blocks it reads. -/
theorem block (x0 : Vec Ideal S2x512x5632 .bf16) (x1 : Vec Ideal S256x11264 .bf16) (r : Fin 512) (e : Fin 256) :
    out0_2 x0 x1 (ix2 r e)
      = (∑ k : Fin 5632, (x0 (ix3 0 r k) : EReal) * x1 (ix2 e ⟨k.val, by omega⟩))
        + ∑ k : Fin 5632, (x0 (ix3 1 r k) : EReal) * x1 (ix2 e ⟨5632 + k.val, by omega⟩) := by
  frame_out
  rw [tile]
  exact dot_add_congr (fun k => congrArg x0 (ix3_ext rfl (at_zero r) (at_zero k))) (fun k => congrArg x1 (ix2_ext (at_zero e) (at_zero k)))
    (fun k => congrArg x0 (ix3_ext rfl (at_zero r) (at_zero k))) (fun k => congrArg x1 (ix2_ext (at_zero e) (at_start 5632 k)))

/-- An element of a window's block is an element of its array. -/
theorem read_du (t : Fin cfg0.N) (p : Fin 2) (r : Fin 512) (k : Fin 5632) (h : 512 * (t.val / 8) + r.val < 8192) :
    iblk m c 0 t (ix3 p r k) = m ((c : Thread nD τ).loc main_arg2) (ix3 p (⟨512 * (t.val / 8) + r.val, h⟩ : Fin 8192) k) := by
  obtain ⟨e0, e1, e2⟩ := index_t t
  blk_ext [iblk, V, e0]
theorem read_w (t : Fin cfg0.N) (e : Fin 256) (k : Fin 11264) (h : 256 * (t.val % 8) + e.val < 2048) :
    iblk m c 1 t (ix2 e k) = m ((c : Thread nD τ).loc main_arg1) (ix2 (⟨256 * (t.val % 8) + e.val, h⟩ : Fin 2048) k) := by
  obtain ⟨e0, e1, e2⟩ := index_t t
  blk_ext [iblk, V, e1]
theorem read_dx (t : Fin cfg0.N) (A : FVec Ideal S8192x2048 .f32) (r : Fin 512) (e : Fin 256) (h1 : 512 * (t.val / 8) + r.val < 8192)
    (h2 : 256 * (t.val % 8) + e.val < 2048) :
    ((cfg0.win 2).blk t).view.read (Elt Ideal) A (ix2 r e) = A (ix2 ⟨512 * (t.val / 8) + r.val, h1⟩ ⟨256 * (t.val % 8) + e.val, h2⟩) := by
  obtain ⟨e0, e1, e2⟩ := index_t t
  blk_ext [e2]

/-- What grid point `t` writes back is its tile of the gradient. -/
theorem written (t : Fin cfg0.N) :
    (dats m 0 c).flushed 2 t = ((cfg0.win 2).blk t).view.read (Elt Ideal)
      (dx (m ((c : Thread nD τ).loc main_arg1)) (m ((c : Thread nD τ).loc main_arg2))) := by
  have ht : t.val < 128 := lt_of_lt_of_eq t.isLt N_0
  rw [flushed2]
  funext y
  obtain ⟨r, e, rfl⟩ : ∃ (r : Fin 512) (e : Fin 256), y = ix2 r e := ix2_of y
  rw [read_dx t _ r e (by omega) (by omega)]
  refine (block (iblk m c 0 t) (iblk m c 1 t) r e).trans ?_
  exact dot_add_congr (fun k => read_du m c t 0 r k (by omega)) (fun k => read_w m c t e _ (by omega))
    (fun k => read_du m c t 1 r k (by omega)) (fun k => read_w m c t e _ (by omega))

/-- An index is in a grid point's tile when each coordinate is in the tile's range. -/
theorem mem_tile (t : Fin cfg0.N) (i : S8192x2048.Idx) (h0 : (i 0).val / 512 = t.val / 8) (h1 : (i 1).val / 256 = t.val % 8) :
    i ∈ ((cfg0.win 2).blk t).view.set := by
  show i ∈ ((View.whole main_v0).slice (win0_2.rect t)).set
  rw [View.set_slice_whole, Rect.mem_set_unit]
  obtain ⟨e0, e1, e2⟩ := index_t t
  have q0 : win0_2.index t (0 : Fin 2) = t.val / 8 := congrFun e2 0
  have q1 : win0_2.index t (1 : Fin 2) = t.val % 8 := congrFun e2 1
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- The kernel's result. -/
theorem result : (dats m 0 c).arrAt 2 cfg0.N = dx (m ((c : Thread nD τ).loc main_arg1)) (m ((c : Thread nD τ).loc main_arg2)) := by
  refine (dats m 0 c).arrAt_eq_of_cover 2 _ (fun t _ => written m c t) (fun i => ?_)
  have h0 : (i 0).val < 8192 := (i 0).isLt
  have h1 : (i 1).val < 2048 := (i 1).isLt
  have hN : 8 * ((i 0).val / 512) + (i 1).val / 256 < cfg0.N := lt_of_lt_of_eq (b := 128) (by omega) N_0.symm
  exact ⟨⟨_, hN⟩, writes_t _, mem_tile _ i (by dsimp only; omega) (by dsimp only; omega)⟩

open Cert.ReferenceUpDxIdeal.Read in
/-- The reference's result: one product against all the weights. -/
theorem reference (w : FVec Ideal S2048x11264 .bf16) (du : FVec Ideal S2x8192x5632 .bf16) :
    val_main_v16 (F := Ideal) w du = dx w du := by
  funext j
  have h0 : (j 0).val < 8192 := (j 0).isLt
  have h1 : (j 1).val < 2048 := (j 1).isLt
  rw [val_main_v16_apply]
  pointwise [val_main_v13, val_main_v12, val_main_v11, val_main_v10, val_main_v9, val_main_v8, val_main_v1, dx]
  exact dot_add_congr (fun k => rfl) (fun k => congrArg w (ix2_ext rfl rfl)) (fun k => rfl) (fun k => congrArg w (ix2_ext rfl rfl))

open Idealize.SL.Sem

/-- The reference runs, ends with its arguments unchanged, and declares no semaphore. -/
theorem frame_reference : Cert.quiescent_ReferenceUpDxIdeal := fun m ρ _ =>
  (θ_run Cert.ReferenceUpDxIdeal.defs _ _).mono (fun r h => ⟨fun c => (h c).2,
    Idealize.ShloMosaic.sem_eq_zero_of_no_sems (by decide) r.2⟩) (Cert.ReferenceUpDxIdeal.Value.run m ρ)

/-- The kernel's result is the reference's, whatever the arguments. -/
theorem value : Cert.algebraic_KernelUpDxIdeal_ReferenceUpDxIdeal := by
  intro m ρ m' ρ' _ ha
  refine ⟨fun c => dx (m ((c : Thread nD τ).loc main_arg1)) (m ((c : Thread nD τ).loc main_arg2)), ?_, ?_⟩
  · refine (θ_run defs _ _).mono (fun r h c => ?_) (run_blocks m ρ)
    exact ⟨(h c).1.trans (result m c), (h c).2⟩
  · refine (θ_run Cert.ReferenceUpDxIdeal.defs _ _).mono (fun r h c => ?_) (Cert.ReferenceUpDxIdeal.Value.run m' ρ')
    obtain ⟨a0, a1, a2⟩ := ha c
    refine ⟨(h c).1.trans ?_, (h c).2⟩
    rw [a1, a2]
    exact reference _ _

end UpDx
end
-- ==== Proof.UpDw.lean ====
/-
  The gradient of the two up-projections' weights: a product over the rows, added up in four blocks of 2048.
-/
module

public import proofs.«01_k».proof.Defs
public import proofs.«01_k».proof.Proof.Gen.KernelUpDwIdeal.Value
public import Idealize.ShloMosaic.Adequacy
public import Idealize.ShloMosaic.Init
public import proofs.«01_k».proof.Proof.Gen.ReferenceUpDwIdeal.Read
public import proofs.«01_k».proof.Proof.Products
public import Idealize.ShloMosaic.Lib.Pipeline.ValueKit.Point
public import Idealize.ShloMosaic.Lib.Pipeline.ValueKit.Acc

@[expose] public section

set_option maxRecDepth 16384

noncomputable section

namespace UpDw

open Products Idealize.ShloMosaic Idealize.ShloMosaic.TcCoe Cert.KernelUpDwIdeal Cert.KernelUpDwIdeal.Gen Cert.KernelUpDwIdeal.Value

/-- The gradient at feature `k`, column `e`: the columns below 5632 are the first projection's, the others the second's. -/
def dw (hn : FVec Ideal S8192x2048 .bf16) (du : FVec Ideal S2x8192x5632 .bf16) : FVec Ideal S2048x11264 .bf16 := fun j =>
  ∑ s : Fin 8192, (hn (ix2 s (⟨(j 0).val, (j 0).isLt⟩ : Fin 2048)) : EReal)
    * du (ix3 (⟨(j 1).val / 5632, by have h : (j 1).val < 11264 := (j 1).isLt; omega⟩ : Fin 2) s
        (⟨(j 1).val % 5632, Nat.mod_lt _ (by decide)⟩ : Fin 5632))

/-- The blocks the windows stand on at each grid point. -/
theorem index_t : ∀ t : Fin cfg0.N, win0_0.index t = ![t.val % 4, t.val / 16] ∧ win0_1.index t = ![t.val / 8 % 2, t.val % 4, t.val / 4 % 2]
    ∧ win0_2.index t = ![t.val / 16, t.val / 4 % 4] :=
  (by decide +kernel : ∀ t : Fin grid0.N, _)

/-- What one block of rows adds. -/
def part (x0 : Vec Ideal S2048x512 .bf16) (x1 : Vec Ideal S1x2048x2816 .bf16) (j : S512x2816.Idx) : EReal :=
  ∑ k : Fin 2048, (x0 (ix2 k (⟨(j 0).val, (j 0).isLt⟩ : Fin 512)) : EReal) * x1 (ix3 0 k (⟨(j 1).val, (j 1).isLt⟩ : Fin 2816))

theorem adds (a : Vec Ideal S512x2816 .f32) (x0 : Vec Ideal S2048x512 .bf16) (x1 : Vec Ideal S1x2048x2816 .bf16) (j : S512x2816.Idx) :
    k0_pay2 a x0 x1 j = (a j : EReal) + part x0 x1 j := by
  obtain ⟨r, e, rfl⟩ : ∃ (r : Fin 512) (e : Fin 2816), j = ix2 r e := ix2_of j
  pointwise [k0_pay2, part, dot_S2048x512_S2048x2816_S512x2816_0_0_1_1_n_n]

theorem starts (j : S512x2816.Idx) : (k0_pay1 (F := Ideal) j : EReal) = 0 := by
  obtain ⟨r, e, rfl⟩ : ∃ (r : Fin 512) (e : Fin 2816), j = ix2 r e := ix2_of j
  pointwise [k0_pay1]

variable (m : (ℓ : Loc nD τ sig) → Buf (Elt Ideal) ℓ) (c : Dev nD)

/-- The accumulator, read as it was left. -/
theorem found (x : Vec Ideal S512x2816 .f32) :
    scM0_0.view.read (Elt Ideal) ((Memref.isWhole_whole _ : scM0_0.IsWhole).unread x) = x :=
  (Memref.isWhole_whole _ : scM0_0.IsWhole).read_unread x

/-- The accumulator after the last of a tile's four blocks of rows. -/
theorem acc (t : Fin cfg0.N) (ht : t.val % 4 = 3) (j : S512x2816.Idx) :
    ((outsAt0 m c t.val t.isLt).2 j : EReal)
      = ∑ s : Fin 4, part (iblk m c 0 ⟨4 * (t.val / 4) + s.val, Pipeline.run_point_lt_of_flush t ht s⟩)
          (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => 0)
    (fun t j => part (iblk m c 0 t) (iblk m c 1 t) j) ?_ ?_ t ht j, zero_add]
  · intro t h0 j
    rw [outsAt0_A m c t h0 (by omega)]
    frame_out
    rw [adds, starts]
  · intro t h0 j
    by_cases h1 : t.val % 4 = 3
    · rw [outsAt0_C m c t h0 h1]
      frame_out
      rw [adds]
      exact congrArg₂ (fun a b : EReal => a + b) (congrFun (found _) j) rfl
    · rw [outsAt0_B m c t h0 h1]
      frame_out
      rw [adds]
      exact congrArg₂ (fun a b : EReal => a + b) (congrFun (found _) j) rfl

/-- What that point writes out is the accumulator. -/
theorem out_eq (t : Fin cfg0.N) (ht : t.val % 4 = 3) (j : S512x2816.Idx) :
    ((outsAt0 m c t.val t.isLt).1 j : EReal) = (outsAt0 m c t.val t.isLt).2 j := by
  rw [outsAt0_C m c t (by omega) ht]
  frame_out
  rfl

/-- An element of a window's block is an element of its array. -/
theorem read_hn (t : Fin cfg0.N) (s : Fin 2048) (r : Fin 512) (h0 : 2048 * (t.val % 4) + s.val < 8192) (h1 : 512 * (t.val / 16) + r.val < 2048) :
    iblk m c 0 t (ix2 s r) = m ((c : Thread nD τ).loc main_arg0)
      (ix2 (⟨2048 * (t.val % 4) + s.val, h0⟩ : Fin 8192) (⟨512 * (t.val / 16) + r.val, h1⟩ : Fin 2048)) := by
  obtain ⟨e0, e1, e2⟩ := index_t t
  blk_ext [iblk, V, e0]
theorem read_du (t : Fin cfg0.N) (s : Fin 2048) (e : Fin 2816) (h0 : t.val / 8 % 2 < 2) (h1 : 2048 * (t.val % 4) + s.val < 8192)
    (h2 : 2816 * (t.val / 4 % 2) + e.val < 5632) :
    iblk m c 1 t (ix3 0 s e) = m ((c : Thread nD τ).loc main_arg2)
      (ix3 (⟨t.val / 8 % 2, h0⟩ : Fin 2) (⟨2048 * (t.val % 4) + s.val, h1⟩ : Fin 8192) (⟨2816 * (t.val / 4 % 2) + e.val, h2⟩ : Fin 5632)) := by
  obtain ⟨e0, e1, e2⟩ := index_t t
  blk_ext [iblk, V, e1]
theorem read_dw (t : Fin cfg0.N) (A : FVec Ideal S2048x11264 .bf16) (r : Fin 512) (e : Fin 2816) (h1 : 512 * (t.val / 16) + r.val < 2048)
    (h2 : 2816 * (t.val / 4 % 4) + e.val < 11264) :
    ((cfg0.win 2).blk t).view.read (Elt Ideal) A (ix2 r e) = A (ix2 ⟨512 * (t.val / 16) + r.val, h1⟩ ⟨2816 * (t.val / 4 % 4) + e.val, h2⟩) := by
  obtain ⟨e0, e1, e2⟩ := index_t t
  blk_ext [e2]

/-- What grid point `t` writes back, where it does, is its tile of the gradient. -/
theorem written (t : Fin cfg0.N) (hf : (cfg0.win 2).flush t = true) :
    (dats m 0 c).flushed 2 t = ((cfg0.win 2).blk t).view.read (Elt Ideal)
      (dw (m ((c : Thread nD τ).loc main_arg0)) (m ((c : Thread nD τ).loc main_arg2))) := by
  have ht : t.val < 64 := lt_of_lt_of_eq t.isLt N_0
  have h3 : t.val % 4 = 3 := (flush0_2 t).mp hf
  rw [flushed2]
  funext y
  obtain ⟨r, e, rfl⟩ : ∃ (r : Fin 512) (e : Fin 2816), y = ix2 r e := ix2_of y
  rw [read_dw t _ r e (by omega) (by omega)]
  refine ((out_eq m c t h3 (ix2 r e)).trans (acc m c t h3 (ix2 r e))).trans ?_
  refine sum_blocks (S := 4) (n := 2048) (L := 8192) rfl _ fun s k hk => ?_
  refine congrArg₂ (fun a b : EReal => a * b) ((read_hn m c _ k r (by dsimp only; omega) (by dsimp only; omega)).trans (congrArg _ (ix2_ext ?_ ?_)))
    ((read_du m c _ k e (by dsimp only; omega) (by dsimp only; omega) (by dsimp only; omega)).trans (congrArg _ (ix3_ext ?_ ?_ ?_)))
  all_goals (dsimp [ix2, ix3]; omega)

/-- An index is in a grid point's tile when each coordinate is in the tile's range. -/
theorem mem_tile (t : Fin cfg0.N) (i : S2048x11264.Idx) (h0 : (i 0).val / 512 = t.val / 16) (h1 : (i 1).val / 2816 = t.val / 4 % 4) :
    i ∈ ((cfg0.win 2).blk t).view.set := by
  show i ∈ ((View.whole main_v0).slice (win0_2.rect t)).set
  rw [View.set_slice_whole, Rect.mem_set_unit]
  obtain ⟨e0, e1, e2⟩ := index_t t
  have q0 : win0_2.index t (0 : Fin 2) = t.val / 16 := congrFun e2 0
  have q1 : win0_2.index t (1 : Fin 2) = t.val / 4 % 4 := congrFun e2 1
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2816 ≤ (i 1).val ∧ (i 1).val < win0_2.index t (1 : Fin 2) * 2816 + 2816; omega

/-- The kernel's result. -/
theorem result : (dats m 0 c).arrAt 2 cfg0.N = dw (m ((c : Thread nD τ).loc main_arg0)) (m ((c : Thread nD τ).loc main_arg2)) := by
  refine (dats m 0 c).arrAt_eq_of_cover 2 _ (fun t hf => written m c t hf) (fun i => ?_)
  have h0 : (i 0).val < 2048 := (i 0).isLt
  have h1 : (i 1).val < 11264 := (i 1).isLt
  have hN : 16 * ((i 0).val / 512) + 4 * ((i 1).val / 2816) + 3 < cfg0.N := lt_of_lt_of_eq (b := 64) (by omega) N_0.symm
  exact ⟨⟨_, hN⟩, (flush0_2 _).mpr (by dsimp only; omega), mem_tile _ i (by dsimp only; omega) (by dsimp only; omega)⟩

open Cert.ReferenceUpDwIdeal.Read in
/-- The reference's result: one product over all the rows. -/
theorem reference (hn : FVec Ideal S8192x2048 .bf16) (du : FVec Ideal S2x8192x5632 .bf16) :
    val_main_v17 (F := Ideal) hn du = dw hn du := by
  funext j
  have h0 : (j 0).val < 2048 := (j 0).isLt
  have h1 : (j 1).val < 11264 := (j 1).isLt
  rw [val_main_v17_apply, val_main_v15_apply, val_main_v14_apply]
  pointwise [val_main_v13, val_main_v12, val_main_v11, val_main_v10, val_main_v9, val_main_v8, val_main_v0, dw]
  refine Finset.sum_congr rfl fun s _ => (mul_comm (G := EReal) _ _).trans ?_
  refine congrArg₂ (fun a b : EReal => a * b) (congrArg hn (ix2_ext rfl rfl)) ?_
  split
  · next h => exact congrArg du (ix3_ext (by dsimp [ix3]; omega) rfl (by dsimp [ix3]; omega))
  · next h => exact congrArg du (ix3_ext (by dsimp [ix3]; omega) rfl (by dsimp [ix3]; omega))

open Idealize.SL.Sem

/-- The reference runs, ends with its arguments unchanged, and declares no semaphore. -/
theorem frame_reference : Cert.quiescent_ReferenceUpDwIdeal := fun m ρ _ =>
  (θ_run Cert.ReferenceUpDwIdeal.defs _ _).mono (fun r h => ⟨fun c => (h c).2,
    Idealize.ShloMosaic.sem_eq_zero_of_no_sems (by decide) r.2⟩) (Cert.ReferenceUpDwIdeal.Value.run m ρ)

/-- The kernel's result is the reference's, whatever the arguments. -/
theorem value : Cert.algebraic_KernelUpDwIdeal_ReferenceUpDwIdeal := by
  intro m ρ m' ρ' _ ha
  refine ⟨fun c => dw (m ((c : Thread nD τ).loc main_arg0)) (m ((c : Thread nD τ).loc main_arg2)), ?_, ?_⟩
  · refine (θ_run defs _ _).mono (fun r h c => ?_) (run_blocks m ρ)
    exact ⟨(h c).1.trans (result m c), (h c).2⟩
  · refine (θ_run Cert.ReferenceUpDwIdeal.defs _ _).mono (fun r h c => ?_) (Cert.ReferenceUpDwIdeal.Value.run m' ρ')
    obtain ⟨a0, a1, a2⟩ := ha c
    refine ⟨(h c).1.trans ?_, (h c).2⟩
    rw [a0, a2]
    exact reference _ _

end UpDw
end
-- ==== Proof.InDw3.lean ====
/-
  The gradient of a mixer's input weights, in three parts: a product over the rows, added up in four blocks of 2048.
-/
module

public import proofs.«01_k».proof.Defs
public import proofs.«01_k».proof.Proof.Gen.KernelInDw3Ideal.Value
public import Idealize.ShloMosaic.Adequacy
public import Idealize.ShloMosaic.Init
public import proofs.«01_k».proof.Proof.Gen.ReferenceInDw3Ideal.Read
public import proofs.«01_k».proof.Proof.Products
public import Idealize.ShloMosaic.Lib.Pipeline.ValueKit.Point
public import Idealize.ShloMosaic.Lib.Pipeline.ValueKit.Acc

@[expose] public section

set_option maxRecDepth 16384

noncomputable section

namespace InDw3

open Products Idealize.ShloMosaic Idealize.ShloMosaic.TcCoe Cert.KernelInDw3Ideal Cert.KernelInDw3Ideal.Gen Cert.KernelInDw3Ideal.Value

/-- The product of the transposed rows with the incoming gradient, whose columns come in three parts. -/
def dw (hn : FVec Ideal S8192x2048 .bf16) (dp : FVec Ideal S3x8192x2048 .bf16) : FVec Ideal S2048x6144 .bf16 := tmulParts (n := 2048) rfl hn dp

/-- The blocks the windows stand on at each grid point. -/
theorem index_t : ∀ t : Fin cfg0.N, win0_0.index t = ![t.val % 4, t.val / 12] ∧ win0_1.index t = ![t.val / 4 % 3, t.val % 4, 0]
    ∧ win0_2.index t = ![t.val / 12, t.val / 4 % 3] :=
  (by decide +kernel : ∀ t : Fin grid0.N, _)

/-- What one block of rows adds. -/
def part (x0 : Vec Ideal S2048x512 .bf16) (x1 : Vec Ideal S1x2048x2048 .bf16) (j : S512x2048.Idx) : EReal :=
  ∑ k : Fin 2048, (x0 (ix2 k (⟨(j 0).val, (j 0).isLt⟩ : Fin 512)) : EReal) * x1 (ix3 0 k (⟨(j 1).val, (j 1).isLt⟩ : Fin 2048))

theorem adds (a : Vec Ideal S512x2048 .f32) (x0 : Vec Ideal S2048x512 .bf16) (x1 : Vec Ideal S1x2048x2048 .bf16) (j : S512x2048.Idx) :
    k0_pay2 a x0 x1 j = (a j : EReal) + part x0 x1 j := by
  obtain ⟨r, e, rfl⟩ : ∃ (r : Fin 512) (e : Fin 2048), j = ix2 r e := ix2_of j
  pointwise [k0_pay2, part, dot_S2048x512_S2048x2048_S512x2048_0_0_1_1_n_n]

theorem starts (j : S512x2048.Idx) : (k0_pay1 (F := Ideal) j : EReal) = 0 := by
  obtain ⟨r, e, rfl⟩ : ∃ (r : Fin 512) (e : Fin 2048), j = ix2 r e := ix2_of j
  pointwise [k0_pay1]

variable (m : (ℓ : Loc nD τ sig) → Buf (Elt Ideal) ℓ) (c : Dev nD)

/-- The accumulator, read as it was left. -/
theorem found (x : Vec Ideal S512x2048 .f32) :
    scM0_0.view.read (Elt Ideal) ((Memref.isWhole_whole _ : scM0_0.IsWhole).unread x) = x :=
  (Memref.isWhole_whole _ : scM0_0.IsWhole).read_unread x

/-- The accumulator after the last of a tile's four blocks of rows. -/
theorem acc (t : Fin cfg0.N) (ht : t.val % 4 = 3) (j : S512x2048.Idx) :
    ((outsAt0 m c t.val t.isLt).2 j : EReal)
      = ∑ s : Fin 4, part (iblk m c 0 ⟨4 * (t.val / 4) + s.val, Pipeline.run_point_lt_of_flush t ht s⟩)
          (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => 0)
    (fun t j => part (iblk m c 0 t) (iblk m c 1 t) j) ?_ ?_ t ht j, zero_add]
  · intro t h0 j
    rw [outsAt0_A m c t h0 (by omega)]
    frame_out
    rw [adds, starts]
  · intro t h0 j
    by_cases h1 : t.val % 4 = 3
    · rw [outsAt0_C m c t h0 h1]
      frame_out
      rw [adds]
      exact congrArg₂ (fun a b : EReal => a + b) (congrFun (found _) j) rfl
    · rw [outsAt0_B m c t h0 h1]
      frame_out
      rw [adds]
      exact congrArg₂ (fun a b : EReal => a + b) (congrFun (found _) j) rfl

/-- What that point writes out is the accumulator. -/
theorem out_eq (t : Fin cfg0.N) (ht : t.val % 4 = 3) (j : S512x2048.Idx) :
    ((outsAt0 m c t.val t.isLt).1 j : EReal) = (outsAt0 m c t.val t.isLt).2 j := by
  rw [outsAt0_C m c t (by omega) ht]
  frame_out
  rfl

/-- An element of a window's block is an element of its array. -/
theorem read_hn (t : Fin cfg0.N) (s : Fin 2048) (r : Fin 512) (h0 : 2048 * (t.val % 4) + s.val < 8192) (h1 : 512 * (t.val / 12) + r.val < 2048) :
    iblk m c 0 t (ix2 s r) = m ((c : Thread nD τ).loc main_arg0)
      (ix2 (⟨2048 * (t.val % 4) + s.val, h0⟩ : Fin 8192) (⟨512 * (t.val / 12) + r.val, h1⟩ : Fin 2048)) := by
  obtain ⟨e0, e1, e2⟩ := index_t t
  blk_ext [iblk, V, e0]
theorem read_dp (t : Fin cfg0.N) (s : Fin 2048) (e : Fin 2048) (h0 : t.val / 4 % 3 < 3) (h1 : 2048 * (t.val % 4) + s.val < 8192) :
    iblk m c 1 t (ix3 0 s e) = m ((c : Thread nD τ).loc main_arg2)
      (ix3 (⟨t.val / 4 % 3, h0⟩ : Fin 3) (⟨2048 * (t.val % 4) + s.val, h1⟩ : Fin 8192) e) := by
  obtain ⟨e0, e1, e2⟩ := index_t t
  blk_ext [iblk, V, e1]
theorem read_dw (t : Fin cfg0.N) (A : FVec Ideal S2048x6144 .bf16) (r : Fin 512) (e : Fin 2048) (h1 : 512 * (t.val / 12) + r.val < 2048)
    (h2 : 2048 * (t.val / 4 % 3) + e.val < 6144) :
    ((cfg0.win 2).blk t).view.read (Elt Ideal) A (ix2 r e) = A (ix2 ⟨512 * (t.val / 12) + r.val, h1⟩ ⟨2048 * (t.val / 4 % 3) + e.val, h2⟩) := by
  obtain ⟨e0, e1, e2⟩ := index_t t
  blk_ext [e2]

/-- What grid point `t` writes back, where it does, is its tile of the gradient. -/
theorem written (t : Fin cfg0.N) (hf : (cfg0.win 2).flush t = true) :
    (dats m 0 c).flushed 2 t = ((cfg0.win 2).blk t).view.read (Elt Ideal)
      (dw (m ((c : Thread nD τ).loc main_arg0)) (m ((c : Thread nD τ).loc main_arg2))) := by
  have ht : t.val < 48 := lt_of_lt_of_eq t.isLt N_0
  have h3 : t.val % 4 = 3 := (flush0_2 t).mp hf
  rw [flushed2]
  funext y
  obtain ⟨r, e, rfl⟩ : ∃ (r : Fin 512) (e : Fin 2048), y = ix2 r e := ix2_of y
  rw [read_dw t _ r e (by omega) (by omega), dw, tmulParts_apply]
  refine ((out_eq m c t h3 (ix2 r e)).trans (acc m c t h3 (ix2 r e))).trans ?_
  refine sum_blocks (S := 4) (n := 2048) (L := 8192) rfl _ fun s k hk => ?_
  refine congrArg₂ (fun a b : EReal => a * b) ((read_hn m c _ k r (by dsimp only; omega) (by dsimp only; omega)).trans (congrArg _ (ix2_ext ?_ ?_)))
    ((read_dp m c _ k e (by dsimp only; omega) (by dsimp only; omega)).trans (congrArg _ (ix3_ext ?_ ?_ ?_)))
  all_goals (dsimp [ix2, ix3]; omega)

/-- An index is in a grid point's tile when each coordinate is in the tile's range. -/
theorem mem_tile (t : Fin cfg0.N) (i : S2048x6144.Idx) (h0 : (i 0).val / 512 = t.val / 12) (h1 : (i 1).val / 2048 = t.val / 4 % 3) :
    i ∈ ((cfg0.win 2).blk t).view.set := by
  show i ∈ ((View.whole main_v0).slice (win0_2.rect t)).set
  rw [View.set_slice_whole, Rect.mem_set_unit]
  obtain ⟨e0, e1, e2⟩ := index_t t
  have q0 : win0_2.index t (0 : Fin 2) = t.val / 12 := congrFun e2 0
  have q1 : win0_2.index t (1 : Fin 2) = t.val / 4 % 3 := congrFun e2 1
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The kernel's result. -/
theorem result : (dats m 0 c).arrAt 2 cfg0.N = dw (m ((c : Thread nD τ).loc main_arg0)) (m ((c : Thread nD τ).loc main_arg2)) := by
  refine (dats m 0 c).arrAt_eq_of_cover 2 _ (fun t hf => written m c t hf) (fun i => ?_)
  have h0 : (i 0).val < 2048 := (i 0).isLt
  have h1 : (i 1).val < 6144 := (i 1).isLt
  have hN : 12 * ((i 0).val / 512) + 4 * ((i 1).val / 2048) + 3 < cfg0.N := lt_of_lt_of_eq (b := 48) (by omega) N_0.symm
  exact ⟨⟨_, hN⟩, (flush0_2 _).mpr (by dsimp only; omega), mem_tile _ i (by dsimp only; omega) (by dsimp only; omega)⟩

open Cert.ReferenceInDw3Ideal.Read in
/-- The reference's result: one product over all the rows. -/
theorem reference (hn : FVec Ideal S8192x2048 .bf16) (dp : FVec Ideal S3x8192x2048 .bf16) :
    val_main_v21 (F := Ideal) hn dp = dw hn dp := by
  funext j
  obtain ⟨f, e, rfl⟩ : ∃ (f : Fin 2048) (e : Fin 6144), j = ix2 f e := ix2_of j
  rw [val_main_v21_apply, val_main_v19_apply, val_main_v18_apply, dw, tmulParts_apply]
  pointwise [val_main_v17, val_main_v16, val_main_v15, val_main_v14, val_main_v13, val_main_v12, val_main_v11, val_main_v10, val_main_v0]
  refine Finset.sum_congr rfl fun s _ => (mul_comm (G := EReal) _ _).trans ?_
  refine congrArg₂ (fun a b : EReal => a * b) (congrArg hn (ix2_ext rfl rfl)) ?_
  split
  · next h => exact congrArg dp (ix3_ext (by dsimp [ix2, ix3]; omega) rfl (by dsimp [ix2, ix3]; omega))
  split
  · next h h' => exact congrArg dp (ix3_ext (by dsimp [ix2, ix3]; omega) rfl (by dsimp [ix2, ix3]; omega))
  · next h h' => exact congrArg dp (ix3_ext (by dsimp [ix2, ix3]; omega) rfl (by dsimp [ix2, ix3]; omega))

open Idealize.SL.Sem

/-- The reference runs, ends with its arguments unchanged, and declares no semaphore. -/
theorem frame_reference : Cert.quiescent_ReferenceInDw3Ideal := fun m ρ _ =>
  (θ_run Cert.ReferenceInDw3Ideal.defs _ _).mono (fun r h => ⟨fun c => (h c).2,
    Idealize.ShloMosaic.sem_eq_zero_of_no_sems (by decide) r.2⟩) (Cert.ReferenceInDw3Ideal.Value.run m ρ)

/-- The kernel's result is the reference's, whatever the arguments. -/
theorem value : Cert.algebraic_KernelInDw3Ideal_ReferenceInDw3Ideal := by
  intro m ρ m' ρ' _ ha
  refine ⟨fun c => dw (m ((c : Thread nD τ).loc main_arg0)) (m ((c : Thread nD τ).loc main_arg2)), ?_, ?_⟩
  · refine (θ_run defs _ _).mono (fun r h c => ?_) (run_blocks m ρ)
    exact ⟨(h c).1.trans (result m c), (h c).2⟩
  · refine (θ_run Cert.ReferenceInDw3Ideal.defs _ _).mono (fun r h c => ?_) (Cert.ReferenceInDw3Ideal.Value.run m' ρ')
    obtain ⟨a0, a1, a2⟩ := ha c
    refine ⟨(h c).1.trans ?_, (h c).2⟩
    rw [a0, a2]
    exact reference _ _

end InDw3
end
-- ==== Proof.InDw2.lean ====
/-
  The gradient of a mixer's input weights, in two parts: a product over the rows, added up in four blocks of 2048.
-/
module

public import proofs.«01_k».proof.Defs
public import proofs.«01_k».proof.Proof.Gen.KernelInDw2Ideal.Value
public import Idealize.ShloMosaic.Adequacy
public import Idealize.ShloMosaic.Init
public import proofs.«01_k».proof.Proof.Gen.ReferenceInDw2Ideal.Read
public import proofs.«01_k».proof.Proof.Products
public import Idealize.ShloMosaic.Lib.Pipeline.ValueKit.Point
public import Idealize.ShloMosaic.Lib.Pipeline.ValueKit.Acc

@[expose] public section

set_option maxRecDepth 16384

noncomputable section

namespace InDw2

open Products Idealize.ShloMosaic Idealize.ShloMosaic.TcCoe Cert.KernelInDw2Ideal Cert.KernelInDw2Ideal.Gen Cert.KernelInDw2Ideal.Value

/-- The product of the transposed rows with the incoming gradient, whose columns come in two parts. -/
def dw (hn : FVec Ideal S8192x2048 .bf16) (dp : FVec Ideal S2x8192x2048 .bf16) : FVec Ideal S2048x4096 .bf16 := tmulParts (n := 2048) rfl hn dp

/-- The blocks the windows stand on at each grid point. -/
theorem index_t : ∀ t : Fin cfg0.N, win0_0.index t = ![t.val % 4, t.val / 8] ∧ win0_1.index t = ![t.val / 4 % 2, t.val % 4, 0]
    ∧ win0_2.index t = ![t.val / 8, t.val / 4 % 2] :=
  (by decide +kernel : ∀ t : Fin grid0.N, _)

/-- What one block of rows adds. -/
def part (x0 : Vec Ideal S2048x512 .bf16) (x1 : Vec Ideal S1x2048x2048 .bf16) (j : S512x2048.Idx) : EReal :=
  ∑ k : Fin 2048, (x0 (ix2 k (⟨(j 0).val, (j 0).isLt⟩ : Fin 512)) : EReal) * x1 (ix3 0 k (⟨(j 1).val, (j 1).isLt⟩ : Fin 2048))

theorem adds (a : Vec Ideal S512x2048 .f32) (x0 : Vec Ideal S2048x512 .bf16) (x1 : Vec Ideal S1x2048x2048 .bf16) (j : S512x2048.Idx) :
    k0_pay2 a x0 x1 j = (a j : EReal) + part x0 x1 j := by
  obtain ⟨r, e, rfl⟩ : ∃ (r : Fin 512) (e : Fin 2048), j = ix2 r e := ix2_of j
  pointwise [k0_pay2, part, dot_S2048x512_S2048x2048_S512x2048_0_0_1_1_n_n]

theorem starts (j : S512x2048.Idx) : (k0_pay1 (F := Ideal) j : EReal) = 0 := by
  obtain ⟨r, e, rfl⟩ : ∃ (r : Fin 512) (e : Fin 2048), j = ix2 r e := ix2_of j
  pointwise [k0_pay1]

variable (m : (ℓ : Loc nD τ sig) → Buf (Elt Ideal) ℓ) (c : Dev nD)

/-- The accumulator, read as it was left. -/
theorem found (x : Vec Ideal S512x2048 .f32) :
    scM0_0.view.read (Elt Ideal) ((Memref.isWhole_whole _ : scM0_0.IsWhole).unread x) = x :=
  (Memref.isWhole_whole _ : scM0_0.IsWhole).read_unread x

/-- The accumulator after the last of a tile's four blocks of rows. -/
theorem acc (t : Fin cfg0.N) (ht : t.val % 4 = 3) (j : S512x2048.Idx) :
    ((outsAt0 m c t.val t.isLt).2 j : EReal)
      = ∑ s : Fin 4, part (iblk m c 0 ⟨4 * (t.val / 4) + s.val, Pipeline.run_point_lt_of_flush t ht s⟩)
          (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => 0)
    (fun t j => part (iblk m c 0 t) (iblk m c 1 t) j) ?_ ?_ t ht j, zero_add]
  · intro t h0 j
    rw [outsAt0_A m c t h0 (by omega)]
    frame_out
    rw [adds, starts]
  · intro t h0 j
    by_cases h1 : t.val % 4 = 3
    · rw [outsAt0_C m c t h0 h1]
      frame_out
      rw [adds]
      exact congrArg₂ (fun a b : EReal => a + b) (congrFun (found _) j) rfl
    · rw [outsAt0_B m c t h0 h1]
      frame_out
      rw [adds]
      exact congrArg₂ (fun a b : EReal => a + b) (congrFun (found _) j) rfl

/-- What that point writes out is the accumulator. -/
theorem out_eq (t : Fin cfg0.N) (ht : t.val % 4 = 3) (j : S512x2048.Idx) :
    ((outsAt0 m c t.val t.isLt).1 j : EReal) = (outsAt0 m c t.val t.isLt).2 j := by
  rw [outsAt0_C m c t (by omega) ht]
  frame_out
  rfl

/-- An element of a window's block is an element of its array. -/
theorem read_hn (t : Fin cfg0.N) (s : Fin 2048) (r : Fin 512) (h0 : 2048 * (t.val % 4) + s.val < 8192) (h1 : 512 * (t.val / 8) + r.val < 2048) :
    iblk m c 0 t (ix2 s r) = m ((c : Thread nD τ).loc main_arg0)
      (ix2 (⟨2048 * (t.val % 4) + s.val, h0⟩ : Fin 8192) (⟨512 * (t.val / 8) + r.val, h1⟩ : Fin 2048)) := by
  obtain ⟨e0, e1, e2⟩ := index_t t
  blk_ext [iblk, V, e0]
theorem read_dp (t : Fin cfg0.N) (s : Fin 2048) (e : Fin 2048) (h0 : t.val / 4 % 2 < 2) (h1 : 2048 * (t.val % 4) + s.val < 8192) :
    iblk m c 1 t (ix3 0 s e) = m ((c : Thread nD τ).loc main_arg2)
      (ix3 (⟨t.val / 4 % 2, h0⟩ : Fin 2) (⟨2048 * (t.val % 4) + s.val, h1⟩ : Fin 8192) e) := by
  obtain ⟨e0, e1, e2⟩ := index_t t
  blk_ext [iblk, V, e1]
theorem read_dw (t : Fin cfg0.N) (A : FVec Ideal S2048x4096 .bf16) (r : Fin 512) (e : Fin 2048) (h1 : 512 * (t.val / 8) + r.val < 2048)
    (h2 : 2048 * (t.val / 4 % 2) + e.val < 4096) :
    ((cfg0.win 2).blk t).view.read (Elt Ideal) A (ix2 r e) = A (ix2 ⟨512 * (t.val / 8) + r.val, h1⟩ ⟨2048 * (t.val / 4 % 2) + e.val, h2⟩) := by
  obtain ⟨e0, e1, e2⟩ := index_t t
  blk_ext [e2]

/-- What grid point `t` writes back, where it does, is its tile of the gradient. -/
theorem written (t : Fin cfg0.N) (hf : (cfg0.win 2).flush t = true) :
    (dats m 0 c).flushed 2 t = ((cfg0.win 2).blk t).view.read (Elt Ideal)
      (dw (m ((c : Thread nD τ).loc main_arg0)) (m ((c : Thread nD τ).loc main_arg2))) := by
  have ht : t.val < 32 := lt_of_lt_of_eq t.isLt N_0
  have h3 : t.val % 4 = 3 := (flush0_2 t).mp hf
  rw [flushed2]
  funext y
  obtain ⟨r, e, rfl⟩ : ∃ (r : Fin 512) (e : Fin 2048), y = ix2 r e := ix2_of y
  rw [read_dw t _ r e (by omega) (by omega), dw, tmulParts_apply]
  refine ((out_eq m c t h3 (ix2 r e)).trans (acc m c t h3 (ix2 r e))).trans ?_
  refine sum_blocks (S := 4) (n := 2048) (L := 8192) rfl _ fun s k hk => ?_
  refine congrArg₂ (fun a b : EReal => a * b) ((read_hn m c _ k r (by dsimp only; omega) (by dsimp only; omega)).trans (congrArg _ (ix2_ext ?_ ?_)))
    ((read_dp m c _ k e (by dsimp only; omega) (by dsimp only; omega)).trans (congrArg _ (ix3_ext ?_ ?_ ?_)))
  all_goals (dsimp [ix2, ix3]; omega)

/-- An index is in a grid point's tile when each coordinate is in the tile's range. -/
theorem mem_tile (t : Fin cfg0.N) (i : S2048x4096.Idx) (h0 : (i 0).val / 512 = t.val / 8) (h1 : (i 1).val / 2048 = t.val / 4 % 2) :
    i ∈ ((cfg0.win 2).blk t).view.set := by
  show i ∈ ((View.whole main_v0).slice (win0_2.rect t)).set
  rw [View.set_slice_whole, Rect.mem_set_unit]
  obtain ⟨e0, e1, e2⟩ := index_t t
  have q0 : win0_2.index t (0 : Fin 2) = t.val / 8 := congrFun e2 0
  have q1 : win0_2.index t (1 : Fin 2) = t.val / 4 % 2 := congrFun e2 1
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The kernel's result. -/
theorem result : (dats m 0 c).arrAt 2 cfg0.N = dw (m ((c : Thread nD τ).loc main_arg0)) (m ((c : Thread nD τ).loc main_arg2)) := by
  refine (dats m 0 c).arrAt_eq_of_cover 2 _ (fun t hf => written m c t hf) (fun i => ?_)
  have h0 : (i 0).val < 2048 := (i 0).isLt
  have h1 : (i 1).val < 4096 := (i 1).isLt
  have hN : 8 * ((i 0).val / 512) + 4 * ((i 1).val / 2048) + 3 < cfg0.N := lt_of_lt_of_eq (b := 32) (by omega) N_0.symm
  exact ⟨⟨_, hN⟩, (flush0_2 _).mpr (by dsimp only; omega), mem_tile _ i (by dsimp only; omega) (by dsimp only; omega)⟩

open Cert.ReferenceInDw2Ideal.Read in
/-- The reference's result: one product over all the rows. -/
theorem reference (hn : FVec Ideal S8192x2048 .bf16) (dp : FVec Ideal S2x8192x2048 .bf16) :
    val_main_v17 (F := Ideal) hn dp = dw hn dp := by
  funext j
  obtain ⟨f, e, rfl⟩ : ∃ (f : Fin 2048) (e : Fin 4096), j = ix2 f e := ix2_of j
  rw [val_main_v17_apply, val_main_v15_apply, val_main_v14_apply, dw, tmulParts_apply]
  pointwise [val_main_v13, val_main_v12, val_main_v11, val_main_v10, val_main_v9, val_main_v8, val_main_v0]
  refine Finset.sum_congr rfl fun s _ => (mul_comm (G := EReal) _ _).trans ?_
  refine congrArg₂ (fun a b : EReal => a * b) (congrArg hn (ix2_ext rfl rfl)) ?_
  split
  · next h => exact congrArg dp (ix3_ext (by dsimp [ix2, ix3]; omega) rfl (by dsimp [ix2, ix3]; omega))
  · next h => exact congrArg dp (ix3_ext (by dsimp [ix2, ix3]; omega) rfl (by dsimp [ix2, ix3]; omega))

open Idealize.SL.Sem

/-- The reference runs, ends with its arguments unchanged, and declares no semaphore. -/
theorem frame_reference : Cert.quiescent_ReferenceInDw2Ideal := fun m ρ _ =>
  (θ_run Cert.ReferenceInDw2Ideal.defs _ _).mono (fun r h => ⟨fun c => (h c).2,
    Idealize.ShloMosaic.sem_eq_zero_of_no_sems (by decide) r.2⟩) (Cert.ReferenceInDw2Ideal.Value.run m ρ)

/-- The kernel's result is the reference's, whatever the arguments. -/
theorem value : Cert.algebraic_KernelInDw2Ideal_ReferenceInDw2Ideal := by
  intro m ρ m' ρ' _ ha
  refine ⟨fun c => dw (m ((c : Thread nD τ).loc main_arg0)) (m ((c : Thread nD τ).loc main_arg2)), ?_, ?_⟩
  · refine (θ_run defs _ _).mono (fun r h c => ?_) (run_blocks m ρ)
    exact ⟨(h c).1.trans (result m c), (h c).2⟩
  · refine (θ_run Cert.ReferenceInDw2Ideal.defs _ _).mono (fun r h c => ?_) (Cert.ReferenceInDw2Ideal.Value.run m' ρ')
    obtain ⟨a0, a1, a2⟩ := ha c
    refine ⟨(h c).1.trans ?_, (h c).2⟩
    rw [a0, a2]
    exact reference _ _

end InDw2
end
-- ==== Proof.DownDx.lean ====
/-
  The gradient of the down-projection's input: a product with the transposed weights, one tile of 1024 rows and 512 features at a time.
-/
module

public import proofs.«01_k».proof.Defs
public import proofs.«01_k».proof.Proof.Gen.KernelDownDxIdeal.Value
public import Idealize.ShloMosaic.Adequacy
public import Idealize.ShloMosaic.Init
public import proofs.«01_k».proof.Proof.Gen.ReferenceDownDxIdeal.Read
public import proofs.«01_k».proof.Proof.Products
public import Idealize.ShloMosaic.Lib.Pipeline.ValueKit.Point

@[expose] public section

set_option maxRecDepth 16384

noncomputable section

namespace DownDx

open Products Idealize.ShloMosaic Idealize.ShloMosaic.TcCoe Cert.KernelDownDxIdeal Cert.KernelDownDxIdeal.Gen Cert.KernelDownDxIdeal.Value

/-- The product of the incoming gradient with the transposed weights. -/
def dx (w : FVec Ideal S5632x2048 .bf16) (df : FVec Ideal S8192x2048 .bf16) : FVec Ideal S8192x5632 .bf16 := mulT df w

/-- The blocks the windows stand on at each grid point. -/
theorem index_t : ∀ t : Fin cfg0.N, win0_0.index t = ![0, t.val / 11, 0] ∧ win0_1.index t = ![t.val % 11, 0]
    ∧ win0_2.index t = ![t.val / 11, t.val % 11] :=
  (by decide +kernel : ∀ t : Fin grid0.N, _)

/-- What one grid point leaves in its window, from the blocks it reads. -/
theorem tile (v0 : Vec Ideal S1x1024x2048 .bf16) (v2 : Vec Ideal S512x2048 .bf16) (r : Fin 1024) (e : Fin 512) :
    k0_pay1 v0 v2 (ix2 r e) = ∑ k : Fin 2048, (v0 (ix3 0 r k) : EReal) * v2 (ix2 e k) := by
  pointwise [k0_pay1, dot_S1024x2048_S512x2048_S1024x512_1_1_0_0_n_n]

theorem block (x0 : Vec Ideal S1x1024x2048 .bf16) (x1 : Vec Ideal S512x2048 .bf16) (r : Fin 1024) (e : Fin 512) :
    out0_2 x0 x1 (ix2 r e) = ∑ k : Fin 2048, (x0 (ix3 0 r k) : EReal) * x1 (ix2 e k) := by
  frame_out
  exact tile x0 x1 r e

variable (m : (ℓ : Loc nD τ sig) → Buf (Elt Ideal) ℓ) (c : Dev nD)

/-- An element of a window's block is an element of its array. -/
theorem read_df (t : Fin cfg0.N) (r : Fin 1024) (k : Fin 2048) (h : 1024 * (t.val / 11) + r.val < 8192) :
    iblk m c 0 t (ix3 0 r k) = m ((c : Thread nD τ).loc main_arg2) (ix2 (⟨1024 * (t.val / 11) + r.val, h⟩ : Fin 8192) k) := by
  obtain ⟨e0, e1, e2⟩ := index_t t
  blk_ext! [iblk, V, e0]
theorem read_w (t : Fin cfg0.N) (e : Fin 512) (k : Fin 2048) (h : 512 * (t.val % 11) + e.val < 5632) :
    iblk m c 1 t (ix2 e k) = m ((c : Thread nD τ).loc main_arg1) (ix2 (⟨512 * (t.val % 11) + e.val, h⟩ : Fin 5632) k) := by
  obtain ⟨e0, e1, e2⟩ := index_t t
  blk_ext [iblk, V, e1]
theorem read_dx (t : Fin cfg0.N) (A : FVec Ideal S8192x5632 .bf16) (r : Fin 1024) (e : Fin 512) (h1 : 1024 * (t.val / 11) + r.val < 8192)
    (h2 : 512 * (t.val % 11) + e.val < 5632) :
    ((cfg0.win 2).blk t).view.read (Elt Ideal) A (ix2 r e) = A (ix2 ⟨1024 * (t.val / 11) + r.val, h1⟩ ⟨512 * (t.val % 11) + e.val, h2⟩) := by
  obtain ⟨e0, e1, e2⟩ := index_t t
  blk_ext [e2]

/-- What grid point `t` writes back is its tile of the gradient. -/
theorem written (t : Fin cfg0.N) :
    (dats m 0 c).flushed 2 t = ((cfg0.win 2).blk t).view.read (Elt Ideal)
      (dx (m ((c : Thread nD τ).loc main_arg1)) (m ((c : Thread nD τ).loc main_arg2))) := by
  have ht : t.val < 88 := lt_of_lt_of_eq t.isLt N_0
  rw [flushed2]
  funext y
  obtain ⟨r, e, rfl⟩ : ∃ (r : Fin 1024) (e : Fin 512), y = ix2 r e := ix2_of y
  rw [read_dx t _ r e (by omega) (by omega)]
  exact (block (iblk m c 0 t) (iblk m c 1 t) r e).trans
    (dot_congr (fun k => read_df m c t r k (by omega)) (fun k => read_w m c t e k (by omega)))

/-- An index is in a grid point's tile when each coordinate is in the tile's range. -/
theorem mem_tile (t : Fin cfg0.N) (i : S8192x5632.Idx) (h0 : (i 0).val / 1024 = t.val / 11) (h1 : (i 1).val / 512 = t.val % 11) :
    i ∈ ((cfg0.win 2).blk t).view.set := by
  show i ∈ ((View.whole main_v1).slice (win0_2.rect t)).set
  rw [View.set_slice_whole, Rect.mem_set_unit]
  obtain ⟨e0, e1, e2⟩ := index_t t
  exact fun a => match a with
  | ⟨0, _⟩ => in_range (n := 1024) (by decide) (h0.trans (congrFun e2 0).symm)
  | ⟨1, _⟩ => in_range (n := 512) (by decide) (h1.trans (congrFun e2 1).symm)

/-- The kernel's result is the gradient. -/
theorem result : (dats m 0 c).arrAt 2 cfg0.N
    = dx (m ((c : Thread nD τ).loc main_arg1)) (m ((c : Thread nD τ).loc main_arg2)) := by
  refine (dats m 0 c).arrAt_eq_of_cover 2 _ (fun t _ => written m c t) (fun i => ?_)
  have h0 : (i 0).val < 8192 := (i 0).isLt
  have h1 : (i 1).val < 5632 := (i 1).isLt
  have hN : 11 * ((i 0).val / 1024) + (i 1).val / 512 < cfg0.N := lt_of_lt_of_eq (b := 88) (by omega) N_0.symm
  exact ⟨⟨_, hN⟩, flush0_2 _, mem_tile _ i (by dsimp only; omega) (by dsimp only; omega)⟩

open Cert.ReferenceDownDxIdeal.Read in
/-- The reference's result is the same product. -/
theorem reference (w : FVec Ideal S5632x2048 .bf16) (df : FVec Ideal S8192x2048 .bf16) :
    val_main_v7 (F := Ideal) w df = dx w df := by
  funext j
  rw [val_main_v7_apply, val_main_v6_apply]
  pointwise [val_main_v3, val_main_v1, dx, mulT]
  exact dot_congr (fun k => congrArg df (ix2_ext rfl rfl)) (fun k => congrArg w (ix2_ext rfl rfl))

open Idealize.SL.Sem

/-- The reference runs, ends with its arguments unchanged, and declares no semaphore. -/
theorem frame_reference : Cert.quiescent_ReferenceDownDxIdeal := fun m ρ _ =>
  (θ_run Cert.ReferenceDownDxIdeal.defs _ _).mono (fun r h => ⟨fun c => (h c).2,
    Idealize.ShloMosaic.sem_eq_zero_of_no_sems (by decide) r.2⟩) (Cert.ReferenceDownDxIdeal.Value.run m ρ)

/-- The kernel's result is the reference's, whatever the arguments. -/
theorem value : Cert.algebraic_KernelDownDxIdeal_ReferenceDownDxIdeal := by
  intro m ρ m' ρ' _ ha
  refine ⟨fun c => dx (m ((c : Thread nD τ).loc main_arg1)) (m ((c : Thread nD τ).loc main_arg2)), ?_, ?_⟩
  · refine (θ_run defs _ _).mono (fun r h c => ?_) (run_blocks m ρ)
    exact ⟨(h c).1.trans (result m c), (h c).2⟩
  · refine (θ_run Cert.ReferenceDownDxIdeal.defs _ _).mono (fun r h c => ?_) (Cert.ReferenceDownDxIdeal.Value.run m' ρ')
    obtain ⟨a0, a1, a2⟩ := ha c
    refine ⟨(h c).1.trans ?_, (h c).2⟩
    rw [a1, a2]
    exact reference _ _

end DownDx
end
-- ==== Proof.DownDw.lean ====
/-
  The gradient of the down-projection's weights: a product over the rows, added up in four blocks of 2048.
-/
module

public import proofs.«01_k».proof.Defs
public import proofs.«01_k».proof.Proof.Gen.KernelDownDwIdeal.Value
public import Idealize.ShloMosaic.Adequacy
public import Idealize.ShloMosaic.Init
public import proofs.«01_k».proof.Proof.Gen.ReferenceDownDwIdeal.Read
public import proofs.«01_k».proof.Proof.Products
public import Idealize.ShloMosaic.Lib.Pipeline.ValueKit.Point
public import Idealize.ShloMosaic.Lib.Pipeline.ValueKit.Acc

@[expose] public section

set_option maxRecDepth 16384

noncomputable section

namespace DownDw

open Products Idealize.ShloMosaic Idealize.ShloMosaic.TcCoe Cert.KernelDownDwIdeal Cert.KernelDownDwIdeal.Gen Cert.KernelDownDwIdeal.Value

/-- The product of the transposed activations with the incoming gradient. -/
def dw (a : FVec Ideal S8192x5632 .bf16) (df : FVec Ideal S8192x2048 .bf16) : FVec Ideal S5632x2048 .bf16 := tmul a df

/-- The blocks the windows stand on at each grid point. -/
theorem index_t : ∀ t : Fin cfg0.N, win0_0.index t = ![t.val % 4, t.val / 4] ∧ win0_1.index t = ![0, t.val % 4, 0]
    ∧ win0_2.index t = ![t.val / 4, 0] :=
  (by decide +kernel : ∀ t : Fin grid0.N, _)

/-- What one block of rows adds. -/
def part (x0 : Vec Ideal S2048x512 .bf16) (x1 : Vec Ideal S1x2048x2048 .bf16) (j : S512x2048.Idx) : EReal :=
  ∑ k : Fin 2048, (x0 (ix2 k (⟨(j 0).val, (j 0).isLt⟩ : Fin 512)) : EReal) * x1 (ix3 0 k (⟨(j 1).val, (j 1).isLt⟩ : Fin 2048))

theorem adds (a : Vec Ideal S512x2048 .f32) (x0 : Vec Ideal S2048x512 .bf16) (x1 : Vec Ideal S1x2048x2048 .bf16) (j : S512x2048.Idx) :
    k0_pay2 a x0 x1 j = (a j : EReal) + part x0 x1 j := by
  obtain ⟨r, e, rfl⟩ : ∃ (r : Fin 512) (e : Fin 2048), j = ix2 r e := ix2_of j
  pointwise [k0_pay2, part, dot_S2048x512_S2048x2048_S512x2048_0_0_1_1_n_n]

theorem starts (j : S512x2048.Idx) : (k0_pay1 (F := Ideal) j : EReal) = 0 := by
  obtain ⟨r, e, rfl⟩ : ∃ (r : Fin 512) (e : Fin 2048), j = ix2 r e := ix2_of j
  pointwise [k0_pay1]

variable (m : (ℓ : Loc nD τ sig) → Buf (Elt Ideal) ℓ) (c : Dev nD)

/-- The accumulator, read as it was left. -/
theorem found (x : Vec Ideal S512x2048 .f32) :
    scM0_0.view.read (Elt Ideal) ((Memref.isWhole_whole _ : scM0_0.IsWhole).unread x) = x :=
  (Memref.isWhole_whole _ : scM0_0.IsWhole).read_unread x

/-- The accumulator after the last of a tile's four blocks of rows. -/
theorem acc (t : Fin cfg0.N) (ht : t.val % 4 = 3) (j : S512x2048.Idx) :
    ((outsAt0 m c t.val t.isLt).2 j : EReal)
      = ∑ s : Fin 4, part (iblk m c 0 ⟨4 * (t.val / 4) + s.val, Pipeline.run_point_lt_of_flush t ht s⟩)
          (iblk m c 1 ⟨4 * (t.val / 4) + s.val, Pipeline.run_point_lt_of_flush t ht s⟩) j := by
  rw [Pipeline.eq_sum_fin_of_reset_step_apply_of_flush (M := EReal) (fun n h => (outsAt0 m c n h).2) 4 (fun _ => 0)
    (fun t j => part (iblk m c 0 t) (iblk m c 1 t) j) ?_ ?_ t ht j, zero_add]
  · intro t h0 j
    rw [outsAt0_A m c t h0 (by omega)]
    frame_out
    rw [adds, starts]
  · intro t h0 j
    by_cases h1 : t.val % 4 = 3
    · rw [outsAt0_C m c t h0 h1]
      frame_out
      rw [adds]
      exact congrArg₂ (fun a b : EReal => a + b) (congrFun (found _) j) rfl
    · rw [outsAt0_B m c t h0 h1]
      frame_out
      rw [adds]
      exact congrArg₂ (fun a b : EReal => a + b) (congrFun (found _) j) rfl

/-- What that point writes out is the accumulator. -/
theorem out_eq (t : Fin cfg0.N) (ht : t.val % 4 = 3) (j : S512x2048.Idx) :
    ((outsAt0 m c t.val t.isLt).1 j : EReal) = (outsAt0 m c t.val t.isLt).2 j := by
  rw [outsAt0_C m c t (by omega) ht]
  frame_out
  rfl

/-- An element of a window's block is an element of its array. -/
theorem read_a (t : Fin cfg0.N) (s : Fin 2048) (r : Fin 512) (h0 : 2048 * (t.val % 4) + s.val < 8192) (h1 : 512 * (t.val / 4) + r.val < 5632) :
    iblk m c 0 t (ix2 s r) = m ((c : Thread nD τ).loc main_arg0)
      (ix2 (⟨2048 * (t.val % 4) + s.val, h0⟩ : Fin 8192) (⟨512 * (t.val / 4) + r.val, h1⟩ : Fin 5632)) := by
  obtain ⟨e0, e1, e2⟩ := index_t t
  blk_ext [iblk, V, e0]
theorem read_df (t : Fin cfg0.N) (s : Fin 2048) (e : Fin 2048) (h : 2048 * (t.val % 4) + s.val < 8192) :
    iblk m c 1 t (ix3 0 s e) = m ((c : Thread nD τ).loc main_arg2) (ix2 (⟨2048 * (t.val % 4) + s.val, h⟩ : Fin 8192) e) := by
  obtain ⟨e0, e1, e2⟩ := index_t t
  blk_ext! [iblk, V, e1]
theorem read_dw (t : Fin cfg0.N) (A : FVec Ideal S5632x2048 .bf16) (r : Fin 512) (e : Fin 2048) (h : 512 * (t.val / 4) + r.val < 5632) :
    ((cfg0.win 2).blk t).view.read (Elt Ideal) A (ix2 r e) = A (ix2 ⟨512 * (t.val / 4) + r.val, h⟩ e) := by
  obtain ⟨e0, e1, e2⟩ := index_t t
  blk_ext [e2]

/-- What grid point `t` writes back, where it does, is its tile of the gradient. -/
theorem written (t : Fin cfg0.N) (hf : (cfg0.win 2).flush t = true) :
    (dats m 0 c).flushed 2 t = ((cfg0.win 2).blk t).view.read (Elt Ideal)
      (dw (m ((c : Thread nD τ).loc main_arg0)) (m ((c : Thread nD τ).loc main_arg2))) := by
  have ht : t.val < 44 := lt_of_lt_of_eq t.isLt N_0
  have h3 : t.val % 4 = 3 := (flush0_2 t).mp hf
  rw [flushed2]
  funext y
  obtain ⟨r, e, rfl⟩ : ∃ (r : Fin 512) (e : Fin 2048), y = ix2 r e := ix2_of y
  rw [read_dw t _ r e (by omega), dw, tmul_apply]
  refine ((out_eq m c t h3 (ix2 r e)).trans (acc m c t h3 (ix2 r e))).trans ?_
  refine sum_blocks (S := 4) (n := 2048) (L := 8192) rfl _ fun s k hk => ?_
  refine congrArg₂ (fun a b : EReal => a * b) ((read_a m c _ k r (by dsimp only; omega) (by dsimp only; omega)).trans (congrArg _ (ix2_ext ?_ ?_)))
    ((read_df m c _ k e (by dsimp only; omega)).trans (congrArg _ (ix2_ext ?_ ?_)))
  all_goals (first | rfl | (dsimp [ix2, ix3]; omega))

/-- An index is in a grid point's tile when each coordinate is in the tile's range. -/
theorem mem_tile (t : Fin cfg0.N) (i : S5632x2048.Idx) (h0 : (i 0).val / 512 = t.val / 4) (h1 : (i 1).val / 2048 = 0) :
    i ∈ ((cfg0.win 2).blk t).view.set := by
  show i ∈ ((View.whole main_v1).slice (win0_2.rect t)).set
  rw [View.set_slice_whole, Rect.mem_set_unit]
  obtain ⟨e0, e1, e2⟩ := index_t t
  have q0 : win0_2.index t (0 : Fin 2) = t.val / 4 := congrFun e2 0
  have q1 : win0_2.index t (1 : Fin 2) = 0 := congrFun e2 1
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The kernel's result. -/
theorem result : (dats m 0 c).arrAt 2 cfg0.N = dw (m ((c : Thread nD τ).loc main_arg0)) (m ((c : Thread nD τ).loc main_arg2)) := by
  refine (dats m 0 c).arrAt_eq_of_cover 2 _ (fun t hf => written m c t hf) (fun i => ?_)
  have h0 : (i 0).val < 5632 := (i 0).isLt
  have h1 : (i 1).val < 2048 := (i 1).isLt
  have hN : 4 * ((i 0).val / 512) + 3 < cfg0.N := lt_of_lt_of_eq (b := 44) (by omega) N_0.symm
  exact ⟨⟨_, hN⟩, (flush0_2 _).mpr (by dsimp only; omega), mem_tile _ i (by dsimp only; omega) (by dsimp only; omega)⟩

open Cert.ReferenceDownDwIdeal.Read in
/-- The reference's result: one product over all the rows. -/
theorem reference (a : FVec Ideal S8192x5632 .bf16) (df : FVec Ideal S8192x2048 .bf16) :
    val_main_v7 (F := Ideal) a df = dw a df := by
  funext j
  rw [val_main_v7_apply, val_main_v5_apply, val_main_v4_apply]
  pointwise [val_main_v3, val_main_v0, dw, tmul]
  refine Finset.sum_congr rfl fun s _ => (mul_comm (G := EReal) _ _).trans ?_
  exact congrArg₂ (fun a b : EReal => a * b) (congrArg a (ix2_ext rfl rfl)) (congrArg df (ix2_ext rfl rfl))

open Idealize.SL.Sem

/-- The reference runs, ends with its arguments unchanged, and declares no semaphore. -/
theorem frame_reference : Cert.quiescent_ReferenceDownDwIdeal := fun m ρ _ =>
  (θ_run Cert.ReferenceDownDwIdeal.defs _ _).mono (fun r h => ⟨fun c => (h c).2,
    Idealize.ShloMosaic.sem_eq_zero_of_no_sems (by decide) r.2⟩) (Cert.ReferenceDownDwIdeal.Value.run m ρ)

/-- The kernel's result is the reference's, whatever the arguments. -/
theorem value : Cert.algebraic_KernelDownDwIdeal_ReferenceDownDwIdeal := by
  intro m ρ m' ρ' _ ha
  refine ⟨fun c => dw (m ((c : Thread nD τ).loc main_arg0)) (m ((c : Thread nD τ).loc main_arg2)), ?_, ?_⟩
  · refine (θ_run defs _ _).mono (fun r h c => ?_) (run_blocks m ρ)
    exact ⟨(h c).1.trans (result m c), (h c).2⟩
  · refine (θ_run Cert.ReferenceDownDwIdeal.defs _ _).mono (fun r h c => ?_) (Cert.ReferenceDownDwIdeal.Value.run m' ρ')
    obtain ⟨a0, a1, a2⟩ := ha c
    refine ⟨(h c).1.trans ?_, (h c).2⟩
    rw [a0, a2]
    exact reference _ _

end DownDw
end
-- ==== Proof.In3.lean ====
/-
  The input projection of a mixer in three parts: a product of its rows with the weights, whose columns are stored as three arrays.
-/
module

public import proofs.«01_k».proof.Defs
public import proofs.«01_k».proof.Proof.Gen.KernelIn3Ideal.Value
public import Idealize.ShloMosaic.Adequacy
public import Idealize.ShloMosaic.Init
public import proofs.«01_k».proof.Proof.Gen.ReferenceIn3Ideal.Read
public import proofs.«01_k».proof.Proof.Products
public import Idealize.ShloMosaic.Lib.Pipeline.ValueKit.Point

@[expose] public section

set_option maxRecDepth 16384

noncomputable section

namespace In3

open Products Idealize.ShloMosaic Idealize.ShloMosaic.TcCoe Cert.KernelIn3Ideal Cert.KernelIn3Ideal.Gen Cert.KernelIn3Ideal.Value

/-- The product of the rows with the weights, in three parts. -/
def out (a : FVec Ideal S8192x2048 .bf16) (w : FVec Ideal S2048x6144 .bf16) : FVec Ideal S3x8192x2048 .bf16 := mulParts (n := 2048) rfl a w

/-- The blocks the windows stand on at each grid point. -/
theorem index_t : ∀ t : Fin cfg0.N, win0_0.index t = ![t.val / 12, 0] ∧ win0_1.index t = ![0, t.val % 12]
    ∧ win0_2.index t = ![t.val % 12 / 4, t.val / 12, t.val % 4] :=
  (by decide +kernel : ∀ t : Fin grid0.N, _)

/-- What one grid point leaves in its window, from the blocks it reads. -/
theorem tile (v0 : Vec Ideal S2048x2048 .bf16) (v1 : Vec Ideal S2048x512 .bf16) (r : Fin 2048) (e : Fin 512) :
    k0_pay1 v0 v1 (ix3 0 r e) = ∑ k : Fin 2048, (v0 (ix2 r k) : EReal) * v1 (ix2 k e) := by
  pointwise [k0_pay1, dot_S2048x2048_S2048x512_S2048x512_1_0_0_1_n_n]

theorem block (x0 : Vec Ideal S2048x2048 .bf16) (x1 : Vec Ideal S2048x512 .bf16) (r : Fin 2048) (e : Fin 512) :
    out0_2 x0 x1 (ix3 0 r e) = ∑ k : Fin 2048, (x0 (ix2 r k) : EReal) * x1 (ix2 k e) := by
  frame_out
  exact tile x0 x1 r e

variable (m : (ℓ : Loc nD τ sig) → Buf (Elt Ideal) ℓ) (c : Dev nD)

/-- An element of a window's block is an element of its array. -/
theorem read_a (t : Fin cfg0.N) (r : Fin 2048) (k : Fin 2048) (h : 2048 * (t.val / 12) + r.val < 8192) :
    iblk m c 0 t (ix2 r k) = m ((c : Thread nD τ).loc main_arg0) (ix2 (⟨2048 * (t.val / 12) + r.val, h⟩ : Fin 8192) k) := by
  obtain ⟨e0, e1, e2⟩ := index_t t
  blk_ext [iblk, V, e0]
theorem read_w (t : Fin cfg0.N) (k : Fin 2048) (e : Fin 512) (h : 512 * (t.val % 12) + e.val < 6144) :
    iblk m c 1 t (ix2 k e) = m ((c : Thread nD τ).loc main_arg1) (ix2 k (⟨512 * (t.val % 12) + e.val, h⟩ : Fin 6144)) := by
  obtain ⟨e0, e1, e2⟩ := index_t t
  blk_ext [iblk, V, e1]
theorem read_o (t : Fin cfg0.N) (A : FVec Ideal S3x8192x2048 .bf16) (r : Fin 2048) (e : Fin 512) (h0 : t.val % 12 / 4 < 3)
    (h1 : 2048 * (t.val / 12) + r.val < 8192) (h2 : 512 * (t.val % 4) + e.val < 2048) :
    ((cfg0.win 2).blk t).view.read (Elt Ideal) A (ix3 0 r e)
      = A (ix3 ⟨t.val % 12 / 4, h0⟩ ⟨2048 * (t.val / 12) + r.val, h1⟩ ⟨512 * (t.val % 4) + e.val, h2⟩) := by
  obtain ⟨e0, e1, e2⟩ := index_t t
  blk_ext [e2]

/-- What grid point `t` writes back is its tile of the product. -/
theorem written (t : Fin cfg0.N) :
    (dats m 0 c).flushed 2 t = ((cfg0.win 2).blk t).view.read (Elt Ideal)
      (out (m ((c : Thread nD τ).loc main_arg0)) (m ((c : Thread nD τ).loc main_arg1))) := by
  have ht : t.val < 48 := lt_of_lt_of_eq t.isLt N_0
  rw [flushed2]
  funext y
  obtain ⟨z, r, e, rfl⟩ : ∃ (z : Fin 1) (r : Fin 2048) (e : Fin 512), y = ix3 z r e := ix3_of y
  obtain rfl : z = 0 := Subsingleton.elim _ _
  rw [read_o t _ r e (by omega) (by omega) (by omega), out, mulParts_apply]
  refine (block (iblk m c 0 t) (iblk m c 1 t) r e).trans (Finset.sum_congr rfl fun k _ => ?_)
  exact congrArg₂ (fun a b : EReal => a * b) (read_a m c t r k (by omega))
    ((read_w m c t k e (by omega)).trans (congrArg _ (ix2_ext rfl (by dsimp [ix3]; omega))))

/-- An index is in a grid point's tile when each coordinate is in the tile's range. -/
theorem mem_tile (t : Fin cfg0.N) (i : S3x8192x2048.Idx) (h0 : (i 0).val = t.val % 12 / 4) (h1 : (i 1).val / 2048 = t.val / 12)
    (h2 : (i 2).val / 512 = t.val % 4) : i ∈ ((cfg0.win 2).blk t).view.set := by
  show i ∈ ((View.whole main_v0).slice (win0_2.rect t)).set
  rw [View.set_slice_whole, Rect.mem_set_unit]
  obtain ⟨e0, e1, e2⟩ := index_t t
  exact fun a => match a with
  | ⟨0, _⟩ => in_range (n := 1) (by decide) ((Nat.div_one _).trans (h0.trans (congrFun e2 0).symm))
  | ⟨1, _⟩ => in_range (n := 2048) (by decide) (h1.trans (congrFun e2 1).symm)
  | ⟨2, _⟩ => in_range (n := 512) (by decide) (h2.trans (congrFun e2 2).symm)

/-- The kernel's result is the product. -/
theorem result : (dats m 0 c).arrAt 2 cfg0.N
    = out (m ((c : Thread nD τ).loc main_arg0)) (m ((c : Thread nD τ).loc main_arg1)) := by
  refine (dats m 0 c).arrAt_eq_of_cover 2 _ (fun t _ => written m c t) (fun i => ?_)
  have h0 : (i 0).val < 3 := (i 0).isLt
  have h1 : (i 1).val < 8192 := (i 1).isLt
  have h2 : (i 2).val < 2048 := (i 2).isLt
  have hN : 12 * ((i 1).val / 2048) + 4 * (i 0).val + (i 2).val / 512 < cfg0.N := lt_of_lt_of_eq (b := 48) (by omega) N_0.symm
  exact ⟨⟨_, hN⟩, flush0_2 _, mem_tile _ i (by dsimp only; omega) (by dsimp only; omega) (by dsimp only; omega)⟩

open Cert.ReferenceIn3Ideal.Read in
/-- The reference's result is the product, split. -/
theorem reference (a : FVec Ideal S8192x2048 .bf16) (w : FVec Ideal S2048x6144 .bf16) :
    val_main_v10 (F := Ideal) a w = out a w := by
  funext j
  obtain ⟨p, r, e, rfl⟩ : ∃ (p : Fin 3) (r : Fin 8192) (e : Fin 2048), j = ix3 p r e := ix3_of j
  rw [val_main_v10_apply]
  pointwise [val_main_v9, val_main_v8, val_main_v7, val_main_v6, val_main_v5, val_main_v4, val_main_v3, val_main_v2, val_main_v1, val_main_v0, out, mulParts]
  split
  · next h => exact dot_congr (fun k => rfl) (fun k => congrArg w (ix2_ext rfl (by dsimp [ix2]; omega)))
  split
  · next h h' => exact dot_congr (fun k => rfl) (fun k => congrArg w (ix2_ext rfl (by dsimp [ix2]; omega)))
  · next h h' => exact dot_congr (fun k => rfl) (fun k => congrArg w (ix2_ext rfl (by dsimp [ix2]; omega)))

open Idealize.SL.Sem

/-- The reference runs, ends with its arguments unchanged, and declares no semaphore. -/
theorem frame_reference : Cert.quiescent_ReferenceIn3Ideal := fun m ρ _ =>
  (θ_run Cert.ReferenceIn3Ideal.defs _ _).mono (fun r h => ⟨fun c => (h c).2,
    Idealize.ShloMosaic.sem_eq_zero_of_no_sems (by decide) r.2⟩) (Cert.ReferenceIn3Ideal.Value.run m ρ)

/-- The kernel's result is the reference's, whatever the arguments. -/
theorem value : Cert.algebraic_KernelIn3Ideal_ReferenceIn3Ideal := by
  intro m ρ m' ρ' _ ha
  refine ⟨fun c => out (m ((c : Thread nD τ).loc main_arg0)) (m ((c : Thread nD τ).loc main_arg1)), ?_, ?_⟩
  · refine (θ_run defs _ _).mono (fun r h c => ?_) (run_blocks m ρ)
    exact ⟨(h c).1.trans (result m c), (h c).2⟩
  · refine (θ_run Cert.ReferenceIn3Ideal.defs _ _).mono (fun r h c => ?_) (Cert.ReferenceIn3Ideal.Value.run m' ρ')
    obtain ⟨a0, a1⟩ := ha c
    refine ⟨(h c).1.trans ?_, (h c).2⟩
    rw [a0, a1]
    exact reference _ _

end In3
end
-- ==== Proof.In2.lean ====
/-
  The input projection of a mixer in two parts: a product of its rows with the weights, whose columns are stored as two arrays.
-/
module

public import proofs.«01_k».proof.Defs
public import proofs.«01_k».proof.Proof.Gen.KernelIn2Ideal.Value
public import Idealize.ShloMosaic.Adequacy
public import Idealize.ShloMosaic.Init
public import proofs.«01_k».proof.Proof.Gen.ReferenceIn2Ideal.Read
public import proofs.«01_k».proof.Proof.Products
public import Idealize.ShloMosaic.Lib.Pipeline.ValueKit.Point

@[expose] public section

set_option maxRecDepth 16384

noncomputable section

namespace In2

open Products Idealize.ShloMosaic Idealize.ShloMosaic.TcCoe Cert.KernelIn2Ideal Cert.KernelIn2Ideal.Gen Cert.KernelIn2Ideal.Value

/-- The product of the rows with the weights, in two parts. -/
def out (a : FVec Ideal S8192x2048 .bf16) (w : FVec Ideal S2048x4096 .bf16) : FVec Ideal S2x8192x2048 .bf16 := mulParts (n := 2048) rfl a w

/-- The blocks the windows stand on at each grid point. -/
theorem index_t : ∀ t : Fin cfg0.N, win0_0.index t = ![t.val / 8, 0] ∧ win0_1.index t = ![0, t.val % 8]
    ∧ win0_2.index t = ![t.val % 8 / 4, t.val / 8, t.val % 4] :=
  (by decide +kernel : ∀ t : Fin grid0.N, _)

/-- What one grid point leaves in its window, from the blocks it reads. -/
theorem tile (v0 : Vec Ideal S2048x2048 .bf16) (v1 : Vec Ideal S2048x512 .bf16) (r : Fin 2048) (e : Fin 512) :
    k0_pay1 v0 v1 (ix3 0 r e) = ∑ k : Fin 2048, (v0 (ix2 r k) : EReal) * v1 (ix2 k e) := by
  pointwise [k0_pay1, dot_S2048x2048_S2048x512_S2048x512_1_0_0_1_n_n]

theorem block (x0 : Vec Ideal S2048x2048 .bf16) (x1 : Vec Ideal S2048x512 .bf16) (r : Fin 2048) (e : Fin 512) :
    out0_2 x0 x1 (ix3 0 r e) = ∑ k : Fin 2048, (x0 (ix2 r k) : EReal) * x1 (ix2 k e) := by
  frame_out
  exact tile x0 x1 r e

variable (m : (ℓ : Loc nD τ sig) → Buf (Elt Ideal) ℓ) (c : Dev nD)

/-- An element of a window's block is an element of its array. -/
theorem read_a (t : Fin cfg0.N) (r : Fin 2048) (k : Fin 2048) (h : 2048 * (t.val / 8) + r.val < 8192) :
    iblk m c 0 t (ix2 r k) = m ((c : Thread nD τ).loc main_arg0) (ix2 (⟨2048 * (t.val / 8) + r.val, h⟩ : Fin 8192) k) := by
  obtain ⟨e0, e1, e2⟩ := index_t t
  blk_ext [iblk, V, e0]
theorem read_w (t : Fin cfg0.N) (k : Fin 2048) (e : Fin 512) (h : 512 * (t.val % 8) + e.val < 4096) :
    iblk m c 1 t (ix2 k e) = m ((c : Thread nD τ).loc main_arg1) (ix2 k (⟨512 * (t.val % 8) + e.val, h⟩ : Fin 4096)) := by
  obtain ⟨e0, e1, e2⟩ := index_t t
  blk_ext [iblk, V, e1]
theorem read_o (t : Fin cfg0.N) (A : FVec Ideal S2x8192x2048 .bf16) (r : Fin 2048) (e : Fin 512) (h0 : t.val % 8 / 4 < 2)
    (h1 : 2048 * (t.val / 8) + r.val < 8192) (h2 : 512 * (t.val % 4) + e.val < 2048) :
    ((cfg0.win 2).blk t).view.read (Elt Ideal) A (ix3 0 r e)
      = A (ix3 ⟨t.val % 8 / 4, h0⟩ ⟨2048 * (t.val / 8) + r.val, h1⟩ ⟨512 * (t.val % 4) + e.val, h2⟩) := by
  obtain ⟨e0, e1, e2⟩ := index_t t
  blk_ext [e2]

/-- What grid point `t` writes back is its tile of the product. -/
theorem written (t : Fin cfg0.N) :
    (dats m 0 c).flushed 2 t = ((cfg0.win 2).blk t).view.read (Elt Ideal)
      (out (m ((c : Thread nD τ).loc main_arg0)) (m ((c : Thread nD τ).loc main_arg1))) := by
  have ht : t.val < 32 := lt_of_lt_of_eq t.isLt N_0
  rw [flushed2]
  funext y
  obtain ⟨z, r, e, rfl⟩ : ∃ (z : Fin 1) (r : Fin 2048) (e : Fin 512), y = ix3 z r e := ix3_of y
  obtain rfl : z = 0 := Subsingleton.elim _ _
  rw [read_o t _ r e (by omega) (by omega) (by omega), out, mulParts_apply]
  refine (block (iblk m c 0 t) (iblk m c 1 t) r e).trans (Finset.sum_congr rfl fun k _ => ?_)
  exact congrArg₂ (fun a b : EReal => a * b) (read_a m c t r k (by omega))
    ((read_w m c t k e (by omega)).trans (congrArg _ (ix2_ext rfl (by dsimp [ix3]; omega))))

/-- An index is in a grid point's tile when each coordinate is in the tile's range. -/
theorem mem_tile (t : Fin cfg0.N) (i : S2x8192x2048.Idx) (h0 : (i 0).val = t.val % 8 / 4) (h1 : (i 1).val / 2048 = t.val / 8)
    (h2 : (i 2).val / 512 = t.val % 4) : i ∈ ((cfg0.win 2).blk t).view.set := by
  show i ∈ ((View.whole main_v0).slice (win0_2.rect t)).set
  rw [View.set_slice_whole, Rect.mem_set_unit]
  obtain ⟨e0, e1, e2⟩ := index_t t
  exact fun a => match a with
  | ⟨0, _⟩ => in_range (n := 1) (by decide) ((Nat.div_one _).trans (h0.trans (congrFun e2 0).symm))
  | ⟨1, _⟩ => in_range (n := 2048) (by decide) (h1.trans (congrFun e2 1).symm)
  | ⟨2, _⟩ => in_range (n := 512) (by decide) (h2.trans (congrFun e2 2).symm)

/-- The kernel's result is the product. -/
theorem result : (dats m 0 c).arrAt 2 cfg0.N
    = out (m ((c : Thread nD τ).loc main_arg0)) (m ((c : Thread nD τ).loc main_arg1)) := by
  refine (dats m 0 c).arrAt_eq_of_cover 2 _ (fun t _ => written m c t) (fun i => ?_)
  have h0 : (i 0).val < 2 := (i 0).isLt
  have h1 : (i 1).val < 8192 := (i 1).isLt
  have h2 : (i 2).val < 2048 := (i 2).isLt
  have hN : 8 * ((i 1).val / 2048) + 4 * (i 0).val + (i 2).val / 512 < cfg0.N := lt_of_lt_of_eq (b := 32) (by omega) N_0.symm
  exact ⟨⟨_, hN⟩, flush0_2 _, mem_tile _ i (by dsimp only; omega) (by dsimp only; omega) (by dsimp only; omega)⟩

open Cert.ReferenceIn2Ideal.Read in
/-- The reference's result is the product, split. -/
theorem reference (a : FVec Ideal S8192x2048 .bf16) (w : FVec Ideal S2048x4096 .bf16) :
    val_main_v8 (F := Ideal) a w = out a w := by
  funext j
  obtain ⟨p, r, e, rfl⟩ : ∃ (p : Fin 2) (r : Fin 8192) (e : Fin 2048), j = ix3 p r e := ix3_of j
  rw [val_main_v8_apply]
  pointwise [val_main_v7, val_main_v6, val_main_v5, val_main_v4, val_main_v3, val_main_v2, val_main_v1, val_main_v0, out, mulParts]
  split
  · next h => exact dot_congr (fun k => rfl) (fun k => congrArg w (ix2_ext rfl (by dsimp [ix2]; omega)))
  · next h => exact dot_congr (fun k => rfl) (fun k => congrArg w (ix2_ext rfl (by dsimp [ix2]; omega)))

open Idealize.SL.Sem

/-- The reference runs, ends with its arguments unchanged, and declares no semaphore. -/
theorem frame_reference : Cert.quiescent_ReferenceIn2Ideal := fun m ρ _ =>
  (θ_run Cert.ReferenceIn2Ideal.defs _ _).mono (fun r h => ⟨fun c => (h c).2,
    Idealize.ShloMosaic.sem_eq_zero_of_no_sems (by decide) r.2⟩) (Cert.ReferenceIn2Ideal.Value.run m ρ)

/-- The kernel's result is the reference's, whatever the arguments. -/
theorem value : Cert.algebraic_KernelIn2Ideal_ReferenceIn2Ideal := by
  intro m ρ m' ρ' _ ha
  refine ⟨fun c => out (m ((c : Thread nD τ).loc main_arg0)) (m ((c : Thread nD τ).loc main_arg1)), ?_, ?_⟩
  · refine (θ_run defs _ _).mono (fun r h c => ?_) (run_blocks m ρ)
    exact ⟨(h c).1.trans (result m c), (h c).2⟩
  · refine (θ_run Cert.ReferenceIn2Ideal.defs _ _).mono (fun r h c => ?_) (Cert.ReferenceIn2Ideal.Value.run m' ρ')
    obtain ⟨a0, a1⟩ := ha c
    refine ⟨(h c).1.trans ?_, (h c).2⟩
    rw [a0, a1]
    exact reference _ _

end In2
end
-- ==== Proof.Out.lean ====
/-
  The layers' output projection of a mixer: a product of its rows with the weights, one tile of 2048 rows and 512 columns at a time.
-/
module

public import proofs.«01_k».proof.Defs
public import proofs.«01_k».proof.Proof.Gen.KernelOutIdeal.Value
public import Idealize.ShloMosaic.Adequacy
public import Idealize.ShloMosaic.Init
public import proofs.«01_k».proof.Proof.Gen.ReferenceOutIdeal.Read
public import proofs.«01_k».proof.Proof.Products
public import Idealize.ShloMosaic.Lib.Pipeline.ValueKit.Point

@[expose] public section

set_option maxRecDepth 16384

noncomputable section

namespace Out

open Products Idealize.ShloMosaic Idealize.ShloMosaic.TcCoe Cert.KernelOutIdeal Cert.KernelOutIdeal.Gen Cert.KernelOutIdeal.Value

/-- The product of the rows with the weights. -/
def out (a : FVec Ideal S8192x2048 .bf16) (w : FVec Ideal S2048x2048 .bf16) : FVec Ideal S8192x2048 .f32 := mul a w

/-- The blocks the windows stand on at each grid point. -/
theorem index_t : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What one grid point leaves in its window, from the blocks it reads. -/
theorem tile (v0 : Vec Ideal S2048x2048 .bf16) (v1 : Vec Ideal S2048x512 .bf16) (r : Fin 2048) (e : Fin 512) :
    k0_pay1 v0 v1 (ix2 r e) = ∑ k : Fin 2048, (v0 (ix2 r k) : EReal) * v1 (ix2 k e) := by
  pointwise [k0_pay1, dot_S2048x2048_S2048x512_S2048x512_1_0_0_1_n_n]

theorem block (x0 : Vec Ideal S2048x2048 .bf16) (x1 : Vec Ideal S2048x512 .bf16) (r : Fin 2048) (e : Fin 512) :
    out0_2 x0 x1 (ix2 r e) = ∑ k : Fin 2048, (x0 (ix2 r k) : EReal) * x1 (ix2 k e) := by
  frame_out
  exact tile x0 x1 r e

variable (m : (ℓ : Loc nD τ sig) → Buf (Elt Ideal) ℓ) (c : Dev nD)

/-- An element of a window's block is an element of its array. -/
theorem read_a (t : Fin cfg0.N) (r : Fin 2048) (k : Fin 2048) (h : 2048 * (t.val / 4) + r.val < 8192) :
    iblk m c 0 t (ix2 r k) = m ((c : Thread nD τ).loc main_arg0) (ix2 (⟨2048 * (t.val / 4) + r.val, h⟩ : Fin 8192) k) := by
  obtain ⟨e0, e1, e2⟩ := index_t t
  blk_ext [iblk, V, e0]
theorem read_w (t : Fin cfg0.N) (k : Fin 2048) (e : Fin 512) (h : 512 * (t.val % 4) + e.val < 2048) :
    iblk m c 1 t (ix2 k e) = m ((c : Thread nD τ).loc main_arg1) (ix2 k (⟨512 * (t.val % 4) + e.val, h⟩ : Fin 2048)) := by
  obtain ⟨e0, e1, e2⟩ := index_t t
  blk_ext [iblk, V, e1]
theorem read_o (t : Fin cfg0.N) (A : FVec Ideal S8192x2048 .f32) (r : Fin 2048) (e : Fin 512) (h1 : 2048 * (t.val / 4) + r.val < 8192)
    (h2 : 512 * (t.val % 4) + e.val < 2048) :
    ((cfg0.win 2).blk t).view.read (Elt Ideal) A (ix2 r e) = A (ix2 ⟨2048 * (t.val / 4) + r.val, h1⟩ ⟨512 * (t.val % 4) + e.val, h2⟩) := by
  obtain ⟨e0, e1, e2⟩ := index_t t
  blk_ext [e2]

/-- What grid point `t` writes back is its tile of the product. -/
theorem written (t : Fin cfg0.N) :
    (dats m 0 c).flushed 2 t = ((cfg0.win 2).blk t).view.read (Elt Ideal)
      (out (m ((c : Thread nD τ).loc main_arg0)) (m ((c : Thread nD τ).loc main_arg1))) := by
  have ht : t.val < 16 := lt_of_lt_of_eq t.isLt N_0
  rw [flushed2]
  funext y
  obtain ⟨r, e, rfl⟩ : ∃ (r : Fin 2048) (e : Fin 512), y = ix2 r e := ix2_of y
  rw [read_o t _ r e (by omega) (by omega)]
  exact (block (iblk m c 0 t) (iblk m c 1 t) r e).trans
    (dot_congr (fun k => read_a m c t r k (by omega)) (fun k => read_w m c t k e (by omega)))

/-- An index is in a grid point's tile when each coordinate is in the tile's range. -/
theorem mem_tile (t : Fin cfg0.N) (i : S8192x2048.Idx) (h0 : (i 0).val / 2048 = t.val / 4) (h1 : (i 1).val / 512 = t.val % 4) :
    i ∈ ((cfg0.win 2).blk t).view.set := by
  show i ∈ ((View.whole main_v0).slice (win0_2.rect t)).set
  rw [View.set_slice_whole, Rect.mem_set_unit]
  obtain ⟨e0, e1, e2⟩ := index_t t
  exact fun a => match a with
  | ⟨0, _⟩ => in_range (n := 2048) (by decide) (h0.trans (congrFun e2 0).symm)
  | ⟨1, _⟩ => in_range (n := 512) (by decide) (h1.trans (congrFun e2 1).symm)

/-- The kernel's result is the product. -/
theorem result : (dats m 0 c).arrAt 2 cfg0.N
    = out (m ((c : Thread nD τ).loc main_arg0)) (m ((c : Thread nD τ).loc main_arg1)) := by
  refine (dats m 0 c).arrAt_eq_of_cover 2 _ (fun t _ => written m c t) (fun i => ?_)
  have h0 : (i 0).val < 8192 := (i 0).isLt
  have h1 : (i 1).val < 2048 := (i 1).isLt
  have hN : 4 * ((i 0).val / 2048) + (i 1).val / 512 < cfg0.N := lt_of_lt_of_eq (b := 16) (by omega) N_0.symm
  exact ⟨⟨_, hN⟩, flush0_2 _, mem_tile _ i (by dsimp only; omega) (by dsimp only; omega)⟩

open Cert.ReferenceOutIdeal.Read in
/-- The reference's result is the product. -/
theorem reference (a : FVec Ideal S8192x2048 .bf16) (w : FVec Ideal S2048x2048 .bf16) :
    val_main_v2 (F := Ideal) a w = out a w := by
  funext j
  rw [val_main_v2_apply]
  pointwise [val_main_v1, val_main_v0, out, mul]
  exact dot_congr (fun k => congrArg a (ix2_ext rfl rfl)) (fun k => congrArg w (ix2_ext rfl rfl))

open Idealize.SL.Sem

/-- The reference runs, ends with its arguments unchanged, and declares no semaphore. -/
theorem frame_reference : Cert.quiescent_ReferenceOutIdeal := fun m ρ _ =>
  (θ_run Cert.ReferenceOutIdeal.defs _ _).mono (fun r h => ⟨fun c => (h c).2,
    Idealize.ShloMosaic.sem_eq_zero_of_no_sems (by decide) r.2⟩) (Cert.ReferenceOutIdeal.Value.run m ρ)

/-- The kernel's result is the reference's, whatever the arguments. -/
theorem value : Cert.algebraic_KernelOutIdeal_ReferenceOutIdeal := by
  intro m ρ m' ρ' _ ha
  refine ⟨fun c => out (m ((c : Thread nD τ).loc main_arg0)) (m ((c : Thread nD τ).loc main_arg1)), ?_, ?_⟩
  · refine (θ_run defs _ _).mono (fun r h c => ?_) (run_blocks m ρ)
    exact ⟨(h c).1.trans (result m c), (h c).2⟩
  · refine (θ_run Cert.ReferenceOutIdeal.defs _ _).mono (fun r h c => ?_) (Cert.ReferenceOutIdeal.Value.run m' ρ')
    obtain ⟨a0, a1⟩ := ha c
    refine ⟨(h c).1.trans ?_, (h c).2⟩
    rw [a0, a1]
    exact reference _ _

end Out
end
-- ==== Proof.Down.lean ====
/-
  The network's down-projection: a product of the activations with the weights, one tile of 1024 rows and 512 columns at a time.
-/
module

public import proofs.«01_k».proof.Defs
public import proofs.«01_k».proof.Proof.Gen.KernelDownIdeal.Value
public import Idealize.ShloMosaic.Adequacy
public import Idealize.ShloMosaic.Init
public import proofs.«01_k».proof.Proof.Gen.ReferenceDownIdeal.Read
public import proofs.«01_k».proof.Proof.Products
public import Idealize.ShloMosaic.Lib.Pipeline.ValueKit.Point

@[expose] public section

set_option maxRecDepth 16384

noncomputable section

namespace Down

open Products Idealize.ShloMosaic Idealize.ShloMosaic.TcCoe Cert.KernelDownIdeal Cert.KernelDownIdeal.Gen Cert.KernelDownIdeal.Value

/-- The product of the activations with the weights. -/
def out (a : FVec Ideal S8192x5632 .bf16) (w : FVec Ideal S5632x2048 .bf16) : FVec Ideal S8192x2048 .f32 := mul a w

/-- The blocks the windows stand on at each grid point. -/
theorem index_t : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What one grid point leaves in its window, from the blocks it reads. -/
theorem tile (v0 : Vec Ideal S1024x5632 .bf16) (v1 : Vec Ideal S5632x512 .bf16) (r : Fin 1024) (e : Fin 512) :
    k0_pay1 v0 v1 (ix2 r e) = ∑ k : Fin 5632, (v0 (ix2 r k) : EReal) * v1 (ix2 k e) := by
  pointwise [k0_pay1, dot_S1024x5632_S5632x512_S1024x512_1_0_0_1_n_n]

theorem block (x0 : Vec Ideal S1024x5632 .bf16) (x1 : Vec Ideal S5632x512 .bf16) (r : Fin 1024) (e : Fin 512) :
    out0_2 x0 x1 (ix2 r e) = ∑ k : Fin 5632, (x0 (ix2 r k) : EReal) * x1 (ix2 k e) := by
  frame_out
  exact tile x0 x1 r e

variable (m : (ℓ : Loc nD τ sig) → Buf (Elt Ideal) ℓ) (c : Dev nD)

/-- An element of a window's block is an element of its array. -/
theorem read_a (t : Fin cfg0.N) (r : Fin 1024) (k : Fin 5632) (h : 1024 * (t.val / 4) + r.val < 8192) :
    iblk m c 0 t (ix2 r k) = m ((c : Thread nD τ).loc main_arg0) (ix2 (⟨1024 * (t.val / 4) + r.val, h⟩ : Fin 8192) k) := by
  obtain ⟨e0, e1, e2⟩ := index_t t
  blk_ext [iblk, V, e0]
theorem read_w (t : Fin cfg0.N) (k : Fin 5632) (e : Fin 512) (h : 512 * (t.val % 4) + e.val < 2048) :
    iblk m c 1 t (ix2 k e) = m ((c : Thread nD τ).loc main_arg1) (ix2 k (⟨512 * (t.val % 4) + e.val, h⟩ : Fin 2048)) := by
  obtain ⟨e0, e1, e2⟩ := index_t t
  blk_ext [iblk, V, e1]
theorem read_o (t : Fin cfg0.N) (A : FVec Ideal S8192x2048 .f32) (r : Fin 1024) (e : Fin 512) (h1 : 1024 * (t.val / 4) + r.val < 8192)
    (h2 : 512 * (t.val % 4) + e.val < 2048) :
    ((cfg0.win 2).blk t).view.read (Elt Ideal) A (ix2 r e) = A (ix2 ⟨1024 * (t.val / 4) + r.val, h1⟩ ⟨512 * (t.val % 4) + e.val, h2⟩) := by
  obtain ⟨e0, e1, e2⟩ := index_t t
  blk_ext [e2]

/-- What grid point `t` writes back is its tile of the product. -/
theorem written (t : Fin cfg0.N) :
    (dats m 0 c).flushed 2 t = ((cfg0.win 2).blk t).view.read (Elt Ideal)
      (out (m ((c : Thread nD τ).loc main_arg0)) (m ((c : Thread nD τ).loc main_arg1))) := by
  have ht : t.val < 32 := lt_of_lt_of_eq t.isLt N_0
  rw [flushed2]
  funext y
  obtain ⟨r, e, rfl⟩ : ∃ (r : Fin 1024) (e : Fin 512), y = ix2 r e := ix2_of y
  rw [read_o t _ r e (by omega) (by omega)]
  exact (block (iblk m c 0 t) (iblk m c 1 t) r e).trans
    (dot_congr (fun k => read_a m c t r k (by omega)) (fun k => read_w m c t k e (by omega)))

/-- An index is in a grid point's tile when each coordinate is in the tile's range. -/
theorem mem_tile (t : Fin cfg0.N) (i : S8192x2048.Idx) (h0 : (i 0).val / 1024 = t.val / 4) (h1 : (i 1).val / 512 = t.val % 4) :
    i ∈ ((cfg0.win 2).blk t).view.set := by
  show i ∈ ((View.whole main_v0).slice (win0_2.rect t)).set
  rw [View.set_slice_whole, Rect.mem_set_unit]
  obtain ⟨e0, e1, e2⟩ := index_t t
  exact fun a => match a with
  | ⟨0, _⟩ => in_range (n := 1024) (by decide) (h0.trans (congrFun e2 0).symm)
  | ⟨1, _⟩ => in_range (n := 512) (by decide) (h1.trans (congrFun e2 1).symm)

/-- The kernel's result is the product. -/
theorem result : (dats m 0 c).arrAt 2 cfg0.N
    = out (m ((c : Thread nD τ).loc main_arg0)) (m ((c : Thread nD τ).loc main_arg1)) := by
  refine (dats m 0 c).arrAt_eq_of_cover 2 _ (fun t _ => written m c t) (fun i => ?_)
  have h0 : (i 0).val < 8192 := (i 0).isLt
  have h1 : (i 1).val < 2048 := (i 1).isLt
  have hN : 4 * ((i 0).val / 1024) + (i 1).val / 512 < cfg0.N := lt_of_lt_of_eq (b := 32) (by omega) N_0.symm
  exact ⟨⟨_, hN⟩, flush0_2 _, mem_tile _ i (by dsimp only; omega) (by dsimp only; omega)⟩

open Cert.ReferenceDownIdeal.Read in
/-- The reference's result is the product. -/
theorem reference (a : FVec Ideal S8192x5632 .bf16) (w : FVec Ideal S5632x2048 .bf16) :
    val_main_v2 (F := Ideal) a w = out a w := by
  funext j
  rw [val_main_v2_apply]
  pointwise [val_main_v1, val_main_v0, out, mul]
  exact dot_congr (fun k => congrArg a (ix2_ext rfl rfl)) (fun k => congrArg w (ix2_ext rfl rfl))

open Idealize.SL.Sem

/-- The reference runs, ends with its arguments unchanged, and declares no semaphore. -/
theorem frame_reference : Cert.quiescent_ReferenceDownIdeal := fun m ρ _ =>
  (θ_run Cert.ReferenceDownIdeal.defs _ _).mono (fun r h => ⟨fun c => (h c).2,
    Idealize.ShloMosaic.sem_eq_zero_of_no_sems (by decide) r.2⟩) (Cert.ReferenceDownIdeal.Value.run m ρ)

/-- The kernel's result is the reference's, whatever the arguments. -/
theorem value : Cert.algebraic_KernelDownIdeal_ReferenceDownIdeal := by
  intro m ρ m' ρ' _ ha
  refine ⟨fun c => out (m ((c : Thread nD τ).loc main_arg0)) (m ((c : Thread nD τ).loc main_arg1)), ?_, ?_⟩
  · refine (θ_run defs _ _).mono (fun r h c => ?_) (run_blocks m ρ)
    exact ⟨(h c).1.trans (result m c), (h c).2⟩
  · refine (θ_run Cert.ReferenceDownIdeal.defs _ _).mono (fun r h c => ?_) (Cert.ReferenceDownIdeal.Value.run m' ρ')
    obtain ⟨a0, a1⟩ := ha c
    refine ⟨(h c).1.trans ?_, (h c).2⟩
    rw [a0, a1]
    exact reference _ _

end Down
end
-- ==== Proof.SbBodyIdeal.lean ====
/-
  The forward attention kernel, idealized: what its body leaves in its two output blocks at one grid point, the
  launch over all grid points, and that the argument is unchanged and every counter back at zero.
-/
module

public import proofs.«01_k».proof.Proof.Gen.KernelSbIdeal.Frame
public import proofs.«01_k».proof.Proof.Gen.KernelSbIdeal.Loops
public import Idealize.ShloMosaic.Lib.Ring
public import Idealize.ShloMosaic.Lib.Claim

@[expose] public section

set_option maxRecDepth 16384

noncomputable section

namespace SbIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelSbIdeal Cert.KernelSbIdeal.Gen

variable {F : FTy → Type} [FloatOps F]

local notation "𝕄" => MT nD τ sig Unit (Elt F) ℕ (UR sig nD τ) ℕ

section Kernel

variable (c : Dev nD) (i : grid0.Coords) (a2 : Memref sig .tc .vmem S1x512x128 .bf16) (h2 : a2.IsWhole)
  (a3 : Memref sig .tc .vmem S1x8192x128 .bf16) (h3 : a3.IsWhole) (a4 : Memref sig .tc .vmem S1x8192x128 .bf16) (h4 : a4.IsWhole)
  (a5 : Memref sig .tc .vmem S512x128 .bf16) (h5 : a5.IsWhole) (a6 : Memref sig .tc .vmem S1x1x128x512 .f32) (h6 : a6.IsWhole)
  (q : Vec F S1x512x128 .bf16) (k v : Vec F S1x8192x128 .bf16)

set_option maxHeartbeats 1000000 in
/-- The body at one grid point: the stores it makes into the two output blocks, and that with the inputs' blocks at `q`, `k`, `v` and the
    outputs' at anything it ends with the inputs as they were and those stores made. -/
def body : Σ' (Lo : List (View.Piece (Elt F) S512x128 .bf16)), { Lr : List (View.Piece (Elt F) S1x1x128x512 .f32) //
    ∀ (E : Set ℕ) (K : PUnit → sProp 𝕄),
      iprop(owns (c : Thread nD τ) a2 fullShare q ∗ owns (c : Thread nD τ) a3 fullShare k ∗ owns (c : Thread nD τ) a4 fullShare v
          ∗ (∃ d, owns (c : Thread nD τ) a5 fullShare d) ∗ (∃ d, owns (c : Thread nD τ) a6 fullShare d)
          ∗ (iprop(owns (c : Thread nD τ) a2 fullShare q ∗ owns (c : Thread nD τ) a3 fullShare k ∗ owns (c : Thread nD τ) a4 fullShare v
              ∗ (∃ f, a5.view.loc (c : Thread nD τ) ↦[a5.view.set]{fullShare} a5.view.writes (Elt F) f Lo)
              ∗ (∃ f, a6.view.loc (c : Thread nD τ) ↦[a6.view.set]{fullShare} a6.view.writes (Elt F) f Lr)) -∗ K ⟨⟩))
        ⊢ wp frame (wpE (defs₀ (F := F)) Variants.none c none) E (cc0_sb_fwd i a2 h2 a3 h3 a4 h4 a5 h5 a6 h6) K } := by
  refine ⟨?_, ?_, fun E K => ?run⟩
  case run =>
    simp only [cc0_sb_fwd_eq_skeleton]; unfold cc0_sb_fwd_skel
    simp only [k0_part5_eq_skeleton, k0_part6_eq_skeleton]
    unfold owns
    iintro ⟨⟨%f2, %e2, H2⟩, ⟨%f3, %e3, H3⟩, ⟨%f4, %e4, H4⟩, ⟨%d5, %f5, -, H5⟩, ⟨%d6, %f6, -, H6⟩, Hk⟩
    obtain rfl := h2.eq_unread e2; obtain rfl := h3.eq_unread e3; obtain rfl := h4.eq_unread e4
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

/-- The stores into the first output block fill it. -/
theorem fills_o (y : S512x128.Idx) : ∃ p ∈ (body c i a2 h2 a3 h3 a4 h4 a5 h5 a6 h6 q k v).1, y ∈ p.1.set := by
  unfold body
  exact View.cover_of_tiled [⟨_, _⟩] S512x128.size (by rfl) y

/-- The stores into the second output block fill it: the first of them fills it alone. -/
theorem fills_runs (y : S1x1x128x512.Idx) : ∃ p ∈ (body c i a2 h2 a3 h3 a4 h4 a5 h5 a6 h6 q k v).2.1, y ∈ p.1.set := by
  unfold body
  obtain ⟨p, hp, hy⟩ := View.cover_of_tiled (Val := Elt F) (e := .f32)
    [⟨Rect.unit (s := S1x1x128x512) ![0, 0, 0, 0] S1x1x128x512.size inb_S1x1x128x512_S1x1x128x512_0_0_0_0, k0_pay35⟩] S1x1x128x512.size (by rfl) y
  refine ⟨p, ?_, hy⟩
  rw [List.mem_singleton] at hp
  subst hp
  simp

/-- What the body leaves in the first output block. -/
def leavesO : Vec F S512x128 .bf16 := View.canon (body c i a2 h2 a3 h3 a4 h4 a5 h5 a6 h6 q k v).1

/-- What the body leaves in the second output block. -/
def leavesRuns : Vec F S1x1x128x512 .f32 := View.canon (body c i a2 h2 a3 h3 a4 h4 a5 h5 a6 h6 q k v).2.1

/-- The body at one grid point, its output blocks named. -/
theorem sound (E : Set ℕ) (K : PUnit → sProp 𝕄) :
    iprop(owns (c : Thread nD τ) a2 fullShare q ∗ owns (c : Thread nD τ) a3 fullShare k ∗ owns (c : Thread nD τ) a4 fullShare v
        ∗ (∃ d, owns (c : Thread nD τ) a5 fullShare d) ∗ (∃ d, owns (c : Thread nD τ) a6 fullShare d)
        ∗ (iprop(owns (c : Thread nD τ) a2 fullShare q ∗ owns (c : Thread nD τ) a3 fullShare k ∗ owns (c : Thread nD τ) a4 fullShare v
            ∗ owns (c : Thread nD τ) a5 fullShare (leavesO c i a2 h2 a3 h3 a4 h4 a5 h5 a6 h6 q k v)
            ∗ owns (c : Thread nD τ) a6 fullShare (leavesRuns c i a2 h2 a3 h3 a4 h4 a5 h5 a6 h6 q k v)) -∗ K ⟨⟩))
      ⊢ wp frame (wpE (defs₀ (F := F)) Variants.none c none) E (cc0_sb_fwd i a2 h2 a3 h3 a4 h4 a5 h5 a6 h6) K := by
  iintro ⟨H2, H3, H4, H5, H6, Hk⟩
  iapply ((body c i a2 h2 a3 h3 a4 h4 a5 h5 a6 h6 q k v).2.2 E K)
  isplitl [H2]; · iexact H2
  isplitl [H3]; · iexact H3
  isplitl [H4]; · iexact H4
  isplitl [H5]; · iexact H5
  isplitl [H6]; · iexact H6
  iintro ⟨H2, H3, H4, ⟨%f5, H5⟩, ⟨%f6, H6⟩⟩
  iapply Hk
  isplitl [H2]; · iexact H2
  isplitl [H3]; · iexact H3
  isplitl [H4]; · iexact H4
  isplitl [H5]
  · unfold owns
    iexists _; isplitr
    swap; · iexact H5
    ipureintro
    exact View.read_writes_eq_canon _ _ _ (fills_o c i a2 h2 a3 h3 a4 h4 a5 h5 a6 h6 q k v)
  unfold owns
  iexists _; isplitr
  swap; · iexact H6
  ipureintro
  exact View.read_writes_eq_canon _ _ _ (fills_runs c i a2 h2 a3 h3 a4 h4 a5 h5 a6 h6 q k v)

end Kernel

/-! ## The launch over the grid -/

variable (m : (ℓ : Loc nD τ sig) → Buf (Elt F) ℓ) (ρ : Dev nD → PrngReg)

/-- What grid point `t` leaves in the first output block. -/
def pointO (c : Dev nD) (t : Fin cfg0.N) : Vec F S512x128 .bf16 :=
  leavesO c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (iblk m c 0 t) (iblk m c 1 t) (iblk m c 2 t)

/-- What grid point `t` leaves in the second output block. -/
def pointRuns (c : Dev nD) (t : Fin cfg0.N) : Vec F S1x1x128x512 .f32 :=
  leavesRuns c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (iblk m c 0 t) (iblk m c 1 t) (iblk m c 2 t)

/-- What each block holds after each grid point; nothing is carried from one point to the next. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pointO m c t
    | ⟨4, _⟩ => pointRuns m c t
  Φ _ := Pipeline.ΦA spec0 c
  q w := Pipeline.shareOf spec0 w
  owed _ := 0

theorem starts (c : Dev nD) (w : Fin cfg0.W) : (dats m 0 c).A w = V m c (Pipeline.arrRef spec0 w) := by dsimp only [dats]
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = pointO m c t := by dsimp only [dats]
theorem after_runs (c : Dev nD) (t : Fin cfg0.N) : (dats m 0 c).after 4 t = pointRuns m c t := by dsimp only [dats]

/-- The body at grid point `t` on what the pipeline hands it. -/
theorem sound_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ => iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t))) := by
  unfold bodyAt0
  simp only [fun d => before0_0_of m (dats m 0 c) (starts m c 0) (after_q m c) t d,
    fun d => before0_1_of m (dats m 0 c) (starts m c 1) (after_k m c) t d,
    fun d => before0_2_of m (dats m 0 c) (starts m c 2) (after_v m c) t d]
  rw [show (dats m 0 c).Φ t.succ = (dats m 0 c).Φ t.castSucc from rfl,
    show (dats m 0 c).owesAt () t.succ = (dats m 0 c).owesAt () t.castSucc from rfl, after_q, after_k, after_v, after_o, after_runs]
  iintro ⟨HΦ, Ho, ⟨%d0, H0⟩, ⟨%d1, H1⟩, ⟨%d2, H2⟩, ⟨%d3, H3⟩, ⟨%d4, H4⟩⟩
  iapply (sound c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launched procedure at grid point `t` is the body there. -/
theorem row (t : Fin cfg0.N) : defs₀ (F := F) .tc cfg0.body (cfg0.bodyArgs t (cfg0.slots t)) = bodyAt0 t := by
  unfold defs₀; rw [Defs.onTc_tc]

/-- Every grid point does what `dats` says. -/
theorem obliged (c : Dev nD) : BodyObligation (dats (F := F) m 0 c) (defs₀ (F := F)) Variants.none () Set.univ := fun t => by
  rw [bigSep_W0, bigSep_W0, row]
  exact triple_restated (sound_at m c t) rfl .rfl fun _ => .rfl

set_option backward.isDefEq.respectTransparency.types false in
set_option maxHeartbeats 800000 in
/-- The launch: every array ends as `dats` says, every other buffer as it was, every counter at zero. -/
theorem launched : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obliged m c).loose) (hq := fun _ _ _ => rfl)
    (howed := fun _ _ => rfl) (V := V m) (hmain := hmain m Variants.none) (hA := starts m) (hΦ := fun _ _ => rfl)

/-- The argument ends unchanged and every counter at zero. -/
theorem unchanged : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  θ_run_and (frame_of m ρ (dats m) (starts m) ((θ_run defs _ _).mono (fun _ h => h.1) (launched m ρ)))
    ((θ_run defs _ _).mono (fun _ h => h.2) (launched m ρ))

end SbIdeal

end
-- ==== Proof.SbTile.lean ====
/-
  One tile of 512 queries and 512 keys of the forward attention kernel: its vector operations on arrays of finite
  numbers. The values may be anything.
-/
module

public import proofs.«01_k».proof.Proof.Gen.KernelSbIdeal.Skeleton
public import proofs.«01_k».proof.Proof.Tile

@[expose] public section

set_option maxRecDepth 16384

noncomputable section

namespace SbVal

open Idealize.ShloMosaic Cert.KernelSbIdeal Cert.KernelSbIdeal.Gen Stick

variable {f q k : ℕ → ℕ → ℝ} {run : ℕ → ℝ}

/-- The entries of `x` are the extended reals `V r c`. -/
def IsV {n m : ℕ} {φ : FTy} (x : FVec Ideal (⟨2, ![n, m]⟩ : Shape) φ) (V : ℕ → ℕ → EReal) : Prop :=
  ∀ (r : Fin n) (c : Fin m), x (ix2 r c) = V r c

/-- A product of weights, which are finite, with values, which may be anything. -/
theorem mulW {x : FVec Ideal S512x512 .bf16} {y : FVec Ideal S512x128 .bf16} {V : ℕ → ℕ → EReal} (hx : Is2 x f) (hy : IsV y V) :
    IsV (matmul dot_S512x512_S512x128_S512x128_1_0_0_1_n_n none x y (constant (F := Ideal) S512x128 .f32 0x00000000#32))
      (fun r c => ∑ i ∈ Finset.range 512, ((f r i : ℝ) : EReal) * V i c) := by
  intro r c
  pointwise [dot_S512x512_S512x128_S512x128_1_0_0_1_n_n]
  rw [Finset.sum_range]
  exact Finset.sum_congr rfl fun k _ => by rw [hx r k, hy k c]

/-- A row's sums of the groups of columns right of a group, added to a column group by group. -/
def col1 (c : FVec Ideal S512x1 .f32) (l : FVec Ideal S512x512 .f32) : FVec Ideal S512x1 .f32 :=
  addf c (rowSum (extractStridedSlice S512x128 ![0, 384] l slices_S512x512_o0_384_S512x128))
def col2 (c : FVec Ideal S512x1 .f32) (l : FVec Ideal S512x512 .f32) : FVec Ideal S512x1 .f32 :=
  addf (col1 c l) (rowSum (extractStridedSlice S512x128 ![0, 256] l slices_S512x512_o0_256_S512x128))
def col3 (c : FVec Ideal S512x1 .f32) (l : FVec Ideal S512x512 .f32) : FVec Ideal S512x1 .f32 :=
  addf (col2 c l) (rowSum (extractStridedSlice S512x128 ![0, 128] l slices_S512x512_o0_128_S512x128))
def col4 (c : FVec Ideal S512x1 .f32) (l : FVec Ideal S512x512 .f32) : FVec Ideal S512x1 .f32 :=
  addf (col3 c l) (rowSum (extractStridedSlice S512x128 ![0, 0] l slices_S512x512_o0_0_S512x128))

/-- The sums inside a group of 128 columns, with the column added. -/
def group (t : FVec Ideal S128x128 .bf16) (a b : FVec Ideal S512x128 .bf16) (c : FVec Ideal S512x1 .f32) : FVec Ideal S512x128 .f32 :=
  addf (triSum t a b) (broadcastTo S512x128 c broadcasts_S512x1_S512x128)

/-- The sums to the right of each column of a tile. -/
def rightRun (t : FVec Ideal S128x128 .bf16) (c : FVec Ideal S512x1 .f32) (l : FVec Ideal S512x512 .f32)
    (hi lo : FVec Ideal S512x512 .bf16) : FVec Ideal S512x512 .f32 :=
  concatenate S512x512 1
    [⟨S512x128, group t (extractStridedSlice S512x128 ![0, 0] hi slices_S512x512_o0_0_S512x128)
      (extractStridedSlice S512x128 ![0, 0] lo slices_S512x512_o0_0_S512x128) (col3 c l)⟩,
     ⟨S512x128, group t (extractStridedSlice S512x128 ![0, 128] hi slices_S512x512_o0_128_S512x128)
      (extractStridedSlice S512x128 ![0, 128] lo slices_S512x512_o0_128_S512x128) (col2 c l)⟩,
     ⟨S512x128, group t (extractStridedSlice S512x128 ![0, 256] hi slices_S512x512_o0_256_S512x128)
      (extractStridedSlice S512x128 ![0, 256] lo slices_S512x512_o0_256_S512x128) (col1 c l)⟩,
     ⟨S512x128, group t (extractStridedSlice S512x128 ![0, 384] hi slices_S512x512_o0_384_S512x128)
      (extractStridedSlice S512x128 ![0, 384] lo slices_S512x512_o0_384_S512x128) c⟩]
    concatenates_S512x128_S512x128_S512x128_S512x128_S512x512_d1

section Sums

variable {t : FVec Ideal S128x128 .bf16} {c : FVec Ideal S512x1 .f32} {l : FVec Ideal S512x512 .f32} {hi lo : FVec Ideal S512x512 .bf16}

theorem is_col1 (hc : Is2 c (fun r _ => run r)) (hl : Is2 l f) : Is2 (col1 c l) (fun r _ => run r + ∑ k ∈ Finset.Ico 384 512, f r k) :=
  (hc.add (is_rowSum (hl.cols 384 slices_S512x512_o0_384_S512x128))).congr fun r _ _ _ => by rw [all_terms (f r) 384]

theorem is_col2 (hc : Is2 c (fun r _ => run r)) (hl : Is2 l f) : Is2 (col2 c l) (fun r _ => run r + ∑ k ∈ Finset.Ico 256 512, f r k) :=
  ((is_col1 hc hl).add (is_rowSum (hl.cols 256 slices_S512x512_o0_256_S512x128))).congr fun r _ _ _ => by
    rw [all_terms (f r) 256, ← Finset.sum_Ico_consecutive (f r) (show 256 ≤ 384 by omega) (show 384 ≤ 512 by omega)]
    ring

theorem is_col3 (hc : Is2 c (fun r _ => run r)) (hl : Is2 l f) : Is2 (col3 c l) (fun r _ => run r + ∑ k ∈ Finset.Ico 128 512, f r k) :=
  ((is_col2 hc hl).add (is_rowSum (hl.cols 128 slices_S512x512_o0_128_S512x128))).congr fun r _ _ _ => by
    rw [all_terms (f r) 128, ← Finset.sum_Ico_consecutive (f r) (show 128 ≤ 256 by omega) (show 256 ≤ 512 by omega)]
    ring

theorem is_col4 (hc : Is2 c (fun r _ => run r)) (hl : Is2 l f) : Is2 (col4 c l) (fun r _ => run r + ∑ k ∈ Finset.Ico 0 512, f r k) :=
  ((is_col3 hc hl).add (is_rowSum (hl.cols 0 slices_S512x512_o0_0_S512x128))).congr fun r _ _ _ => by
    rw [all_terms (f r) 0, ← Finset.sum_Ico_consecutive (f r) (show 0 ≤ 128 by omega) (show 128 ≤ 512 by omega)]
    ring

/-- What the right-hand sums of a tile are: the sum over the columns to the right and what is carried in. -/
theorem is_rightRun (ht : Is2 t (fun r c => if c < r then 1 else 0)) (hc : Is2 c (fun r _ => run r)) (hl : Is2 l f) (hhi : Is2 hi f)
    (hlo : Is2 lo (fun _ _ => 0)) : Is2 (rightRun t c l hi lo) (fun r c => ∑ k ∈ Finset.Ico (c + 1) 512, f r k + run r) := by
  have tri (o : ℕ) (h : S512x512.Slices ![0, o] S512x128) :
      Is2 (triSum t (extractStridedSlice S512x128 ![0, o] hi h) (extractStridedSlice S512x128 ![0, o] lo h))
        (fun r c => ∑ k ∈ Finset.Ico (o + c + 1) (o + 128), f r k) :=
    (is_triSum ht (hhi.cols o h) (hlo.cols o h)).congr fun r c _ hc => right_terms (f r) o c hc
  refine Is2.beside (((tri 0 _).add ((is_col3 hc hl).spread broadcasts_S512x1_S512x128)).congr ?_)
    (((tri 128 _).add ((is_col2 hc hl).spread broadcasts_S512x1_S512x128)).congr ?_)
    (((tri 256 _).add ((is_col1 hc hl).spread broadcasts_S512x1_S512x128)).congr ?_)
    (((tri 384 _).add (hc.spread broadcasts_S512x1_S512x128)).congr ?_) concatenates_S512x128_S512x128_S512x128_S512x128_S512x512_d1
  all_goals
    intro r c hr hc
    try simp only [Nat.zero_add, Nat.reduceAdd]
  · rw [← Finset.sum_Ico_consecutive (f r) (show c + 1 ≤ 128 by omega) (show 128 ≤ 512 by omega)]
    ring
  · rw [← Finset.sum_Ico_consecutive (f r) (show 128 + c + 1 ≤ 256 by omega) (show 256 ≤ 512 by omega)]
    ring
  · rw [← Finset.sum_Ico_consecutive (f r) (show 256 + c + 1 ≤ 384 by omega) (show 384 ≤ 512 by omega)]
    ring

end Sums

/-! ## The tile's payloads -/

theorem is_pay33 {x : FVec Ideal S1x512x128 .bf16} (hx : Is3 x (fun _ => f)) : Is2 (k0_pay33 x) f := is_slab hx _

theorem is_tri : Is2 (k0_pay34 (F := Ideal)) (fun r c => if c < r then 1 else 0) := is_right

/-- A block of values. -/
theorem is_pay19 {x : FVec Ideal S1x512x128 .bf16} {V : ℕ → ℕ → EReal} (hx : ∀ (a : Fin 1) (r : Fin 512) (d : Fin 128), x (ix3 a r d) = V r d) :
    IsV (k0_pay19 x) V := by
  intro r c
  unfold k0_pay19
  pointwise
  exact hx _ _ _

section Off
variable {x : FVec Ideal S512x128 .bf16} {y z : FVec Ideal S1x512x128 .bf16} {c : FVec Ideal S512x1 .f32}

theorem is_pay9 (hx : Is2 x q) (hy : Is3 y (fun _ => k)) : Is2 (k0_pay9 x y) (fun r c => lsig (score q k r c)) := Stick.is_pay9 hx hy
theorem is_pay10 (hx : Is2 x q) (hy : Is3 y (fun _ => k)) : Is2 (k0_pay10 x y) (fun r c => lneg (score q k r c)) := Stick.is_pay10 hx hy

/-- The weights of a tile left of the diagonal. -/
theorem is_pay18 (hx : Is2 x q) (hy : Is3 y (fun _ => k)) (hc : Is2 c (fun r _ => run r)) :
    Is2 (k0_pay18 k0_pay34 c (k0_pay9 x y) (k0_pay10 x y) (k0_pay11 x y) (k0_pay12 x y) (k0_pay13 x k0_pay34 c y)) (wts q k run) := by
  have hl := is_pay10 hx hy
  have hhi : Is2 (k0_pay11 x y) _ := hl.trunc bitsLt_bf16_f32
  have hlo : Is2 (k0_pay12 x y) (fun _ _ => 0) := by
    have h := (hl.sub (hhi.ext bitsLt_bf16_f32)).trunc bitsLt_bf16_f32
    rw [zeros fun _ _ => rfl] at h
    exact h
  exact (((is_pay9 hx hy).add (is_rightRun is_tri hc hl hhi hlo)).exp).trunc bitsLt_bf16_f32

/-- What is carried to the next tile. -/
theorem is_pay17 (hx : Is2 x q) (hy : Is3 y (fun _ => k)) (hc : Is2 c (fun r _ => run r)) :
    Is2 (k0_pay17 c (k0_pay10 x y)) (fun r _ => run r + ∑ j ∈ Finset.Ico 0 512, lneg (score q k r j)) := is_col4 hc (is_pay10 hx hy)

/-- What a tile left of the diagonal adds to the output. -/
theorem is_pay4 {a : FVec Ideal S512x128 .f32} {w : FVec Ideal S512x512 .bf16} {A V : ℕ → ℕ → EReal} (ha : IsV a A) (hw : Is2 w f)
    (hz : ∀ (a : Fin 1) (r : Fin 512) (d : Fin 128), z (ix3 a r d) = V r d) :
    IsV (k0_pay4 a w (k0_pay19 z) (constant (F := Ideal) S512x128 .f32 0x00000000#32))
      (fun r d => A r d + ∑ i ∈ Finset.range 512, ((f r i : ℝ) : EReal) * V i d) := by
  intro r d
  exact congrArg₂ (· + ·) (ha r d) (mulW hw (is_pay19 hz) r d)

end Off

section On
variable {x y z : FVec Ideal S1x512x128 .bf16}

/-- The word of zero. -/
abbrev z0 : Ideal .f32 := Scalar.ofBits .f32 0x00000000#32

/-- The two logarithms of the scores of the tile on the diagonal, the second one masked. -/
theorem is_pay41 (hx : Is3 x (fun _ => q)) (hy : Is3 y (fun _ => k)) :
    Is2 (k0_pay41 (k0_pay39 x y) (k0_pay40 x y) z0) (fun r c => lsig (score q k r c)) := Stick.is_pay9 (is_pay33 hx) hy

theorem is_pay43 (hx : Is3 x (fun _ => q)) (hy : Is3 y (fun _ => k)) :
    Is2 (k0_pay43 (k0_pay39 x y) (k0_pay40 x y) z0) (fun r c => if c < r then lneg (score q k r c) else 0) :=
  is_masked (Stick.is_pay10 (is_pay33 hx) hy)

theorem zero36 : IsV (k0_pay36 : FVec Ideal S512x128 .f32) (fun _ _ => 0) := fun _ _ => lit_zero
theorem zero37 : Is2 (k0_pay37 : FVec Ideal S512x1 .f32) (fun _ _ => 0) := Is2.splat lit_zero

/-- What the tile on the diagonal carries to the next tile. -/
theorem is_pay2 (hx : Is3 x (fun _ => q)) (hy : Is3 y (fun _ => k)) :
    Is2 (k0_pay2 (k0_pay43 (k0_pay39 x y) (k0_pay40 x y) z0) (k0_pay49 k0_pay37 (k0_pay39 x y) (k0_pay40 x y) z0))
      (fun r _ => ∑ j ∈ Finset.Ico 0 512, if j < r then lneg (score q k r j) else 0) :=
  Is2.congr (is_col4 (run := fun _ => 0) zero37 (is_pay43 hx hy)) fun _ _ _ _ => zero_add _

/-- What the tile on the diagonal contributes to the output. -/
theorem is_pay3 {V : ℕ → ℕ → EReal} (hx : Is3 x (fun _ => q)) (hy : Is3 y (fun _ => k))
    (hz : ∀ (a : Fin 1) (r : Fin 512) (d : Fin 128), z (ix3 a r d) = V r d) :
    IsV (k0_pay3 k0_pay34 k0_pay36 (k0_pay41 (k0_pay39 x y) (k0_pay40 x y) z0) k0_pay42 (k0_pay43 (k0_pay39 x y) (k0_pay40 x y) z0)
        (k0_pay44 (k0_pay39 x y) (k0_pay40 x y) z0) (k0_pay45 (k0_pay39 x y) (k0_pay40 x y) z0)
        (k0_pay46 k0_pay34 k0_pay37 (k0_pay39 x y) (k0_pay40 x y) z0) (k0_pay48 k0_pay34 k0_pay37 (k0_pay39 x y) (k0_pay40 x y) z0)
        (k0_pay49 k0_pay37 (k0_pay39 x y) (k0_pay40 x y) z0) (k0_pay50 k0_pay34 (k0_pay39 x y) (k0_pay40 x y) z0) z)
      (fun r d => ∑ i ∈ Finset.range 512, ((wtsD q k (fun _ => 0) r i : ℝ) : EReal) * V i d) := by
  have hl := is_pay43 hx hy
  have hhi : Is2 (k0_pay44 (k0_pay39 x y) (k0_pay40 x y) z0) _ := hl.trunc bitsLt_bf16_f32
  have hlo : Is2 (k0_pay45 (k0_pay39 x y) (k0_pay40 x y) z0) (fun _ _ => 0) := by
    have h := (hl.sub (hhi.ext bitsLt_bf16_f32)).trunc bitsLt_bf16_f32
    rw [zeros fun _ _ => rfl] at h
    exact h
  have hw := (is_masked ((is_pay41 hx hy).add (is_rightRun (run := fun _ => 0) is_tri zero37 hl hhi hlo)).exp).trunc bitsLt_bf16_f32
  intro r d
  have h := congrArg₂ (· + ·) (zero36 r d) (mulW hw (is_pay19 hz) r d)
  exact h.trans (zero_add _)

end On

/-- A column laid out as eight equal rows. -/
theorem is_pay7 {c : FVec Ideal S512x1 .f32} (hc : Is2 c (fun r _ => run r)) (j : Fin 8) (r : Fin 512) :
    k0_pay7 c (ix4 0 0 j r) = ((run r : ℝ) : EReal) := by
  unfold k0_pay7
  pointwise
  exact hc r 0

theorem is_pay38 (j : Fin 8) (r : Fin 512) : (k0_pay38 : FVec Ideal S1x1x8x512 .f32) (ix4 0 0 j r) = ((0 : ℝ) : EReal) :=
  is_pay7 (run := fun _ => 0) zero37 j r

theorem is_pay35 (j : Fin 128) (r : Fin 512) : (k0_pay35 : FVec Ideal S1x1x128x512 .f32) (ix4 0 0 j r) = ((0 : ℝ) : EReal) := by
  unfold k0_pay35
  pointwise
  exact EReal.coe_zero.symm

end SbVal
-- ==== Proof.SbLoop.lean ====
/-
  The loop of the forward attention kernel over the tiles left of the diagonal: what it hands on and the slabs it writes.
-/
module

public import proofs.«01_k».proof.Proof.Gen.KernelSbIdeal.Loops
public import proofs.«01_k».proof.Proof.SbTile
public import proofs.«01_k».proof.Proof.Loop

@[expose] public section

set_option maxRecDepth 16384

noncomputable section

namespace SbVal

open Idealize.ShloMosaic Cert.KernelSbIdeal Cert.KernelSbIdeal.Gen
open Stick

/-! ## Where the loop loads and stores -/

theorem trips_left (i : grid0.Coords) : (k0_t1_loop i).trips = (i 1).val := by
  have h : ∀ n : Fin 16, Scf.trips (0#32) (Scalar.addi 0#32 (Scalar.muli (Scalar.divsi (Scalar.subi (BitVec.ofNat 32 n.val) 0#32) 1#32) 1#32)) 1#32
      = n.val := by decide
  exact h (i 1)

theorem trips_rest (i : grid0.Coords) : (k0_t2_loop i).trips = 0 := by
  have h : ∀ n : Fin 16, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide
  exact h (i 1)

theorem trip_lt {i : grid0.Coords} (k : Fin (k0_t1_loop i).trips) : k.val < (i 1).val := lt_of_lt_of_eq k.isLt (trips_left i)

theorem back512 : ∀ n k : Fin 16, k.val < n.val →
    (Scalar.indexCast (Scalar.muli (Scalar.subi (Scalar.subi (BitVec.ofNat 32 n.val) 1#32) (Scf.iv 0#32 1#32 k.val)) 512#32)).toNat
      = 512 * (n.val - 1 - k.val) := by decide
theorem back8 : ∀ n k : Fin 16, k.val < n.val →
    (Scalar.indexCast (Scalar.muli (Scalar.subi (Scalar.subi (BitVec.ofNat 32 n.val) 1#32) (Scf.iv 0#32 1#32 k.val)) 8#32)).toNat
      = 8 * (n.val - 1 - k.val) := by decide

theorem off1 (i : grid0.Coords) : k0_off1 i = ![0, 0, 8 * (i 1).val, 0] := by
  unfold k0_off1
  exact congrArg (fun n => ![0, 0, n, 0]) (own8 (i 1))
theorem off2 (i : grid0.Coords) : k0_off2 i = ![0, 512 * (i 1).val, 0] := by
  unfold k0_off2
  exact congrArg (fun n => ![0, n, 0]) (own512 (i 1))
theorem off3 {i : grid0.Coords} (k : Fin (k0_t1_loop i).trips) : k0_off3 i k = ![0, 0, 8 * ((i 1).val - 1 - k.val), 0] := by
  unfold k0_off3
  exact congrArg (fun n => ![0, 0, n, 0]) (back8 (i 1) ⟨k.val, lt_trans (trip_lt k) (i 1).isLt⟩ (trip_lt k))
theorem off4 {i : grid0.Coords} (k : Fin (k0_t1_loop i).trips) : k0_off4 i k = ![0, 512 * ((i 1).val - 1 - k.val), 0] := by
  unfold k0_off4
  exact congrArg (fun n => ![0, n, 0]) (back512 (i 1) ⟨k.val, lt_trans (trip_lt k) (i 1).isLt⟩ (trip_lt k))

/-! ## Loads of 512 rows of values, and a store of eight rows -/

/-- The values of block number `g`. -/
def vlk (V : ℕ → ℕ → EReal) (g r d : ℕ) : EReal := V (512 * g + r) d

section Rows

variable {sig' : RefSig} {κ : Kind} {sp : Space} {g : ℕ}

theorem load_vals (v : View sig' κ sp S1x8192x128 .bf16) (X : v.ty.Contents (Elt Ideal)) {V : ℕ → ℕ → EReal} {off : Fin 3 → ℕ}
    (inb : ∀ a, off a + S1x512x128.size a ≤ S1x8192x128.size a) (ho : off = ![0, 512 * g, 0]) (hg : g < 16)
    (hX : ∀ (s : Fin 8192) (d : Fin 128), (v.read (Elt Ideal) X : FVec Ideal S1x8192x128 .bf16) (ix3 (0 : Fin 1) s d) = V s d)
    (a : Fin 1) (r : Fin 512) (d : Fin 128) :
    (v.readAt (Elt Ideal) (Rect.unit (s := S1x8192x128) off S1x512x128.size inb).toLoadRect X : FVec Ideal S1x512x128 .bf16) (ix3 a r d)
      = vlk V g r d := by
  subst ho
  rw [View.readAt_apply]
  refine Eq.trans (congrArg (v.read (Elt Ideal) X) ?_) (hX (⟨512 * g + r.val, by omega⟩ : Fin 8192) d)
  funext b
  apply Fin.ext
  rw [LoadRect.idx_apply]
  match b with
  | ⟨0, _⟩ => show 0 + 1 * a.val = 0; omega
  | ⟨1, _⟩ => show 512 * g + 1 * r.val = 512 * g + r.val; omega
  | ⟨2, _⟩ => show 0 + 1 * d.val = d.val; omega

/-- Every eight rows of the array are the row `R g`. -/
def Slabs (x : FVec Ideal S1x1x128x512 .f32) (R : ℕ → ℕ → ℝ) : Prop :=
  ∀ (j : Fin 128) (r : Fin 512), x (ix4 0 0 j r) = ((R (j.val / 8) r : ℝ) : EReal)

/-- Storing eight rows changes these and no others. -/
theorem store_slab (v : View sig' κ sp S1x1x128x512 .f32) (X : v.ty.Contents (Elt Ideal)) {off : Fin 4 → ℕ}
    (inb : ∀ a, off a + S1x1x8x512.size a ≤ S1x1x128x512.size a) (ho : off = ![0, 0, 8 * g, 0]) {p : FVec Ideal S1x1x8x512 .f32}
    {R : ℕ → ℕ → ℝ} {T : ℕ → ℝ} (hX : Slabs (v.read (Elt Ideal) X) R) (hp : ∀ (j : Fin 8) (r : Fin 512), p (ix4 0 0 j r) = ((T r : ℝ) : EReal)) :
    Slabs (v.read (Elt Ideal) (v.writes (Elt Ideal) X [⟨Rect.unit (s := S1x1x128x512) off S1x1x8x512.size inb, p⟩]))
      (fun g' r => if g' = g then T r else R g' r) := by
  intro j r
  by_cases h : j.val / 8 = g
  · have e := View.read_writes_cons_unit_of_mem (Val := Elt Ideal) v X inb p [] (ix4 0 0 j r) (ix4 0 0 (⟨j.val % 8, by omega⟩ : Fin 8) r) ho
      (by
        intro a
        match a with
        | ⟨0, _⟩ => rfl
        | ⟨1, _⟩ => rfl
        | ⟨2, _⟩ => show j.val = 8 * g + j.val % 8; omega
        | ⟨3, _⟩ => show r.val = 0 + r.val; omega)
    rw [e]
    show _ = (((if j.val / 8 = g then T r else R (j.val / 8) r : ℝ)) : EReal)
    rw [if_pos h]
    exact hp _ r
  · have e := View.read_writes_cons_unit_of_not_mem (Val := Elt Ideal) v X inb p [] (ix4 0 0 j r) ho (2 : Fin 4)
      (by show j.val < 8 * g ∨ 8 * g + 8 ≤ j.val; omega)
    rw [e]
    show _ = (((if j.val / 8 = g then T r else R (j.val / 8) r : ℝ)) : EReal)
    rw [if_neg h]
    exact hX j r

end Rows

/-! ## One trip, and all of them -/

section Trip

variable (Q K : ℕ → ℕ → ℝ) (V : ℕ → ℕ → EReal) (i : ℕ)

/-- Of the queries of block `i`: the sums of the logarithms over the keys of its own block and the `n` blocks before it; the
    output from those keys; and the rows of sums written after `n` trips. -/
def runAt (n r : ℕ) : ℝ :=
  (∑ j ∈ Finset.Ico 0 512, if j < r then lneg (score Q (blk K i) r j) else 0)
    + ∑ m ∈ Finset.range n, ∑ j ∈ Finset.Ico 0 512, lneg (score Q (blk K (i - 1 - m)) r j)
def outAt (n r d : ℕ) : EReal :=
  (∑ j ∈ Finset.range 512, ((wtsD Q (blk K i) (fun _ => 0) r j : ℝ) : EReal) * vlk V i j d)
    + ∑ m ∈ Finset.range n, ∑ j ∈ Finset.range 512, ((wts Q (blk K (i - 1 - m)) (runAt Q K i m) r j : ℝ) : EReal) * vlk V (i - 1 - m) j d
def rowsAt (n g r : ℕ) : ℝ := if g < i ∧ i ≤ g + n then runAt Q K i (i - 1 - g) r else 0

theorem rowsAt_succ {n : ℕ} (hn : n < i) (g r : ℕ) :
    (if g = i - 1 - n then runAt Q K i n r else rowsAt Q K i n g r) = rowsAt Q K i (n + 1) g r := by
  unfold rowsAt
  by_cases h : g = i - 1 - n
  · subst h
    rw [if_pos rfl, if_pos (by omega), show i - 1 - (i - 1 - n) = n by omega]
  · rw [if_neg h]
    by_cases h' : g < i ∧ i ≤ g + n
    · rw [if_pos h', if_pos (by omega)]
    · rw [if_neg h', if_neg (by omega)]

end Trip

section Run

variable (𝒱 : Variants) (dev : Dev nD) (bd : Option 𝒱.V) (i : grid0.Coords)
  (a2 : Memref sig .tc .vmem S1x512x128 .bf16) (h2 : a2.IsWhole) (a3 : Memref sig .tc .vmem S1x8192x128 .bf16) (h3 : a3.IsWhole)
  (a4 : Memref sig .tc .vmem S1x8192x128 .bf16) (h4 : a4.IsWhole) (a5 : Memref sig .tc .vmem S512x128 .bf16) (h5 : a5.IsWhole)
  (a6 : Memref sig .tc .vmem S1x1x128x512 .f32) (h6 : a6.IsWhole)
  (v1 : FVec Ideal S512x128 .bf16) (X3 : a3.view.ty.Contents (Elt Ideal)) (X4 : a4.view.ty.Contents (Elt Ideal))
  {Q K : ℕ → ℕ → ℝ} {V : ℕ → ℕ → EReal}

/-- Before trip `n`: what is handed on, and what the second output block holds. -/
def Before (n : ℕ) (Q K : ℕ → ℕ → ℝ) (V : ℕ → ℕ → EReal) (i : ℕ) (acc : FVec Ideal S512x128 .f32 × FVec Ideal S512x1 .f32)
    (x6 : FVec Ideal S1x1x128x512 .f32) : Prop :=
  IsV acc.1 (outAt Q K V i n) ∧ Is2 acc.2 (fun r _ => runAt Q K i n r) ∧ Slabs x6 (rowsAt Q K i n)

theorem trip (k : Fin (k0_t1_loop i).trips) (acc : FVec Ideal S512x128 .f32 × FVec Ideal S512x1 .f32) (f6 : a6.view.ty.Contents (Elt Ideal))
    (hq : Is2 v1 Q) (hk : Is3 (φ := .bf16) (a3.view.read (Elt Ideal) X3) (fun _ => K))
    (hv : ∀ (s : Fin 8192) (d : Fin 128), (a4.view.read (Elt Ideal) X4 : FVec Ideal S1x8192x128 .bf16) (ix3 (0 : Fin 1) s d) = V s d)
    (hb : Before k.val Q K V (i 1).val acc (a6.view.read (Elt Ideal) f6)) :
    Before (k.val + 1) Q K V (i 1).val
      (tripR_k0_t1 (F := Ideal) 𝒱 dev bd i a2 h2 a3 h3 a4 h4 a5 h5 a6 h6 (BitVec.ofNat 32 (i 1).val) v1 k0_pay34 X3 X4 k acc)
      (a6.view.read (Elt Ideal) (a6.view.writes (Elt Ideal) f6
        (tripL_k0_t1 (F := Ideal) 𝒱 dev bd i a2 h2 a3 h3 a4 h4 a5 h5 a6 h6 (BitVec.ofNat 32 (i 1).val) v1 k0_pay34 X3 X4 k acc))) := by
  obtain ⟨hb1, hb2, hb3⟩ := hb
  have hi : (i 1).val < 16 := (i 1).isLt
  have hlt := trip_lt k
  have hg : (i 1).val - 1 - k.val < 16 := by omega
  have hy := load_slab a3.view X3 (k0_off4_inb i k) (off4 k) hg hk
  have hz := load_vals a4.view X4 (k0_off4_inb i k) (off4 k) hg hv
  have hw := is_pay18 hq hy hb2
  have e6 := store_slab a6.view f6 (k0_off3_inb i k) (off3 k) hb3 (is_pay7 hb2)
  unfold tripR_k0_t1 tripL_k0_t1 trip_k0_t1
  refine ⟨?_, ?_, ?_⟩
  · intro r d
    refine (is_pay4 hb1 hw hz r d).trans ?_
    unfold outAt
    rw [Finset.sum_range_succ (fun m => ∑ j ∈ Finset.range 512, ((wts Q (blk K ((i 1).val - 1 - m)) (runAt Q K (i 1).val m) r j : ℝ) : EReal)
      * vlk V ((i 1).val - 1 - m) j d) k.val, ← add_assoc]
  · refine Is2.congr (is_pay17 hq hy hb2) fun r c _ _ => ?_
    unfold runAt
    rw [Finset.sum_range_succ (fun m => ∑ j ∈ Finset.Ico 0 512, lneg (score Q (blk K ((i 1).val - 1 - m)) r j)) k.val, ← add_assoc]
  · intro j r
    exact (e6 j r).trans (congrArg (fun x : ℝ => (x : EReal)) (rowsAt_succ Q K (i 1).val hlt (j.val / 8) r))

/-- The whole loop: before every trip. -/
theorem trips (G6 : a6.view.ty.Contents (Elt Ideal)) (init : FVec Ideal S512x128 .f32 × FVec Ideal S512x1 .f32)
    (hq : Is2 v1 Q) (hk : Is3 (φ := .bf16) (a3.view.read (Elt Ideal) X3) (fun _ => K))
    (hv : ∀ (s : Fin 8192) (d : Fin 128), (a4.view.read (Elt Ideal) X4 : FVec Ideal S1x8192x128 .bf16) (ix3 (0 : Fin 1) s d) = V s d)
    (hb : Before 0 Q K V (i 1).val init (a6.view.read (Elt Ideal) G6)) :
    ∀ n, n ≤ (k0_t1_loop i).trips → Before n Q K V (i 1).val
      (st_k0_t1 (F := Ideal) 𝒱 dev bd i a2 h2 a3 h3 a4 h4 a5 h5 a6 h6 (BitVec.ofNat 32 (i 1).val) v1 k0_pay34 X3 X4 init n).1
      (a6.view.read (Elt Ideal) (a6.view.writes (Elt Ideal) G6
        (st_k0_t1 (F := Ideal) 𝒱 dev bd i a2 h2 a3 h3 a4 h4 a5 h5 a6 h6 (BitVec.ofNat 32 (i 1).val) v1 k0_pay34 X3 X4 init n).2))
  | 0, _ => hb
  | n + 1, hn => by
    have ih := trips G6 init hq hk hv hb n (by omega)
    have h := trip 𝒱 dev bd i a2 h2 a3 h3 a4 h4 a5 h5 a6 h6 v1 X3 X4 ⟨n, hn⟩ _ _ hq hk hv ih
    have e := st_k0_t1_succ (F := Ideal) 𝒱 dev bd i a2 h2 a3 h3 a4 h4 a5 h5 a6 h6 (BitVec.ofNat 32 (i 1).val) v1 k0_pay34 X3 X4 init ⟨n, hn⟩
    rw [show (⟨n, hn⟩ : Fin (k0_t1_loop i).trips).val + 1 = n + 1 from rfl] at e
    rw [e, View.writes_append]
    exact h

end Run

end SbVal

end
-- ==== Proof.SbPoint.lean ====
/-
  What one grid point of the forward attention kernel leaves in its two output blocks.
-/
module

public import proofs.«01_k».proof.Proof.SbBodyIdeal
public import proofs.«01_k».proof.Proof.SbLoop
public import Idealize.ShloMosaic.Lib.WritesUnit

@[expose] public section

set_option maxRecDepth 16384

noncomputable section

namespace SbVal

open Idealize.ShloMosaic Idealize.ShloMosaic.TcCoe Cert.KernelSbIdeal Cert.KernelSbIdeal.Gen Stick

variable (c : Dev nD) (i : grid0.Coords) (a2 : Memref sig .tc .vmem S1x512x128 .bf16) (h2 : a2.IsWhole)
  (a3 : Memref sig .tc .vmem S1x8192x128 .bf16) (h3 : a3.IsWhole) (a4 : Memref sig .tc .vmem S1x8192x128 .bf16) (h4 : a4.IsWhole)
  (a5 : Memref sig .tc .vmem S512x128 .bf16) (h5 : a5.IsWhole) (a6 : Memref sig .tc .vmem S1x1x128x512 .f32) (h6 : a6.IsWhole)
  (q : Vec Ideal S1x512x128 .bf16) (k v : Vec Ideal S1x8192x128 .bf16) {Q K : ℕ → ℕ → ℝ} {V : ℕ → ℕ → EReal}

/-- The loads the body makes before its loops: its queries, and the keys and values of their own block. -/
def ldQ : FVec Ideal S1x512x128 .bf16 :=
  View.readAt (Elt Ideal) a2.view (Rect.unit (s := S1x512x128) ![0, 0, 0] S1x512x128.size inb_S1x512x128_S1x512x128_0_0_0).toLoadRect (h2.unread q)
def ldK : FVec Ideal S1x512x128 .bf16 :=
  View.readAt (Elt Ideal) a3.view (Rect.unit (s := S1x8192x128) (k0_off2 i) S1x512x128.size (k0_off2_inb i)).toLoadRect (h3.unread k)
def ldV : FVec Ideal S1x512x128 .bf16 :=
  View.readAt (Elt Ideal) a4.view (Rect.unit (s := S1x8192x128) (k0_off2 i) S1x512x128.size (k0_off2_inb i)).toLoadRect (h4.unread v)

/-- What the tile on the diagonal hands to the loop. -/
def first : FVec Ideal S512x128 .f32 × FVec Ideal S512x1 .f32 :=
  let s := k0_pay39 (ldQ a2 h2 q) (ldK i a3 h3 k)
  let t := k0_pay40 (ldQ a2 h2 q) (ldK i a3 h3 k)
  (k0_pay3 k0_pay34 k0_pay36 (k0_pay41 s t z0) k0_pay42 (k0_pay43 s t z0) (k0_pay44 s t z0) (k0_pay45 s t z0)
      (k0_pay46 k0_pay34 k0_pay37 s t z0) (k0_pay48 k0_pay34 k0_pay37 s t z0) (k0_pay49 k0_pay37 s t z0) (k0_pay50 k0_pay34 s t z0)
      (ldV i a4 h4 v),
    k0_pay2 (k0_pay43 s t z0) (k0_pay49 k0_pay37 s t z0))

/-- The state after the tiles left of the diagonal. -/
def left (n : ℕ) : (FVec Ideal S512x128 .f32 × FVec Ideal S512x1 .f32) × List (View.Piece (Elt Ideal) S1x1x128x512 .f32) :=
  st_k0_t1 (F := Ideal) Variants.none c none i a2 h2 a3 h3 a4 h4 a5 h5 a6 h6 (BitVec.ofNat 32 (i 1).val) (k0_pay33 (ldQ a2 h2 q)) k0_pay34
    (h3.unread k) (h4.unread v) (first i a2 h2 a3 h3 a4 h4 q k v) n

/-- The two stores before the loop: zeros everywhere, and zeros in the rows of the block's own number. -/
def blank : List (View.Piece (Elt Ideal) S1x1x128x512 .f32) :=
  [⟨Rect.unit (s := S1x1x128x512) (k0_off1 i) S1x1x8x512.size (k0_off1_inb i), (k0_pay38 : FVec Ideal S1x1x8x512 .f32)⟩,
   ⟨Rect.unit (s := S1x1x128x512) ![0, 0, 0, 0] S1x1x128x512.size inb_S1x1x128x512_S1x1x128x512_0_0_0_0, (k0_pay35 : FVec Ideal S1x1x128x512 .f32)⟩]

/-- What the second loop, which has nothing to do, leaves. -/
def rest (acc : FVec Ideal S512x128 .f32 × FVec Ideal S512x1 .f32) :
    (FVec Ideal S512x128 .f32 × FVec Ideal S512x1 .f32) × List (View.Piece (Elt Ideal) S1x1x128x512 .f32) :=
  st_k0_t2 (F := Ideal) Variants.none c none i a2 h2 a3 h3 a4 h4 a5 h5 a6 h6 (BitVec.ofNat 32 (i 1).val) (k0_pay33 (ldQ a2 h2 q)) k0_pay34
    (k0_t2_loop i).lb (h3.unread k) (h4.unread v) acc (k0_t2_loop i).trips

theorem rest_eq (acc : FVec Ideal S512x128 .f32 × FVec Ideal S512x1 .f32) :
    rest c i a2 h2 a3 h3 a4 h4 a5 h5 a6 h6 q k v acc = (acc, []) := by
  unfold rest
  rw [trips_rest]
  rfl

/-- The stores into the first output block: one, of what the loop hands on. -/
theorem stores_o : (SbIdeal.body (F := Ideal) c i a2 h2 a3 h3 a4 h4 a5 h5 a6 h6 q k v).1
    = [⟨Rect.unit (s := S512x128) ![0, 0] S512x128.size inb_S512x128_S512x128_0_0,
        (k0_pay6 (left c i a2 h2 a3 h3 a4 h4 a5 h5 a6 h6 q k v (k0_t1_loop i).trips).1.1 : FVec Ideal S512x128 .bf16)⟩] := by
  have e : (SbIdeal.body (F := Ideal) c i a2 h2 a3 h3 a4 h4 a5 h5 a6 h6 q k v).1
    = [⟨Rect.unit (s := S512x128) ![0, 0] S512x128.size inb_S512x128_S512x128_0_0,
        (k0_pay6 (rest c i a2 h2 a3 h3 a4 h4 a5 h5 a6 h6 q k v (left c i a2 h2 a3 h3 a4 h4 a5 h5 a6 h6 q k v (k0_t1_loop i).trips).1).1.1
          : FVec Ideal S512x128 .bf16)⟩] := by
    unfold SbIdeal.body; rfl
  rw [e, rest_eq]

/-- The stores into the second output block: the loop's, after the two before it. -/
theorem stores_runs : (SbIdeal.body (F := Ideal) c i a2 h2 a3 h3 a4 h4 a5 h5 a6 h6 q k v).2.1
    = (left c i a2 h2 a3 h3 a4 h4 a5 h5 a6 h6 q k v (k0_t1_loop i).trips).2 ++ blank i := by
  have e : (SbIdeal.body (F := Ideal) c i a2 h2 a3 h3 a4 h4 a5 h5 a6 h6 q k v).2.1
    = (rest c i a2 h2 a3 h3 a4 h4 a5 h5 a6 h6 q k v (left c i a2 h2 a3 h3 a4 h4 a5 h5 a6 h6 q k v (k0_t1_loop i).trips).1).2
      ++ ((left c i a2 h2 a3 h3 a4 h4 a5 h5 a6 h6 q k v (k0_t1_loop i).trips).2 ++ blank i) := by
    unfold SbIdeal.body; rfl
  rw [e, rest_eq, List.nil_append]

variable {q k v}

/-- What the blocks of queries and keys hold, and the block of values. -/
structure Holds (Q K : ℕ → ℕ → ℝ) (V : ℕ → ℕ → EReal) (q : Vec Ideal S1x512x128 .bf16) (k v : Vec Ideal S1x8192x128 .bf16) : Prop where
  q : Is3 (φ := .bf16) q (fun _ => Q)
  k : Is3 (φ := .bf16) k (fun _ => K)
  v : ∀ (s : Fin 8192) (d : Fin 128), (v : FVec Ideal S1x8192x128 .bf16) (ix3 (0 : Fin 1) s d) = V s d

theorem is_ldQ (hq : Is3 (φ := .bf16) q (fun _ => Q)) : Is3 (ldQ a2 h2 q) (fun _ => Q) := by
  intro a r d
  unfold ldQ
  rw [View.readAt_apply, h2.read_unread]
  refine Eq.trans (congrArg q ?_) (hq a r d)
  funext b
  apply Fin.ext
  rw [LoadRect.idx_apply]
  match b with
  | ⟨0, _⟩ => show 0 + 1 * a.val = a.val; omega
  | ⟨1, _⟩ => show 0 + 1 * r.val = r.val; omega
  | ⟨2, _⟩ => show 0 + 1 * d.val = d.val; omega

/-- The second output block before the loop: zero everywhere. -/
theorem blank_zero (f : a6.view.ty.Contents (Elt Ideal)) :
    Slabs (a6.view.read (Elt Ideal) (a6.view.writes (Elt Ideal) f (blank i))) (rowsAt Q K (i 1).val 0) := by
  have h0 : Slabs (a6.view.read (Elt Ideal) (a6.view.writes (Elt Ideal) f
      [⟨Rect.unit (s := S1x1x128x512) ![0, 0, 0, 0] S1x1x128x512.size inb_S1x1x128x512_S1x1x128x512_0_0_0_0, (k0_pay35 : FVec Ideal S1x1x128x512 .f32)⟩]))
      (fun _ _ => 0) := by
    intro j r
    have e := View.read_writes_cons_unit_of_mem (Val := Elt Ideal) a6.view f inb_S1x1x128x512_S1x1x128x512_0_0_0_0
      (k0_pay35 : FVec Ideal S1x1x128x512 .f32) [] (ix4 0 0 j r) (ix4 0 0 j r) rfl
      (by
        intro a
        match a with
        | ⟨0, _⟩ => rfl
        | ⟨1, _⟩ => rfl
        | ⟨2, _⟩ => show j.val = 0 + j.val; omega
        | ⟨3, _⟩ => show r.val = 0 + r.val; omega)
    exact e.trans (is_pay35 j r)
  have h1 := store_slab a6.view (a6.view.writes (Elt Ideal) f
      [⟨Rect.unit (s := S1x1x128x512) ![0, 0, 0, 0] S1x1x128x512.size inb_S1x1x128x512_S1x1x128x512_0_0_0_0, (k0_pay35 : FVec Ideal S1x1x128x512 .f32)⟩])
    (k0_off1_inb i) (off1 i) (T := fun _ => 0) h0 is_pay38
  rw [← View.writes_append] at h1
  intro j r
  refine (h1 j r).trans (congrArg (fun x : ℝ => (x : EReal)) ?_)
  unfold rowsAt
  rw [if_neg (by omega)]
  exact ite_self _

/-- What the loop starts from. -/
theorem starts (hH : Holds Q K V q k v) (f : a6.view.ty.Contents (Elt Ideal)) :
    Before 0 Q K V (i 1).val (first i a2 h2 a3 h3 a4 h4 q k v) (a6.view.read (Elt Ideal) (a6.view.writes (Elt Ideal) f (blank i))) := by
  have hi : (i 1).val < 16 := (i 1).isLt
  have hx := is_ldQ a2 h2 hH.q
  have hy : Is3 (ldK i a3 h3 k) (fun _ => blk K (i 1).val) :=
    load_slab a3.view (h3.unread k) (k0_off2_inb i) (off2 i) hi (by rw [h3.read_unread]; exact hH.k)
  have hz : ∀ (a : Fin 1) (r : Fin 512) (d : Fin 128), ldV i a4 h4 v (ix3 a r d) = vlk V (i 1).val r d :=
    load_vals a4.view (h4.unread v) (k0_off2_inb i) (off2 i) hi (by rw [h4.read_unread]; exact hH.v)
  refine ⟨?_, ?_, blank_zero i a6 f⟩
  · intro r d
    refine (is_pay3 hx hy hz r d).trans ?_
    unfold outAt
    rw [Finset.range_zero, Finset.sum_empty, add_zero]
  · refine Is2.congr (is_pay2 hx hy) fun r _ _ _ => ?_
    unfold runAt
    rw [Finset.range_zero, Finset.sum_empty, add_zero]

/-- After all tiles left of the diagonal. -/
theorem ends (hH : Holds Q K V q k v) (f : a6.view.ty.Contents (Elt Ideal)) :
    Before (i 1).val Q K V (i 1).val (left c i a2 h2 a3 h3 a4 h4 a5 h5 a6 h6 q k v (k0_t1_loop i).trips).1
      (a6.view.read (Elt Ideal) (a6.view.writes (Elt Ideal) f
        ((left c i a2 h2 a3 h3 a4 h4 a5 h5 a6 h6 q k v (k0_t1_loop i).trips).2 ++ blank i))) := by
  have h := trips Variants.none c none i a2 h2 a3 h3 a4 h4 a5 h5 a6 h6 (k0_pay33 (ldQ a2 h2 q)) (h3.unread k) (h4.unread v)
    (a6.view.writes (Elt Ideal) f (blank i)) (first i a2 h2 a3 h3 a4 h4 q k v) (is_pay33 (is_ldQ a2 h2 hH.q))
    (by rw [h3.read_unread]; exact hH.k) (by rw [h4.read_unread]; exact hH.v) (starts i a2 h2 a3 h3 a4 h4 a6 hH f)
    (k0_t1_loop i).trips le_rfl
  rw [View.writes_append]
  rw [trips_left] at h ⊢
  exact h

/-- What a grid point leaves in the first output block: the outputs of its queries. -/
theorem is_leavesO (hH : Holds Q K V q k v) :
    IsV (φ := .bf16) (SbIdeal.leavesO (F := Ideal) c i a2 h2 a3 h3 a4 h4 a5 h5 a6 h6 q k v : FVec Ideal S512x128 .bf16) (outAt Q K V (i 1).val (i 1).val) := by
  intro r d
  unfold SbIdeal.leavesO
  rw [← View.read_writes_eq_canon a5.view (h5.unread fun _ => (0 : EReal)) _ (SbIdeal.fills_o c i a2 h2 a3 h3 a4 h4 a5 h5 a6 h6 q k v), stores_o]
  have e := View.read_writes_cons_unit_of_mem (Val := Elt Ideal) a5.view (h5.unread fun _ => (0 : EReal)) inb_S512x128_S512x128_0_0
      (k0_pay6 (left c i a2 h2 a3 h3 a4 h4 a5 h5 a6 h6 q k v (k0_t1_loop i).trips).1.1 : FVec Ideal S512x128 .bf16) [] (ix2 r d) (ix2 r d) rfl
      (by
        intro a
        match a with
        | ⟨0, _⟩ => show r.val = 0 + r.val; omega
        | ⟨1, _⟩ => show d.val = 0 + d.val; omega)
  exact e.trans ((ends c i a2 h2 a3 h3 a4 h4 a5 h5 a6 h6 hH (h6.unread fun _ => (0 : EReal))).1 r d)

/-- What a grid point leaves in the second output block: the sums of the logarithms over the keys after each block of keys. -/
theorem is_leavesRuns (hH : Holds Q K V q k v) :
    Slabs (SbIdeal.leavesRuns (F := Ideal) c i a2 h2 a3 h3 a4 h4 a5 h5 a6 h6 q k v) (rowsAt Q K (i 1).val (i 1).val) := by
  unfold SbIdeal.leavesRuns
  rw [← View.read_writes_eq_canon a6.view (h6.unread fun _ => (0 : EReal)) _ (SbIdeal.fills_runs c i a2 h2 a3 h3 a4 h4 a5 h5 a6 h6 q k v), stores_runs]
  exact (ends c i a2 h2 a3 h3 a4 h4 a5 h5 a6 h6 hH (h6.unread fun _ => (0 : EReal))).2.2

end SbVal

end
-- ==== Proof.SbEquation.lean ====
/-
  Added over the blocks, what the kernel of the forward pass computes block by block is the attention by stick-breaking.
-/
module

public import proofs.«01_k».proof.Proof.SbLoop
public import proofs.«01_k».proof.Proof.Equation

@[expose] public section

noncomputable section

namespace SbVal

open Stick

variable {X : ℕ → ℕ → ℕ → ℝ} {V : ℕ → ℕ → EReal} {h i n g r c : ℕ}

theorem stick_late {t k : ℕ} (hk : t ≤ k) : stickL X h t k = 0 := if_neg (by omega)

/-- Keys that come after a query add nothing. -/
theorem late (hr : r < 512) {k : ℕ} (hk : 512 * i + 512 ≤ k) : ∑ s ∈ Finset.Ico k 8192, stickL X h (512 * i + r) s = 0 :=
  Finset.sum_eq_zero fun s hs => stick_late (by have := (Finset.mem_Ico.mp hs).1; omega)

/-- The keys from a block on: those of the block, then the later ones. -/
theorem from_block (t : ℕ) (hg : g < 16) :
    ∑ k ∈ Finset.Ico (512 * g) 8192, stickL X h t k
      = ∑ j ∈ Finset.Ico 0 512, stickL X h t (512 * g + j) + ∑ k ∈ Finset.Ico (512 * (g + 1)) 8192, stickL X h t k := by
  rw [← Finset.sum_Ico_consecutive _ (show 512 * g ≤ 512 * (g + 1) by omega) (show 512 * (g + 1) ≤ 8192 by omega),
    Finset.sum_Ico_add (fun k => stickL X h t k) 0 512 (512 * g), zero_add, show 512 + 512 * g = 512 * (g + 1) by omega]

/-- After `n` steps the running sum is over all keys from block `i - n` on. -/
theorem run_eq (hi : i < 16) (hr : r < 512) : ∀ n ≤ i,
    runAt (qB X h i) (kB X h) i n r = ∑ k ∈ Finset.Ico (512 * (i - n)) 8192, stickL X h (512 * i + r) k := by
  intro n
  induction n with
  | zero =>
    intro _
    unfold runAt
    rw [Finset.range_zero, Finset.sum_empty, add_zero, Nat.sub_zero, from_block _ hi, late hr (by omega), add_zero]
    refine Finset.sum_congr rfl fun j _ => ?_
    have e : (j < r) = (512 * i + j < 512 * i + r) := propext (by omega)
    unfold stickL
    simp only [← e]
    rfl
  | succ n ih =>
    intro hn
    have e := ih (by omega)
    have e1 : runAt (qB X h i) (kB X h) i (n + 1) r
        = runAt (qB X h i) (kB X h) i n r + ∑ j ∈ Finset.Ico 0 512, lneg (score (qB X h i) (blk (kB X h) (i - 1 - n)) r j) := by
      unfold runAt
      rw [Finset.sum_range_succ (fun m => ∑ j ∈ Finset.Ico 0 512, lneg (score (qB X h i) (blk (kB X h) (i - 1 - m)) r j)) n, ← add_assoc]
    rw [e1, e, show i - (n + 1) = i - 1 - n by omega, from_block (g := i - 1 - n) _ (by omega), show i - 1 - n + 1 = i - n by omega, add_comm]
    refine congrArg₂ (· + ·) (Finset.sum_congr rfl fun j hj => ?_) rfl
    have hj := Finset.mem_Ico.mp hj
    unfold stickL
    rw [if_pos (by omega)]
    rfl

/-- What is saved for a block of keys before the queries' is the sum over the keys to its right … -/
theorem run_edge (hgi : g < i) (hi : i < 16) (hr : r < 512) :
    runAt (qB X h i) (kB X h) i (i - 1 - g) r = edge X h i g r := by
  rw [run_eq hi hr _ (by omega), show i - (i - 1 - g) = g + 1 by omega]
  rfl

/-- … and there is nothing to the right of a later block. -/
theorem edge_late (hgi : i ≤ g) (hr : r < 512) : edge X h i g r = 0 := by
  unfold edge right
  exact late hr (by omega)

theorem rows_edge (hi : i < 16) (hr : r < 512) : rowsAt (qB X h i) (kB X h) i i g r = edge X h i g r := by
  unfold rowsAt
  by_cases hgi : g < i
  · rw [if_pos (by omega), run_edge hgi hi hr]
  · rw [if_neg (by omega), edge_late (by omega) hr]

/-- A tile's weights for a query depend on that query's running sum alone. -/
theorem wts_congr {q k : ℕ → ℕ → ℝ} {u w : ℕ → ℝ} (e : u r = w r) : wts q k u r c = wts q k w r c := by
  unfold wts tileA
  rw [e]

theorem wtsD_congr {q k : ℕ → ℕ → ℝ} {u w : ℕ → ℝ} (e : u r = w r) : wtsD q k u r c = wtsD q k w r c := by
  unfold wtsD tileA
  rw [e]

/-- The output of a query: the values of all keys before it, weighted. -/
theorem out_eq (hi : i < 16) (hr : r < 512) (d : ℕ) :
    outAt (qB X h i) (kB X h) V i i r d = ∑ s ∈ Finset.range 8192, ((wt X h (512 * i + r) s : ℝ) : EReal) * V s d := by
  have e1 : ∀ j ∈ Finset.range 512, ((wtsD (qB X h i) (blk (kB X h) i) (fun _ => 0) r j : ℝ) : EReal) * vlk V i j d
      = ((wt X h (512 * i + r) (512 * i + j) : ℝ) : EReal) * V (512 * i + j) d := by
    intro j _
    rw [wtsD_congr (edge_late (X := X) (h := h) le_rfl hr).symm]
    exact congrArg (fun x : ℝ => (x : EReal) * V (512 * i + j) d) (twD_eq hi hr)
  have e2 : ∀ g ∈ Finset.range i, ∑ j ∈ Finset.range 512,
      ((wts (qB X h i) (blk (kB X h) g) (runAt (qB X h i) (kB X h) i (i - 1 - g)) r j : ℝ) : EReal) * vlk V g j d
      = ∑ j ∈ Finset.range 512, ((wt X h (512 * i + r) (512 * g + j) : ℝ) : EReal) * V (512 * g + j) d := by
    intro g hg
    have hg := Finset.mem_range.mp hg
    refine Finset.sum_congr rfl fun j hj => ?_
    have hj := Finset.mem_range.mp hj
    rw [wts_congr (run_edge (X := X) (h := h) hg hi hr)]
    refine congrArg (fun x : ℝ => (x : EReal) * V (512 * g + j) d) ((tw_eq hg hi hj).trans ?_)
    unfold wt
    rw [if_pos (by omega)]
  have e3 : ∑ m ∈ Finset.range i, ∑ j ∈ Finset.range 512,
      ((wts (qB X h i) (blk (kB X h) (i - 1 - m)) (runAt (qB X h i) (kB X h) i m) r j : ℝ) : EReal) * vlk V (i - 1 - m) j d
      = ∑ g ∈ Finset.range i, ∑ j ∈ Finset.range 512,
      ((wts (qB X h i) (blk (kB X h) g) (runAt (qB X h i) (kB X h) i (i - 1 - g)) r j : ℝ) : EReal) * vlk V g j d := by
    rw [← Finset.sum_range_reflect]
    refine Finset.sum_congr rfl fun g hg => ?_
    have hg := Finset.mem_range.mp hg
    rw [show i - 1 - (i - 1 - g) = g by omega]
  unfold outAt
  rw [Finset.sum_congr rfl e1, e3, Finset.sum_congr rfl e2, add_comm,
    ← Finset.sum_range_succ (fun g => ∑ j ∈ Finset.range 512, ((wt X h (512 * i + r) (512 * g + j) : ℝ) : EReal) * V (512 * g + j) d),
    blocks (fun s => ((wt X h (512 * i + r) s : ℝ) : EReal) * V s d)]
  refine Finset.sum_subset (Finset.range_subset_range.mpr (by omega)) fun s _ hs => ?_
  rw [wt_late (by have := mt Finset.mem_range.mpr hs; omega), EReal.coe_zero, zero_mul]

end SbVal

end
-- ==== Proof.SbReference.lean ====
/-
  What the reference of the forward pass computes: its weights are real numbers, its values may be anything.
-/
module

public import proofs.«01_k».proof.Proof.Gen.ReferenceSbIdeal.Read
public import proofs.«01_k».proof.Proof.Ref

@[expose] public section

noncomputable section

namespace SbVal

open Idealize.ShloMosaic Cert.ReferenceSbIdeal Cert.ReferenceSbIdeal.Gen Cert.ReferenceSbIdeal.Read
open Stick (Is2 Is3 zS stickL right expW wt splusW splusW_coe coe_sum lit_cs word_zero neg_coe add_coe sub_coe exp_coe select_coe neg_splus
  neg_splus_neg splus)

variable {x0 : FVec Ideal S3x8192x2048 .bf16} {X : ℕ → ℕ → ℕ → ℝ}

/-- The queries and keys of an array of queries, keys and values are the real arrays `X 0` and `X 1`. -/
structure Real01 (x0 : FVec Ideal (⟨3, ![3, 8192, 2048]⟩ : Shape) .bf16) (X : ℕ → ℕ → ℕ → ℝ) : Prop where
  q : ∀ (s : Fin 8192) (e : Fin 2048), x0 (ix3 (0 : Fin 3) s e) = ((X 0 s e : ℝ) : EReal)
  k : ∀ (s : Fin 8192) (e : Fin 2048), x0 (ix3 (1 : Fin 3) s e) = ((X 1 s e : ℝ) : EReal)

/-- The values of one head. -/
def vals (x0 : FVec Ideal (⟨3, ![3, 8192, 2048]⟩ : Shape) .bf16) (h s d : ℕ) : EReal :=
  if hh : s < 8192 ∧ 128 * h + d < 2048 then x0 (ix3 (2 : Fin 3) ⟨s, hh.1⟩ ⟨128 * h + d, hh.2⟩) else 0

/-! ## The heads of the argument -/

theorem ref_q (hX : Real01 x0 X) : Is3 (φ := .f32) (val_main_v8 (F := Ideal) x0 : FVec Ideal S16x8192x128 .f32) (fun h s d => X 0 s (128 * h + d)) := by
  intro h s d
  rw [val_main_v8_apply, val_main_v7_apply, val_main_v2_apply, val_main_v1_apply, val_main_v0_apply]
  have hh := h.isLt
  have hs := s.isLt
  have hd := d.isLt
  refine Eq.trans (congrArg x0 (?_ : _ = ix3 (0 : Fin 3) s ⟨128 * h.val + d.val, by omega⟩)) (hX.q _ _)
  funext a
  match a with
  | ⟨0, _⟩ => rfl
  | ⟨1, _⟩ => apply Fin.ext; dsimp [ix3]; omega
  | ⟨2, _⟩ => apply Fin.ext; dsimp [ix3]; omega

theorem ref_k (hX : Real01 x0 X) : Is3 (φ := .f32) (val_main_v10 (F := Ideal) x0 : FVec Ideal S16x8192x128 .f32) (fun h s d => X 1 s (128 * h + d)) := by
  intro h s d
  rw [val_main_v10_apply, val_main_v9_apply, val_main_v4_apply, val_main_v3_apply, val_main_v0_apply]
  have hh := h.isLt
  have hs := s.isLt
  have hd := d.isLt
  refine Eq.trans (congrArg x0 (?_ : _ = ix3 (1 : Fin 3) s ⟨128 * h.val + d.val, by omega⟩)) (hX.k _ _)
  funext a
  match a with
  | ⟨0, _⟩ => rfl
  | ⟨1, _⟩ => apply Fin.ext; dsimp [ix3]; omega
  | ⟨2, _⟩ => apply Fin.ext; dsimp [ix3]; omega

theorem ref_v (h : Fin 16) (s : Fin 8192) (d : Fin 128) : val_main_v12 (F := Ideal) x0 (ix3 h s d) = vals x0 h s d := by
  rw [val_main_v12_apply, val_main_v11_apply, val_main_v6_apply, val_main_v5_apply, val_main_v0_apply]
  have hh := h.isLt
  have hs := s.isLt
  have hd := d.isLt
  unfold vals
  rw [dif_pos ⟨hs, by omega⟩]
  refine congrArg x0 ?_
  funext a
  match a with
  | ⟨0, _⟩ => rfl
  | ⟨1, _⟩ => apply Fin.ext; dsimp [ix3]; omega
  | ⟨2, _⟩ => apply Fin.ext; dsimp [ix3]; omega

/-! ## The weights -/

/-- A key may be looked at when it comes before the query. -/
theorem ref_mask (h : Fin 16) (t s : Fin 8192) :
    (val_main_call1_v1 (F := Ideal) : IVec S16x8192x8192 1) (ix3 h t s) = BitVec.ofBool (decide (s.val < t.val)) := by
  rw [val_main_call1_v1_apply, val_main_v18_apply, val_main_v16_apply, val_main_v17_apply, val_main_v14_apply, val_main_v15_apply,
    val_main_v13_apply, val_main_v13_apply]
  have hs := s.isLt
  have ht := t.isLt
  show BitVec.ofBool ((BitVec.ofNat 32 s.val).slt (BitVec.ofNat 32 t.val)) = _
  congr 1
  rw [BitVec.slt, decide_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  omega

theorem ref_z (hX : Real01 x0 X) : Is3 (φ := .f32) (val_main_v21 (F := Ideal) x0 : FVec Ideal S16x8192x8192 .f32) (zS X) := by
  intro h t s
  rw [val_main_v21_apply, val_main_v20_apply, val_main_v19_apply]
  have e : ∀ k : Fin 128, (val_main_v8 (F := Ideal) x0) (lidx_main_v19 (ix3 h t s) k) * (val_main_v10 (F := Ideal) x0) (ridx_main_v19 (ix3 h t s) k)
      = ((X 0 t (128 * h + k) * X 1 s (128 * h + k) : ℝ) : EReal) := by
    intro k
    rw [EReal.coe_mul]
    exact congrArg₂ (· * ·) ((congrArg (val_main_v8 (F := Ideal) x0) (by funext a; match a with | ⟨0, _⟩ => rfl | ⟨1, _⟩ => rfl | ⟨2, _⟩ => rfl)).trans (ref_q hX h t k))
      ((congrArg (val_main_v10 (F := Ideal) x0) (by funext a; match a with | ⟨0, _⟩ => rfl | ⟨1, _⟩ => rfl | ⟨2, _⟩ => rfl)).trans (ref_k hX h s k))
  rw [Finset.sum_congr rfl fun k _ => e k, coe_sum 128 (fun k => X 0 t (128 * h + k) * X 1 s (128 * h + k))]
  show _ * (Scalar.ofBits .f32 0x3DB504F3#32 : Ideal .f32) = _
  rw [lit_cs, ← EReal.coe_mul]
  rfl

/-- The logarithm of the part of the stick a key leaves. -/
theorem ref_left (hX : Real01 x0 X) : Is3 (φ := .f32) (val_main_v24 (F := Ideal) x0 : FVec Ideal S16x8192x8192 .f32) (stickL X) := by
  intro h t s
  have e : val_main_v23 (F := Ideal) x0 (ix3 h t s)
      = FloatOps.hostNegf (splusW (FloatOps.hostNegf (FloatOps.hostNegf (val_main_v21 (F := Ideal) x0 (ix3 h t s))))) := rfl
  have e0 : val_main_call1_v2 (F := Ideal) (ix3 h t s) = (FloatOps.ofBits .f32 0x00000000#32 : Ideal .f32) := rfl
  rw [val_main_v24_apply, ref_mask, e, e0, ref_z hX h t s, neg_coe, neg_coe, neg_neg, splusW_coe, neg_coe, neg_splus, word_zero, select_coe]
  rfl

/-- … added over the keys to the right of a key. -/
theorem ref_right (hX : Real01 x0 X) : Is3 (φ := .f32) (val_main_v26 (F := Ideal) x0 : FVec Ideal S16x8192x8192 .f32) (right X) := by
  intro h t s
  have ht : val_main_v25 (F := Ideal) x0 (ix3 h t s) = ((∑ k ∈ Finset.Ico s.val 8192, stickL X h t k : ℝ) : EReal) :=
    Is3.tail (M := 8191) rfl (ref_left hX) _ _ word_zero h t s
  rw [val_main_v26_apply, ht, ref_left hX h t s, sub_coe, Finset.sum_eq_sum_Ico_succ_bot s.isLt]
  refine congrArg (fun r : ℝ => (r : EReal)) ?_
  show stickL X h t s + _ - stickL X h t s = _
  rw [add_sub_cancel_left]
  rfl

theorem ref_wt (hX : Real01 x0 X) : Is3 (φ := .f32) (val_main_v30 (F := Ideal) x0 : FVec Ideal S16x8192x8192 .f32) (wt X) := by
  intro h t s
  have e : val_main_v27 (F := Ideal) x0 (ix3 h t s)
      = FloatOps.hostNegf (splusW (FloatOps.hostNegf (val_main_v21 (F := Ideal) x0 (ix3 h t s)))) := rfl
  have e0 : val_main_call4_v2 (F := Ideal) (ix3 h t s) = (FloatOps.ofBits .f32 0x00000000#32 : Ideal .f32) := rfl
  have e1 : val_main_call4_v1 (F := Ideal) (ix3 h t s) = BitVec.ofBool (decide (s.val < t.val)) := ref_mask h t s
  rw [val_main_v30_apply, e1, e0, val_main_v29_apply, val_main_v28_apply, e, ref_z hX h t s, neg_coe, splusW_coe, neg_coe, neg_splus_neg,
    ref_right hX h t s, add_coe, exp_coe, word_zero, select_coe]
  rfl

/-! ## The two results -/

/-- The outputs, head by head. -/
theorem ref_heads (hX : Real01 x0 X) (h : Fin 16) (t : Fin 8192) (d : Fin 128) :
    val_main_v31 (F := Ideal) x0 (ix3 h t d) = ∑ s ∈ Finset.range 8192, ((wt X h t s : ℝ) : EReal) * vals x0 h s d := by
  rw [val_main_v31_apply, ← Fin.sum_univ_eq_sum_range (fun s => ((wt X h t s : ℝ) : EReal) * vals x0 h s d) 8192]
  refine Finset.sum_congr rfl fun s _ => congrArg₂ (· * ·) ?_ ?_
  · exact (congrArg (val_main_v30 (F := Ideal) x0) (by funext a; match a with | ⟨0, _⟩ => rfl | ⟨1, _⟩ => rfl | ⟨2, _⟩ => rfl)).trans (ref_wt hX h t s)
  · exact (congrArg (val_main_v12 (F := Ideal) x0) (by funext a; match a with | ⟨0, _⟩ => rfl | ⟨1, _⟩ => rfl | ⟨2, _⟩ => rfl)).trans (ref_v h s d)

/-- The outputs, heads side by side. -/
theorem ref_out (hX : Real01 x0 X) (t : Fin 8192) (e : Fin 2048) :
    val_main_v34 (F := Ideal) x0 (ix2 t e) = ∑ s ∈ Finset.range 8192, ((wt X (e.val / 128) t s : ℝ) : EReal) * vals x0 (e.val / 128) s (e.val % 128) := by
  have ht := t.isLt
  have he := e.isLt
  rw [val_main_v34_apply, val_main_v33_apply, val_main_v32_apply]
  refine Eq.trans (congrArg (val_main_v31 (F := Ideal) x0)
    (?_ : _ = ix3 (⟨e.val / 128, by omega⟩ : Fin 16) t (⟨e.val % 128, by omega⟩ : Fin 128))) (ref_heads hX _ _ _)
  funext a
  match a with
  | ⟨0, _⟩ => apply Fin.ext; dsimp [ix3, ix2]; omega
  | ⟨1, _⟩ => apply Fin.ext; dsimp [ix3, ix2]; omega
  | ⟨2, _⟩ => apply Fin.ext; dsimp [ix3, ix2]; omega

/-- The saved sums: the same sums to the right, at the last key of each block. -/
theorem ref_runs (hX : Real01 x0 X) (h i : Fin 16) (j : Fin 128) (r : Fin 512) :
    val_main_v62 (F := Ideal) x0 (ix4 h i j r) = ((right X h (512 * i.val + r.val) (512 * (j.val / 8) + 511) : ℝ) : EReal) := by
  have hh := h.isLt
  have hi := i.isLt
  have hj := j.isLt
  have hr := r.isLt
  have e : val_main_v56 (F := Ideal) x0 = val_main_v26 (F := Ideal) x0 := rfl
  refine Eq.trans ?_ (ref_right hX h (⟨512 * i.val + r.val, by omega⟩ : Fin 8192) (⟨512 * (j.val / 8) + 511, by omega⟩ : Fin 8192))
  rw [← e]
  unfold val_main_v62
  refine (shapeCast_apply _ _ _ (ix5 h i (⟨j.val / 8, by omega⟩ : Fin 16) (⟨j.val % 8, by omega⟩ : Fin 8) r) ?_).trans ?_
  · rw [Shape.rowMajor_val_five, Shape.rowMajor_val_four]
    show (((h.val * 16 + i.val) * 16 + j.val / 8) * 8 + j.val % 8) * 512 + r.val = ((h.val * 16 + i.val) * 128 + j.val) * 512 + r.val
    omega
  unfold val_main_v61
  refine (broadcastInDim_apply _ _ _ _ (ix5 h i (⟨j.val / 8, by omega⟩ : Fin 16) (0 : Fin 1) r) ?_).trans ?_
  · intro a
    match a with
    | ⟨0, _⟩ => rfl
    | ⟨1, _⟩ => rfl
    | ⟨2, _⟩ => rfl
    | ⟨3, _⟩ => rfl
    | ⟨4, _⟩ => rfl
  unfold val_main_v60
  refine (broadcastInDim_apply _ _ _ _ (ix4 h i (⟨j.val / 8, by omega⟩ : Fin 16) r) ?_).trans ?_
  · intro a
    match a with
    | ⟨0, _⟩ => rfl
    | ⟨1, _⟩ => rfl
    | ⟨2, _⟩ => rfl
    | ⟨3, _⟩ => rfl
  unfold val_main_v59
  refine (transpose_apply _ _ _ _ (ix4 h i r (⟨j.val / 8, by omega⟩ : Fin 16)) ?_).trans ?_
  · intro a
    match a with
    | ⟨0, _⟩ => rfl
    | ⟨1, _⟩ => rfl
    | ⟨2, _⟩ => rfl
    | ⟨3, _⟩ => rfl
  unfold val_main_v58
  refine (shapeCast_apply _ _ _ (ix3 h (⟨512 * i.val + r.val, by omega⟩ : Fin 8192) (⟨j.val / 8, by omega⟩ : Fin 16)) ?_).trans ?_
  · rw [Shape.rowMajor_val_three, Shape.rowMajor_val_four]
    show (h.val * 8192 + (512 * i.val + r.val)) * 16 + j.val / 8 = ((h.val * 16 + i.val) * 512 + r.val) * 16 + j.val / 8
    omega
  unfold val_main_v57 Host.slice
  refine congrArg (val_main_v56 (F := Ideal) x0) (funext fun a => ?_)
  match a with
  | ⟨0, _⟩ => apply Fin.ext; dsimp [ix3]; omega
  | ⟨1, _⟩ => apply Fin.ext; dsimp [ix3]; omega
  | ⟨2, _⟩ => apply Fin.ext; dsimp [ix3]; omega

end SbVal

end
-- ==== Proof.SbResult.lean ====
/-
  The forward pass of the attention by stick-breaking: on finite queries and keys the kernel leaves what the reference computes.
-/
module

public import proofs.«01_k».proof.Defs
public import proofs.«01_k».proof.Proof.SbPoint
public import proofs.«01_k».proof.Proof.SbEquation
public import proofs.«01_k».proof.Proof.SbReference
public import proofs.«01_k».proof.Proof.Gen.ReferenceSbIdeal.Run
public import proofs.«01_k».proof.Proof.Products
public import proofs.«01_k».proof.Proof.Finite
public import Idealize.ShloMosaic.Adequacy
public import Idealize.ShloMosaic.Init
public import Idealize.ShloMosaic.Lib.Pipeline.ValueKit.Point

@[expose] public section

set_option maxRecDepth 16384

noncomputable section

namespace SbVal

open Idealize.ShloMosaic Idealize.ShloMosaic.TcCoe Cert.KernelSbIdeal Cert.KernelSbIdeal.Gen
open Products (in_range)
open Stick (Is3 qB kB edge wt right real_of_abs)

/-! ## The blocks of the windows -/

/-- Grid point `t` is head `t / 16`, block of queries `t % 16`; the blocks its windows stand on. -/
theorem coords_t : ∀ t : Fin cfg0.N, ((grid0.coords t) 1).val = t.val % 16 :=
  (by decide +kernel : ∀ t : Fin grid0.N, _)

theorem index_t : ∀ t : Fin cfg0.N, win0_0.index t = ![0, t.val % 16, t.val / 16] ∧ win0_1.index t = ![1, 0, t.val / 16]
    ∧ win0_2.index t = ![2, 0, t.val / 16] ∧ win0_3.index t = ![t.val % 16, t.val / 16]
    ∧ win0_4.index t = ![t.val / 16, t.val % 16, 0, 0] :=
  (by decide +kernel : ∀ t : Fin grid0.N, _)

variable (m : (ℓ : Loc nD τ sig) → Buf (Elt Ideal) ℓ) (c : Dev nD)

/-- An element of a window's block is an element of its array. -/
theorem read_q (t : Fin cfg0.N) (a : Fin 1) (r : Fin 512) (d : Fin 128) (h1 : 512 * (t.val % 16) + r.val < 8192) (h2 : 128 * (t.val / 16) + d.val < 2048) :
    iblk m c 0 t (ix3 a r d) = m ((c : Thread nD τ).loc main_arg0) (ix3 (0 : Fin 3) (⟨512 * (t.val % 16) + r.val, h1⟩ : Fin 8192) (⟨128 * (t.val / 16) + d.val, h2⟩ : Fin 2048)) := by
  obtain ⟨e0, e1, e2, e3, e4⟩ := index_t t
  blk_ext [iblk, V, e0]
theorem read_k (t : Fin cfg0.N) (a : Fin 1) (s : Fin 8192) (d : Fin 128) (h2 : 128 * (t.val / 16) + d.val < 2048) :
    iblk m c 1 t (ix3 a s d) = m ((c : Thread nD τ).loc main_arg0) (ix3 (1 : Fin 3) s (⟨128 * (t.val / 16) + d.val, h2⟩ : Fin 2048)) := by
  obtain ⟨e0, e1, e2, e3, e4⟩ := index_t t
  blk_ext [iblk, V, e1]
theorem read_v (t : Fin cfg0.N) (a : Fin 1) (s : Fin 8192) (d : Fin 128) (h2 : 128 * (t.val / 16) + d.val < 2048) :
    iblk m c 2 t (ix3 a s d) = m ((c : Thread nD τ).loc main_arg0) (ix3 (2 : Fin 3) s (⟨128 * (t.val / 16) + d.val, h2⟩ : Fin 2048)) := by
  obtain ⟨e0, e1, e2, e3, e4⟩ := index_t t
  blk_ext [iblk, V, e2]
theorem read_o (t : Fin cfg0.N) (A : FVec Ideal S8192x2048 .bf16) (r : Fin 512) (d : Fin 128) (h1 : 512 * (t.val % 16) + r.val < 8192)
    (h2 : 128 * (t.val / 16) + d.val < 2048) :
    ((cfg0.win 3).blk t).view.read (Elt Ideal) A (ix2 r d) = A (ix2 ⟨512 * (t.val % 16) + r.val, h1⟩ ⟨128 * (t.val / 16) + d.val, h2⟩) := by
  obtain ⟨e0, e1, e2, e3, e4⟩ := index_t t
  blk_ext [e3]
theorem read_runs (t : Fin cfg0.N) (A : FVec Ideal S16x16x128x512 .f32) (a b : Fin 1) (j : Fin 128) (r : Fin 512) (h1 : t.val / 16 < 16) (h2 : t.val % 16 < 16) :
    ((cfg0.win 4).blk t).view.read (Elt Ideal) A (ix4 a b j r) = A (ix4 ⟨t.val / 16, h1⟩ ⟨t.val % 16, h2⟩ j r) := by
  obtain ⟨e0, e1, e2, e3, e4⟩ := index_t t
  blk_ext [e4]

variable {m c} {X : ℕ → ℕ → ℕ → ℝ}

/-- What the windows hold at a point. -/
theorem holds_t (hX : Real01 (m ((c : Thread nD τ).loc main_arg0)) X) (t : Fin cfg0.N) :
    Holds (qB X (t.val / 16) (t.val % 16)) (kB X (t.val / 16)) (vals (m ((c : Thread nD τ).loc main_arg0)) (t.val / 16))
      (iblk m c 0 t) (iblk m c 1 t) (iblk m c 2 t) := by
  have ht : t.val < 256 := lt_of_lt_of_eq t.isLt N_0
  refine ⟨?_, ?_, ?_⟩
  · intro a r d
    exact (read_q m c t a r d (by omega) (by omega)).trans (hX.q _ _)
  · intro a s d
    exact (read_k m c t a s d (by omega)).trans (hX.k _ _)
  · intro s d
    refine (read_v m c t 0 s d (by omega)).trans ?_
    unfold vals
    rw [dif_pos ⟨s.isLt, by omega⟩]

/-! ## The two arrays -/

variable (m c) in
/-- The reference's two results of the kernel's argument. -/
def refO : FVec Ideal S8192x2048 .bf16 := Cert.ReferenceSbIdeal.Read.val_main_v34 (F := Ideal) (m ((c : Thread nD τ).loc main_arg0))
variable (m c) in
def refRuns : FVec Ideal S16x16x128x512 .f32 := Cert.ReferenceSbIdeal.Read.val_main_v62 (F := Ideal) (m ((c : Thread nD τ).loc main_arg0))

/-- What grid point `t` writes back of the outputs … -/
theorem written_o (hX : Real01 (m ((c : Thread nD τ).loc main_arg0)) X) (t : Fin cfg0.N) :
    (SbIdeal.dats m 0 c).flushed 3 t = ((cfg0.win 3).blk t).view.read (Elt Ideal) (refO m c) := by
  have ht : t.val < 256 := lt_of_lt_of_eq t.isLt N_0
  show (SbIdeal.dats m 0 c).after 3 t = _
  rw [SbIdeal.after_o]
  funext y
  obtain ⟨r, d, rfl⟩ : ∃ (r : Fin 512) (d : Fin 128), y = ix2 r d := Products.ix2_of y
  rw [read_o t _ r d (by omega) (by omega)]
  have h := is_leavesO c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (win0_3.stage (cfg0.slots t 3))
    (hstage0_3 ((cfg0.slots t 3).cast nbuf0_3)) (win0_4.stage (cfg0.slots t 4)) (hstage0_4 ((cfg0.slots t 4).cast nbuf0_4)) (holds_t hX t) r d
  rw [coords_t t, out_eq (by omega) r.isLt] at h
  refine Eq.trans (b := _) h ?_
  unfold refO
  rw [ref_out hX]
  have e1 : (128 * (t.val / 16) + d.val) / 128 = t.val / 16 := by omega
  have e2 : (128 * (t.val / 16) + d.val) % 128 = d.val := by omega
  dsimp only
  rw [e1, e2]

/-- … and of the saved sums is the block of the reference's. -/
theorem written_runs (hX : Real01 (m ((c : Thread nD τ).loc main_arg0)) X) (t : Fin cfg0.N) :
    (SbIdeal.dats m 0 c).flushed 4 t = ((cfg0.win 4).blk t).view.read (Elt Ideal) (refRuns m c) := by
  have ht : t.val < 256 := lt_of_lt_of_eq t.isLt N_0
  show (SbIdeal.dats m 0 c).after 4 t = _
  rw [SbIdeal.after_runs]
  funext y
  obtain ⟨a, b, j, r, rfl⟩ : ∃ (a b : Fin 1) (j : Fin 128) (r : Fin 512), y = ix4 a b j r :=
    ⟨y 0, y 1, y 2, y 3, funext fun a => match a with | ⟨0, _⟩ => rfl | ⟨1, _⟩ => rfl | ⟨2, _⟩ => rfl | ⟨3, _⟩ => rfl⟩
  rw [read_runs t _ a b j r (by omega) (by omega)]
  have h := is_leavesRuns c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (win0_3.stage (cfg0.slots t 3))
    (hstage0_3 ((cfg0.slots t 3).cast nbuf0_3)) (win0_4.stage (cfg0.slots t 4)) (hstage0_4 ((cfg0.slots t 4).cast nbuf0_4)) (holds_t hX t) j r
  rw [coords_t t, rows_edge (by omega) r.isLt] at h
  rw [Subsingleton.elim a 0, Subsingleton.elim b 0]
  refine Eq.trans (b := _) h ?_
  unfold refRuns
  rw [ref_runs hX]
  rfl

/-- An index is in a grid point's block when each coordinate is in the block's range. -/
theorem mem_o (t : Fin cfg0.N) (i : S8192x2048.Idx) (h0 : (i 0).val / 512 = t.val % 16) (h1 : (i 1).val / 128 = t.val / 16) :
    i ∈ ((cfg0.win 3).blk t).view.set := by
  show i ∈ ((View.whole main_v0_0).slice (win0_3.rect t)).set
  rw [View.set_slice_whole, Rect.mem_set_unit]
  obtain ⟨e0, e1, e2, e3, e4⟩ := index_t t
  exact fun a => match a with
  | ⟨0, _⟩ => in_range (n := 512) (by decide) (h0.trans (congrFun e3 0).symm)
  | ⟨1, _⟩ => in_range (n := 128) (by decide) (h1.trans (congrFun e3 1).symm)

theorem mem_runs (t : Fin cfg0.N) (i : S16x16x128x512.Idx) (h0 : (i 0).val / 1 = t.val / 16) (h1 : (i 1).val / 1 = t.val % 16) :
    i ∈ ((cfg0.win 4).blk t).view.set := by
  show i ∈ ((View.whole main_v0_1).slice (win0_4.rect t)).set
  rw [View.set_slice_whole, Rect.mem_set_unit]
  obtain ⟨e0, e1, e2, e3, e4⟩ := index_t t
  exact fun a => match a with
  | ⟨0, _⟩ => in_range (n := 1) (by decide) (h0.trans (congrFun e4 0).symm)
  | ⟨1, _⟩ => in_range (n := 1) (by decide) (h1.trans (congrFun e4 1).symm)
  | ⟨2, _⟩ => in_range (n := 128) (by decide) ((Nat.div_eq_of_lt (i 2).isLt).trans (congrFun e4 2).symm)
  | ⟨3, _⟩ => in_range (n := 512) (by decide) ((Nat.div_eq_of_lt (i 3).isLt).trans (congrFun e4 3).symm)

/-- The kernel's outputs are the reference's. -/
theorem result_o (hX : Real01 (m ((c : Thread nD τ).loc main_arg0)) X) : (SbIdeal.dats m 0 c).arrAt 3 cfg0.N = refO m c := by
  refine (SbIdeal.dats m 0 c).arrAt_eq_of_cover 3 _ (fun t _ => written_o hX t) (fun i => ?_)
  have h0 : (i 0).val < 8192 := (i 0).isLt
  have h1 : (i 1).val < 2048 := (i 1).isLt
  have hN : 16 * ((i 1).val / 128) + (i 0).val / 512 < cfg0.N := lt_of_lt_of_eq (b := 256) (by omega) N_0.symm
  exact ⟨⟨_, hN⟩, flush0_3 _, mem_o _ i (by dsimp only; omega) (by dsimp only; omega)⟩

/-- The kernel's saved sums are the reference's. -/
theorem result_runs (hX : Real01 (m ((c : Thread nD τ).loc main_arg0)) X) : (SbIdeal.dats m 0 c).arrAt 4 cfg0.N = refRuns m c := by
  refine (SbIdeal.dats m 0 c).arrAt_eq_of_cover 4 _ (fun t _ => written_runs hX t) (fun i => ?_)
  have h0 : (i 0).val < 16 := (i 0).isLt
  have h1 : (i 1).val < 16 := (i 1).isLt
  have hN : 16 * (i 0).val + (i 1).val < cfg0.N := lt_of_lt_of_eq (b := 256) (by omega) N_0.symm
  exact ⟨⟨_, hN⟩, flush0_4 _, mem_runs _ i (by dsimp only; omega) (by dsimp only; omega)⟩

/-! ## Finite queries and keys -/

/-- The side conditions of the precondition. -/
theorem finiteFacts : Cert.Pre_finite_qk.Facts where
  bitsLt_bf16_f32 := by decide
  bcast_S_S3x8192x2048 := by decide
  bcast_S3_S3x1x1_0 := by decide
  bcast_S_S3x1x1 := by decide
  bcast_S3x1x1_S3x8192x2048_0_1_2 := by decide

theorem or_one {a b : BitVec 1} (h : IntOp.ori a b = 1#1) (hb : b = 0#1) : a = 1#1 := by
  revert a b
  decide

variable [Cert.Pre_finite_qk.Facts]

/-- Outside the plane of the values, every element is a real number. -/
theorem finite_plane {x0 : FVec Ideal Cert.Pre_finite_qk.S3x8192x2048 .bf16} (h : Cert.Pre_finite_qk.fn (F := Ideal) x0 = fun _ => 1#1)
    (a : Fin 3) (ha : a.val ≠ 2) (s : Fin 8192) (e : Fin 2048) : x0 (ix3 a s e) = ((EReal.toReal (x0 (ix3 a s e)) : ℝ) : EReal) := by
  refine (real_of_abs (or_one (congrFun h (ix3 a s e)) ?_)).symm
  refine (broadcastInDim_apply _ Cert.Pre_finite_qk.Facts.bcast_S3x1x1_S3x8192x2048_0_1_2 _ (ix3 a s e) (ix3 a (0 : Fin 1) (0 : Fin 1)) (by
    intro b
    match b with
    | ⟨0, _⟩ => rfl
    | ⟨1, _⟩ => rfl
    | ⟨2, _⟩ => rfl)).trans ?_
  show BitVec.ofBool (BitVec.ofNat 32 a.val == 2#32) = 0#1
  revert ha
  revert a
  decide

/-- Under the precondition the queries and keys hold real numbers. -/
theorem is_real01 {x0 : FVec Ideal Cert.Pre_finite_qk.S3x8192x2048 .bf16} (h : Cert.Pre_finite_qk.fn (F := Ideal) x0 = fun _ => 1#1) :
    Real01 x0 (Stick.real3 x0) := by
  refine ⟨fun s e => ?_, fun s e => ?_⟩
  · unfold Stick.real3
    rw [dif_pos ⟨by decide, s.isLt, e.isLt⟩]
    exact finite_plane h 0 (by decide) s e
  · unfold Stick.real3
    rw [dif_pos ⟨by decide, s.isLt, e.isLt⟩]
    exact finite_plane h 1 (by decide) s e

open Idealize.SL.Sem

omit [Cert.Pre_finite_qk.Facts] in
/-- The reference runs, ends with its argument unchanged, and declares no semaphore. -/
theorem frame_reference : Cert.quiescent_ReferenceSbIdeal := fun m ρ _ =>
  (θ_run Cert.ReferenceSbIdeal.defs _ _).mono (fun r h => ⟨fun c => (h c).2.2,
    Idealize.ShloMosaic.sem_eq_zero_of_no_sems (by decide) r.2⟩) (Cert.ReferenceSbIdeal.Value.run m ρ)

omit [Cert.Pre_finite_qk.Facts] in
/-- On finite queries and keys, whatever the values, the kernel's outputs and saved sums are those the reference computes. -/
theorem value : Cert.algebraic_KernelSbIdeal_ReferenceSbIdeal_pre_finite_qk (hPre_finite_qk := finiteFacts) := by
  letI := finiteFacts
  intro m ρ m' ρ' hp ha
  refine ⟨fun c => refO m c, fun c => refRuns m c, ?_, ?_⟩
  · have hk := SbIdeal.unchanged m ρ
    refine (θ_run defs _ _).mono (fun r h c => ?_) (θ_run_and (SbIdeal.launched m ρ) hk)
    have h1 := h.1.1 c
    exact ⟨(h1.1 3).trans (result_o (is_real01 (hp c))), (h1.1 4).trans (result_runs (is_real01 (hp c))), h.2.1 c⟩
  · refine (θ_run Cert.ReferenceSbIdeal.defs _ _).mono (fun r h c => ?_) (Cert.ReferenceSbIdeal.Value.run m' ρ')
    have a0 := ha c
    obtain ⟨r0, r1, k0⟩ := h c
    have e0 := r0.trans (Cert.ReferenceSbIdeal.Read.val_main_v34_eq m' c)
    have e1 := r1.trans (Cert.ReferenceSbIdeal.Read.val_main_v62_eq m' c)
    rw [a0] at e0 e1
    exact ⟨e0, e1, k0⟩

end SbVal

end
-- ==== Proof.Adam.lean ====
/-
  One step of the optimiser, element by element: the sum of the partial gradients, the two moments and the change of the weight.
-/
module

public import Idealize.ShloMosaic.Lib.Pointwise
public import Idealize.ShloMosaic.PureOps.Ideal.Laws
public import proofs.«01_k».proof.Proof.Products

@[expose] public section

noncomputable section

namespace Adam

open Products Idealize.ShloMosaic

/-- The constant a 32-bit float word names. -/
def word (b : BitVec 32) : EReal := (FloatOps.ofBits (F := Ideal) .f32 b : EReal)

/-- The first moment after a step, from the moment before and the gradient: 0.9 of the one and 0.1 of the other. -/
def first (m g : EReal) : EReal := word 0x3F666666#32 * m + word 0x3DCCCCCD#32 * g

/-- The second moment after a step: 0.999 of the moment before and 0.001 of the gradient's square. -/
def second (v g : EReal) : EReal := word 0x3F7FBE77#32 * v + word 0x3A83126F#32 * (g * g)

/-- The change of a weight, from the weight and the two moments after the step: each moment is divided by its bias at step ten,
    the first by the root of the second, and a hundredth of the weight is added, all times minus the rate. -/
def change (w m v : EReal) : EReal :=
  word 0xBA83126F#32 * (Ideal.div (Ideal.div m (word 0x3F26BD02#32)) (Ideal.sqrt (Ideal.div v (word 0x3C231ACC#32)) + word 0x322BCC77#32)
    + word 0x3C23D70A#32 * w)

theorem change_congr {w m v w' m' v' : EReal} (hw : w = w') (hm : m = m') (hv : v = v') : change w m v = change w' m' v' := by rw [hw, hm, hv]

variable {R C : ℕ}

/-- The gradient: the device's own part, the one at its place `s`, and the three parts received. -/
def grad {n : ℕ} (s : Fin n) (p : FVec Ideal ⟨3, ![n, R, C]⟩ .bf16) (x : FVec Ideal ⟨3, ![3, R, C]⟩ .bf16) : FVec Ideal ⟨3, ![1, R, C]⟩ .f32 := fun j =>
  (p (ix3 s (⟨(j 1).val, (j 1).isLt⟩ : Fin R) (⟨(j 2).val, (j 2).isLt⟩ : Fin C)) : EReal)
    + ∑ k : Fin 3, (x (ix3 k (⟨(j 1).val, (j 1).isLt⟩ : Fin R) (⟨(j 2).val, (j 2).isLt⟩ : Fin C)) : EReal)

/-- The moments and the change of the whole array. -/
def firsts (m g : FVec Ideal ⟨3, ![1, R, C]⟩ .f32) : FVec Ideal ⟨3, ![1, R, C]⟩ .f32 := fun j => first (m j) (g j)
def seconds (v g : FVec Ideal ⟨3, ![1, R, C]⟩ .f32) : FVec Ideal ⟨3, ![1, R, C]⟩ .f32 := fun j => second (v j) (g j)
def changes (w m v : FVec Ideal ⟨3, ![1, R, C]⟩ .f32) : FVec Ideal ⟨3, ![1, R, C]⟩ .f32 := fun j => change (w j) (m j) (v j)

theorem grad_apply {n : ℕ} (s : Fin n) (p : FVec Ideal ⟨3, ![n, R, C]⟩ .bf16) (x : FVec Ideal ⟨3, ![3, R, C]⟩ .bf16) (z : Fin 1) (r : Fin R) (e : Fin C) :
    grad s p x (ix3 z r e) = (p (ix3 s r e) : EReal) + ∑ k : Fin 3, (x (ix3 k r e) : EReal) := rfl

/-- Adding three terms one after the other is adding their sum. -/
theorem add_three (a : EReal) (f : Fin 3 → EReal) : a + f 0 + f 1 + f 2 = a + ∑ k, f k := by
  rw [Fin.sum_univ_three, add_assoc, add_assoc, add_assoc]

/-- Both bits of a conjunction that is one are one. -/
theorem both {a b : BitVec 1} (h : IntOp.andi a b = 1#1) : a = 1#1 ∧ b = 1#1 := by
  revert a b
  decide

/-- A word that is at least 0 and below 4, read signed, is one of the four places. -/
theorem place_of {x : BitVec 32} (h : IntOp.andi (IntOp.cmpi .sge x 0#32) (IntOp.cmpi .slt x 4#32) = 1#1) : ∃ s : Fin 4, x = BitVec.ofNat 32 s.val := by
  obtain ⟨h0, h4⟩ := both h
  have h0 : BitVec.ofBool ((0#32).sle x) = 1#1 := h0
  have h4 : BitVec.ofBool (x.slt 4#32) = 1#1 := h4
  have b : x.toNat < 4 := by
    cases e0 : (0#32).sle x
    · rw [e0] at h0; exact absurd h0 (by decide)
    cases e4 : x.slt 4#32
    · rw [e4] at h4; exact absurd h4 (by decide)
    simp only [BitVec.sle, BitVec.slt, decide_eq_true_eq, BitVec.toInt_eq_toNat_cond] at e0 e4
    simp only [BitVec.toNat_ofNat] at e0 e4
    have := x.isLt
    split at e0 <;> split at e4 <;> omega
  exact ⟨⟨x.toNat, b⟩, by rw [BitVec.ofNat_toNat, BitVec.setWidth_eq]⟩

/-- A sum that keeps only the term at one place is that term. -/
theorem own_sum (f : Fin 4 → EReal) (s : Fin 4) :
    ∑ k : Fin 4, Scalar.select (IntOp.cmpi .eq (BitVec.ofNat 32 k.val) (BitVec.ofNat 32 s.val)) (f k) (word 0#32) = f s := by
  have bit : ∀ k s : Fin 4, IntOp.cmpi .eq (BitVec.ofNat 32 k.val) (BitVec.ofNat 32 s.val) = if k = s then 1#1 else 0#1 := by decide
  have term : ∀ k : Fin 4, Scalar.select (IntOp.cmpi .eq (BitVec.ofNat 32 k.val) (BitVec.ofNat 32 s.val)) (f k) (word 0#32) = if k = s then f k else 0 := by
    intro k
    rw [bit]
    by_cases e : k = s
    · rw [if_pos e, if_pos e]; rfl
    · rw [if_neg e, if_neg e]; exact Ideal.ofBits_zero_f32
  rw [Finset.sum_congr rfl fun k _ => term k, Finset.sum_ite_eq' Finset.univ s f, if_pos (Finset.mem_univ s)]

end Adam
end
-- ==== Proof.AdamGate.lean ====
/-
  The optimiser's step for the input weights of the gated layer, one tile of 512 rows at a time.
-/
module

public import proofs.«01_k».proof.Defs
public import proofs.«01_k».proof.Proof.Gen.KernelAdamGate.Frame
public import proofs.«01_k».proof.Proof.Gen.KernelAdamGateIdeal.Frame
public import Idealize.ShloMosaic.Adequacy
public import Idealize.ShloMosaic.Init
public import proofs.«01_k».proof.Proof.Gen.ReferenceAdamGateIdeal.Read
public import proofs.«01_k».proof.Proof.Adam
public import Idealize.ShloMosaic.Lib.Pipeline.ValueKit.Point

@[expose] public section

set_option maxRecDepth 16384

noncomputable section

namespace AdamGate

open Products Idealize.ShloMosaic Idealize.ShloMosaic.TcCoe Cert.KernelAdamGateIdeal Cert.KernelAdamGateIdeal.Gen

/-- What the precondition on the device's place takes. -/
theorem placeFacts : Cert.Pre_place_gate.Facts where
  bcast_S_S1 := by decide

/-- Under the precondition the device's place is one of the four. -/
theorem placed [Cert.Pre_place_gate.Facts] {F : FTy → Type} [FloatOps F] {w u v : FVec F S1x2048x512 .f32} {p : FVec F S4x2048x512 .bf16} {x : FVec F S3x2048x512 .bf16} {q : IVec S1 32}
    (h : Cert.Pre_place_gate.fn w u v p x q = fun _ => 1#1) : ∃ s : Fin 4, q = fun _ => BitVec.ofNat 32 s.val := by
  let o : S1.Idx := fun a => match a with | ⟨0, _⟩ => ⟨0, Nat.one_pos⟩
  obtain ⟨s, e⟩ := Adam.place_of (x := q o) (congrFun h o)
  exact ⟨s, funext fun i => (congrArg q (funext fun a => match a with | ⟨0, _⟩ => Subsingleton.elim (α := Fin 1) _ _)).trans e⟩

section
variable {F : FTy → Type} [FloatOps F] (m : (ℓ : Loc nD τ sig) → Buf (Elt F) ℓ) (s : Fin 4) (hs : tbl m 0 = fun _ => BitVec.ofNat 32 s.val)
include hs

/-- The block of the partial gradients at a grid point is the block of the weights there, in the part at the device's place. -/
theorem block_part (i : grid0.Coords) : cc0_transform_3 inb_S1_S1_0 numel1_S1 (tbl m) i = ![s.val, cc0_transform_0 i 1, cc0_transform_0 i 2] := by
  unfold cc0_transform_3 Pipeline.Prefetch.Contents.at
  rw [hs]
  revert s
  exact fun s _ => match s with
    | 0 => rfl
    | 1 => rfl
    | 2 => rfl
    | 3 => rfl

/-- The blocks that the table names lie inside the arrays. -/
theorem ok : Ok m := by
  have inside : ∀ (s : Fin 4) (i : grid0.Coords) (a : Fin 3),
      ((![s.val, cc0_transform_0 i 1, cc0_transform_0 i 2] : Fin 3 → Nat) a + 1) * S1x512x512.size a ≤ S4x2048x512.size a := by decide +kernel
  intro i
  rw [block_part m s hs]
  exact ⟨inside s i, .inr (Affine.block_words_dvd (of_decide_eq_true rfl) (by decide))⟩
end

/-- The row of blocks each grid point stands on. -/
theorem place : ∀ t : Fin grid0.N, cc0_transform_0 (grid0.coords t) = ![0, t.val, 0] := by decide +kernel

section
variable (c : Dev nD) (i : grid0.Coords) {a3 h3 a4 h4 a5 h5 a6 h6 a7 h7 a8 h8 a9 h9 a10 h10 a11 h11} (x0 x1 x2 : Vec Ideal S1x512x512 .f32)
    (x3 : Vec Ideal S1x512x512 .bf16) (x4 : Vec Ideal S3x512x512 .bf16) (xt : TbBuf0 (F := Ideal) c tbM0_0) (z : Fin 1) (r e : Fin 512)

/-- What one grid point leaves in each of its windows, from the blocks it reads: the gradient, -/
theorem tile_grad : out0_A_5 c i a3 h3 a4 h4 a5 h5 a6 h6 a7 h7 a8 h8 a9 h9 a10 h10 a11 h11 x0 x1 x2 x3 x4 xt (ix3 z r e) = Adam.grad (n := 1) 0 x3 x4 (ix3 z r e) := by
  frame_out
  rw [Adam.grad_apply, ← Adam.add_three]
  pointwise [k0_pay1, k0_pay5]
/-- the first moment, -/
theorem tile_first : out0_A_7 c i a3 h3 a4 h4 a5 h5 a6 h6 a7 h7 a8 h8 a9 h9 a10 h10 a11 h11 x0 x1 x2 x3 x4 xt (ix3 z r e)
    = Adam.first (x1 (ix3 0 r e)) (Adam.grad (n := 1) 0 x3 x4 (ix3 z r e)) := by
  frame_out
  rw [Adam.grad_apply, ← Adam.add_three]
  pointwise [k0_pay3, k0_pay7, k0_pay5, Adam.first, Adam.word]

/-- the second moment -/
theorem tile_second : out0_A_8 c i a3 h3 a4 h4 a5 h5 a6 h6 a7 h7 a8 h8 a9 h9 a10 h10 a11 h11 x0 x1 x2 x3 x4 xt (ix3 z r e)
    = Adam.second (x2 (ix3 0 r e)) (Adam.grad (n := 1) 0 x3 x4 (ix3 z r e)) := by
  frame_out
  rw [Adam.grad_apply, ← Adam.add_three]
  pointwise [k0_pay4, k0_pay8, k0_pay5, Adam.second, Adam.word]

/-- and the change of the weight. -/
theorem tile_change : out0_A_6 c i a3 h3 a4 h4 a5 h5 a6 h6 a7 h7 a8 h8 a9 h9 a10 h10 a11 h11 x0 x1 x2 x3 x4 xt (ix3 z r e)
    = Adam.change (x0 (ix3 0 r e)) (Adam.first (x1 (ix3 0 r e)) (Adam.grad (n := 1) 0 x3 x4 (ix3 z r e)))
      (Adam.second (x2 (ix3 0 r e)) (Adam.grad (n := 1) 0 x3 x4 (ix3 z r e))) := by
  frame_out
  rw [Adam.grad_apply, ← Adam.add_three]
  pointwise [k0_pay2, k0_pay6, k0_pay7, k0_pay8, k0_pay5, Adam.change, Adam.first, Adam.second, Adam.word]
end

variable (m : (ℓ : Loc nD τ sig) → Buf (Elt Ideal) ℓ) (hO : Ok m) (c : Dev nD) (s : Fin 4) (hs : tbl m 0 = fun _ => BitVec.ofNat 32 s.val)

/-- An element of a window's block is an element of its array. -/
theorem read_w (t : Fin grid0.N) (z : Fin 1) (r e : Fin 512) (h : 512 * t.val + r.val < 2048) :
    iblk m hO c 0 t (ix3 z r e) = m ((c : Thread nD τ).loc main_arg0) (ix3 z (⟨512 * t.val + r.val, h⟩ : Fin 2048) e) := by
  have q : ((cfgM m hO).win 0).index t = ![0, t.val, 0] := place t
  blk_ext [iblk, V_main_arg0, q]
theorem read_m (t : Fin grid0.N) (z : Fin 1) (r e : Fin 512) (h : 512 * t.val + r.val < 2048) :
    iblk m hO c 1 t (ix3 z r e) = m ((c : Thread nD τ).loc main_arg1) (ix3 z (⟨512 * t.val + r.val, h⟩ : Fin 2048) e) := by
  have q : ((cfgM m hO).win 1).index t = ![0, t.val, 0] := place t
  blk_ext [iblk, V_main_arg1, q]
theorem read_v (t : Fin grid0.N) (z : Fin 1) (r e : Fin 512) (h : 512 * t.val + r.val < 2048) :
    iblk m hO c 2 t (ix3 z r e) = m ((c : Thread nD τ).loc main_arg2) (ix3 z (⟨512 * t.val + r.val, h⟩ : Fin 2048) e) := by
  have q : ((cfgM m hO).win 2).index t = ![0, t.val, 0] := place t
  blk_ext [iblk, V_main_arg2, q]
include hs in
theorem read_p (t : Fin grid0.N) (z : Fin 1) (r e : Fin 512) (h : 512 * t.val + r.val < 2048) :
    iblk m hO c 3 t (ix3 z r e) = m ((c : Thread nD τ).loc main_arg3) (ix3 s (⟨512 * t.val + r.val, h⟩ : Fin 2048) e) := by
  have q : ((cfgM m hO).win 3).index t = ![s.val, t.val, 0] := (block_part m s hs _).trans (by rw [place t]; rfl)
  blk_ext [iblk, V_main_arg3, q]
theorem read_x (t : Fin grid0.N) (k : Fin 3) (r e : Fin 512) (h : 512 * t.val + r.val < 2048) :
    iblk m hO c 4 t (ix3 k r e) = m ((c : Thread nD τ).loc main_arg4) (ix3 k (⟨512 * t.val + r.val, h⟩ : Fin 2048) e) := by
  have q : ((cfgM m hO).win 4).index t = ![0, t.val, 0] := place t
  blk_ext [iblk, V_main_arg4, q]
theorem read_5 (t : Fin grid0.N) (A : FVec Ideal S1x2048x512 .f32) (z : Fin 1) (r e : Fin 512) (h : 512 * t.val + r.val < 2048) :
    (((cfgM m hO).win 5).blk t).view.read (Elt Ideal) A (ix3 z r e) = A (ix3 z ⟨512 * t.val + r.val, h⟩ e) := by
  have q : ((cfgM m hO).win 5).index t = ![0, t.val, 0] := place t
  blk_ext [q]
theorem read_6 (t : Fin grid0.N) (A : FVec Ideal S1x2048x512 .f32) (z : Fin 1) (r e : Fin 512) (h : 512 * t.val + r.val < 2048) :
    (((cfgM m hO).win 6).blk t).view.read (Elt Ideal) A (ix3 z r e) = A (ix3 z ⟨512 * t.val + r.val, h⟩ e) := by
  have q : ((cfgM m hO).win 6).index t = ![0, t.val, 0] := place t
  blk_ext [q]
theorem read_7 (t : Fin grid0.N) (A : FVec Ideal S1x2048x512 .f32) (z : Fin 1) (r e : Fin 512) (h : 512 * t.val + r.val < 2048) :
    (((cfgM m hO).win 7).blk t).view.read (Elt Ideal) A (ix3 z r e) = A (ix3 z ⟨512 * t.val + r.val, h⟩ e) := by
  have q : ((cfgM m hO).win 7).index t = ![0, t.val, 0] := place t
  blk_ext [q]
theorem read_8 (t : Fin grid0.N) (A : FVec Ideal S1x2048x512 .f32) (z : Fin 1) (r e : Fin 512) (h : 512 * t.val + r.val < 2048) :
    (((cfgM m hO).win 8).blk t).view.read (Elt Ideal) A (ix3 z r e) = A (ix3 z ⟨512 * t.val + r.val, h⟩ e) := by
  have q : ((cfgM m hO).win 8).index t = ![0, t.val, 0] := place t
  blk_ext [q]

/-- The gradient, the moments and the change that the arguments give. -/
abbrev g : FVec Ideal S1x2048x512 .f32 := Adam.grad s (m ((c : Thread nD τ).loc main_arg3)) (m ((c : Thread nD τ).loc main_arg4))
abbrev m1 : FVec Ideal S1x2048x512 .f32 := Adam.firsts (m ((c : Thread nD τ).loc main_arg1)) (g m c s)
abbrev m2 : FVec Ideal S1x2048x512 .f32 := Adam.seconds (m ((c : Thread nD τ).loc main_arg2)) (g m c s)
abbrev d : FVec Ideal S1x2048x512 .f32 := Adam.changes (m ((c : Thread nD τ).loc main_arg0)) (m1 m c s) (m2 m c s)

include hs in
/-- The gradient of a tile is the tile of the gradient. -/
theorem grad_tile (t : Fin grid0.N) (z : Fin 1) (r e : Fin 512) (h : 512 * t.val + r.val < 2048) :
    Adam.grad (n := 1) 0 (iblk m hO c 3 t) (iblk m hO c 4 t) (ix3 z r e) = g m c s (ix3 z (⟨512 * t.val + r.val, h⟩ : Fin 2048) e) :=
  congrArg₂ (· + ·) (read_p m hO c s hs t 0 r e h) (Finset.sum_congr rfl fun k _ => read_x m hO c t k r e h)

theorem rows (t : Fin grid0.N) (r : Fin 512) : 512 * t.val + r.val < 2048 := by
  have ht : t.val < 4 := lt_of_lt_of_eq t.isLt N_0
  omega

include hs in
/-- What grid point `t` leaves in each window is its tile of the result. -/
theorem left_5 (t : Fin grid0.N) (r e : Fin 512) :
    (outsAt0 m hO c t).1 (ix3 0 r e) = g m c s (ix3 0 (⟨512 * t.val + r.val, rows t r⟩ : Fin 2048) e) := by
  have hg := grad_tile m hO c s hs t 0 r e (rows t r)
  dsimp only [outsAt0]
  refine (tile_grad c (grid0.coords t) (iblk m hO c 0 t) (iblk m hO c 1 t) (iblk m hO c 2 t) (iblk m hO c 3 t)
    (iblk m hO c 4 t) (tbl m 0) 0 r e).trans ?_
  exact hg
include hs in
theorem left_7 (t : Fin grid0.N) (r e : Fin 512) :
    (outsAt0 m hO c t).2.2.1 (ix3 0 r e) = m1 m c s (ix3 0 (⟨512 * t.val + r.val, rows t r⟩ : Fin 2048) e) := by
  have hg := grad_tile m hO c s hs t 0 r e (rows t r)
  have hm := read_m m hO c t 0 r e (rows t r)
  dsimp only [outsAt0]
  refine (tile_first c (grid0.coords t) (iblk m hO c 0 t) (iblk m hO c 1 t) (iblk m hO c 2 t) (iblk m hO c 3 t)
    (iblk m hO c 4 t) (tbl m 0) 0 r e).trans ?_
  exact congrArg₂ Adam.first hm hg
include hs in
theorem left_8 (t : Fin grid0.N) (r e : Fin 512) :
    (outsAt0 m hO c t).2.2.2 (ix3 0 r e) = m2 m c s (ix3 0 (⟨512 * t.val + r.val, rows t r⟩ : Fin 2048) e) := by
  have hg := grad_tile m hO c s hs t 0 r e (rows t r)
  have hv := read_v m hO c t 0 r e (rows t r)
  dsimp only [outsAt0]
  refine (tile_second c (grid0.coords t) (iblk m hO c 0 t) (iblk m hO c 1 t) (iblk m hO c 2 t) (iblk m hO c 3 t)
    (iblk m hO c 4 t) (tbl m 0) 0 r e).trans ?_
  exact congrArg₂ Adam.second hv hg
include hs in
theorem left_6 (t : Fin grid0.N) (r e : Fin 512) :
    (outsAt0 m hO c t).2.1 (ix3 0 r e) = d m c s (ix3 0 (⟨512 * t.val + r.val, rows t r⟩ : Fin 2048) e) := by
  have hg := grad_tile m hO c s hs t 0 r e (rows t r)
  have hm := read_m m hO c t 0 r e (rows t r)
  have hv := read_v m hO c t 0 r e (rows t r)
  have hw := read_w m hO c t 0 r e (rows t r)
  dsimp only [outsAt0]
  refine (tile_change c (grid0.coords t) (iblk m hO c 0 t) (iblk m hO c 1 t) (iblk m hO c 2 t) (iblk m hO c 3 t)
    (iblk m hO c 4 t) (tbl m 0) 0 r e).trans ?_
  exact Adam.change_congr hw (congrArg₂ Adam.first hm hg) (congrArg₂ Adam.second hv hg)

include hs in
/-- What grid point `t` writes back is its tile of the result. -/
theorem written_5 (t : Fin grid0.N) :
    (dats m hO 0 c).flushed 5 t = (((cfgM m hO).win 5).blk t).view.read (Elt Ideal) (g m c s) := by
  show ((cfgM m hO).win 5).cut (grid0.coords t) ((dats m hO 0 c).after 5 t) = _
  rw [after0_5]
  funext y
  obtain ⟨z, r, e, rfl⟩ : ∃ (z : Fin 1) (r e : Fin 512), y = ix3 z r e := ix3_of y
  obtain rfl : z = 0 := Subsingleton.elim _ _
  exact (left_5 m hO c s hs t r e).trans (read_5 m hO t (g m c s) 0 r e (rows t r)).symm
include hs in
theorem written_7 (t : Fin grid0.N) :
    (dats m hO 0 c).flushed 7 t = (((cfgM m hO).win 7).blk t).view.read (Elt Ideal) (m1 m c s) := by
  show ((cfgM m hO).win 7).cut (grid0.coords t) ((dats m hO 0 c).after 7 t) = _
  rw [after0_7]
  funext y
  obtain ⟨z, r, e, rfl⟩ : ∃ (z : Fin 1) (r e : Fin 512), y = ix3 z r e := ix3_of y
  obtain rfl : z = 0 := Subsingleton.elim _ _
  exact (left_7 m hO c s hs t r e).trans (read_7 m hO t (m1 m c s) 0 r e (rows t r)).symm
include hs in
theorem written_8 (t : Fin grid0.N) :
    (dats m hO 0 c).flushed 8 t = (((cfgM m hO).win 8).blk t).view.read (Elt Ideal) (m2 m c s) := by
  show ((cfgM m hO).win 8).cut (grid0.coords t) ((dats m hO 0 c).after 8 t) = _
  rw [after0_8]
  funext y
  obtain ⟨z, r, e, rfl⟩ : ∃ (z : Fin 1) (r e : Fin 512), y = ix3 z r e := ix3_of y
  obtain rfl : z = 0 := Subsingleton.elim _ _
  exact (left_8 m hO c s hs t r e).trans (read_8 m hO t (m2 m c s) 0 r e (rows t r)).symm
include hs in
theorem written_6 (t : Fin grid0.N) :
    (dats m hO 0 c).flushed 6 t = (((cfgM m hO).win 6).blk t).view.read (Elt Ideal) (d m c s) := by
  show ((cfgM m hO).win 6).cut (grid0.coords t) ((dats m hO 0 c).after 6 t) = _
  rw [after0_6]
  funext y
  obtain ⟨z, r, e, rfl⟩ : ∃ (z : Fin 1) (r e : Fin 512), y = ix3 z r e := ix3_of y
  obtain rfl : z = 0 := Subsingleton.elim _ _
  exact (left_6 m hO c s hs t r e).trans (read_6 m hO t (d m c s) 0 r e (rows t r)).symm

/-- An index is in a grid point's tile when its row is in the tile's range: the tile as the four results have it. -/
theorem mem_tile (t : Fin grid0.N) (i : S1x2048x512.Idx) (h : (i 1).val / 512 = t.val) (b) :
    i ∈ (Rect.block (s := S1x2048x512) S1x512x512.size (cc0_transform_0 (grid0.coords t)) b).set := by
  rw [Rect.mem_set_unit]
  have q := place t
  have h0 : (i 0).val < 1 := (i 0).isLt
  have h2 : (i 2).val < 512 := (i 2).isLt
  exact fun a => match a with
  | ⟨0, _⟩ => in_range (n := 1) (by decide) ((by omega : (i 0).val / 1 = 0).trans (congrFun q 0).symm)
  | ⟨1, _⟩ => in_range (n := 512) (by decide) (h.trans (congrFun q 1).symm)
  | ⟨2, _⟩ => in_range (n := 512) (by decide) ((by omega : (i 2).val / 512 = 0).trans (congrFun q 2).symm)

theorem mem_5 (t : Fin grid0.N) (i : S1x2048x512.Idx) (h : (i 1).val / 512 = t.val) : i ∈ (((cfgM m hO).win 5).blk t).view.set := by
  show i ∈ ((View.whole main_v0_0).slice (Rect.block (s := S1x2048x512) S1x512x512.size (cc0_transform_5 (grid0.coords t)) (hinb0_5 _))).set
  rw [View.set_slice_whole]
  exact mem_tile t i h _
theorem mem_6 (t : Fin grid0.N) (i : S1x2048x512.Idx) (h : (i 1).val / 512 = t.val) : i ∈ (((cfgM m hO).win 6).blk t).view.set := by
  show i ∈ ((View.whole main_v0_1).slice (Rect.block (s := S1x2048x512) S1x512x512.size (cc0_transform_6 (grid0.coords t)) (hinb0_6 _))).set
  rw [View.set_slice_whole]
  exact mem_tile t i h _
theorem mem_7 (t : Fin grid0.N) (i : S1x2048x512.Idx) (h : (i 1).val / 512 = t.val) : i ∈ (((cfgM m hO).win 7).blk t).view.set := by
  show i ∈ ((View.whole main_v0_2).slice (Rect.block (s := S1x2048x512) S1x512x512.size (cc0_transform_7 (grid0.coords t)) (hinb0_7 _))).set
  rw [View.set_slice_whole]
  exact mem_tile t i h _
theorem mem_8 (t : Fin grid0.N) (i : S1x2048x512.Idx) (h : (i 1).val / 512 = t.val) : i ∈ (((cfgM m hO).win 8).blk t).view.set := by
  show i ∈ ((View.whole main_v0_3).slice (Rect.block (s := S1x2048x512) S1x512x512.size (cc0_transform_8 (grid0.coords t)) (hinb0_8 _))).set
  rw [View.set_slice_whole]
  exact mem_tile t i h _

/-- Every index of a result is in the tile of some grid point. -/
theorem row_tile (i : S1x2048x512.Idx) : (i 1).val / 512 < grid0.N := by
  have h1 : (i 1).val < 2048 := (i 1).isLt
  exact lt_of_lt_of_eq (b := 4) (by omega) N_0.symm

include hs in
/-- The kernel's results: the gradient, the change of the weight and the two moments. -/
theorem result_5 : (dats m hO 0 c).arrAt 5 (cfgM m hO).N = g m c s :=
  (dats m hO 0 c).arrAt_eq_of_cover 5 _ (fun t _ => written_5 m hO c s hs t) (fun i => ⟨⟨_, row_tile i⟩, flush0_5 _ _, mem_5 m hO _ i rfl⟩)
include hs in
theorem result_6 : (dats m hO 0 c).arrAt 6 (cfgM m hO).N = d m c s :=
  (dats m hO 0 c).arrAt_eq_of_cover 6 _ (fun t _ => written_6 m hO c s hs t) (fun i => ⟨⟨_, row_tile i⟩, flush0_6 _ _, mem_6 m hO _ i rfl⟩)
include hs in
theorem result_7 : (dats m hO 0 c).arrAt 7 (cfgM m hO).N = m1 m c s :=
  (dats m hO 0 c).arrAt_eq_of_cover 7 _ (fun t _ => written_7 m hO c s hs t) (fun i => ⟨⟨_, row_tile i⟩, flush0_7 _ _, mem_7 m hO _ i rfl⟩)
include hs in
theorem result_8 : (dats m hO 0 c).arrAt 8 (cfgM m hO).N = m2 m c s :=
  (dats m hO 0 c).arrAt_eq_of_cover 8 _ (fun t _ => written_8 m hO c s hs t) (fun i => ⟨⟨_, row_tile i⟩, flush0_8 _ _, mem_8 m hO _ i rfl⟩)

section
open Cert.ReferenceAdamGateIdeal.Read
variable (w u v : FVec Ideal S1x2048x512 .f32) (p : FVec Ideal S4x2048x512 .bf16) (x : FVec Ideal S3x2048x512 .bf16) (s : Fin 4)

/-- The reference's own part is the one at the device's place. -/
theorem reference_part (r : Fin 2048) (e : Fin 512) (i : Cert.ReferenceAdamGateIdeal.S2048x512.Idx) (h0 : (i 0).val = r.val) (h1 : (i 1).val = e.val) :
    val_main_v7 (F := Ideal) p (fun _ => BitVec.ofNat 32 s.val) i = p (ix3 s r e) := by
  rw [val_main_v7_apply, val_main_cst_0_apply]
  refine (congrArg₂ (fun a b : EReal => a + b) Ideal.ofBits_zero_f32 ((Finset.sum_congr rfl fun k _ => ?_).trans
    (Adam.own_sum (fun k => p (ix3 k r e)) s))).trans (zero_add _)
  rw [val_main_v6_apply, val_main_call0_v1_apply, val_main_v4_apply, val_main_v1_apply, val_main_v0_apply, val_main_v3_apply, val_main_v2_apply,
    val_main_v5_apply, val_main_call0_v2_apply, val_main_call0_v0_apply, val_main_cst_apply]
  refine congrArg (fun a : EReal => Scalar.select (IntOp.cmpi .eq (BitVec.ofNat 32 k.val) (BitVec.ofNat 32 s.val)) a (Adam.word 0#32)) (congrArg p ?_)
  funext a
  exact match a with
    | ⟨0, _⟩ => rfl
    | ⟨1, _⟩ => Fin.ext h0
    | ⟨2, _⟩ => Fin.ext h1

/-- The reference's results are the same: the gradient, -/
theorem reference_grad : val_main_v11 (F := Ideal) p x (fun _ => BitVec.ofNat 32 s.val) = Adam.grad s p x := by
  funext j
  obtain ⟨z, r, e, rfl⟩ : ∃ (z : Fin 1) (r : Fin 2048) (e : Fin 512), j = ix3 z r e := ix3_of j
  rw [Adam.grad_apply, val_main_v11_apply, val_main_v10_apply, reference_part p s r e _ rfl rfl, val_main_v9_apply, val_main_cst_1_apply]
  refine congrArg (fun b : EReal => p (ix3 s r e) + b) ((congrArg (· + _) Ideal.ofBits_zero_f32).trans ((zero_add _).trans ?_))
  exact Finset.sum_congr rfl fun k _ => congrArg x (funext fun a => match a with
    | ⟨0, _⟩ => rfl
    | ⟨1, _⟩ => rfl
    | ⟨2, _⟩ => rfl)
/-- the first moment, -/
theorem reference_first : val_main_v16 (F := Ideal) u p x (fun _ => BitVec.ofNat 32 s.val) = Adam.firsts u (Adam.grad s p x) := by
  rw [← reference_grad]
  funext j
  rw [val_main_v16_apply, val_main_v13_apply, val_main_v15_apply, val_main_v12_apply, val_main_v14_apply]
  rfl
/-- the second moment, -/
theorem reference_second : val_main_v22 (F := Ideal) v p x (fun _ => BitVec.ofNat 32 s.val) = Adam.seconds v (Adam.grad s p x) := by
  rw [← reference_grad]
  funext j
  rw [val_main_v22_apply, val_main_v18_apply, val_main_v21_apply, val_main_v19_apply, val_main_v17_apply, val_main_v20_apply]
  rfl
/-- and the change of the weight. -/
theorem reference_change : val_main_v35 (F := Ideal) w u v p x (fun _ => BitVec.ofNat 32 s.val)
    = Adam.changes w (Adam.firsts u (Adam.grad s p x)) (Adam.seconds v (Adam.grad s p x)) := by
  rw [← reference_first, ← reference_second]
  funext j
  rw [val_main_v35_apply, val_main_v33_apply, val_main_v30_apply, val_main_v24_apply, val_main_v29_apply, val_main_v27_apply, val_main_v26_apply,
    val_main_v32_apply, val_main_v34_apply, val_main_v31_apply, val_main_v28_apply, val_main_v25_apply, val_main_v23_apply]
  rfl
end

open Idealize.SL.Sem

/-- The reference runs, ends with its arguments unchanged, and declares no semaphore. -/
theorem frame_reference : Cert.quiescent_ReferenceAdamGateIdeal := fun m ρ _ =>
  (θ_run Cert.ReferenceAdamGateIdeal.defs _ _).mono (fun r h => ⟨fun c => (h c).2.2.2.2,
    Idealize.ShloMosaic.sem_eq_zero_of_no_sems (by decide) r.2⟩) (Cert.ReferenceAdamGateIdeal.Value.run m ρ)

/-- Under the precondition the kernel runs on extended reals, ends with its arguments unchanged and its semaphores at zero. -/
theorem frame_kernel : Cert.quiescent_KernelAdamGateIdeal (hPre_place_gate := placeFacts) := fun m ρ hp =>
  letI := placeFacts
  let ⟨s, hs⟩ := placed (hp 0)
  Cert.KernelAdamGateIdeal.Gen.frame m ρ (ok m s hs)

/-- At each of the four places the kernel's four results are the reference's, whatever the other arguments. -/
theorem value : Cert.algebraic_KernelAdamGateIdeal_ReferenceAdamGateIdeal (hPre_place_gate := placeFacts) := by
  letI := placeFacts
  intro m ρ m' ρ' hp ha
  obtain ⟨s, hs⟩ := placed (hp 0)
  have hO := ok m s hs
  refine ⟨fun c => g m c s, fun c => d m c s, fun c => m1 m c s, fun c => m2 m c s, ?_, ?_⟩
  · refine (θ_run defs _ _).mono (fun r h c => ?_) (θ_run_and (run_main m ρ hO) (unchanged m ρ hO))
    exact ⟨((h.1 c).1 5).trans (result_5 m hO c s hs), ((h.1 c).1 6).trans (result_6 m hO c s hs), ((h.1 c).1 7).trans (result_7 m hO c s hs),
      ((h.1 c).1 8).trans (result_8 m hO c s hs), h.2 c⟩
  · refine (θ_run Cert.ReferenceAdamGateIdeal.defs _ _).mono (fun r h c => ?_) (Cert.ReferenceAdamGateIdeal.Value.run m' ρ')
    obtain ⟨a0, a1, a2, a3, a4, a5⟩ := ha c
    obtain ⟨h0, h1, h2, h3, hk⟩ := h c
    obtain rfl : c = 0 := Subsingleton.elim _ _
    replace a5 := a5.trans hs
    refine ⟨h0.trans ?_, h1.trans ?_, h2.trans ?_, h3.trans ?_, hk⟩
    · rw [a3, a4, a5]; exact reference_grad _ _ s
    · rw [a0, a1, a2, a3, a4, a5]; exact reference_change _ _ _ _ _ s
    · rw [a1, a3, a4, a5]; exact reference_first _ _ _ s
    · rw [a2, a3, a4, a5]; exact reference_second _ _ _ s

end AdamGate

namespace AdamGateWords

open Products Idealize.ShloMosaic Idealize.ShloMosaic.TcCoe Cert.KernelAdamGate Cert.KernelAdamGate.Gen

section
variable {F : FTy → Type} [FloatOps F] (m : (ℓ : Loc nD τ sig) → Buf (Elt F) ℓ) (s : Fin 4) (hs : tbl m 0 = fun _ => BitVec.ofNat 32 s.val)
include hs

/-- The same of the program on words: the block of the partial gradients at a grid point is the block of the weights there, in the part at the device's place. -/
theorem block_part (i : grid0.Coords) : cc0_transform_3 inb_S1_S1_0 numel1_S1 (tbl m) i = ![s.val, cc0_transform_0 i 1, cc0_transform_0 i 2] := by
  unfold cc0_transform_3 Pipeline.Prefetch.Contents.at
  rw [hs]
  revert s
  exact fun s _ => match s with
    | 0 => rfl
    | 1 => rfl
    | 2 => rfl
    | 3 => rfl

/-- The blocks that the table names lie inside the arrays. -/
theorem ok : Ok m := by
  have inside : ∀ (s : Fin 4) (i : grid0.Coords) (a : Fin 3),
      ((![s.val, cc0_transform_0 i 1, cc0_transform_0 i 2] : Fin 3 → Nat) a + 1) * S1x512x512.size a ≤ S4x2048x512.size a := by decide +kernel
  intro i
  rw [block_part m s hs]
  exact ⟨inside s i, .inr (Affine.block_words_dvd (of_decide_eq_true rfl) (by decide))⟩
end

/-- Under the precondition the kernel runs on words, ends with its arguments unchanged and its semaphores at zero. -/
theorem frame_kernel : Cert.quiescent_KernelAdamGate (hPre_place_gate := AdamGate.placeFacts) := fun m ρ hp =>
  letI := AdamGate.placeFacts
  let ⟨s, hs⟩ := AdamGate.placed (hp 0)
  Cert.KernelAdamGate.Gen.frame m ρ (ok m s hs)

end AdamGateWords
end
-- ==== Proof.AdamQkv.lean ====
/-
  The optimiser's step for the input weights of the attention layer, one tile of 256 rows at a time.
-/
module

public import proofs.«01_k».proof.Defs
public import proofs.«01_k».proof.Proof.Gen.KernelAdamQkv.Frame
public import proofs.«01_k».proof.Proof.Gen.KernelAdamQkvIdeal.Frame
public import Idealize.ShloMosaic.Adequacy
public import Idealize.ShloMosaic.Init
public import proofs.«01_k».proof.Proof.Gen.ReferenceAdamQkvIdeal.Read
public import proofs.«01_k».proof.Proof.Adam
public import Idealize.ShloMosaic.Lib.Pipeline.ValueKit.Point

@[expose] public section

set_option maxRecDepth 16384

noncomputable section

namespace AdamQkv

open Products Idealize.ShloMosaic Idealize.ShloMosaic.TcCoe Cert.KernelAdamQkvIdeal Cert.KernelAdamQkvIdeal.Gen

/-- What the precondition on the device's place takes. -/
theorem placeFacts : Cert.Pre_place_qkv.Facts where
  bcast_S_S1 := by decide

/-- Under the precondition the device's place is one of the four. -/
theorem placed [Cert.Pre_place_qkv.Facts] {F : FTy → Type} [FloatOps F] {w u v : FVec F S1x2048x768 .f32} {p : FVec F S4x2048x768 .bf16} {x : FVec F S3x2048x768 .bf16} {q : IVec S1 32}
    (h : Cert.Pre_place_qkv.fn w u v p x q = fun _ => 1#1) : ∃ s : Fin 4, q = fun _ => BitVec.ofNat 32 s.val := by
  let o : S1.Idx := fun a => match a with | ⟨0, _⟩ => ⟨0, Nat.one_pos⟩
  obtain ⟨s, e⟩ := Adam.place_of (x := q o) (congrFun h o)
  exact ⟨s, funext fun i => (congrArg q (funext fun a => match a with | ⟨0, _⟩ => Subsingleton.elim (α := Fin 1) _ _)).trans e⟩

section
variable {F : FTy → Type} [FloatOps F] (m : (ℓ : Loc nD τ sig) → Buf (Elt F) ℓ) (s : Fin 4) (hs : tbl m 0 = fun _ => BitVec.ofNat 32 s.val)
include hs

/-- The block of the partial gradients at a grid point is the block of the weights there, in the part at the device's place. -/
theorem block_part (i : grid0.Coords) : cc0_transform_3 inb_S1_S1_0 numel1_S1 (tbl m) i = ![s.val, cc0_transform_0 i 1, cc0_transform_0 i 2] := by
  unfold cc0_transform_3 Pipeline.Prefetch.Contents.at
  rw [hs]
  revert s
  exact fun s _ => match s with
    | 0 => rfl
    | 1 => rfl
    | 2 => rfl
    | 3 => rfl

/-- The blocks that the table names lie inside the arrays. -/
theorem ok : Ok m := by
  have inside : ∀ (s : Fin 4) (i : grid0.Coords) (a : Fin 3),
      ((![s.val, cc0_transform_0 i 1, cc0_transform_0 i 2] : Fin 3 → Nat) a + 1) * S1x256x768.size a ≤ S4x2048x768.size a := by decide +kernel
  intro i
  rw [block_part m s hs]
  exact ⟨inside s i, .inr (Affine.block_words_dvd (of_decide_eq_true rfl) (by decide))⟩
end

/-- The row of blocks each grid point stands on. -/
theorem place : ∀ t : Fin grid0.N, cc0_transform_0 (grid0.coords t) = ![0, t.val, 0] := by decide +kernel

section
variable (c : Dev nD) (i : grid0.Coords) {a3 h3 a4 h4 a5 h5 a6 h6 a7 h7 a8 h8 a9 h9 a10 h10 a11 h11} (x0 x1 x2 : Vec Ideal S1x256x768 .f32)
    (x3 : Vec Ideal S1x256x768 .bf16) (x4 : Vec Ideal S3x256x768 .bf16) (xt : TbBuf0 (F := Ideal) c tbM0_0) (z : Fin 1) (r : Fin 256) (e : Fin 768)

/-- What one grid point leaves in each of its windows, from the blocks it reads: the gradient, -/
theorem tile_grad : out0_A_5 c i a3 h3 a4 h4 a5 h5 a6 h6 a7 h7 a8 h8 a9 h9 a10 h10 a11 h11 x0 x1 x2 x3 x4 xt (ix3 z r e) = Adam.grad (n := 1) 0 x3 x4 (ix3 z r e) := by
  frame_out
  rw [Adam.grad_apply, ← Adam.add_three]
  pointwise [k0_pay1, k0_pay5]
/-- the first moment, -/
theorem tile_first : out0_A_7 c i a3 h3 a4 h4 a5 h5 a6 h6 a7 h7 a8 h8 a9 h9 a10 h10 a11 h11 x0 x1 x2 x3 x4 xt (ix3 z r e)
    = Adam.first (x1 (ix3 0 r e)) (Adam.grad (n := 1) 0 x3 x4 (ix3 z r e)) := by
  frame_out
  rw [Adam.grad_apply, ← Adam.add_three]
  pointwise [k0_pay3, k0_pay7, k0_pay5, Adam.first, Adam.word]

/-- the second moment -/
theorem tile_second : out0_A_8 c i a3 h3 a4 h4 a5 h5 a6 h6 a7 h7 a8 h8 a9 h9 a10 h10 a11 h11 x0 x1 x2 x3 x4 xt (ix3 z r e)
    = Adam.second (x2 (ix3 0 r e)) (Adam.grad (n := 1) 0 x3 x4 (ix3 z r e)) := by
  frame_out
  rw [Adam.grad_apply, ← Adam.add_three]
  pointwise [k0_pay4, k0_pay8, k0_pay5, Adam.second, Adam.word]

/-- and the change of the weight. -/
theorem tile_change : out0_A_6 c i a3 h3 a4 h4 a5 h5 a6 h6 a7 h7 a8 h8 a9 h9 a10 h10 a11 h11 x0 x1 x2 x3 x4 xt (ix3 z r e)
    = Adam.change (x0 (ix3 0 r e)) (Adam.first (x1 (ix3 0 r e)) (Adam.grad (n := 1) 0 x3 x4 (ix3 z r e)))
      (Adam.second (x2 (ix3 0 r e)) (Adam.grad (n := 1) 0 x3 x4 (ix3 z r e))) := by
  frame_out
  rw [Adam.grad_apply, ← Adam.add_three]
  pointwise [k0_pay2, k0_pay6, k0_pay7, k0_pay8, k0_pay5, Adam.change, Adam.first, Adam.second, Adam.word]
end

variable (m : (ℓ : Loc nD τ sig) → Buf (Elt Ideal) ℓ) (hO : Ok m) (c : Dev nD) (s : Fin 4) (hs : tbl m 0 = fun _ => BitVec.ofNat 32 s.val)

/-- An element of a window's block is an element of its array. -/
theorem read_w (t : Fin grid0.N) (z : Fin 1) (r : Fin 256) (e : Fin 768) (h : 256 * t.val + r.val < 2048) :
    iblk m hO c 0 t (ix3 z r e) = m ((c : Thread nD τ).loc main_arg0) (ix3 z (⟨256 * t.val + r.val, h⟩ : Fin 2048) e) := by
  have q : ((cfgM m hO).win 0).index t = ![0, t.val, 0] := place t
  blk_ext [iblk, V_main_arg0, q]
theorem read_m (t : Fin grid0.N) (z : Fin 1) (r : Fin 256) (e : Fin 768) (h : 256 * t.val + r.val < 2048) :
    iblk m hO c 1 t (ix3 z r e) = m ((c : Thread nD τ).loc main_arg1) (ix3 z (⟨256 * t.val + r.val, h⟩ : Fin 2048) e) := by
  have q : ((cfgM m hO).win 1).index t = ![0, t.val, 0] := place t
  blk_ext [iblk, V_main_arg1, q]
theorem read_v (t : Fin grid0.N) (z : Fin 1) (r : Fin 256) (e : Fin 768) (h : 256 * t.val + r.val < 2048) :
    iblk m hO c 2 t (ix3 z r e) = m ((c : Thread nD τ).loc main_arg2) (ix3 z (⟨256 * t.val + r.val, h⟩ : Fin 2048) e) := by
  have q : ((cfgM m hO).win 2).index t = ![0, t.val, 0] := place t
  blk_ext [iblk, V_main_arg2, q]
include hs in
theorem read_p (t : Fin grid0.N) (z : Fin 1) (r : Fin 256) (e : Fin 768) (h : 256 * t.val + r.val < 2048) :
    iblk m hO c 3 t (ix3 z r e) = m ((c : Thread nD τ).loc main_arg3) (ix3 s (⟨256 * t.val + r.val, h⟩ : Fin 2048) e) := by
  have q : ((cfgM m hO).win 3).index t = ![s.val, t.val, 0] := (block_part m s hs _).trans (by rw [place t]; rfl)
  blk_ext [iblk, V_main_arg3, q]
theorem read_x (t : Fin grid0.N) (k : Fin 3) (r : Fin 256) (e : Fin 768) (h : 256 * t.val + r.val < 2048) :
    iblk m hO c 4 t (ix3 k r e) = m ((c : Thread nD τ).loc main_arg4) (ix3 k (⟨256 * t.val + r.val, h⟩ : Fin 2048) e) := by
  have q : ((cfgM m hO).win 4).index t = ![0, t.val, 0] := place t
  blk_ext [iblk, V_main_arg4, q]
theorem read_5 (t : Fin grid0.N) (A : FVec Ideal S1x2048x768 .f32) (z : Fin 1) (r : Fin 256) (e : Fin 768) (h : 256 * t.val + r.val < 2048) :
    (((cfgM m hO).win 5).blk t).view.read (Elt Ideal) A (ix3 z r e) = A (ix3 z ⟨256 * t.val + r.val, h⟩ e) := by
  have q : ((cfgM m hO).win 5).index t = ![0, t.val, 0] := place t
  blk_ext [q]
theorem read_6 (t : Fin grid0.N) (A : FVec Ideal S1x2048x768 .f32) (z : Fin 1) (r : Fin 256) (e : Fin 768) (h : 256 * t.val + r.val < 2048) :
    (((cfgM m hO).win 6).blk t).view.read (Elt Ideal) A (ix3 z r e) = A (ix3 z ⟨256 * t.val + r.val, h⟩ e) := by
  have q : ((cfgM m hO).win 6).index t = ![0, t.val, 0] := place t
  blk_ext [q]
theorem read_7 (t : Fin grid0.N) (A : FVec Ideal S1x2048x768 .f32) (z : Fin 1) (r : Fin 256) (e : Fin 768) (h : 256 * t.val + r.val < 2048) :
    (((cfgM m hO).win 7).blk t).view.read (Elt Ideal) A (ix3 z r e) = A (ix3 z ⟨256 * t.val + r.val, h⟩ e) := by
  have q : ((cfgM m hO).win 7).index t = ![0, t.val, 0] := place t
  blk_ext [q]
theorem read_8 (t : Fin grid0.N) (A : FVec Ideal S1x2048x768 .f32) (z : Fin 1) (r : Fin 256) (e : Fin 768) (h : 256 * t.val + r.val < 2048) :
    (((cfgM m hO).win 8).blk t).view.read (Elt Ideal) A (ix3 z r e) = A (ix3 z ⟨256 * t.val + r.val, h⟩ e) := by
  have q : ((cfgM m hO).win 8).index t = ![0, t.val, 0] := place t
  blk_ext [q]

/-- The gradient, the moments and the change that the arguments give. -/
abbrev g : FVec Ideal S1x2048x768 .f32 := Adam.grad s (m ((c : Thread nD τ).loc main_arg3)) (m ((c : Thread nD τ).loc main_arg4))
abbrev m1 : FVec Ideal S1x2048x768 .f32 := Adam.firsts (m ((c : Thread nD τ).loc main_arg1)) (g m c s)
abbrev m2 : FVec Ideal S1x2048x768 .f32 := Adam.seconds (m ((c : Thread nD τ).loc main_arg2)) (g m c s)
abbrev d : FVec Ideal S1x2048x768 .f32 := Adam.changes (m ((c : Thread nD τ).loc main_arg0)) (m1 m c s) (m2 m c s)

include hs in
/-- The gradient of a tile is the tile of the gradient. -/
theorem grad_tile (t : Fin grid0.N) (z : Fin 1) (r : Fin 256) (e : Fin 768) (h : 256 * t.val + r.val < 2048) :
    Adam.grad (n := 1) 0 (iblk m hO c 3 t) (iblk m hO c 4 t) (ix3 z r e) = g m c s (ix3 z (⟨256 * t.val + r.val, h⟩ : Fin 2048) e) :=
  congrArg₂ (· + ·) (read_p m hO c s hs t 0 r e h) (Finset.sum_congr rfl fun k _ => read_x m hO c t k r e h)

theorem rows (t : Fin grid0.N) (r : Fin 256) : 256 * t.val + r.val < 2048 := by
  have ht : t.val < 8 := lt_of_lt_of_eq t.isLt N_0
  omega

include hs in
/-- What grid point `t` leaves in each window is its tile of the result. -/
theorem left_5 (t : Fin grid0.N) (r : Fin 256) (e : Fin 768) :
    (outsAt0 m hO c t).1 (ix3 0 r e) = g m c s (ix3 0 (⟨256 * t.val + r.val, rows t r⟩ : Fin 2048) e) := by
  have hg := grad_tile m hO c s hs t 0 r e (rows t r)
  dsimp only [outsAt0]
  refine (tile_grad c (grid0.coords t) (iblk m hO c 0 t) (iblk m hO c 1 t) (iblk m hO c 2 t) (iblk m hO c 3 t)
    (iblk m hO c 4 t) (tbl m 0) 0 r e).trans ?_
  exact hg
include hs in
theorem left_7 (t : Fin grid0.N) (r : Fin 256) (e : Fin 768) :
    (outsAt0 m hO c t).2.2.1 (ix3 0 r e) = m1 m c s (ix3 0 (⟨256 * t.val + r.val, rows t r⟩ : Fin 2048) e) := by
  have hg := grad_tile m hO c s hs t 0 r e (rows t r)
  have hm := read_m m hO c t 0 r e (rows t r)
  dsimp only [outsAt0]
  refine (tile_first c (grid0.coords t) (iblk m hO c 0 t) (iblk m hO c 1 t) (iblk m hO c 2 t) (iblk m hO c 3 t)
    (iblk m hO c 4 t) (tbl m 0) 0 r e).trans ?_
  exact congrArg₂ Adam.first hm hg
include hs in
theorem left_8 (t : Fin grid0.N) (r : Fin 256) (e : Fin 768) :
    (outsAt0 m hO c t).2.2.2 (ix3 0 r e) = m2 m c s (ix3 0 (⟨256 * t.val + r.val, rows t r⟩ : Fin 2048) e) := by
  have hg := grad_tile m hO c s hs t 0 r e (rows t r)
  have hv := read_v m hO c t 0 r e (rows t r)
  dsimp only [outsAt0]
  refine (tile_second c (grid0.coords t) (iblk m hO c 0 t) (iblk m hO c 1 t) (iblk m hO c 2 t) (iblk m hO c 3 t)
    (iblk m hO c 4 t) (tbl m 0) 0 r e).trans ?_
  exact congrArg₂ Adam.second hv hg
include hs in
theorem left_6 (t : Fin grid0.N) (r : Fin 256) (e : Fin 768) :
    (outsAt0 m hO c t).2.1 (ix3 0 r e) = d m c s (ix3 0 (⟨256 * t.val + r.val, rows t r⟩ : Fin 2048) e) := by
  have hg := grad_tile m hO c s hs t 0 r e (rows t r)
  have hm := read_m m hO c t 0 r e (rows t r)
  have hv := read_v m hO c t 0 r e (rows t r)
  have hw := read_w m hO c t 0 r e (rows t r)
  dsimp only [outsAt0]
  refine (tile_change c (grid0.coords t) (iblk m hO c 0 t) (iblk m hO c 1 t) (iblk m hO c 2 t) (iblk m hO c 3 t)
    (iblk m hO c 4 t) (tbl m 0) 0 r e).trans ?_
  exact Adam.change_congr hw (congrArg₂ Adam.first hm hg) (congrArg₂ Adam.second hv hg)

include hs in
/-- What grid point `t` writes back is its tile of the result. -/
theorem written_5 (t : Fin grid0.N) :
    (dats m hO 0 c).flushed 5 t = (((cfgM m hO).win 5).blk t).view.read (Elt Ideal) (g m c s) := by
  show ((cfgM m hO).win 5).cut (grid0.coords t) ((dats m hO 0 c).after 5 t) = _
  rw [after0_5]
  funext y
  obtain ⟨z, r, e, rfl⟩ : ∃ (z : Fin 1) (r : Fin 256) (e : Fin 768), y = ix3 z r e := ix3_of y
  obtain rfl : z = 0 := Subsingleton.elim _ _
  exact (left_5 m hO c s hs t r e).trans (read_5 m hO t (g m c s) 0 r e (rows t r)).symm
include hs in
theorem written_7 (t : Fin grid0.N) :
    (dats m hO 0 c).flushed 7 t = (((cfgM m hO).win 7).blk t).view.read (Elt Ideal) (m1 m c s) := by
  show ((cfgM m hO).win 7).cut (grid0.coords t) ((dats m hO 0 c).after 7 t) = _
  rw [after0_7]
  funext y
  obtain ⟨z, r, e, rfl⟩ : ∃ (z : Fin 1) (r : Fin 256) (e : Fin 768), y = ix3 z r e := ix3_of y
  obtain rfl : z = 0 := Subsingleton.elim _ _
  exact (left_7 m hO c s hs t r e).trans (read_7 m hO t (m1 m c s) 0 r e (rows t r)).symm
include hs in
theorem written_8 (t : Fin grid0.N) :
    (dats m hO 0 c).flushed 8 t = (((cfgM m hO).win 8).blk t).view.read (Elt Ideal) (m2 m c s) := by
  show ((cfgM m hO).win 8).cut (grid0.coords t) ((dats m hO 0 c).after 8 t) = _
  rw [after0_8]
  funext y
  obtain ⟨z, r, e, rfl⟩ : ∃ (z : Fin 1) (r : Fin 256) (e : Fin 768), y = ix3 z r e := ix3_of y
  obtain rfl : z = 0 := Subsingleton.elim _ _
  exact (left_8 m hO c s hs t r e).trans (read_8 m hO t (m2 m c s) 0 r e (rows t r)).symm
include hs in
theorem written_6 (t : Fin grid0.N) :
    (dats m hO 0 c).flushed 6 t = (((cfgM m hO).win 6).blk t).view.read (Elt Ideal) (d m c s) := by
  show ((cfgM m hO).win 6).cut (grid0.coords t) ((dats m hO 0 c).after 6 t) = _
  rw [after0_6]
  funext y
  obtain ⟨z, r, e, rfl⟩ : ∃ (z : Fin 1) (r : Fin 256) (e : Fin 768), y = ix3 z r e := ix3_of y
  obtain rfl : z = 0 := Subsingleton.elim _ _
  exact (left_6 m hO c s hs t r e).trans (read_6 m hO t (d m c s) 0 r e (rows t r)).symm

/-- An index is in a grid point's tile when its row is in the tile's range: the tile as the four results have it. -/
theorem mem_tile (t : Fin grid0.N) (i : S1x2048x768.Idx) (h : (i 1).val / 256 = t.val) (b) :
    i ∈ (Rect.block (s := S1x2048x768) S1x256x768.size (cc0_transform_0 (grid0.coords t)) b).set := by
  rw [Rect.mem_set_unit]
  have q := place t
  have h0 : (i 0).val < 1 := (i 0).isLt
  have h2 : (i 2).val < 768 := (i 2).isLt
  exact fun a => match a with
  | ⟨0, _⟩ => in_range (n := 1) (by decide) ((by omega : (i 0).val / 1 = 0).trans (congrFun q 0).symm)
  | ⟨1, _⟩ => in_range (n := 256) (by decide) (h.trans (congrFun q 1).symm)
  | ⟨2, _⟩ => in_range (n := 768) (by decide) ((by omega : (i 2).val / 768 = 0).trans (congrFun q 2).symm)

theorem mem_5 (t : Fin grid0.N) (i : S1x2048x768.Idx) (h : (i 1).val / 256 = t.val) : i ∈ (((cfgM m hO).win 5).blk t).view.set := by
  show i ∈ ((View.whole main_v0_0).slice (Rect.block (s := S1x2048x768) S1x256x768.size (cc0_transform_5 (grid0.coords t)) (hinb0_5 _))).set
  rw [View.set_slice_whole]
  exact mem_tile t i h _
theorem mem_6 (t : Fin grid0.N) (i : S1x2048x768.Idx) (h : (i 1).val / 256 = t.val) : i ∈ (((cfgM m hO).win 6).blk t).view.set := by
  show i ∈ ((View.whole main_v0_1).slice (Rect.block (s := S1x2048x768) S1x256x768.size (cc0_transform_6 (grid0.coords t)) (hinb0_6 _))).set
  rw [View.set_slice_whole]
  exact mem_tile t i h _
theorem mem_7 (t : Fin grid0.N) (i : S1x2048x768.Idx) (h : (i 1).val / 256 = t.val) : i ∈ (((cfgM m hO).win 7).blk t).view.set := by
  show i ∈ ((View.whole main_v0_2).slice (Rect.block (s := S1x2048x768) S1x256x768.size (cc0_transform_7 (grid0.coords t)) (hinb0_7 _))).set
  rw [View.set_slice_whole]
  exact mem_tile t i h _
theorem mem_8 (t : Fin grid0.N) (i : S1x2048x768.Idx) (h : (i 1).val / 256 = t.val) : i ∈ (((cfgM m hO).win 8).blk t).view.set := by
  show i ∈ ((View.whole main_v0_3).slice (Rect.block (s := S1x2048x768) S1x256x768.size (cc0_transform_8 (grid0.coords t)) (hinb0_8 _))).set
  rw [View.set_slice_whole]
  exact mem_tile t i h _

/-- Every index of a result is in the tile of some grid point. -/
theorem row_tile (i : S1x2048x768.Idx) : (i 1).val / 256 < grid0.N := by
  have h1 : (i 1).val < 2048 := (i 1).isLt
  exact lt_of_lt_of_eq (b := 8) (by omega) N_0.symm

include hs in
/-- The kernel's results: the gradient, the change of the weight and the two moments. -/
theorem result_5 : (dats m hO 0 c).arrAt 5 (cfgM m hO).N = g m c s :=
  (dats m hO 0 c).arrAt_eq_of_cover 5 _ (fun t _ => written_5 m hO c s hs t) (fun i => ⟨⟨_, row_tile i⟩, flush0_5 _ _, mem_5 m hO _ i rfl⟩)
include hs in
theorem result_6 : (dats m hO 0 c).arrAt 6 (cfgM m hO).N = d m c s :=
  (dats m hO 0 c).arrAt_eq_of_cover 6 _ (fun t _ => written_6 m hO c s hs t) (fun i => ⟨⟨_, row_tile i⟩, flush0_6 _ _, mem_6 m hO _ i rfl⟩)
include hs in
theorem result_7 : (dats m hO 0 c).arrAt 7 (cfgM m hO).N = m1 m c s :=
  (dats m hO 0 c).arrAt_eq_of_cover 7 _ (fun t _ => written_7 m hO c s hs t) (fun i => ⟨⟨_, row_tile i⟩, flush0_7 _ _, mem_7 m hO _ i rfl⟩)
include hs in
theorem result_8 : (dats m hO 0 c).arrAt 8 (cfgM m hO).N = m2 m c s :=
  (dats m hO 0 c).arrAt_eq_of_cover 8 _ (fun t _ => written_8 m hO c s hs t) (fun i => ⟨⟨_, row_tile i⟩, flush0_8 _ _, mem_8 m hO _ i rfl⟩)

section
open Cert.ReferenceAdamQkvIdeal.Read
variable (w u v : FVec Ideal S1x2048x768 .f32) (p : FVec Ideal S4x2048x768 .bf16) (x : FVec Ideal S3x2048x768 .bf16) (s : Fin 4)

/-- The reference's own part is the one at the device's place. -/
theorem reference_part (r : Fin 2048) (e : Fin 768) (i : Cert.ReferenceAdamQkvIdeal.S2048x768.Idx) (h0 : (i 0).val = r.val) (h1 : (i 1).val = e.val) :
    val_main_v7 (F := Ideal) p (fun _ => BitVec.ofNat 32 s.val) i = p (ix3 s r e) := by
  rw [val_main_v7_apply, val_main_cst_0_apply]
  refine (congrArg₂ (fun a b : EReal => a + b) Ideal.ofBits_zero_f32 ((Finset.sum_congr rfl fun k _ => ?_).trans
    (Adam.own_sum (fun k => p (ix3 k r e)) s))).trans (zero_add _)
  rw [val_main_v6_apply, val_main_call0_v1_apply, val_main_v4_apply, val_main_v1_apply, val_main_v0_apply, val_main_v3_apply, val_main_v2_apply,
    val_main_v5_apply, val_main_call0_v2_apply, val_main_call0_v0_apply, val_main_cst_apply]
  refine congrArg (fun a : EReal => Scalar.select (IntOp.cmpi .eq (BitVec.ofNat 32 k.val) (BitVec.ofNat 32 s.val)) a (Adam.word 0#32)) (congrArg p ?_)
  funext a
  exact match a with
    | ⟨0, _⟩ => rfl
    | ⟨1, _⟩ => Fin.ext h0
    | ⟨2, _⟩ => Fin.ext h1

/-- The reference's results are the same: the gradient, -/
theorem reference_grad : val_main_v11 (F := Ideal) p x (fun _ => BitVec.ofNat 32 s.val) = Adam.grad s p x := by
  funext j
  obtain ⟨z, r, e, rfl⟩ : ∃ (z : Fin 1) (r : Fin 2048) (e : Fin 768), j = ix3 z r e := ix3_of j
  rw [Adam.grad_apply, val_main_v11_apply, val_main_v10_apply, reference_part p s r e _ rfl rfl, val_main_v9_apply, val_main_cst_1_apply]
  refine congrArg (fun b : EReal => p (ix3 s r e) + b) ((congrArg (· + _) Ideal.ofBits_zero_f32).trans ((zero_add _).trans ?_))
  exact Finset.sum_congr rfl fun k _ => congrArg x (funext fun a => match a with
    | ⟨0, _⟩ => rfl
    | ⟨1, _⟩ => rfl
    | ⟨2, _⟩ => rfl)
/-- the first moment, -/
theorem reference_first : val_main_v16 (F := Ideal) u p x (fun _ => BitVec.ofNat 32 s.val) = Adam.firsts u (Adam.grad s p x) := by
  rw [← reference_grad]
  funext j
  rw [val_main_v16_apply, val_main_v13_apply, val_main_v15_apply, val_main_v12_apply, val_main_v14_apply]
  rfl
/-- the second moment, -/
theorem reference_second : val_main_v22 (F := Ideal) v p x (fun _ => BitVec.ofNat 32 s.val) = Adam.seconds v (Adam.grad s p x) := by
  rw [← reference_grad]
  funext j
  rw [val_main_v22_apply, val_main_v18_apply, val_main_v21_apply, val_main_v19_apply, val_main_v17_apply, val_main_v20_apply]
  rfl
/-- and the change of the weight. -/
theorem reference_change : val_main_v35 (F := Ideal) w u v p x (fun _ => BitVec.ofNat 32 s.val)
    = Adam.changes w (Adam.firsts u (Adam.grad s p x)) (Adam.seconds v (Adam.grad s p x)) := by
  rw [← reference_first, ← reference_second]
  funext j
  rw [val_main_v35_apply, val_main_v33_apply, val_main_v30_apply, val_main_v24_apply, val_main_v29_apply, val_main_v27_apply, val_main_v26_apply,
    val_main_v32_apply, val_main_v34_apply, val_main_v31_apply, val_main_v28_apply, val_main_v25_apply, val_main_v23_apply]
  rfl
end

open Idealize.SL.Sem

/-- The reference runs, ends with its arguments unchanged, and declares no semaphore. -/
theorem frame_reference : Cert.quiescent_ReferenceAdamQkvIdeal := fun m ρ _ =>
  (θ_run Cert.ReferenceAdamQkvIdeal.defs _ _).mono (fun r h => ⟨fun c => (h c).2.2.2.2,
    Idealize.ShloMosaic.sem_eq_zero_of_no_sems (by decide) r.2⟩) (Cert.ReferenceAdamQkvIdeal.Value.run m ρ)

/-- Under the precondition the kernel runs on extended reals, ends with its arguments unchanged and its semaphores at zero. -/
theorem frame_kernel : Cert.quiescent_KernelAdamQkvIdeal (hPre_place_qkv := placeFacts) := fun m ρ hp =>
  letI := placeFacts
  let ⟨s, hs⟩ := placed (hp 0)
  Cert.KernelAdamQkvIdeal.Gen.frame m ρ (ok m s hs)

/-- At each of the four places the kernel's four results are the reference's, whatever the other arguments. -/
theorem value : Cert.algebraic_KernelAdamQkvIdeal_ReferenceAdamQkvIdeal (hPre_place_qkv := placeFacts) := by
  letI := placeFacts
  intro m ρ m' ρ' hp ha
  obtain ⟨s, hs⟩ := placed (hp 0)
  have hO := ok m s hs
  refine ⟨fun c => g m c s, fun c => d m c s, fun c => m1 m c s, fun c => m2 m c s, ?_, ?_⟩
  · refine (θ_run defs _ _).mono (fun r h c => ?_) (θ_run_and (run_main m ρ hO) (unchanged m ρ hO))
    exact ⟨((h.1 c).1 5).trans (result_5 m hO c s hs), ((h.1 c).1 6).trans (result_6 m hO c s hs), ((h.1 c).1 7).trans (result_7 m hO c s hs),
      ((h.1 c).1 8).trans (result_8 m hO c s hs), h.2 c⟩
  · refine (θ_run Cert.ReferenceAdamQkvIdeal.defs _ _).mono (fun r h c => ?_) (Cert.ReferenceAdamQkvIdeal.Value.run m' ρ')
    obtain ⟨a0, a1, a2, a3, a4, a5⟩ := ha c
    obtain ⟨h0, h1, h2, h3, hk⟩ := h c
    obtain rfl : c = 0 := Subsingleton.elim _ _
    replace a5 := a5.trans hs
    refine ⟨h0.trans ?_, h1.trans ?_, h2.trans ?_, h3.trans ?_, hk⟩
    · rw [a3, a4, a5]; exact reference_grad _ _ s
    · rw [a0, a1, a2, a3, a4, a5]; exact reference_change _ _ _ _ _ s
    · rw [a1, a3, a4, a5]; exact reference_first _ _ _ s
    · rw [a2, a3, a4, a5]; exact reference_second _ _ _ s

end AdamQkv

namespace AdamQkvWords

open Products Idealize.ShloMosaic Idealize.ShloMosaic.TcCoe Cert.KernelAdamQkv Cert.KernelAdamQkv.Gen

section
variable {F : FTy → Type} [FloatOps F] (m : (ℓ : Loc nD τ sig) → Buf (Elt F) ℓ) (s : Fin 4) (hs : tbl m 0 = fun _ => BitVec.ofNat 32 s.val)
include hs

/-- The same of the program on words: the block of the partial gradients at a grid point is the block of the weights there, in the part at the device's place. -/
theorem block_part (i : grid0.Coords) : cc0_transform_3 inb_S1_S1_0 numel1_S1 (tbl m) i = ![s.val, cc0_transform_0 i 1, cc0_transform_0 i 2] := by
  unfold cc0_transform_3 Pipeline.Prefetch.Contents.at
  rw [hs]
  revert s
  exact fun s _ => match s with
    | 0 => rfl
    | 1 => rfl
    | 2 => rfl
    | 3 => rfl

/-- The blocks that the table names lie inside the arrays. -/
theorem ok : Ok m := by
  have inside : ∀ (s : Fin 4) (i : grid0.Coords) (a : Fin 3),
      ((![s.val, cc0_transform_0 i 1, cc0_transform_0 i 2] : Fin 3 → Nat) a + 1) * S1x256x768.size a ≤ S4x2048x768.size a := by decide +kernel
  intro i
  rw [block_part m s hs]
  exact ⟨inside s i, .inr (Affine.block_words_dvd (of_decide_eq_true rfl) (by decide))⟩
end

/-- Under the precondition the kernel runs on words, ends with its arguments unchanged and its semaphores at zero. -/
theorem frame_kernel : Cert.quiescent_KernelAdamQkv (hPre_place_qkv := AdamQkv.placeFacts) := fun m ρ hp =>
  letI := AdamQkv.placeFacts
  let ⟨s, hs⟩ := AdamQkv.placed (hp 0)
  Cert.KernelAdamQkv.Gen.frame m ρ (ok m s hs)

end AdamQkvWords
end
-- ==== Proof.AdamOut.lean ====
/-
  The optimiser's step for the output weights of the gated layer and of the attention layer, one tile of 128 rows at a time.
-/
module

public import proofs.«01_k».proof.Defs
public import proofs.«01_k».proof.Proof.Gen.KernelAdamOut.Frame
public import proofs.«01_k».proof.Proof.Gen.KernelAdamOutIdeal.Frame
public import Idealize.ShloMosaic.Adequacy
public import Idealize.ShloMosaic.Init
public import proofs.«01_k».proof.Proof.Gen.ReferenceAdamOutIdeal.Read
public import proofs.«01_k».proof.Proof.Adam
public import Idealize.ShloMosaic.Lib.Pipeline.ValueKit.Point

@[expose] public section

set_option maxRecDepth 16384

noncomputable section

namespace AdamOut

open Products Idealize.ShloMosaic Idealize.ShloMosaic.TcCoe Cert.KernelAdamOutIdeal Cert.KernelAdamOutIdeal.Gen

/-- What the precondition on the device's place takes. -/
theorem placeFacts : Cert.Pre_place_out.Facts where
  bcast_S_S1 := by decide

/-- Under the precondition the device's place is one of the four. -/
theorem placed [Cert.Pre_place_out.Facts] {F : FTy → Type} [FloatOps F] {w u v : FVec F S1x256x2048 .f32} {p : FVec F S4x256x2048 .bf16} {x : FVec F S3x256x2048 .bf16} {q : IVec S1 32}
    (h : Cert.Pre_place_out.fn w u v p x q = fun _ => 1#1) : ∃ s : Fin 4, q = fun _ => BitVec.ofNat 32 s.val := by
  let o : S1.Idx := fun a => match a with | ⟨0, _⟩ => ⟨0, Nat.one_pos⟩
  obtain ⟨s, e⟩ := Adam.place_of (x := q o) (congrFun h o)
  exact ⟨s, funext fun i => (congrArg q (funext fun a => match a with | ⟨0, _⟩ => Subsingleton.elim (α := Fin 1) _ _)).trans e⟩

section
variable {F : FTy → Type} [FloatOps F] (m : (ℓ : Loc nD τ sig) → Buf (Elt F) ℓ) (s : Fin 4) (hs : tbl m 0 = fun _ => BitVec.ofNat 32 s.val)
include hs

/-- The block of the partial gradients at a grid point is the block of the weights there, in the part at the device's place. -/
theorem block_part (i : grid0.Coords) : cc0_transform_3 inb_S1_S1_0 numel1_S1 (tbl m) i = ![s.val, cc0_transform_0 i 1, cc0_transform_0 i 2] := by
  unfold cc0_transform_3 Pipeline.Prefetch.Contents.at
  rw [hs]
  revert s
  exact fun s _ => match s with
    | 0 => rfl
    | 1 => rfl
    | 2 => rfl
    | 3 => rfl

/-- The blocks that the table names lie inside the arrays. -/
theorem ok : Ok m := by
  have inside : ∀ (s : Fin 4) (i : grid0.Coords) (a : Fin 3),
      ((![s.val, cc0_transform_0 i 1, cc0_transform_0 i 2] : Fin 3 → Nat) a + 1) * S1x128x2048.size a ≤ S4x256x2048.size a := by decide +kernel
  intro i
  rw [block_part m s hs]
  exact ⟨inside s i, .inr (Affine.block_words_dvd (of_decide_eq_true rfl) (by decide))⟩
end

/-- The row of blocks each grid point stands on. -/
theorem place : ∀ t : Fin grid0.N, cc0_transform_0 (grid0.coords t) = ![0, t.val, 0] := by decide +kernel

section
variable (c : Dev nD) (i : grid0.Coords) {a3 h3 a4 h4 a5 h5 a6 h6 a7 h7 a8 h8 a9 h9 a10 h10 a11 h11} (x0 x1 x2 : Vec Ideal S1x128x2048 .f32)
    (x3 : Vec Ideal S1x128x2048 .bf16) (x4 : Vec Ideal S3x128x2048 .bf16) (xt : TbBuf0 (F := Ideal) c tbM0_0) (z : Fin 1) (r : Fin 128) (e : Fin 2048)

/-- What one grid point leaves in each of its windows, from the blocks it reads: the gradient, -/
theorem tile_grad : out0_A_5 c i a3 h3 a4 h4 a5 h5 a6 h6 a7 h7 a8 h8 a9 h9 a10 h10 a11 h11 x0 x1 x2 x3 x4 xt (ix3 z r e) = Adam.grad (n := 1) 0 x3 x4 (ix3 z r e) := by
  frame_out
  rw [Adam.grad_apply, ← Adam.add_three]
  pointwise [k0_pay1, k0_pay5]
/-- the first moment, -/
theorem tile_first : out0_A_7 c i a3 h3 a4 h4 a5 h5 a6 h6 a7 h7 a8 h8 a9 h9 a10 h10 a11 h11 x0 x1 x2 x3 x4 xt (ix3 z r e)
    = Adam.first (x1 (ix3 0 r e)) (Adam.grad (n := 1) 0 x3 x4 (ix3 z r e)) := by
  frame_out
  rw [Adam.grad_apply, ← Adam.add_three]
  pointwise [k0_pay3, k0_pay7, k0_pay5, Adam.first, Adam.word]

/-- the second moment -/
theorem tile_second : out0_A_8 c i a3 h3 a4 h4 a5 h5 a6 h6 a7 h7 a8 h8 a9 h9 a10 h10 a11 h11 x0 x1 x2 x3 x4 xt (ix3 z r e)
    = Adam.second (x2 (ix3 0 r e)) (Adam.grad (n := 1) 0 x3 x4 (ix3 z r e)) := by
  frame_out
  rw [Adam.grad_apply, ← Adam.add_three]
  pointwise [k0_pay4, k0_pay8, k0_pay5, Adam.second, Adam.word]

/-- and the change of the weight. -/
theorem tile_change : out0_A_6 c i a3 h3 a4 h4 a5 h5 a6 h6 a7 h7 a8 h8 a9 h9 a10 h10 a11 h11 x0 x1 x2 x3 x4 xt (ix3 z r e)
    = Adam.change (x0 (ix3 0 r e)) (Adam.first (x1 (ix3 0 r e)) (Adam.grad (n := 1) 0 x3 x4 (ix3 z r e)))
      (Adam.second (x2 (ix3 0 r e)) (Adam.grad (n := 1) 0 x3 x4 (ix3 z r e))) := by
  frame_out
  rw [Adam.grad_apply, ← Adam.add_three]
  pointwise [k0_pay2, k0_pay6, k0_pay7, k0_pay8, k0_pay5, Adam.change, Adam.first, Adam.second, Adam.word]
end

variable (m : (ℓ : Loc nD τ sig) → Buf (Elt Ideal) ℓ) (hO : Ok m) (c : Dev nD) (s : Fin 4) (hs : tbl m 0 = fun _ => BitVec.ofNat 32 s.val)

/-- An element of a window's block is an element of its array. -/
theorem read_w (t : Fin grid0.N) (z : Fin 1) (r : Fin 128) (e : Fin 2048) (h : 128 * t.val + r.val < 256) :
    iblk m hO c 0 t (ix3 z r e) = m ((c : Thread nD τ).loc main_arg0) (ix3 z (⟨128 * t.val + r.val, h⟩ : Fin 256) e) := by
  have q : ((cfgM m hO).win 0).index t = ![0, t.val, 0] := place t
  blk_ext [iblk, V_main_arg0, q]
theorem read_m (t : Fin grid0.N) (z : Fin 1) (r : Fin 128) (e : Fin 2048) (h : 128 * t.val + r.val < 256) :
    iblk m hO c 1 t (ix3 z r e) = m ((c : Thread nD τ).loc main_arg1) (ix3 z (⟨128 * t.val + r.val, h⟩ : Fin 256) e) := by
  have q : ((cfgM m hO).win 1).index t = ![0, t.val, 0] := place t
  blk_ext [iblk, V_main_arg1, q]
theorem read_v (t : Fin grid0.N) (z : Fin 1) (r : Fin 128) (e : Fin 2048) (h : 128 * t.val + r.val < 256) :
    iblk m hO c 2 t (ix3 z r e) = m ((c : Thread nD τ).loc main_arg2) (ix3 z (⟨128 * t.val + r.val, h⟩ : Fin 256) e) := by
  have q : ((cfgM m hO).win 2).index t = ![0, t.val, 0] := place t
  blk_ext [iblk, V_main_arg2, q]
include hs in
theorem read_p (t : Fin grid0.N) (z : Fin 1) (r : Fin 128) (e : Fin 2048) (h : 128 * t.val + r.val < 256) :
    iblk m hO c 3 t (ix3 z r e) = m ((c : Thread nD τ).loc main_arg3) (ix3 s (⟨128 * t.val + r.val, h⟩ : Fin 256) e) := by
  have q : ((cfgM m hO).win 3).index t = ![s.val, t.val, 0] := (block_part m s hs _).trans (by rw [place t]; rfl)
  blk_ext [iblk, V_main_arg3, q]
theorem read_x (t : Fin grid0.N) (k : Fin 3) (r : Fin 128) (e : Fin 2048) (h : 128 * t.val + r.val < 256) :
    iblk m hO c 4 t (ix3 k r e) = m ((c : Thread nD τ).loc main_arg4) (ix3 k (⟨128 * t.val + r.val, h⟩ : Fin 256) e) := by
  have q : ((cfgM m hO).win 4).index t = ![0, t.val, 0] := place t
  blk_ext [iblk, V_main_arg4, q]
theorem read_5 (t : Fin grid0.N) (A : FVec Ideal S1x256x2048 .f32) (z : Fin 1) (r : Fin 128) (e : Fin 2048) (h : 128 * t.val + r.val < 256) :
    (((cfgM m hO).win 5).blk t).view.read (Elt Ideal) A (ix3 z r e) = A (ix3 z ⟨128 * t.val + r.val, h⟩ e) := by
  have q : ((cfgM m hO).win 5).index t = ![0, t.val, 0] := place t
  blk_ext [q]
theorem read_6 (t : Fin grid0.N) (A : FVec Ideal S1x256x2048 .f32) (z : Fin 1) (r : Fin 128) (e : Fin 2048) (h : 128 * t.val + r.val < 256) :
    (((cfgM m hO).win 6).blk t).view.read (Elt Ideal) A (ix3 z r e) = A (ix3 z ⟨128 * t.val + r.val, h⟩ e) := by
  have q : ((cfgM m hO).win 6).index t = ![0, t.val, 0] := place t
  blk_ext [q]
theorem read_7 (t : Fin grid0.N) (A : FVec Ideal S1x256x2048 .f32) (z : Fin 1) (r : Fin 128) (e : Fin 2048) (h : 128 * t.val + r.val < 256) :
    (((cfgM m hO).win 7).blk t).view.read (Elt Ideal) A (ix3 z r e) = A (ix3 z ⟨128 * t.val + r.val, h⟩ e) := by
  have q : ((cfgM m hO).win 7).index t = ![0, t.val, 0] := place t
  blk_ext [q]
theorem read_8 (t : Fin grid0.N) (A : FVec Ideal S1x256x2048 .f32) (z : Fin 1) (r : Fin 128) (e : Fin 2048) (h : 128 * t.val + r.val < 256) :
    (((cfgM m hO).win 8).blk t).view.read (Elt Ideal) A (ix3 z r e) = A (ix3 z ⟨128 * t.val + r.val, h⟩ e) := by
  have q : ((cfgM m hO).win 8).index t = ![0, t.val, 0] := place t
  blk_ext [q]

/-- The gradient, the moments and the change that the arguments give. -/
abbrev g : FVec Ideal S1x256x2048 .f32 := Adam.grad s (m ((c : Thread nD τ).loc main_arg3)) (m ((c : Thread nD τ).loc main_arg4))
abbrev m1 : FVec Ideal S1x256x2048 .f32 := Adam.firsts (m ((c : Thread nD τ).loc main_arg1)) (g m c s)
abbrev m2 : FVec Ideal S1x256x2048 .f32 := Adam.seconds (m ((c : Thread nD τ).loc main_arg2)) (g m c s)
abbrev d : FVec Ideal S1x256x2048 .f32 := Adam.changes (m ((c : Thread nD τ).loc main_arg0)) (m1 m c s) (m2 m c s)

include hs in
/-- The gradient of a tile is the tile of the gradient. -/
theorem grad_tile (t : Fin grid0.N) (z : Fin 1) (r : Fin 128) (e : Fin 2048) (h : 128 * t.val + r.val < 256) :
    Adam.grad (n := 1) 0 (iblk m hO c 3 t) (iblk m hO c 4 t) (ix3 z r e) = g m c s (ix3 z (⟨128 * t.val + r.val, h⟩ : Fin 256) e) :=
  congrArg₂ (· + ·) (read_p m hO c s hs t 0 r e h) (Finset.sum_congr rfl fun k _ => read_x m hO c t k r e h)

theorem rows (t : Fin grid0.N) (r : Fin 128) : 128 * t.val + r.val < 256 := by
  have ht : t.val < 2 := lt_of_lt_of_eq t.isLt N_0
  omega

include hs in
/-- What grid point `t` leaves in each window is its tile of the result. -/
theorem left_5 (t : Fin grid0.N) (r : Fin 128) (e : Fin 2048) :
    (outsAt0 m hO c t).1 (ix3 0 r e) = g m c s (ix3 0 (⟨128 * t.val + r.val, rows t r⟩ : Fin 256) e) := by
  have hg := grad_tile m hO c s hs t 0 r e (rows t r)
  dsimp only [outsAt0]
  refine (tile_grad c (grid0.coords t) (iblk m hO c 0 t) (iblk m hO c 1 t) (iblk m hO c 2 t) (iblk m hO c 3 t)
    (iblk m hO c 4 t) (tbl m 0) 0 r e).trans ?_
  exact hg
include hs in
theorem left_7 (t : Fin grid0.N) (r : Fin 128) (e : Fin 2048) :
    (outsAt0 m hO c t).2.2.1 (ix3 0 r e) = m1 m c s (ix3 0 (⟨128 * t.val + r.val, rows t r⟩ : Fin 256) e) := by
  have hg := grad_tile m hO c s hs t 0 r e (rows t r)
  have hm := read_m m hO c t 0 r e (rows t r)
  dsimp only [outsAt0]
  refine (tile_first c (grid0.coords t) (iblk m hO c 0 t) (iblk m hO c 1 t) (iblk m hO c 2 t) (iblk m hO c 3 t)
    (iblk m hO c 4 t) (tbl m 0) 0 r e).trans ?_
  exact congrArg₂ Adam.first hm hg
include hs in
theorem left_8 (t : Fin grid0.N) (r : Fin 128) (e : Fin 2048) :
    (outsAt0 m hO c t).2.2.2 (ix3 0 r e) = m2 m c s (ix3 0 (⟨128 * t.val + r.val, rows t r⟩ : Fin 256) e) := by
  have hg := grad_tile m hO c s hs t 0 r e (rows t r)
  have hv := read_v m hO c t 0 r e (rows t r)
  dsimp only [outsAt0]
  refine (tile_second c (grid0.coords t) (iblk m hO c 0 t) (iblk m hO c 1 t) (iblk m hO c 2 t) (iblk m hO c 3 t)
    (iblk m hO c 4 t) (tbl m 0) 0 r e).trans ?_
  exact congrArg₂ Adam.second hv hg
include hs in
theorem left_6 (t : Fin grid0.N) (r : Fin 128) (e : Fin 2048) :
    (outsAt0 m hO c t).2.1 (ix3 0 r e) = d m c s (ix3 0 (⟨128 * t.val + r.val, rows t r⟩ : Fin 256) e) := by
  have hg := grad_tile m hO c s hs t 0 r e (rows t r)
  have hm := read_m m hO c t 0 r e (rows t r)
  have hv := read_v m hO c t 0 r e (rows t r)
  have hw := read_w m hO c t 0 r e (rows t r)
  dsimp only [outsAt0]
  refine (tile_change c (grid0.coords t) (iblk m hO c 0 t) (iblk m hO c 1 t) (iblk m hO c 2 t) (iblk m hO c 3 t)
    (iblk m hO c 4 t) (tbl m 0) 0 r e).trans ?_
  exact Adam.change_congr hw (congrArg₂ Adam.first hm hg) (congrArg₂ Adam.second hv hg)

include hs in
/-- What grid point `t` writes back is its tile of the result. -/
theorem written_5 (t : Fin grid0.N) :
    (dats m hO 0 c).flushed 5 t = (((cfgM m hO).win 5).blk t).view.read (Elt Ideal) (g m c s) := by
  show ((cfgM m hO).win 5).cut (grid0.coords t) ((dats m hO 0 c).after 5 t) = _
  rw [after0_5]
  funext y
  obtain ⟨z, r, e, rfl⟩ : ∃ (z : Fin 1) (r : Fin 128) (e : Fin 2048), y = ix3 z r e := ix3_of y
  obtain rfl : z = 0 := Subsingleton.elim _ _
  exact (left_5 m hO c s hs t r e).trans (read_5 m hO t (g m c s) 0 r e (rows t r)).symm
include hs in
theorem written_7 (t : Fin grid0.N) :
    (dats m hO 0 c).flushed 7 t = (((cfgM m hO).win 7).blk t).view.read (Elt Ideal) (m1 m c s) := by
  show ((cfgM m hO).win 7).cut (grid0.coords t) ((dats m hO 0 c).after 7 t) = _
  rw [after0_7]
  funext y
  obtain ⟨z, r, e, rfl⟩ : ∃ (z : Fin 1) (r : Fin 128) (e : Fin 2048), y = ix3 z r e := ix3_of y
  obtain rfl : z = 0 := Subsingleton.elim _ _
  exact (left_7 m hO c s hs t r e).trans (read_7 m hO t (m1 m c s) 0 r e (rows t r)).symm
include hs in
theorem written_8 (t : Fin grid0.N) :
    (dats m hO 0 c).flushed 8 t = (((cfgM m hO).win 8).blk t).view.read (Elt Ideal) (m2 m c s) := by
  show ((cfgM m hO).win 8).cut (grid0.coords t) ((dats m hO 0 c).after 8 t) = _
  rw [after0_8]
  funext y
  obtain ⟨z, r, e, rfl⟩ : ∃ (z : Fin 1) (r : Fin 128) (e : Fin 2048), y = ix3 z r e := ix3_of y
  obtain rfl : z = 0 := Subsingleton.elim _ _
  exact (left_8 m hO c s hs t r e).trans (read_8 m hO t (m2 m c s) 0 r e (rows t r)).symm
include hs in
theorem written_6 (t : Fin grid0.N) :
    (dats m hO 0 c).flushed 6 t = (((cfgM m hO).win 6).blk t).view.read (Elt Ideal) (d m c s) := by
  show ((cfgM m hO).win 6).cut (grid0.coords t) ((dats m hO 0 c).after 6 t) = _
  rw [after0_6]
  funext y
  obtain ⟨z, r, e, rfl⟩ : ∃ (z : Fin 1) (r : Fin 128) (e : Fin 2048), y = ix3 z r e := ix3_of y
  obtain rfl : z = 0 := Subsingleton.elim _ _
  exact (left_6 m hO c s hs t r e).trans (read_6 m hO t (d m c s) 0 r e (rows t r)).symm

/-- An index is in a grid point's tile when its row is in the tile's range: the tile as the four results have it. -/
theorem mem_tile (t : Fin grid0.N) (i : S1x256x2048.Idx) (h : (i 1).val / 128 = t.val) (b) :
    i ∈ (Rect.block (s := S1x256x2048) S1x128x2048.size (cc0_transform_0 (grid0.coords t)) b).set := by
  rw [Rect.mem_set_unit]
  have q := place t
  have h0 : (i 0).val < 1 := (i 0).isLt
  have h2 : (i 2).val < 2048 := (i 2).isLt
  exact fun a => match a with
  | ⟨0, _⟩ => in_range (n := 1) (by decide) ((by omega : (i 0).val / 1 = 0).trans (congrFun q 0).symm)
  | ⟨1, _⟩ => in_range (n := 128) (by decide) (h.trans (congrFun q 1).symm)
  | ⟨2, _⟩ => in_range (n := 2048) (by decide) ((by omega : (i 2).val / 2048 = 0).trans (congrFun q 2).symm)

theorem mem_5 (t : Fin grid0.N) (i : S1x256x2048.Idx) (h : (i 1).val / 128 = t.val) : i ∈ (((cfgM m hO).win 5).blk t).view.set := by
  show i ∈ ((View.whole main_v0_0).slice (Rect.block (s := S1x256x2048) S1x128x2048.size (cc0_transform_5 (grid0.coords t)) (hinb0_5 _))).set
  rw [View.set_slice_whole]
  exact mem_tile t i h _
theorem mem_6 (t : Fin grid0.N) (i : S1x256x2048.Idx) (h : (i 1).val / 128 = t.val) : i ∈ (((cfgM m hO).win 6).blk t).view.set := by
  show i ∈ ((View.whole main_v0_1).slice (Rect.block (s := S1x256x2048) S1x128x2048.size (cc0_transform_6 (grid0.coords t)) (hinb0_6 _))).set
  rw [View.set_slice_whole]
  exact mem_tile t i h _
theorem mem_7 (t : Fin grid0.N) (i : S1x256x2048.Idx) (h : (i 1).val / 128 = t.val) : i ∈ (((cfgM m hO).win 7).blk t).view.set := by
  show i ∈ ((View.whole main_v0_2).slice (Rect.block (s := S1x256x2048) S1x128x2048.size (cc0_transform_7 (grid0.coords t)) (hinb0_7 _))).set
  rw [View.set_slice_whole]
  exact mem_tile t i h _
theorem mem_8 (t : Fin grid0.N) (i : S1x256x2048.Idx) (h : (i 1).val / 128 = t.val) : i ∈ (((cfgM m hO).win 8).blk t).view.set := by
  show i ∈ ((View.whole main_v0_3).slice (Rect.block (s := S1x256x2048) S1x128x2048.size (cc0_transform_8 (grid0.coords t)) (hinb0_8 _))).set
  rw [View.set_slice_whole]
  exact mem_tile t i h _

/-- Every index of a result is in the tile of some grid point. -/
theorem row_tile (i : S1x256x2048.Idx) : (i 1).val / 128 < grid0.N := by
  have h1 : (i 1).val < 256 := (i 1).isLt
  exact lt_of_lt_of_eq (b := 2) (by omega) N_0.symm

include hs in
/-- The kernel's results: the gradient, the change of the weight and the two moments. -/
theorem result_5 : (dats m hO 0 c).arrAt 5 (cfgM m hO).N = g m c s :=
  (dats m hO 0 c).arrAt_eq_of_cover 5 _ (fun t _ => written_5 m hO c s hs t) (fun i => ⟨⟨_, row_tile i⟩, flush0_5 _ _, mem_5 m hO _ i rfl⟩)
include hs in
theorem result_6 : (dats m hO 0 c).arrAt 6 (cfgM m hO).N = d m c s :=
  (dats m hO 0 c).arrAt_eq_of_cover 6 _ (fun t _ => written_6 m hO c s hs t) (fun i => ⟨⟨_, row_tile i⟩, flush0_6 _ _, mem_6 m hO _ i rfl⟩)
include hs in
theorem result_7 : (dats m hO 0 c).arrAt 7 (cfgM m hO).N = m1 m c s :=
  (dats m hO 0 c).arrAt_eq_of_cover 7 _ (fun t _ => written_7 m hO c s hs t) (fun i => ⟨⟨_, row_tile i⟩, flush0_7 _ _, mem_7 m hO _ i rfl⟩)
include hs in
theorem result_8 : (dats m hO 0 c).arrAt 8 (cfgM m hO).N = m2 m c s :=
  (dats m hO 0 c).arrAt_eq_of_cover 8 _ (fun t _ => written_8 m hO c s hs t) (fun i => ⟨⟨_, row_tile i⟩, flush0_8 _ _, mem_8 m hO _ i rfl⟩)

section
open Cert.ReferenceAdamOutIdeal.Read
variable (w u v : FVec Ideal S1x256x2048 .f32) (p : FVec Ideal S4x256x2048 .bf16) (x : FVec Ideal S3x256x2048 .bf16) (s : Fin 4)

/-- The reference's own part is the one at the device's place. -/
theorem reference_part (r : Fin 256) (e : Fin 2048) (i : Cert.ReferenceAdamOutIdeal.S256x2048.Idx) (h0 : (i 0).val = r.val) (h1 : (i 1).val = e.val) :
    val_main_v7 (F := Ideal) p (fun _ => BitVec.ofNat 32 s.val) i = p (ix3 s r e) := by
  rw [val_main_v7_apply, val_main_cst_0_apply]
  refine (congrArg₂ (fun a b : EReal => a + b) Ideal.ofBits_zero_f32 ((Finset.sum_congr rfl fun k _ => ?_).trans
    (Adam.own_sum (fun k => p (ix3 k r e)) s))).trans (zero_add _)
  rw [val_main_v6_apply, val_main_call0_v1_apply, val_main_v4_apply, val_main_v1_apply, val_main_v0_apply, val_main_v3_apply, val_main_v2_apply,
    val_main_v5_apply, val_main_call0_v2_apply, val_main_call0_v0_apply, val_main_cst_apply]
  refine congrArg (fun a : EReal => Scalar.select (IntOp.cmpi .eq (BitVec.ofNat 32 k.val) (BitVec.ofNat 32 s.val)) a (Adam.word 0#32)) (congrArg p ?_)
  funext a
  exact match a with
    | ⟨0, _⟩ => rfl
    | ⟨1, _⟩ => Fin.ext h0
    | ⟨2, _⟩ => Fin.ext h1

/-- The reference's results are the same: the gradient, -/
theorem reference_grad : val_main_v11 (F := Ideal) p x (fun _ => BitVec.ofNat 32 s.val) = Adam.grad s p x := by
  funext j
  obtain ⟨z, r, e, rfl⟩ : ∃ (z : Fin 1) (r : Fin 256) (e : Fin 2048), j = ix3 z r e := ix3_of j
  rw [Adam.grad_apply, val_main_v11_apply, val_main_v10_apply, reference_part p s r e _ rfl rfl, val_main_v9_apply, val_main_cst_1_apply]
  refine congrArg (fun b : EReal => p (ix3 s r e) + b) ((congrArg (· + _) Ideal.ofBits_zero_f32).trans ((zero_add _).trans ?_))
  exact Finset.sum_congr rfl fun k _ => congrArg x (funext fun a => match a with
    | ⟨0, _⟩ => rfl
    | ⟨1, _⟩ => rfl
    | ⟨2, _⟩ => rfl)
/-- the first moment, -/
theorem reference_first : val_main_v16 (F := Ideal) u p x (fun _ => BitVec.ofNat 32 s.val) = Adam.firsts u (Adam.grad s p x) := by
  rw [← reference_grad]
  funext j
  rw [val_main_v16_apply, val_main_v13_apply, val_main_v15_apply, val_main_v12_apply, val_main_v14_apply]
  rfl
/-- the second moment, -/
theorem reference_second : val_main_v22 (F := Ideal) v p x (fun _ => BitVec.ofNat 32 s.val) = Adam.seconds v (Adam.grad s p x) := by
  rw [← reference_grad]
  funext j
  rw [val_main_v22_apply, val_main_v18_apply, val_main_v21_apply, val_main_v19_apply, val_main_v17_apply, val_main_v20_apply]
  rfl
/-- and the change of the weight. -/
theorem reference_change : val_main_v35 (F := Ideal) w u v p x (fun _ => BitVec.ofNat 32 s.val)
    = Adam.changes w (Adam.firsts u (Adam.grad s p x)) (Adam.seconds v (Adam.grad s p x)) := by
  rw [← reference_first, ← reference_second]
  funext j
  rw [val_main_v35_apply, val_main_v33_apply, val_main_v30_apply, val_main_v24_apply, val_main_v29_apply, val_main_v27_apply, val_main_v26_apply,
    val_main_v32_apply, val_main_v34_apply, val_main_v31_apply, val_main_v28_apply, val_main_v25_apply, val_main_v23_apply]
  rfl
end

open Idealize.SL.Sem

/-- The reference runs, ends with its arguments unchanged, and declares no semaphore. -/
theorem frame_reference : Cert.quiescent_ReferenceAdamOutIdeal := fun m ρ _ =>
  (θ_run Cert.ReferenceAdamOutIdeal.defs _ _).mono (fun r h => ⟨fun c => (h c).2.2.2.2,
    Idealize.ShloMosaic.sem_eq_zero_of_no_sems (by decide) r.2⟩) (Cert.ReferenceAdamOutIdeal.Value.run m ρ)

/-- Under the precondition the kernel runs on extended reals, ends with its arguments unchanged and its semaphores at zero. -/
theorem frame_kernel : Cert.quiescent_KernelAdamOutIdeal (hPre_place_out := placeFacts) := fun m ρ hp =>
  letI := placeFacts
  let ⟨s, hs⟩ := placed (hp 0)
  Cert.KernelAdamOutIdeal.Gen.frame m ρ (ok m s hs)

/-- At each of the four places the kernel's four results are the reference's, whatever the other arguments. -/
theorem value : Cert.algebraic_KernelAdamOutIdeal_ReferenceAdamOutIdeal (hPre_place_out := placeFacts) := by
  letI := placeFacts
  intro m ρ m' ρ' hp ha
  obtain ⟨s, hs⟩ := placed (hp 0)
  have hO := ok m s hs
  refine ⟨fun c => g m c s, fun c => d m c s, fun c => m1 m c s, fun c => m2 m c s, ?_, ?_⟩
  · refine (θ_run defs _ _).mono (fun r h c => ?_) (θ_run_and (run_main m ρ hO) (unchanged m ρ hO))
    exact ⟨((h.1 c).1 5).trans (result_5 m hO c s hs), ((h.1 c).1 6).trans (result_6 m hO c s hs), ((h.1 c).1 7).trans (result_7 m hO c s hs),
      ((h.1 c).1 8).trans (result_8 m hO c s hs), h.2 c⟩
  · refine (θ_run Cert.ReferenceAdamOutIdeal.defs _ _).mono (fun r h c => ?_) (Cert.ReferenceAdamOutIdeal.Value.run m' ρ')
    obtain ⟨a0, a1, a2, a3, a4, a5⟩ := ha c
    obtain ⟨h0, h1, h2, h3, hk⟩ := h c
    obtain rfl : c = 0 := Subsingleton.elim _ _
    replace a5 := a5.trans hs
    refine ⟨h0.trans ?_, h1.trans ?_, h2.trans ?_, h3.trans ?_, hk⟩
    · rw [a3, a4, a5]; exact reference_grad _ _ s
    · rw [a0, a1, a2, a3, a4, a5]; exact reference_change _ _ _ _ _ s
    · rw [a1, a3, a4, a5]; exact reference_first _ _ _ s
    · rw [a2, a3, a4, a5]; exact reference_second _ _ _ s

end AdamOut

namespace AdamOutWords

open Products Idealize.ShloMosaic Idealize.ShloMosaic.TcCoe Cert.KernelAdamOut Cert.KernelAdamOut.Gen

section
variable {F : FTy → Type} [FloatOps F] (m : (ℓ : Loc nD τ sig) → Buf (Elt F) ℓ) (s : Fin 4) (hs : tbl m 0 = fun _ => BitVec.ofNat 32 s.val)
include hs

/-- The same of the program on words: the block of the partial gradients at a grid point is the block of the weights there, in the part at the device's place. -/
theorem block_part (i : grid0.Coords) : cc0_transform_3 inb_S1_S1_0 numel1_S1 (tbl m) i = ![s.val, cc0_transform_0 i 1, cc0_transform_0 i 2] := by
  unfold cc0_transform_3 Pipeline.Prefetch.Contents.at
  rw [hs]
  revert s
  exact fun s _ => match s with
    | 0 => rfl
    | 1 => rfl
    | 2 => rfl
    | 3 => rfl

/-- The blocks that the table names lie inside the arrays. -/
theorem ok : Ok m := by
  have inside : ∀ (s : Fin 4) (i : grid0.Coords) (a : Fin 3),
      ((![s.val, cc0_transform_0 i 1, cc0_transform_0 i 2] : Fin 3 → Nat) a + 1) * S1x128x2048.size a ≤ S4x256x2048.size a := by decide +kernel
  intro i
  rw [block_part m s hs]
  exact ⟨inside s i, .inr (Affine.block_words_dvd (of_decide_eq_true rfl) (by decide))⟩
end

/-- Under the precondition the kernel runs on words, ends with its arguments unchanged and its semaphores at zero. -/
theorem frame_kernel : Cert.quiescent_KernelAdamOut (hPre_place_out := AdamOut.placeFacts) := fun m ρ hp =>
  letI := AdamOut.placeFacts
  let ⟨s, hs⟩ := AdamOut.placed (hp 0)
  Cert.KernelAdamOut.Gen.frame m ρ (ok m s hs)

end AdamOutWords
end
-- ==== Proof.AdamSmall.lean ====
/-
  The optimiser's step for the small weights, packed into one array of 1816 rows.
-/
module

public import proofs.«01_k».proof.Defs
public import proofs.«01_k».proof.Proof.Gen.KernelAdamSmallIdeal.Value
public import Idealize.ShloMosaic.Adequacy
public import Idealize.ShloMosaic.Init
public import proofs.«01_k».proof.Proof.Gen.ReferenceAdamSmallIdeal.Read
public import proofs.«01_k».proof.Proof.Adam

@[expose] public section

set_option maxRecDepth 16384

noncomputable section

namespace AdamSmall

open Idealize.ShloMosaic Idealize.ShloMosaic.TcCoe Cert.KernelAdamSmallIdeal

/-- The first moments, the second moments and the changes of the packed weights. -/
def firsts (u g : FVec Ideal S1816x128 .f32) : FVec Ideal S1816x128 .f32 := fun j => Adam.first (u j) (g j)
def seconds (v g : FVec Ideal S1816x128 .f32) : FVec Ideal S1816x128 .f32 := fun j => Adam.second (v j) (g j)
def changes (w u v : FVec Ideal S1816x128 .f32) : FVec Ideal S1816x128 .f32 := fun j => Adam.change (w j) (u j) (v j)

variable (w u v g : FVec Ideal S1816x128 .f32)

/-- The kernel's three results are these. -/
theorem kernel_first : Value.G5 (F := Ideal) g u = firsts u g := rfl
theorem kernel_second : Value.G6 (F := Ideal) g v = seconds v g := rfl
theorem kernel_change : Value.G4 (F := Ideal) w g u v = changes w (firsts u g) (seconds v g) := rfl

section
open Cert.ReferenceAdamSmallIdeal.Read

/-- The reference's three results are these. -/
theorem reference_first : val_main_v4 (F := Ideal) u g = firsts u g := by
  funext j
  rw [val_main_v4_apply, val_main_v1_apply, val_main_v3_apply, val_main_v0_apply, val_main_v2_apply]
  rfl
theorem reference_second : val_main_v10 (F := Ideal) v g = seconds v g := by
  funext j
  rw [val_main_v10_apply, val_main_v6_apply, val_main_v9_apply, val_main_v7_apply, val_main_v5_apply, val_main_v8_apply]
  rfl
theorem reference_change : val_main_v23 (F := Ideal) w u v g = changes w (firsts u g) (seconds v g) := by
  rw [← reference_first, ← reference_second]
  funext j
  rw [val_main_v23_apply, val_main_v21_apply, val_main_v18_apply, val_main_v12_apply, val_main_v17_apply, val_main_v15_apply, val_main_v14_apply,
    val_main_v20_apply, val_main_v22_apply, val_main_v19_apply, val_main_v16_apply, val_main_v13_apply, val_main_v11_apply]
  rfl
end

open Idealize.SL.Sem

/-- The reference runs, ends with its arguments unchanged, and declares no semaphore. -/
theorem frame_reference : Cert.quiescent_ReferenceAdamSmallIdeal := fun m ρ _ =>
  (θ_run Cert.ReferenceAdamSmallIdeal.defs _ _).mono (fun r h => ⟨fun c => (h c).2.2.2,
    Idealize.ShloMosaic.sem_eq_zero_of_no_sems (by decide) r.2⟩) (Cert.ReferenceAdamSmallIdeal.Value.run m ρ)

/-- The kernel's three results are the reference's, whatever the arguments. -/
theorem value : Cert.algebraic_KernelAdamSmallIdeal_ReferenceAdamSmallIdeal := by
  intro m ρ m' ρ' _ ha
  refine ⟨_, _, _, Value.run m ρ, ?_⟩
  refine (θ_run Cert.ReferenceAdamSmallIdeal.defs _ _).mono (fun r h c => ?_) (Cert.ReferenceAdamSmallIdeal.Value.run m' ρ')
  obtain ⟨a0, a1, a2, a3⟩ := ha c
  obtain ⟨h0, h1, h2, hk⟩ := h c
  refine ⟨h0.trans ?_, h1.trans ?_, h2.trans ?_, hk⟩
  · rw [a0, a1, a2, a3]; exact (reference_change _ _ _ _).trans (kernel_change _ _ _ _).symm
  · rw [a1, a3]; exact (reference_first _ _).trans (kernel_first _ _).symm
  · rw [a2, a3]; exact (reference_second _ _).trans (kernel_second _ _).symm

end AdamSmall
end
-- ==== Proof.SumSmall.lean ====
/-
  The sum over the eight devices of the small weights' gradients and of the loss, packed into 2832 rows on each device.
-/
module

public import proofs.«01_k».proof.Defs
public import proofs.«01_k».proof.Proof.Gen.KernelSumSmallIdeal.Value
public import Idealize.ShloMosaic.Adequacy
public import Idealize.ShloMosaic.Init
public import proofs.«01_k».proof.Proof.Gen.ReferenceSumSmallIdeal.Read
public import proofs.«01_k».proof.Proof.Products
public import Idealize.ShloMosaic.Lib.Pipeline.ValueKit.Point

@[expose] public section

set_option maxRecDepth 16384

noncomputable section

namespace SumSmall

open Products Idealize.ShloMosaic Idealize.ShloMosaic.TcCoe Cert.KernelSumSmallIdeal Cert.KernelSumSmallIdeal.Gen Cert.KernelSumSmallIdeal.Value

/-- The gathered rows, as one block of rows for each device. -/
def parts (x : FVec Ideal S22656x128 .f32) : FVec Ideal S8x2832x128 .f32 := shapeCast _ x shapeCasts_S22656x128_S8x2832x128

/-- The sum over the devices. -/
def out (x : FVec Ideal S22656x128 .f32) : FVec Ideal S2832x128 .f32 := fun j =>
  ∑ k : Fin 8, (parts x (ix3 k (⟨(j 0).val, (j 0).isLt⟩ : Fin 2832) (⟨(j 1).val, (j 1).isLt⟩ : Fin 128)) : EReal)

/-- The blocks the windows stand on at each grid point. -/
theorem index_t : ∀ t : Fin cfg0.N, win0_0.index t = ![0, t.val, 0] ∧ win0_1.index t = ![t.val, 0] :=
  (by decide +kernel : ∀ t : Fin grid0.N, _)

/-- What one grid point leaves in its window, from the block it reads. -/
theorem tile (x : Vec Ideal S8x16x128 .f32) (r : Fin 16) (e : Fin 128) : out0_1 x (ix2 r e) = ∑ k : Fin 8, (x (ix3 k r e) : EReal) := by
  frame_out
  rw [Fin.sum_univ_eight]
  pointwise [k0_pay1]

variable (m : (ℓ : Loc nD τ sig) → Buf (Elt Ideal) ℓ) (c : Dev nD)

/-- The kernel's call is given the gathered rows, one block for each device. -/
theorem given : V m c main_v0 = parts (m ((c : Thread nD τ).loc main_arg0)) := by
  show StableHlo.after hostOps0 (fun b => m (c, b)) main_v0 = _
  after_results_simp
  rfl

/-- An element of a window's block is an element of its array. -/
theorem read_x (t : Fin cfg0.N) (k : Fin 8) (r : Fin 16) (e : Fin 128) (h : 16 * t.val + r.val < 2832) :
    iblk m c 0 t (ix3 k r e) = V m c main_v0 (ix3 k (⟨16 * t.val + r.val, h⟩ : Fin 2832) e) := by
  obtain ⟨e0, e1⟩ := index_t t
  blk_ext [iblk, e0]
theorem read_o (t : Fin cfg0.N) (A : FVec Ideal S2832x128 .f32) (r : Fin 16) (e : Fin 128) (h : 16 * t.val + r.val < 2832) :
    ((cfg0.win 1).blk t).view.read (Elt Ideal) A (ix2 r e) = A (ix2 ⟨16 * t.val + r.val, h⟩ e) := by
  obtain ⟨e0, e1⟩ := index_t t
  blk_ext [e1]

/-- What grid point `t` writes back is its tile of the sum. -/
theorem written (t : Fin cfg0.N) :
    (dats m 0 c).flushed 1 t = ((cfg0.win 1).blk t).view.read (Elt Ideal) (out (m ((c : Thread nD τ).loc main_arg0))) := by
  have ht : t.val < 177 := lt_of_lt_of_eq t.isLt N_0
  rw [flushed1]
  funext y
  obtain ⟨r, e, rfl⟩ : ∃ (r : Fin 16) (e : Fin 128), y = ix2 r e := ix2_of y
  rw [read_o t _ r e (by omega)]
  refine (tile (iblk m c 0 t) r e).trans (Finset.sum_congr rfl fun k _ => ?_)
  exact (read_x m c t k r e (by omega)).trans (congrFun (given m c) _)

/-- An index is in a grid point's tile when its row is in the tile's range. -/
theorem mem_tile (t : Fin cfg0.N) (i : S2832x128.Idx) (h : (i 0).val / 16 = t.val) : i ∈ ((cfg0.win 1).blk t).view.set := by
  show i ∈ ((View.whole main_v1).slice (win0_1.rect t)).set
  rw [View.set_slice_whole, Rect.mem_set_unit]
  obtain ⟨e0, e1⟩ := index_t t
  have h1 : (i 1).val < 128 := (i 1).isLt
  exact fun a => match a with
  | ⟨0, _⟩ => in_range (n := 16) (by decide) (h.trans (congrFun e1 0).symm)
  | ⟨1, _⟩ => in_range (n := 128) (by decide) ((by omega : (i 1).val / 128 = 0).trans (congrFun e1 1).symm)

/-- The kernel's result is the sum. -/
theorem result : (dats m 0 c).arrAt 1 cfg0.N = out (m ((c : Thread nD τ).loc main_arg0)) := by
  refine (dats m 0 c).arrAt_eq_of_cover 1 _ (fun t _ => written m c t) (fun i => ?_)
  have h0 : (i 0).val < 2832 := (i 0).isLt
  exact ⟨⟨(i 0).val / 16, lt_of_lt_of_eq (b := 177) (by omega) N_0.symm⟩, flush0_1 _, mem_tile _ i rfl⟩

open Cert.ReferenceSumSmallIdeal.Read in
/-- The reference's result is the sum. -/
theorem reference (x : FVec Ideal S22656x128 .f32) : val_main_v1 (F := Ideal) x = out x := by
  funext j
  rw [val_main_v1_apply, val_main_cst_apply]
  refine (congrArg (· + _) Ideal.ofBits_zero_f32).trans ((zero_add _).trans (Finset.sum_congr rfl fun k _ => ?_))
  exact congrArg (parts x) (funext fun a => match a with
    | ⟨0, _⟩ => rfl
    | ⟨1, _⟩ => rfl
    | ⟨2, _⟩ => rfl)

open Idealize.SL.Sem

/-- The reference runs, ends with its argument unchanged, and declares no semaphore. -/
theorem frame_reference : Cert.quiescent_ReferenceSumSmallIdeal := fun m ρ _ =>
  (θ_run Cert.ReferenceSumSmallIdeal.defs _ _).mono (fun r h => ⟨fun c => (h c).2,
    Idealize.ShloMosaic.sem_eq_zero_of_no_sems (by decide) r.2⟩) (Cert.ReferenceSumSmallIdeal.Value.run m ρ)

/-- The kernel's result is the reference's, whatever the argument. -/
theorem value : Cert.algebraic_KernelSumSmallIdeal_ReferenceSumSmallIdeal := by
  intro m ρ m' ρ' _ ha
  refine ⟨fun c => out (m ((c : Thread nD τ).loc main_arg0)), ?_, ?_⟩
  · refine (θ_run defs _ _).mono (fun r h c => ?_) (run_blocks m ρ)
    exact ⟨(h c).1.trans (result m c), (h c).2⟩
  · refine (θ_run Cert.ReferenceSumSmallIdeal.defs _ _).mono (fun r h c => ?_) (Cert.ReferenceSumSmallIdeal.Value.run m' ρ')
    refine ⟨(h c).1.trans ?_, (h c).2⟩
    rw [ha c]
    exact reference _

end SumSmall
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelUpDx
public import proofs.«01_k».proof.Proof.Gen.KernelUpDx.Frame
public import proofs.«01_k».proof.Proof.Gen.KernelUpDxIdeal
public import proofs.«01_k».proof.Proof.Gen.KernelUpDxIdeal.Frame
public import proofs.«01_k».proof.Proof.Gen.KernelUpDxIdeal.Value
public import proofs.«01_k».proof.Proof.Gen.ReferenceUpDxIdeal
public import proofs.«01_k».proof.Proof.Gen.ReferenceUpDxIdeal.Run
public import proofs.«01_k».proof.Proof.Gen.ReferenceUpDxIdeal.Read
public import proofs.«01_k».proof.Proof.Gen.KernelUpDw
public import proofs.«01_k».proof.Proof.Gen.KernelUpDw.Frame
public import proofs.«01_k».proof.Proof.Gen.KernelUpDwIdeal
public import proofs.«01_k».proof.Proof.Gen.KernelUpDwIdeal.Frame
public import proofs.«01_k».proof.Proof.Gen.KernelUpDwIdeal.Value
public import proofs.«01_k».proof.Proof.Gen.ReferenceUpDwIdeal
public import proofs.«01_k».proof.Proof.Gen.ReferenceUpDwIdeal.Run
public import proofs.«01_k».proof.Proof.Gen.ReferenceUpDwIdeal.Read
public import proofs.«01_k».proof.Proof.Gen.KernelInDw3
public import proofs.«01_k».proof.Proof.Gen.KernelInDw3.Frame
public import proofs.«01_k».proof.Proof.Gen.KernelInDw3Ideal
public import proofs.«01_k».proof.Proof.Gen.KernelInDw3Ideal.Frame
public import proofs.«01_k».proof.Proof.Gen.KernelInDw3Ideal.Value
public import proofs.«01_k».proof.Proof.Gen.ReferenceInDw3Ideal
public import proofs.«01_k».proof.Proof.Gen.ReferenceInDw3Ideal.Run
public import proofs.«01_k».proof.Proof.Gen.ReferenceInDw3Ideal.Read
public import proofs.«01_k».proof.Proof.Gen.KernelInDw2
public import proofs.«01_k».proof.Proof.Gen.KernelInDw2.Frame
public import proofs.«01_k».proof.Proof.Gen.KernelInDw2Ideal
public import proofs.«01_k».proof.Proof.Gen.KernelInDw2Ideal.Frame
public import proofs.«01_k».proof.Proof.Gen.KernelInDw2Ideal.Value
public import proofs.«01_k».proof.Proof.Gen.ReferenceInDw2Ideal
public import proofs.«01_k».proof.Proof.Gen.ReferenceInDw2Ideal.Run
public import proofs.«01_k».proof.Proof.Gen.ReferenceInDw2Ideal.Read
public import proofs.«01_k».proof.Proof.Gen.KernelDownDx
public import proofs.«01_k».proof.Proof.Gen.KernelDownDx.Frame
public import proofs.«01_k».proof.Proof.Gen.KernelDownDxIdeal
public import proofs.«01_k».proof.Proof.Gen.KernelDownDxIdeal.Frame
public import proofs.«01_k».proof.Proof.Gen.KernelDownDxIdeal.Value
public import proofs.«01_k».proof.Proof.Gen.ReferenceDownDxIdeal
public import proofs.«01_k».proof.Proof.Gen.ReferenceDownDxIdeal.Run
public import proofs.«01_k».proof.Proof.Gen.ReferenceDownDxIdeal.Read
public import proofs.«01_k».proof.Proof.Gen.KernelDownDw
public import proofs.«01_k».proof.Proof.Gen.KernelDownDw.Frame
public import proofs.«01_k».proof.Proof.Gen.KernelDownDwIdeal
public import proofs.«01_k».proof.Proof.Gen.KernelDownDwIdeal.Frame
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import proofs.«01_k».proof.Proof.Gen.KernelIn3
public import proofs.«01_k».proof.Proof.Gen.KernelIn3.Frame
public import proofs.«01_k».proof.Proof.Gen.KernelIn3Ideal
public import proofs.«01_k».proof.Proof.Gen.KernelIn3Ideal.Frame
public import proofs.«01_k».proof.Proof.Gen.KernelIn3Ideal.Value
public import proofs.«01_k».proof.Proof.Gen.ReferenceIn3Ideal
public import proofs.«01_k».proof.Proof.Gen.ReferenceIn3Ideal.Run
public import proofs.«01_k».proof.Proof.Gen.ReferenceIn3Ideal.Read
public import proofs.«01_k».proof.Proof.Gen.KernelIn2
public import proofs.«01_k».proof.Proof.Gen.KernelIn2.Frame
public import proofs.«01_k».proof.Proof.Gen.KernelIn2Ideal
public import proofs.«01_k».proof.Proof.Gen.KernelIn2Ideal.Frame
public import proofs.«01_k».proof.Proof.Gen.KernelIn2Ideal.Value
public import proofs.«01_k».proof.Proof.Gen.ReferenceIn2Ideal
public import proofs.«01_k».proof.Proof.Gen.ReferenceIn2Ideal.Run
public import proofs.«01_k».proof.Proof.Gen.ReferenceIn2Ideal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelSb
public import proofs.«01_k».proof.Proof.Gen.KernelSb.Skeleton
public import proofs.«01_k».proof.Proof.Gen.KernelSb.Loops
public import proofs.«01_k».proof.Proof.Gen.KernelSb.Launch
public import proofs.«01_k».proof.Proof.Gen.KernelSb.Points
public import proofs.«01_k».proof.Proof.Gen.KernelSb.Frame
public import proofs.«01_k».proof.Proof.Gen.KernelSbIdeal
public import proofs.«01_k».proof.Proof.Gen.KernelSbIdeal.Skeleton
public import proofs.«01_k».proof.Proof.Gen.KernelSbIdeal.Loops
public import proofs.«01_k».proof.Proof.Gen.KernelSbIdeal.Launch
public import proofs.«01_k».proof.Proof.Gen.KernelSbIdeal.Points
public import proofs.«01_k».proof.Proof.Gen.KernelSbIdeal.Frame
public import proofs.«01_k».proof.Proof.Gen.ReferenceSbIdeal
public import proofs.«01_k».proof.Proof.Gen.ReferenceSbIdeal.Run
public import proofs.«01_k».proof.Proof.Gen.ReferenceSbIdeal.Read
public import proofs.«01_k».proof.Proof.Gen.KernelAdamGate
public import proofs.«01_k».proof.Proof.Gen.KernelAdamGate.Frame
public import proofs.«01_k».proof.Proof.Gen.KernelAdamGateIdeal
public import proofs.«01_k».proof.Proof.Gen.KernelAdamGateIdeal.Frame
public import proofs.«01_k».proof.Proof.Gen.ReferenceAdamGateIdeal
public import proofs.«01_k».proof.Proof.Gen.ReferenceAdamGateIdeal.Run
public import proofs.«01_k».proof.Proof.Gen.ReferenceAdamGateIdeal.Read
public import proofs.«01_k».proof.Proof.Gen.KernelAdamQkv
public import proofs.«01_k».proof.Proof.Gen.KernelAdamQkv.Frame
public import proofs.«01_k».proof.Proof.Gen.KernelAdamQkvIdeal
public import proofs.«01_k».proof.Proof.Gen.KernelAdamQkvIdeal.Frame
public import proofs.«01_k».proof.Proof.Gen.ReferenceAdamQkvIdeal
public import proofs.«01_k».proof.Proof.Gen.ReferenceAdamQkvIdeal.Run
public import proofs.«01_k».proof.Proof.Gen.ReferenceAdamQkvIdeal.Read
public import proofs.«01_k».proof.Proof.Gen.KernelAdamOut
public import proofs.«01_k».proof.Proof.Gen.KernelAdamOut.Frame
public import proofs.«01_k».proof.Proof.Gen.KernelAdamOutIdeal
public import proofs.«01_k».proof.Proof.Gen.KernelAdamOutIdeal.Frame
public import proofs.«01_k».proof.Proof.Gen.ReferenceAdamOutIdeal
public import proofs.«01_k».proof.Proof.Gen.ReferenceAdamOutIdeal.Run
public import proofs.«01_k».proof.Proof.Gen.ReferenceAdamOutIdeal.Read
public import proofs.«01_k».proof.Proof.Gen.KernelAdamSmall
public import proofs.«01_k».proof.Proof.Gen.KernelAdamSmall.Frame
public import proofs.«01_k».proof.Proof.Gen.KernelAdamSmallIdeal
public import proofs.«01_k».proof.Proof.Gen.KernelAdamSmallIdeal.Frame
public import proofs.«01_k».proof.Proof.Gen.KernelAdamSmallIdeal.Value
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Gen.KernelSumSmall
public import proofs.«01_k».proof.Proof.Gen.KernelSumSmall.Frame
public import proofs.«01_k».proof.Proof.Gen.KernelSumSmallIdeal
public import proofs.«01_k».proof.Proof.Gen.KernelSumSmallIdeal.Frame
public import proofs.«01_k».proof.Proof.Gen.KernelSumSmallIdeal.Value
public import proofs.«01_k».proof.Proof.Gen.ReferenceSumSmallIdeal
public import proofs.«01_k».proof.Proof.Gen.ReferenceSumSmallIdeal.Run
public import proofs.«01_k».proof.Proof.Gen.ReferenceSumSmallIdeal.Read
public import proofs.«01_k».proof.Proof.Result
public import proofs.«01_k».proof.Proof.UpDx
public import proofs.«01_k».proof.Proof.UpDw
public import proofs.«01_k».proof.Proof.InDw3
public import proofs.«01_k».proof.Proof.InDw2
public import proofs.«01_k».proof.Proof.DownDx
public import proofs.«01_k».proof.Proof.DownDw
public import proofs.«01_k».proof.Proof.In3
public import proofs.«01_k».proof.Proof.In2
public import proofs.«01_k».proof.Proof.Out
public import proofs.«01_k».proof.Proof.Down
public import proofs.«01_k».proof.Proof.SbBody
public import proofs.«01_k».proof.Proof.SbResult
public import proofs.«01_k».proof.Proof.AdamGate
public import proofs.«01_k».proof.Proof.AdamQkv
public import proofs.«01_k».proof.Proof.AdamOut
public import proofs.«01_k».proof.Proof.AdamSmall
public import proofs.«01_k».proof.Proof.SumSmall
public import Idealize.ShloMosaic.Adequacy
public import Idealize.ShloMosaic.Init

@[expose] public section

noncomputable section

namespace Cert.Proof

open Idealize.ShloMosaic Idealize.SL.Sem

/-- The reference runs, ends with its arguments unchanged, and declares no semaphore. -/
theorem frame_reference : Cert.quiescent_ReferenceIdeal := fun m ρ _ =>
  (θ_run Cert.ReferenceIdeal.defs _ _).mono (fun r h => ⟨fun c => (h c).2.2,
    Idealize.ShloMosaic.sem_eq_zero_of_no_sems (by decide) r.2⟩) (Cert.ReferenceIdeal.Value.run m ρ)

/-- On finite arguments the kernel's two results are the gradients the reference computes. -/
theorem value : Cert.algebraic_KernelIdeal_ReferenceIdeal_pre_finite (hPre_finite := Stick.finiteFacts) := by
  letI := Stick.finiteFacts
  intro m ρ m' ρ' hp ha
  refine ⟨fun c => Cert.KernelIdeal.Value.G5 m c, fun c => Cert.KernelIdeal.Value.G6 m c,
    Cert.KernelIdeal.Value.run m ρ, ?_⟩
  refine (θ_run Cert.ReferenceIdeal.defs _ _).mono (fun r h c => ?_) (Cert.ReferenceIdeal.Value.run m' ρ')
  obtain ⟨a0, a1⟩ := ha c
  obtain ⟨r0, r1, k0, k1⟩ := h c
  have e0 := r0.trans (Cert.ReferenceIdeal.Read.val_main_v60_eq (StableHlo.launchContents m' c))
  have e1 := r1.trans (Cert.ReferenceIdeal.Read.val_main_v64_eq (StableHlo.launchContents m' c))
  rw [StableHlo.launchContents_devRef, StableHlo.launchContents_devRef, a0, a1] at e0 e1
  exact ⟨e0.trans (Stick.first_eq m c (hp c)).symm, e1.trans (Stick.second_eq m c (hp c)).symm, k0, k1⟩

/-- The frames of the programs, that the ideal readings rewrite nothing, and the value claims. -/
theorem claim : Cert.Claim := ⟨Cert.Kernel.Gen.facts, Cert.KernelIdeal.Gen.facts, Cert.ReferenceIdeal.Gen.facts,
  Cert.KernelUpDx.Gen.facts, Cert.KernelUpDxIdeal.Gen.facts, Cert.ReferenceUpDxIdeal.Gen.facts,
  Cert.KernelUpDw.Gen.facts, Cert.KernelUpDwIdeal.Gen.facts, Cert.ReferenceUpDwIdeal.Gen.facts,
  Cert.KernelInDw3.Gen.facts, Cert.KernelInDw3Ideal.Gen.facts, Cert.ReferenceInDw3Ideal.Gen.facts,
  Cert.KernelInDw2.Gen.facts, Cert.KernelInDw2Ideal.Gen.facts, Cert.ReferenceInDw2Ideal.Gen.facts,
  Cert.KernelDownDx.Gen.facts, Cert.KernelDownDxIdeal.Gen.facts, Cert.ReferenceDownDxIdeal.Gen.facts,
  Cert.KernelDownDw.Gen.facts, Cert.KernelDownDwIdeal.Gen.facts, Cert.ReferenceDownDwIdeal.Gen.facts,
  Cert.KernelIn3.Gen.facts, Cert.KernelIn3Ideal.Gen.facts, Cert.ReferenceIn3Ideal.Gen.facts,
  Cert.KernelIn2.Gen.facts, Cert.KernelIn2Ideal.Gen.facts, Cert.ReferenceIn2Ideal.Gen.facts,
  Cert.KernelOut.Gen.facts, Cert.KernelOutIdeal.Gen.facts, Cert.ReferenceOutIdeal.Gen.facts,
  Cert.KernelDown.Gen.facts, Cert.KernelDownIdeal.Gen.facts, Cert.ReferenceDownIdeal.Gen.facts,
  Cert.KernelSb.Gen.facts, Cert.KernelSbIdeal.Gen.facts, Cert.ReferenceSbIdeal.Gen.facts,
  Cert.KernelAdamGate.Gen.facts, Cert.KernelAdamGateIdeal.Gen.facts, Cert.ReferenceAdamGateIdeal.Gen.facts,
  Cert.KernelAdamQkv.Gen.facts, Cert.KernelAdamQkvIdeal.Gen.facts, Cert.ReferenceAdamQkvIdeal.Gen.facts,
  Cert.KernelAdamOut.Gen.facts, Cert.KernelAdamOutIdeal.Gen.facts, Cert.ReferenceAdamOutIdeal.Gen.facts,
  Cert.KernelAdamSmall.Gen.facts, Cert.KernelAdamSmallIdeal.Gen.facts, Cert.ReferenceAdamSmallIdeal.Gen.facts,
  Cert.KernelSumSmall.Gen.facts, Cert.KernelSumSmallIdeal.Gen.facts, Cert.ReferenceSumSmallIdeal.Gen.facts,
  Stick.finiteFacts, SbVal.finiteFacts, AdamGate.placeFacts, AdamQkv.placeFacts, AdamOut.placeFacts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.KernelUpDx.Gen.frame m ρ,
  fun m ρ _ => Cert.KernelUpDxIdeal.Gen.frame m ρ,
  UpDx.frame_reference,
  fun m ρ _ => Cert.KernelUpDw.Gen.frame m ρ,
  fun m ρ _ => Cert.KernelUpDwIdeal.Gen.frame m ρ,
  UpDw.frame_reference,
  fun m ρ _ => Cert.KernelInDw3.Gen.frame m ρ,
  fun m ρ _ => Cert.KernelInDw3Ideal.Gen.frame m ρ,
  InDw3.frame_reference,
  fun m ρ _ => Cert.KernelInDw2.Gen.frame m ρ,
  fun m ρ _ => Cert.KernelInDw2Ideal.Gen.frame m ρ,
  InDw2.frame_reference,
  fun m ρ _ => Cert.KernelDownDx.Gen.frame m ρ,
  fun m ρ _ => Cert.KernelDownDxIdeal.Gen.frame m ρ,
  DownDx.frame_reference,
  fun m ρ _ => Cert.KernelDownDw.Gen.frame m ρ,
  fun m ρ _ => Cert.KernelDownDwIdeal.Gen.frame m ρ,
  DownDw.frame_reference,
  fun m ρ _ => Cert.KernelIn3.Gen.frame m ρ,
  fun m ρ _ => Cert.KernelIn3Ideal.Gen.frame m ρ,
  In3.frame_reference,
  fun m ρ _ => Cert.KernelIn2.Gen.frame m ρ,
  fun m ρ _ => Cert.KernelIn2Ideal.Gen.frame m ρ,
  In2.frame_reference,
  fun m ρ _ => Cert.KernelOut.Gen.frame m ρ,
  fun m ρ _ => Cert.KernelOutIdeal.Gen.frame m ρ,
  Out.frame_reference,
  fun m ρ _ => Cert.KernelDown.Gen.frame m ρ,
  fun m ρ _ => Cert.KernelDownIdeal.Gen.frame m ρ,
  Down.frame_reference,
  fun m ρ _ => SbBits.unchanged m ρ,
  fun m ρ _ => SbIdeal.unchanged m ρ,
  fun m ρ _ => SbIdeal.unchanged m ρ,
  SbVal.frame_reference,
  fun m ρ _ => SbVal.frame_reference m ρ trivial,
  AdamGateWords.frame_kernel, AdamGate.frame_kernel, AdamGate.frame_reference, fun m ρ _ => AdamGate.frame_reference m ρ trivial,
  AdamQkvWords.frame_kernel, AdamQkv.frame_kernel, AdamQkv.frame_reference, fun m ρ _ => AdamQkv.frame_reference m ρ trivial,
  AdamOutWords.frame_kernel, AdamOut.frame_kernel, AdamOut.frame_reference, fun m ρ _ => AdamOut.frame_reference m ρ trivial,
  fun m ρ _ => Cert.KernelAdamSmall.Gen.frame m ρ,
  fun m ρ _ => Cert.KernelAdamSmallIdeal.Gen.frame m ρ,
  AdamSmall.frame_reference,
  fun m ρ _ => Cert.KernelSumSmall.Gen.frame m ρ,
  fun m ρ _ => Cert.KernelSumSmallIdeal.Gen.frame m ρ,
  SumSmall.frame_reference,
  trivial, value,
  trivial, UpDx.value,
  trivial, UpDw.value,
  trivial, InDw3.value,
  trivial, InDw2.value,
  trivial, DownDx.value,
  trivial, DownDw.value,
  trivial, In3.value,
  trivial, In2.value,
  trivial, Out.value,
  trivial, Down.value,
  trivial, SbVal.value,
  trivial, AdamGate.value,
  trivial, AdamQkv.value,
  trivial, AdamOut.value,
  trivial, AdamSmall.value,
  trivial, SumSmall.value⟩

end Cert.Proof

end
